-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_KDwIn (m : (ℓ : Loc Cert.KDwIn.nD Cert.KDwIn.τ Cert.KDwIn.sig) → Buf (Elt Bits) ℓ) : Prop :=
  True

def Pre_KDwInIdeal (m : (ℓ : Loc Cert.KDwInIdeal.nD Cert.KDwInIdeal.τ Cert.KDwInIdeal.sig) → Buf (Elt Ideal) ℓ) : Prop :=
  True

def Pre_RDwInIdeal (m : (ℓ : Loc Cert.RDwInIdeal.nD Cert.RDwInIdeal.τ Cert.RDwInIdeal.sig) → Buf (Elt Ideal) ℓ) : Prop :=
  True

def Pre_KDX (m : (ℓ : Loc Cert.KDX.nD Cert.KDX.τ Cert.KDX.sig) → Buf (Elt Bits) ℓ) : Prop :=
  True

def Pre_KDXIdeal (m : (ℓ : Loc Cert.KDXIdeal.nD Cert.KDXIdeal.τ Cert.KDXIdeal.sig) → Buf (Elt Ideal) ℓ) : Prop :=
  True

def Pre_RDXIdeal (m : (ℓ : Loc Cert.RDXIdeal.nD Cert.RDXIdeal.τ Cert.RDXIdeal.sig) → Buf (Elt Ideal) ℓ) : Prop :=
  True

def Pre_KDwDown (m : (ℓ : Loc Cert.KDwDown.nD Cert.KDwDown.τ Cert.KDwDown.sig) → Buf (Elt Bits) ℓ) : Prop :=
  True

def Pre_KDwDownIdeal (m : (ℓ : Loc Cert.KDwDownIdeal.nD Cert.KDwDownIdeal.τ Cert.KDwDownIdeal.sig) → Buf (Elt Ideal) ℓ) : Prop :=
  True

def Pre_RDwDownIdeal (m : (ℓ : Loc Cert.RDwDownIdeal.nD Cert.RDwDownIdeal.τ Cert.RDwDownIdeal.sig) → Buf (Elt Ideal) ℓ) : Prop :=
  True

def Pre_KDwUp (m : (ℓ : Loc Cert.KDwUp.nD Cert.KDwUp.τ Cert.KDwUp.sig) → Buf (Elt Bits) ℓ) : Prop :=
  True

def Pre_KDwUpIdeal (m : (ℓ : Loc Cert.KDwUpIdeal.nD Cert.KDwUpIdeal.τ Cert.KDwUpIdeal.sig) → Buf (Elt Ideal) ℓ) : Prop :=
  True

def Pre_RDwUpIdeal (m : (ℓ : Loc Cert.RDwUpIdeal.nD Cert.RDwUpIdeal.τ Cert.RDwUpIdeal.sig) → Buf (Elt Ideal) ℓ) : Prop :=
  True

def Pre_KDUp (m : (ℓ : Loc Cert.KDUp.nD Cert.KDUp.τ Cert.KDUp.sig) → Buf (Elt Bits) ℓ) : Prop :=
  True

def Pre_KDUpIdeal (m : (ℓ : Loc Cert.KDUpIdeal.nD Cert.KDUpIdeal.τ Cert.KDUpIdeal.sig) → Buf (Elt Ideal) ℓ) : Prop :=
  True

def Pre_RDUpIdeal (m : (ℓ : Loc Cert.RDUpIdeal.nD Cert.RDUpIdeal.τ Cert.RDUpIdeal.sig) → Buf (Elt Ideal) ℓ) : Prop :=
  True

def Pre_KDH1 (m : (ℓ : Loc Cert.KDH1.nD Cert.KDH1.τ Cert.KDH1.sig) → Buf (Elt Bits) ℓ) : Prop :=
  True

def Pre_KDH1Ideal (m : (ℓ : Loc Cert.KDH1Ideal.nD Cert.KDH1Ideal.τ Cert.KDH1Ideal.sig) → Buf (Elt Ideal) ℓ) : Prop :=
  True

def Pre_KDH1Ideal_finite_d_h1 [hPre_finite_d_h1 : Cert.Pre_finite_d_h1.Facts] (m : (ℓ : Loc Cert.KDH1Ideal.nD Cert.KDH1Ideal.τ Cert.KDH1Ideal.sig) → Buf (Elt Ideal) ℓ) : Prop :=
  ∀ c : Dev Cert.KDH1Ideal.nD,
    (Cert.Pre_finite_d_h1.fn (F := Ideal) (m ((c.tc : Thread Cert.KDH1Ideal.nD Cert.KDH1Ideal.τ).loc Cert.KDH1Ideal.main_arg0)) (m ((c.tc : Thread Cert.KDH1Ideal.nD Cert.KDH1Ideal.τ).loc Cert.KDH1Ideal.main_arg1)) (m ((c.tc : Thread Cert.KDH1Ideal.nD Cert.KDH1Ideal.τ).loc Cert.KDH1Ideal.main_arg2)) (m ((c.tc : Thread Cert.KDH1Ideal.nD Cert.KDH1Ideal.τ).loc Cert.KDH1Ideal.main_arg3)) (m ((c.tc : Thread Cert.KDH1Ideal.nD Cert.KDH1Ideal.τ).loc Cert.KDH1Ideal.main_arg4)) (m ((c.tc : Thread Cert.KDH1Ideal.nD Cert.KDH1Ideal.τ).loc Cert.KDH1Ideal.main_arg5))).1 = (fun _ => 1#1)
    ∧ (Cert.Pre_finite_d_h1.fn (F := Ideal) (m ((c.tc : Thread Cert.KDH1Ideal.nD Cert.KDH1Ideal.τ).loc Cert.KDH1Ideal.main_arg0)) (m ((c.tc : Thread Cert.KDH1Ideal.nD Cert.KDH1Ideal.τ).loc Cert.KDH1Ideal.main_arg1)) (m ((c.tc : Thread Cert.KDH1Ideal.nD Cert.KDH1Ideal.τ).loc Cert.KDH1Ideal.main_arg2)) (m ((c.tc : Thread Cert.KDH1Ideal.nD Cert.KDH1Ideal.τ).loc Cert.KDH1Ideal.main_arg3)) (m ((c.tc : Thread Cert.KDH1Ideal.nD Cert.KDH1Ideal.τ).loc Cert.KDH1Ideal.main_arg4)) (m ((c.tc : Thread Cert.KDH1Ideal.nD Cert.KDH1Ideal.τ).loc Cert.KDH1Ideal.main_arg5))).2.1 = (fun _ => 1#1)
    ∧ (Cert.Pre_finite_d_h1.fn (F := Ideal) (m ((c.tc : Thread Cert.KDH1Ideal.nD Cert.KDH1Ideal.τ).loc Cert.KDH1Ideal.main_arg0)) (m ((c.tc : Thread Cert.KDH1Ideal.nD Cert.KDH1Ideal.τ).loc Cert.KDH1Ideal.main_arg1)) (m ((c.tc : Thread Cert.KDH1Ideal.nD Cert.KDH1Ideal.τ).loc Cert.KDH1Ideal.main_arg2)) (m ((c.tc : Thread Cert.KDH1Ideal.nD Cert.KDH1Ideal.τ).loc Cert.KDH1Ideal.main_arg3)) (m ((c.tc : Thread Cert.KDH1Ideal.nD Cert.KDH1Ideal.τ).loc Cert.KDH1Ideal.main_arg4)) (m ((c.tc : Thread Cert.KDH1Ideal.nD Cert.KDH1Ideal.τ).loc Cert.KDH1Ideal.main_arg5))).2.2.1 = (fun _ => 1#1)
    ∧ (Cert.Pre_finite_d_h1.fn (F := Ideal) (m ((c.tc : Thread Cert.KDH1Ideal.nD Cert.KDH1Ideal.τ).loc Cert.KDH1Ideal.main_arg0)) (m ((c.tc : Thread Cert.KDH1Ideal.nD Cert.KDH1Ideal.τ).loc Cert.KDH1Ideal.main_arg1)) (m ((c.tc : Thread Cert.KDH1Ideal.nD Cert.KDH1Ideal.τ).loc Cert.KDH1Ideal.main_arg2)) (m ((c.tc : Thread Cert.KDH1Ideal.nD Cert.KDH1Ideal.τ).loc Cert.KDH1Ideal.main_arg3)) (m ((c.tc : Thread Cert.KDH1Ideal.nD Cert.KDH1Ideal.τ).loc Cert.KDH1Ideal.main_arg4)) (m ((c.tc : Thread Cert.KDH1Ideal.nD Cert.KDH1Ideal.τ).loc Cert.KDH1Ideal.main_arg5))).2.2.2.1 = (fun _ => 1#1)
    ∧ (Cert.Pre_finite_d_h1.fn (F := Ideal) (m ((c.tc : Thread Cert.KDH1Ideal.nD Cert.KDH1Ideal.τ).loc Cert.KDH1Ideal.main_arg0)) (m ((c.tc : Thread Cert.KDH1Ideal.nD Cert.KDH1Ideal.τ).loc Cert.KDH1Ideal.main_arg1)) (m ((c.tc : Thread Cert.KDH1Ideal.nD Cert.KDH1Ideal.τ).loc Cert.KDH1Ideal.main_arg2)) (m ((c.tc : Thread Cert.KDH1Ideal.nD Cert.KDH1Ideal.τ).loc Cert.KDH1Ideal.main_arg3)) (m ((c.tc : Thread Cert.KDH1Ideal.nD Cert.KDH1Ideal.τ).loc Cert.KDH1Ideal.main_arg4)) (m ((c.tc : Thread Cert.KDH1Ideal.nD Cert.KDH1Ideal.τ).loc Cert.KDH1Ideal.main_arg5))).2.2.2.2 = (fun _ => 1#1)

def Pre_RDH1Ideal (m : (ℓ : Loc Cert.RDH1Ideal.nD Cert.RDH1Ideal.τ Cert.RDH1Ideal.sig) → Buf (Elt Ideal) ℓ) : Prop :=
  True

def Pre_RDH1Ideal_finite_d_h1 [hPre_finite_d_h1 : Cert.Pre_finite_d_h1.Facts] (m : (ℓ : Loc Cert.RDH1Ideal.nD Cert.RDH1Ideal.τ Cert.RDH1Ideal.sig) → Buf (Elt Ideal) ℓ) : Prop :=
  ∀ c : Dev Cert.RDH1Ideal.nD,
    (Cert.Pre_finite_d_h1.fn (F := Ideal) (m ((c.tc : Thread Cert.RDH1Ideal.nD Cert.RDH1Ideal.τ).loc Cert.RDH1Ideal.main_arg0)) (m ((c.tc : Thread Cert.RDH1Ideal.nD Cert.RDH1Ideal.τ).loc Cert.RDH1Ideal.main_arg1)) (m ((c.tc : Thread Cert.RDH1Ideal.nD Cert.RDH1Ideal.τ).loc Cert.RDH1Ideal.main_arg2)) (m ((c.tc : Thread Cert.RDH1Ideal.nD Cert.RDH1Ideal.τ).loc Cert.RDH1Ideal.main_arg3)) (m ((c.tc : Thread Cert.RDH1Ideal.nD Cert.RDH1Ideal.τ).loc Cert.RDH1Ideal.main_arg4)) (m ((c.tc : Thread Cert.RDH1Ideal.nD Cert.RDH1Ideal.τ).loc Cert.RDH1Ideal.main_arg5))).1 = (fun _ => 1#1)
    ∧ (Cert.Pre_finite_d_h1.fn (F := Ideal) (m ((c.tc : Thread Cert.RDH1Ideal.nD Cert.RDH1Ideal.τ).loc Cert.RDH1Ideal.main_arg0)) (m ((c.tc : Thread Cert.RDH1Ideal.nD Cert.RDH1Ideal.τ).loc Cert.RDH1Ideal.main_arg1)) (m ((c.tc : Thread Cert.RDH1Ideal.nD Cert.RDH1Ideal.τ).loc Cert.RDH1Ideal.main_arg2)) (m ((c.tc : Thread Cert.RDH1Ideal.nD Cert.RDH1Ideal.τ).loc Cert.RDH1Ideal.main_arg3)) (m ((c.tc : Thread Cert.RDH1Ideal.nD Cert.RDH1Ideal.τ).loc Cert.RDH1Ideal.main_arg4)) (m ((c.tc : Thread Cert.RDH1Ideal.nD Cert.RDH1Ideal.τ).loc Cert.RDH1Ideal.main_arg5))).2.1 = (fun _ => 1#1)
    ∧ (Cert.Pre_finite_d_h1.fn (F := Ideal) (m ((c.tc : Thread Cert.RDH1Ideal.nD Cert.RDH1Ideal.τ).loc Cert.RDH1Ideal.main_arg0)) (m ((c.tc : Thread Cert.RDH1Ideal.nD Cert.RDH1Ideal.τ).loc Cert.RDH1Ideal.main_arg1)) (m ((c.tc : Thread Cert.RDH1Ideal.nD Cert.RDH1Ideal.τ).loc Cert.RDH1Ideal.main_arg2)) (m ((c.tc : Thread Cert.RDH1Ideal.nD Cert.RDH1Ideal.τ).loc Cert.RDH1Ideal.main_arg3)) (m ((c.tc : Thread Cert.RDH1Ideal.nD Cert.RDH1Ideal.τ).loc Cert.RDH1Ideal.main_arg4)) (m ((c.tc : Thread Cert.RDH1Ideal.nD Cert.RDH1Ideal.τ).loc Cert.RDH1Ideal.main_arg5))).2.2.1 = (fun _ => 1#1)
    ∧ (Cert.Pre_finite_d_h1.fn (F := Ideal) (m ((c.tc : Thread Cert.RDH1Ideal.nD Cert.RDH1Ideal.τ).loc Cert.RDH1Ideal.main_arg0)) (m ((c.tc : Thread Cert.RDH1Ideal.nD Cert.RDH1Ideal.τ).loc Cert.RDH1Ideal.main_arg1)) (m ((c.tc : Thread Cert.RDH1Ideal.nD Cert.RDH1Ideal.τ).loc Cert.RDH1Ideal.main_arg2)) (m ((c.tc : Thread Cert.RDH1Ideal.nD Cert.RDH1Ideal.τ).loc Cert.RDH1Ideal.main_arg3)) (m ((c.tc : Thread Cert.RDH1Ideal.nD Cert.RDH1Ideal.τ).loc Cert.RDH1Ideal.main_arg4)) (m ((c.tc : Thread Cert.RDH1Ideal.nD Cert.RDH1Ideal.τ).loc Cert.RDH1Ideal.main_arg5))).2.2.2.1 = (fun _ => 1#1)
    ∧ (Cert.Pre_finite_d_h1.fn (F := Ideal) (m ((c.tc : Thread Cert.RDH1Ideal.nD Cert.RDH1Ideal.τ).loc Cert.RDH1Ideal.main_arg0)) (m ((c.tc : Thread Cert.RDH1Ideal.nD Cert.RDH1Ideal.τ).loc Cert.RDH1Ideal.main_arg1)) (m ((c.tc : Thread Cert.RDH1Ideal.nD Cert.RDH1Ideal.τ).loc Cert.RDH1Ideal.main_arg2)) (m ((c.tc : Thread Cert.RDH1Ideal.nD Cert.RDH1Ideal.τ).loc Cert.RDH1Ideal.main_arg3)) (m ((c.tc : Thread Cert.RDH1Ideal.nD Cert.RDH1Ideal.τ).loc Cert.RDH1Ideal.main_arg4)) (m ((c.tc : Thread Cert.RDH1Ideal.nD Cert.RDH1Ideal.τ).loc Cert.RDH1Ideal.main_arg5))).2.2.2.2 = (fun _ => 1#1)

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_KLossIdeal_finite_loss [hPre_finite_loss : Cert.Pre_finite_loss.Facts] (m : (ℓ : Loc Cert.KLossIdeal.nD Cert.KLossIdeal.τ Cert.KLossIdeal.sig) → Buf (Elt Ideal) ℓ) : Prop :=
  ∀ c : Dev Cert.KLossIdeal.nD,
    (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.2.2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.2.2.2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.2.2.2.2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.2.2.2.2.2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)) (m ((c.tc : Thread Cert.KLossIdeal.nD Cert.KLossIdeal.τ).loc Cert.KLossIdeal.main_arg5)) (m ((c.tc : Thread Cert.KLossIdeal.nD Cert.KLossIdeal.τ).loc Cert.KLossIdeal.main_arg6)) (m ((c.tc : Thread Cert.KLossIdeal.nD Cert.KLossIdeal.τ).loc Cert.KLossIdeal.main_arg7))).2.2.2.2.2.2.2 = (fun _ => 1#1)

def Pre_RLossIdeal (m : (ℓ : Loc Cert.RLossIdeal.nD Cert.RLossIdeal.τ Cert.RLossIdeal.sig) → Buf (Elt Ideal) ℓ) : Prop :=
  True

def Pre_RLossIdeal_finite_loss [hPre_finite_loss : Cert.Pre_finite_loss.Facts] (m : (ℓ : Loc Cert.RLossIdeal.nD Cert.RLossIdeal.τ Cert.RLossIdeal.sig) → Buf (Elt Ideal) ℓ) : Prop :=
  ∀ c : Dev Cert.RLossIdeal.nD,
    (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.2.2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.2.2.2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.2.2.2.2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.2.2.2.2.2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4)) (m ((c.tc : Thread Cert.RLossIdeal.nD Cert.RLossIdeal.τ).loc Cert.RLossIdeal.main_arg5)) (m ((c.tc : Thread Cert.RLossIdeal.nD Cert.RLossIdeal.τ).loc Cert.RLossIdeal.main_arg6)) (m ((c.tc : Thread Cert.RLossIdeal.nD Cert.RLossIdeal.τ).loc Cert.RLossIdeal.main_arg7))).2.2.2.2.2.2.2 = (fun _ => 1#1)

def Pre_KInProj (m : (ℓ : Loc Cert.KInProj.nD Cert.KInProj.τ Cert.KInProj.sig) → Buf (Elt Bits) ℓ) : Prop :=
  True

def Pre_KInProjIdeal (m : (ℓ : Loc Cert.KInProjIdeal.nD Cert.KInProjIdeal.τ Cert.KInProjIdeal.sig) → Buf (Elt Ideal) ℓ) : Prop :=
  True

def Pre_RInProjIdeal (m : (ℓ : Loc Cert.RInProjIdeal.nD Cert.RInProjIdeal.τ Cert.RInProjIdeal.sig) → Buf (Elt Ideal) ℓ) : Prop :=
  True

def Pre_KMlpUp (m : (ℓ : Loc Cert.KMlpUp.nD Cert.KMlpUp.τ Cert.KMlpUp.sig) → Buf (Elt Bits) ℓ) : Prop :=
  True

def Pre_KMlpUpIdeal (m : (ℓ : Loc Cert.KMlpUpIdeal.nD Cert.KMlpUpIdeal.τ Cert.KMlpUpIdeal.sig) → Buf (Elt Ideal) ℓ) : Prop :=
  True

def Pre_RMlpUpIdeal (m : (ℓ : Loc Cert.RMlpUpIdeal.nD Cert.RMlpUpIdeal.τ Cert.RMlpUpIdeal.sig) → Buf (Elt Ideal) ℓ) : Prop :=
  True

def Pre_KDwOut (m : (ℓ : Loc Cert.KDwOut.nD Cert.KDwOut.τ Cert.KDwOut.sig) → Buf (Elt Bits) ℓ) : Prop :=
  True

def Pre_KDwOutIdeal (m : (ℓ : Loc Cert.KDwOutIdeal.nD Cert.KDwOutIdeal.τ Cert.KDwOutIdeal.sig) → Buf (Elt Ideal) ℓ) : Prop :=
  True

def Pre_RDwOutIdeal (m : (ℓ : Loc Cert.RDwOutIdeal.nD Cert.RDwOutIdeal.τ Cert.RDwOutIdeal.sig) → Buf (Elt Ideal) ℓ) : Prop :=
  True

def Pre_KDwProjSsd (m : (ℓ : Loc Cert.KDwProjSsd.nD Cert.KDwProjSsd.τ Cert.KDwProjSsd.sig) → Buf (Elt Bits) ℓ) : Prop :=
  True

def Pre_KDwProjSsdIdeal (m : (ℓ : Loc Cert.KDwProjSsdIdeal.nD Cert.KDwProjSsdIdeal.τ Cert.KDwProjSsdIdeal.sig) → Buf (Elt Ideal) ℓ) : Prop :=
  True

def Pre_RDwProjSsdIdeal (m : (ℓ : Loc Cert.RDwProjSsdIdeal.nD Cert.RDwProjSsdIdeal.τ Cert.RDwProjSsdIdeal.sig) → Buf (Elt Ideal) ℓ) : Prop :=
  True

def Pre_KDwProjAttn (m : (ℓ : Loc Cert.KDwProjAttn.nD Cert.KDwProjAttn.τ Cert.KDwProjAttn.sig) → Buf (Elt Bits) ℓ) : Prop :=
  True

def Pre_KDwProjAttnIdeal (m : (ℓ : Loc Cert.KDwProjAttnIdeal.nD Cert.KDwProjAttnIdeal.τ Cert.KDwProjAttnIdeal.sig) → Buf (Elt Ideal) ℓ) : Prop :=
  True

def Pre_RDwProjAttnIdeal (m : (ℓ : Loc Cert.RDwProjAttnIdeal.nD Cert.RDwProjAttnIdeal.τ Cert.RDwProjAttnIdeal.sig) → Buf (Elt Ideal) ℓ) : Prop :=
  True

def Pre_KGatenorm (m : (ℓ : Loc Cert.KGatenorm.nD Cert.KGatenorm.τ Cert.KGatenorm.sig) → Buf (Elt Bits) ℓ) : Prop :=
  True

def Pre_KGatenormIdeal (m : (ℓ : Loc Cert.KGatenormIdeal.nD Cert.KGatenormIdeal.τ Cert.KGatenormIdeal.sig) → Buf (Elt Ideal) ℓ) : Prop :=
  True

def Pre_RGatenormIdeal (m : (ℓ : Loc Cert.RGatenormIdeal.nD Cert.RGatenormIdeal.τ Cert.RGatenormIdeal.sig) → Buf (Elt Ideal) ℓ) : Prop :=
  True

def Pre_KMixOut (m : (ℓ : Loc Cert.KMixOut.nD Cert.KMixOut.τ Cert.KMixOut.sig) → Buf (Elt Bits) ℓ) : Prop :=
  True

def Pre_KMixOutIdeal (m : (ℓ : Loc Cert.KMixOutIdeal.nD Cert.KMixOutIdeal.τ Cert.KMixOutIdeal.sig) → Buf (Elt Ideal) ℓ) : Prop :=
  True

def Pre_KMixOutIdeal_finite_mix_out [hPre_finite_mix_out : Cert.Pre_finite_mix_out.Facts] (m : (ℓ : Loc Cert.KMixOutIdeal.nD Cert.KMixOutIdeal.τ Cert.KMixOutIdeal.sig) → Buf (Elt Ideal) ℓ) : Prop :=
  ∀ c : Dev Cert.KMixOutIdeal.nD,
    (Cert.Pre_finite_mix_out.fn (F := Ideal) (m ((c.tc : Thread Cert.KMixOutIdeal.nD Cert.KMixOutIdeal.τ).loc Cert.KMixOutIdeal.main_arg0)) (m ((c.tc : Thread Cert.KMixOutIdeal.nD Cert.KMixOutIdeal.τ).loc Cert.KMixOutIdeal.main_arg1)) (m ((c.tc : Thread Cert.KMixOutIdeal.nD Cert.KMixOutIdeal.τ).loc Cert.KMixOutIdeal.main_arg2)) (m ((c.tc : Thread Cert.KMixOutIdeal.nD Cert.KMixOutIdeal.τ).loc Cert.KMixOutIdeal.main_arg3)) (m ((c.tc : Thread Cert.KMixOutIdeal.nD Cert.KMixOutIdeal.τ).loc Cert.KMixOutIdeal.main_arg4)) (m ((c.tc : Thread Cert.KMixOutIdeal.nD Cert.KMixOutIdeal.τ).loc Cert.KMixOutIdeal.main_arg5)) (m ((c.tc : Thread Cert.KMixOutIdeal.nD Cert.KMixOutIdeal.τ).loc Cert.KMixOutIdeal.main_arg6)) (m ((c.tc : Thread Cert.KMixOutIdeal.nD Cert.KMixOutIdeal.τ).loc Cert.KMixOutIdeal.main_arg7)) (m ((c.tc : Thread Cert.KMixOutIdeal.nD Cert.KMixOutIdeal.τ).loc Cert.KMixOutIdeal.main_arg8)) (m ((c.tc : Thread Cert.KMixOutIdeal.nD Cert.KMixOutIdeal.τ).loc Cert.KMixOutIdeal.main_arg9)) (m ((c.tc : Thread Cert.KMixOutIdeal.nD Cert.KMixOutIdeal.τ).loc Cert.KMixOutIdeal.main_arg10)) (m ((c.tc : Thread Cert.KMixOutIdeal.nD Cert.KMixOutIdeal.τ).loc Cert.KMixOutIdeal.main_arg11)) (m ((c.tc : Thread Cert.KMixOutIdeal.nD Cert.KMixOutIdeal.τ).loc Cert.KMixOutIdeal.main_arg12)) (m ((c.tc : Thread Cert.KMixOutIdeal.nD Cert.KMixOutIdeal.τ).loc Cert.KMixOutIdeal.main_arg13))).1 = (fun _ => 1#1)
    ∧ (Cert.Pre_finite_mix_out.fn (F := Ideal) (m ((c.tc : Thread Cert.KMixOutIdeal.nD Cert.KMixOutIdeal.τ).loc Cert.KMixOutIdeal.main_arg0)) (m ((c.tc : Thread Cert.KMixOutIdeal.nD Cert.KMixOutIdeal.τ).loc Cert.KMixOutIdeal.main_arg1)) (m ((c.tc : Thread Cert.KMixOutIdeal.nD Cert.KMixOutIdeal.τ).loc Cert.KMixOutIdeal.main_arg2)) (m ((c.tc : Thread Cert.KMixOutIdeal.nD Cert.KMixOutIdeal.τ).loc Cert.KMixOutIdeal.main_arg3)) (m ((c.tc : Thread Cert.KMixOutIdeal.nD Cert.KMixOutIdeal.τ).loc Cert.KMixOutIdeal.main_arg4)) (m ((c.tc : Thread Cert.KMixOutIdeal.nD Cert.KMixOutIdeal.τ).loc Cert.KMixOutIdeal.main_arg5)) (m ((c.tc : Thread Cert.KMixOutIdeal.nD Cert.KMixOutIdeal.τ).loc Cert.KMixOutIdeal.main_arg6)) (m ((c.tc : Thread Cert.KMixOutIdeal.nD Cert.KMixOutIdeal.τ).loc Cert.KMixOutIdeal.main_arg7)) (m ((c.tc : Thread Cert.KMixOutIdeal.nD Cert.KMixOutIdeal.τ).loc Cert.KMixOutIdeal.main_arg8)) (m ((c.tc : Thread Cert.KMixOutIdeal.nD Cert.KMixOutIdeal.τ).loc Cert.KMixOutIdeal.main_arg9)) (m ((c.tc : Thread Cert.KMixOutIdeal.nD Cert.KMixOutIdeal.τ).loc Cert.KMixOutIdeal.main_arg10)) (m ((c.tc : Thread Cert.KMixOutIdeal.nD Cert.KMixOutIdeal.τ).loc Cert.KMixOutIdeal.main_arg11)) (m ((c.tc : Thread Cert.KMixOutIdeal.nD Cert.KMixOutIdeal.τ).loc Cert.KMixOutIdeal.main_arg12)) (m ((c.tc : Thread Cert.KMixOutIdeal.nD Cert.KMixOutIdeal.τ).loc Cert.KMixOutIdeal.main_arg13))).2.1 = (fun _ => 1#1)
    ∧ (Cert.Pre_finite_mix_out.fn (F := Ideal) (m ((c.tc : Thread Cert.KMixOutIdeal.nD Cert.KMixOutIdeal.τ).loc Cert.KMixOutIdeal.main_arg0)) (m ((c.tc : Thread Cert.KMixOutIdeal.nD Cert.KMixOutIdeal.τ).loc Cert.KMixOutIdeal.main_arg1)) (m ((c.tc : Thread Cert.KMixOutIdeal.nD Cert.KMixOutIdeal.τ).loc Cert.KMixOutIdeal.main_arg2)) (m ((c.tc : Thread Cert.KMixOutIdeal.nD Cert.KMixOutIdeal.τ).loc Cert.KMixOutIdeal.main_arg3)) (m ((c.tc : Thread Cert.KMixOutIdeal.nD Cert.KMixOutIdeal.τ).loc Cert.KMixOutIdeal.main_arg4)) (m ((c.tc : Thread Cert.KMixOutIdeal.nD Cert.KMixOutIdeal.τ).loc Cert.KMixOutIdeal.main_arg5)) (m ((c.tc : Thread Cert.KMixOutIdeal.nD Cert.KMixOutIdeal.τ).loc Cert.KMixOutIdeal.main_arg6)) (m ((c.tc : Thread Cert.KMixOutIdeal.nD Cert.KMixOutIdeal.τ).loc Cert.KMixOutIdeal.main_arg7)) (m ((c.tc : Thread Cert.KMixOutIdeal.nD Cert.KMixOutIdeal.τ).loc Cert.KMixOutIdeal.main_arg8)) (m ((c.tc : Thread Cert.KMixOutIdeal.nD Cert.KMixOutIdeal.τ).loc Cert.KMixOutIdeal.main_arg9)) (m ((c.tc : Thread Cert.KMixOutIdeal.nD Cert.KMixOutIdeal.τ).loc Cert.KMixOutIdeal.main_arg10)) (m ((c.tc : Thread Cert.KMixOutIdeal.nD Cert.KMixOutIdeal.τ).loc Cert.KMixOutIdeal.main_arg11)) (m ((c.tc : Thread Cert.KMixOutIdeal.nD Cert.KMixOutIdeal.τ).loc Cert.KMixOutIdeal.main_arg12)) (m ((c.tc : Thread Cert.KMixOutIdeal.nD Cert.KMixOutIdeal.τ).loc Cert.KMixOutIdeal.main_arg13))).2.2 = (fun _ => 1#1)

def Pre_RMixOutIdeal (m : (ℓ : Loc Cert.RMixOutIdeal.nD Cert.RMixOutIdeal.τ Cert.RMixOutIdeal.sig) → Buf (Elt Ideal) ℓ) : Prop :=
  True

def Pre_RMixOutIdeal_finite_mix_out [hPre_finite_mix_out : Cert.Pre_finite_mix_out.Facts] (m : (ℓ : Loc Cert.RMixOutIdeal.nD Cert.RMixOutIdeal.τ Cert.RMixOutIdeal.sig) → Buf (Elt Ideal) ℓ) : Prop :=
  ∀ c : Dev Cert.RMixOutIdeal.nD,
    (Cert.Pre_finite_mix_out.fn (F := Ideal) (m ((c.tc : Thread Cert.RMixOutIdeal.nD Cert.RMixOutIdeal.τ).loc Cert.RMixOutIdeal.main_arg0)) (m ((c.tc : Thread Cert.RMixOutIdeal.nD Cert.RMixOutIdeal.τ).loc Cert.RMixOutIdeal.main_arg1)) (m ((c.tc : Thread Cert.RMixOutIdeal.nD Cert.RMixOutIdeal.τ).loc Cert.RMixOutIdeal.main_arg2)) (m ((c.tc : Thread Cert.RMixOutIdeal.nD Cert.RMixOutIdeal.τ).loc Cert.RMixOutIdeal.main_arg3)) (m ((c.tc : Thread Cert.RMixOutIdeal.nD Cert.RMixOutIdeal.τ).loc Cert.RMixOutIdeal.main_arg4)) (m ((c.tc : Thread Cert.RMixOutIdeal.nD Cert.RMixOutIdeal.τ).loc Cert.RMixOutIdeal.main_arg5)) (m ((c.tc : Thread Cert.RMixOutIdeal.nD Cert.RMixOutIdeal.τ).loc Cert.RMixOutIdeal.main_arg6)) (m ((c.tc : Thread Cert.RMixOutIdeal.nD Cert.RMixOutIdeal.τ).loc Cert.RMixOutIdeal.main_arg7)) (m ((c.tc : Thread Cert.RMixOutIdeal.nD Cert.RMixOutIdeal.τ).loc Cert.RMixOutIdeal.main_arg8)) (m ((c.tc : Thread Cert.RMixOutIdeal.nD Cert.RMixOutIdeal.τ).loc Cert.RMixOutIdeal.main_arg9)) (m ((c.tc : Thread Cert.RMixOutIdeal.nD Cert.RMixOutIdeal.τ).loc Cert.RMixOutIdeal.main_arg10)) (m ((c.tc : Thread Cert.RMixOutIdeal.nD Cert.RMixOutIdeal.τ).loc Cert.RMixOutIdeal.main_arg11)) (m ((c.tc : Thread Cert.RMixOutIdeal.nD Cert.RMixOutIdeal.τ).loc Cert.RMixOutIdeal.main_arg12)) (m ((c.tc : Thread Cert.RMixOutIdeal.nD Cert.RMixOutIdeal.τ).loc Cert.RMixOutIdeal.main_arg13))).1 = (fun _ => 1#1)
    ∧ (Cert.Pre_finite_mix_out.fn (F := Ideal) (m ((c.tc : Thread Cert.RMixOutIdeal.nD Cert.RMixOutIdeal.τ).loc Cert.RMixOutIdeal.main_arg0)) (m ((c.tc : Thread Cert.RMixOutIdeal.nD Cert.RMixOutIdeal.τ).loc Cert.RMixOutIdeal.main_arg1)) (m ((c.tc : Thread Cert.RMixOutIdeal.nD Cert.RMixOutIdeal.τ).loc Cert.RMixOutIdeal.main_arg2)) (m ((c.tc : Thread Cert.RMixOutIdeal.nD Cert.RMixOutIdeal.τ).loc Cert.RMixOutIdeal.main_arg3)) (m ((c.tc : Thread Cert.RMixOutIdeal.nD Cert.RMixOutIdeal.τ).loc Cert.RMixOutIdeal.main_arg4)) (m ((c.tc : Thread Cert.RMixOutIdeal.nD Cert.RMixOutIdeal.τ).loc Cert.RMixOutIdeal.main_arg5)) (m ((c.tc : Thread Cert.RMixOutIdeal.nD Cert.RMixOutIdeal.τ).loc Cert.RMixOutIdeal.main_arg6)) (m ((c.tc : Thread Cert.RMixOutIdeal.nD Cert.RMixOutIdeal.τ).loc Cert.RMixOutIdeal.main_arg7)) (m ((c.tc : Thread Cert.RMixOutIdeal.nD Cert.RMixOutIdeal.τ).loc Cert.RMixOutIdeal.main_arg8)) (m ((c.tc : Thread Cert.RMixOutIdeal.nD Cert.RMixOutIdeal.τ).loc Cert.RMixOutIdeal.main_arg9)) (m ((c.tc : Thread Cert.RMixOutIdeal.nD Cert.RMixOutIdeal.τ).loc Cert.RMixOutIdeal.main_arg10)) (m ((c.tc : Thread Cert.RMixOutIdeal.nD Cert.RMixOutIdeal.τ).loc Cert.RMixOutIdeal.main_arg11)) (m ((c.tc : Thread Cert.RMixOutIdeal.nD Cert.RMixOutIdeal.τ).loc Cert.RMixOutIdeal.main_arg12)) (m ((c.tc : Thread Cert.RMixOutIdeal.nD Cert.RMixOutIdeal.τ).loc Cert.RMixOutIdeal.main_arg13))).2.1 = (fun _ => 1#1)
    ∧ (Cert.Pre_finite_mix_out.fn (F := Ideal) (m ((c.tc : Thread Cert.RMixOutIdeal.nD Cert.RMixOutIdeal.τ).loc Cert.RMixOutIdeal.main_arg0)) (m ((c.tc : Thread Cert.RMixOutIdeal.nD Cert.RMixOutIdeal.τ).loc Cert.RMixOutIdeal.main_arg1)) (m ((c.tc : Thread Cert.RMixOutIdeal.nD Cert.RMixOutIdeal.τ).loc Cert.RMixOutIdeal.main_arg2)) (m ((c.tc : Thread Cert.RMixOutIdeal.nD Cert.RMixOutIdeal.τ).loc Cert.RMixOutIdeal.main_arg3)) (m ((c.tc : Thread Cert.RMixOutIdeal.nD Cert.RMixOutIdeal.τ).loc Cert.RMixOutIdeal.main_arg4)) (m ((c.tc : Thread Cert.RMixOutIdeal.nD Cert.RMixOutIdeal.τ).loc Cert.RMixOutIdeal.main_arg5)) (m ((c.tc : Thread Cert.RMixOutIdeal.nD Cert.RMixOutIdeal.τ).loc Cert.RMixOutIdeal.main_arg6)) (m ((c.tc : Thread Cert.RMixOutIdeal.nD Cert.RMixOutIdeal.τ).loc Cert.RMixOutIdeal.main_arg7)) (m ((c.tc : Thread Cert.RMixOutIdeal.nD Cert.RMixOutIdeal.τ).loc Cert.RMixOutIdeal.main_arg8)) (m ((c.tc : Thread Cert.RMixOutIdeal.nD Cert.RMixOutIdeal.τ).loc Cert.RMixOutIdeal.main_arg9)) (m ((c.tc : Thread Cert.RMixOutIdeal.nD Cert.RMixOutIdeal.τ).loc Cert.RMixOutIdeal.main_arg10)) (m ((c.tc : Thread Cert.RMixOutIdeal.nD Cert.RMixOutIdeal.τ).loc Cert.RMixOutIdeal.main_arg11)) (m ((c.tc : Thread Cert.RMixOutIdeal.nD Cert.RMixOutIdeal.τ).loc Cert.RMixOutIdeal.main_arg12)) (m ((c.tc : Thread Cert.RMixOutIdeal.nD Cert.RMixOutIdeal.τ).loc Cert.RMixOutIdeal.main_arg13))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KDwIn [hKDwIn : Cert.KDwIn.Facts] : Prop :=
  ∀ (m : (ℓ : Loc Cert.KDwIn.nD Cert.KDwIn.τ Cert.KDwIn.sig) → Buf (Elt Bits) ℓ) (g : Dev Cert.KDwIn.nD → PrngReg), Pre_KDwIn m →
    θ_run (Cert.KDwIn.defs (F := Bits)) (onTc (τ := Cert.KDwIn.τ) (Cert.KDwIn.main (F := Bits))) ⟨m, fun _ => 0, g⟩ (fun r => (∀ c : Dev Cert.KDwIn.nD,
      r.2.mem ((c.tc : Thread Cert.KDwIn.nD Cert.KDwIn.τ).loc Cert.KDwIn.main_arg0) = m ((c.tc : Thread Cert.KDwIn.nD Cert.KDwIn.τ).loc Cert.KDwIn.main_arg0)
      ∧ r.2.mem ((c.tc : Thread Cert.KDwIn.nD Cert.KDwIn.τ).loc Cert.KDwIn.main_arg1) = m ((c.tc : Thread Cert.KDwIn.nD Cert.KDwIn.τ).loc Cert.KDwIn.main_arg1))
      ∧ r.2.sem = fun _ => 0)

def quiescent_KDwInIdeal [hKDwInIdeal : Cert.KDwInIdeal.Facts] : Prop :=
  ∀ (m : (ℓ : Loc Cert.KDwInIdeal.nD Cert.KDwInIdeal.τ Cert.KDwInIdeal.sig) → Buf (Elt Ideal) ℓ) (g : Dev Cert.KDwInIdeal.nD → PrngReg), Pre_KDwInIdeal m →
    θ_run (Cert.KDwInIdeal.defs (F := Ideal)) (onTc (τ := Cert.KDwInIdeal.τ) (Cert.KDwInIdeal.main (F := Ideal))) ⟨m, fun _ => 0, g⟩ (fun r => (∀ c : Dev Cert.KDwInIdeal.nD,
      r.2.mem ((c.tc : Thread Cert.KDwInIdeal.nD Cert.KDwInIdeal.τ).loc Cert.KDwInIdeal.main_arg0) = m ((c.tc : Thread Cert.KDwInIdeal.nD Cert.KDwInIdeal.τ).loc Cert.KDwInIdeal.main_arg0)
      ∧ r.2.mem ((c.tc : Thread Cert.KDwInIdeal.nD Cert.KDwInIdeal.τ).loc Cert.KDwInIdeal.main_arg1) = m ((c.tc : Thread Cert.KDwInIdeal.nD Cert.KDwInIdeal.τ).loc Cert.KDwInIdeal.main_arg1))
      ∧ r.2.sem = fun _ => 0)

def quiescent_RDwInIdeal [hRDwInIdeal : Cert.RDwInIdeal.Facts] : Prop :=
  ∀ (m : (ℓ : Loc Cert.RDwInIdeal.nD Cert.RDwInIdeal.τ Cert.RDwInIdeal.sig) → Buf (Elt Ideal) ℓ) (g : Dev Cert.RDwInIdeal.nD → PrngReg), Pre_RDwInIdeal m →
    θ_run (Cert.RDwInIdeal.defs (F := Ideal)) (onTc (τ := Cert.RDwInIdeal.τ) (Cert.RDwInIdeal.main (F := Ideal))) ⟨m, fun _ => 0, g⟩ (fun r => (∀ c : Dev Cert.RDwInIdeal.nD,
      r.2.mem ((c.tc : Thread Cert.RDwInIdeal.nD Cert.RDwInIdeal.τ).loc Cert.RDwInIdeal.main_arg0) = m ((c.tc : Thread Cert.RDwInIdeal.nD Cert.RDwInIdeal.τ).loc Cert.RDwInIdeal.main_arg0)
      ∧ r.2.mem ((c.tc : Thread Cert.RDwInIdeal.nD Cert.RDwInIdeal.τ).loc Cert.RDwInIdeal.main_arg1) = m ((c.tc : Thread Cert.RDwInIdeal.nD Cert.RDwInIdeal.τ).loc Cert.RDwInIdeal.main_arg1))
      ∧ r.2.sem = fun _ => 0)

def quiescent_KDX [hKDX : Cert.KDX.Facts] : Prop :=
  ∀ (m : (ℓ : Loc Cert.KDX.nD Cert.KDX.τ Cert.KDX.sig) → Buf (Elt Bits) ℓ) (g : Dev Cert.KDX.nD → PrngReg), Pre_KDX m →
    θ_run (Cert.KDX.defs (F := Bits)) (onTc (τ := Cert.KDX.τ) (Cert.KDX.main (F := Bits))) ⟨m, fun _ => 0, g⟩ (fun r => (∀ c : Dev Cert.KDX.nD,
      r.2.mem ((c.tc : Thread Cert.KDX.nD Cert.KDX.τ).loc Cert.KDX.main_arg0) = m ((c.tc : Thread Cert.KDX.nD Cert.KDX.τ).loc Cert.KDX.main_arg0)
      ∧ r.2.mem ((c.tc : Thread Cert.KDX.nD Cert.KDX.τ).loc Cert.KDX.main_arg1) = m ((c.tc : Thread Cert.KDX.nD Cert.KDX.τ).loc Cert.KDX.main_arg1)
      ∧ r.2.mem ((c.tc : Thread Cert.KDX.nD Cert.KDX.τ).loc Cert.KDX.main_arg2) = m ((c.tc : Thread Cert.KDX.nD Cert.KDX.τ).loc Cert.KDX.main_arg2))
      ∧ r.2.sem = fun _ => 0)

def quiescent_KDXIdeal [hKDXIdeal : Cert.KDXIdeal.Facts] : Prop :=
  ∀ (m : (ℓ : Loc Cert.KDXIdeal.nD Cert.KDXIdeal.τ Cert.KDXIdeal.sig) → Buf (Elt Ideal) ℓ) (g : Dev Cert.KDXIdeal.nD → PrngReg), Pre_KDXIdeal m →
    θ_run (Cert.KDXIdeal.defs (F := Ideal)) (onTc (τ := Cert.KDXIdeal.τ) (Cert.KDXIdeal.main (F := Ideal))) ⟨m, fun _ => 0, g⟩ (fun r => (∀ c : Dev Cert.KDXIdeal.nD,
      r.2.mem ((c.tc : Thread Cert.KDXIdeal.nD Cert.KDXIdeal.τ).loc Cert.KDXIdeal.main_arg0) = m ((c.tc : Thread Cert.KDXIdeal.nD Cert.KDXIdeal.τ).loc Cert.KDXIdeal.main_arg0)
      ∧ r.2.mem ((c.tc : Thread Cert.KDXIdeal.nD Cert.KDXIdeal.τ).loc Cert.KDXIdeal.main_arg1) = m ((c.tc : Thread Cert.KDXIdeal.nD Cert.KDXIdeal.τ).loc Cert.KDXIdeal.main_arg1)
      ∧ r.2.mem ((c.tc : Thread Cert.KDXIdeal.nD Cert.KDXIdeal.τ).loc Cert.KDXIdeal.main_arg2) = m ((c.tc : Thread Cert.KDXIdeal.nD Cert.KDXIdeal.τ).loc Cert.KDXIdeal.main_arg2))
      ∧ r.2.sem = fun _ => 0)

def quiescent_RDXIdeal [hRDXIdeal : Cert.RDXIdeal.Facts] : Prop :=
  ∀ (m : (ℓ : Loc Cert.RDXIdeal.nD Cert.RDXIdeal.τ Cert.RDXIdeal.sig) → Buf (Elt Ideal) ℓ) (g : Dev Cert.RDXIdeal.nD → PrngReg), Pre_RDXIdeal m →
    θ_run (Cert.RDXIdeal.defs (F := Ideal)) (onTc (τ := Cert.RDXIdeal.τ) (Cert.RDXIdeal.main (F := Ideal))) ⟨m, fun _ => 0, g⟩ (fun r => (∀ c : Dev Cert.RDXIdeal.nD,
      r.2.mem ((c.tc : Thread Cert.RDXIdeal.nD Cert.RDXIdeal.τ).loc Cert.RDXIdeal.main_arg0) = m ((c.tc : Thread Cert.RDXIdeal.nD Cert.RDXIdeal.τ).loc Cert.RDXIdeal.main_arg0)
      ∧ r.2.mem ((c.tc : Thread Cert.RDXIdeal.nD Cert.RDXIdeal.τ).loc Cert.RDXIdeal.main_arg1) = m ((c.tc : Thread Cert.RDXIdeal.nD Cert.RDXIdeal.τ).loc Cert.RDXIdeal.main_arg1)
      ∧ r.2.mem ((c.tc : Thread Cert.RDXIdeal.nD Cert.RDXIdeal.τ).loc Cert.RDXIdeal.main_arg2) = m ((c.tc : Thread Cert.RDXIdeal.nD Cert.RDXIdeal.τ).loc Cert.RDXIdeal.main_arg2))
      ∧ r.2.sem = fun _ => 0)

def quiescent_KDwDown [hKDwDown : Cert.KDwDown.Facts] : Prop :=
  ∀ (m : (ℓ : Loc Cert.KDwDown.nD Cert.KDwDown.τ Cert.KDwDown.sig) → Buf (Elt Bits) ℓ) (g : Dev Cert.KDwDown.nD → PrngReg), Pre_KDwDown m →
    θ_run (Cert.KDwDown.defs (F := Bits)) (onTc (τ := Cert.KDwDown.τ) (Cert.KDwDown.main (F := Bits))) ⟨m, fun _ => 0, g⟩ (fun r => (∀ c : Dev Cert.KDwDown.nD,
      r.2.mem ((c.tc : Thread Cert.KDwDown.nD Cert.KDwDown.τ).loc Cert.KDwDown.main_arg0) = m ((c.tc : Thread Cert.KDwDown.nD Cert.KDwDown.τ).loc Cert.KDwDown.main_arg0)
      ∧ r.2.mem ((c.tc : Thread Cert.KDwDown.nD Cert.KDwDown.τ).loc Cert.KDwDown.main_arg1) = m ((c.tc : Thread Cert.KDwDown.nD Cert.KDwDown.τ).loc Cert.KDwDown.main_arg1))
      ∧ r.2.sem = fun _ => 0)

def quiescent_KDwDownIdeal [hKDwDownIdeal : Cert.KDwDownIdeal.Facts] : Prop :=
  ∀ (m : (ℓ : Loc Cert.KDwDownIdeal.nD Cert.KDwDownIdeal.τ Cert.KDwDownIdeal.sig) → Buf (Elt Ideal) ℓ) (g : Dev Cert.KDwDownIdeal.nD → PrngReg), Pre_KDwDownIdeal m →
    θ_run (Cert.KDwDownIdeal.defs (F := Ideal)) (onTc (τ := Cert.KDwDownIdeal.τ) (Cert.KDwDownIdeal.main (F := Ideal))) ⟨m, fun _ => 0, g⟩ (fun r => (∀ c : Dev Cert.KDwDownIdeal.nD,
      r.2.mem ((c.tc : Thread Cert.KDwDownIdeal.nD Cert.KDwDownIdeal.τ).loc Cert.KDwDownIdeal.main_arg0) = m ((c.tc : Thread Cert.KDwDownIdeal.nD Cert.KDwDownIdeal.τ).loc Cert.KDwDownIdeal.main_arg0)
      ∧ r.2.mem ((c.tc : Thread Cert.KDwDownIdeal.nD Cert.KDwDownIdeal.τ).loc Cert.KDwDownIdeal.main_arg1) = m ((c.tc : Thread Cert.KDwDownIdeal.nD Cert.KDwDownIdeal.τ).loc Cert.KDwDownIdeal.main_arg1))
      ∧ r.2.sem = fun _ => 0)

def quiescent_RDwDownIdeal [hRDwDownIdeal : Cert.RDwDownIdeal.Facts] : Prop :=
  ∀ (m : (ℓ : Loc Cert.RDwDownIdeal.nD Cert.RDwDownIdeal.τ Cert.RDwDownIdeal.sig) → Buf (Elt Ideal) ℓ) (g : Dev Cert.RDwDownIdeal.nD → PrngReg), Pre_RDwDownIdeal m →
    θ_run (Cert.RDwDownIdeal.defs (F := Ideal)) (onTc (τ := Cert.RDwDownIdeal.τ) (Cert.RDwDownIdeal.main (F := Ideal))) ⟨m, fun _ => 0, g⟩ (fun r => (∀ c : Dev Cert.RDwDownIdeal.nD,
      r.2.mem ((c.tc : Thread Cert.RDwDownIdeal.nD Cert.RDwDownIdeal.τ).loc Cert.RDwDownIdeal.main_arg0) = m ((c.tc : Thread Cert.RDwDownIdeal.nD Cert.RDwDownIdeal.τ).loc Cert.RDwDownIdeal.main_arg0)
      ∧ r.2.mem ((c.tc : Thread Cert.RDwDownIdeal.nD Cert.RDwDownIdeal.τ).loc Cert.RDwDownIdeal.main_arg1) = m ((c.tc : Thread Cert.RDwDownIdeal.nD Cert.RDwDownIdeal.τ).loc Cert.RDwDownIdeal.main_arg1))
      ∧ r.2.sem = fun _ => 0)

def quiescent_KDwUp [hKDwUp : Cert.KDwUp.Facts] : Prop :=
  ∀ (m : (ℓ : Loc Cert.KDwUp.nD Cert.KDwUp.τ Cert.KDwUp.sig) → Buf (Elt Bits) ℓ) (g : Dev Cert.KDwUp.nD → PrngReg), Pre_KDwUp m →
    θ_run (Cert.KDwUp.defs (F := Bits)) (onTc (τ := Cert.KDwUp.τ) (Cert.KDwUp.main (F := Bits))) ⟨m, fun _ => 0, g⟩ (fun r => (∀ c : Dev Cert.KDwUp.nD,
      r.2.mem ((c.tc : Thread Cert.KDwUp.nD Cert.KDwUp.τ).loc Cert.KDwUp.main_arg0) = m ((c.tc : Thread Cert.KDwUp.nD Cert.KDwUp.τ).loc Cert.KDwUp.main_arg0)
      ∧ r.2.mem ((c.tc : Thread Cert.KDwUp.nD Cert.KDwUp.τ).loc Cert.KDwUp.main_arg1) = m ((c.tc : Thread Cert.KDwUp.nD Cert.KDwUp.τ).loc Cert.KDwUp.main_arg1))
      ∧ r.2.sem = fun _ => 0)

def quiescent_KDwUpIdeal [hKDwUpIdeal : Cert.KDwUpIdeal.Facts] : Prop :=
  ∀ (m : (ℓ : Loc Cert.KDwUpIdeal.nD Cert.KDwUpIdeal.τ Cert.KDwUpIdeal.sig) → Buf (Elt Ideal) ℓ) (g : Dev Cert.KDwUpIdeal.nD → PrngReg), Pre_KDwUpIdeal m →
    θ_run (Cert.KDwUpIdeal.defs (F := Ideal)) (onTc (τ := Cert.KDwUpIdeal.τ) (Cert.KDwUpIdeal.main (F := Ideal))) ⟨m, fun _ => 0, g⟩ (fun r => (∀ c : Dev Cert.KDwUpIdeal.nD,
      r.2.mem ((c.tc : Thread Cert.KDwUpIdeal.nD Cert.KDwUpIdeal.τ).loc Cert.KDwUpIdeal.main_arg0) = m ((c.tc : Thread Cert.KDwUpIdeal.nD Cert.KDwUpIdeal.τ).loc Cert.KDwUpIdeal.main_arg0)
      ∧ r.2.mem ((c.tc : Thread Cert.KDwUpIdeal.nD Cert.KDwUpIdeal.τ).loc Cert.KDwUpIdeal.main_arg1) = m ((c.tc : Thread Cert.KDwUpIdeal.nD Cert.KDwUpIdeal.τ).loc Cert.KDwUpIdeal.main_arg1))
      ∧ r.2.sem = fun _ => 0)

def quiescent_RDwUpIdeal [hRDwUpIdeal : Cert.RDwUpIdeal.Facts] : Prop :=
  ∀ (m : (ℓ : Loc Cert.RDwUpIdeal.nD Cert.RDwUpIdeal.τ Cert.RDwUpIdeal.sig) → Buf (Elt Ideal) ℓ) (g : Dev Cert.RDwUpIdeal.nD → PrngReg), Pre_RDwUpIdeal m →
    θ_run (Cert.RDwUpIdeal.defs (F := Ideal)) (onTc (τ := Cert.RDwUpIdeal.τ) (Cert.RDwUpIdeal.main (F := Ideal))) ⟨m, fun _ => 0, g⟩ (fun r => (∀ c : Dev Cert.RDwUpIdeal.nD,
      r.2.mem ((c.tc : Thread Cert.RDwUpIdeal.nD Cert.RDwUpIdeal.τ).loc Cert.RDwUpIdeal.main_arg0) = m ((c.tc : Thread Cert.RDwUpIdeal.nD Cert.RDwUpIdeal.τ).loc Cert.RDwUpIdeal.main_arg0)
      ∧ r.2.mem ((c.tc : Thread Cert.RDwUpIdeal.nD Cert.RDwUpIdeal.τ).loc Cert.RDwUpIdeal.main_arg1) = m ((c.tc : Thread Cert.RDwUpIdeal.nD Cert.RDwUpIdeal.τ).loc Cert.RDwUpIdeal.main_arg1))
      ∧ r.2.sem = fun _ => 0)

def quiescent_KDUp [hKDUp : Cert.KDUp.Facts] : Prop :=
  ∀ (m : (ℓ : Loc Cert.KDUp.nD Cert.KDUp.τ Cert.KDUp.sig) → Buf (Elt Bits) ℓ) (g : Dev Cert.KDUp.nD → PrngReg), Pre_KDUp m →
    θ_run (Cert.KDUp.defs (F := Bits)) (onTc (τ := Cert.KDUp.τ) (Cert.KDUp.main (F := Bits))) ⟨m, fun _ => 0, g⟩ (fun r => (∀ c : Dev Cert.KDUp.nD,
      r.2.mem ((c.tc : Thread Cert.KDUp.nD Cert.KDUp.τ).loc Cert.KDUp.main_arg0) = m ((c.tc : Thread Cert.KDUp.nD Cert.KDUp.τ).loc Cert.KDUp.main_arg0)
      ∧ r.2.mem ((c.tc : Thread Cert.KDUp.nD Cert.KDUp.τ).loc Cert.KDUp.main_arg1) = m ((c.tc : Thread Cert.KDUp.nD Cert.KDUp.τ).loc Cert.KDUp.main_arg1)
      ∧ r.2.mem ((c.tc : Thread Cert.KDUp.nD Cert.KDUp.τ).loc Cert.KDUp.main_arg2) = m ((c.tc : Thread Cert.KDUp.nD Cert.KDUp.τ).loc Cert.KDUp.main_arg2))
      ∧ r.2.sem = fun _ => 0)

def quiescent_KDUpIdeal [hKDUpIdeal : Cert.KDUpIdeal.Facts] : Prop :=
  ∀ (m : (ℓ : Loc Cert.KDUpIdeal.nD Cert.KDUpIdeal.τ Cert.KDUpIdeal.sig) → Buf (Elt Ideal) ℓ) (g : Dev Cert.KDUpIdeal.nD → PrngReg), Pre_KDUpIdeal m →
    θ_run (Cert.KDUpIdeal.defs (F := Ideal)) (onTc (τ := Cert.KDUpIdeal.τ) (Cert.KDUpIdeal.main (F := Ideal))) ⟨m, fun _ => 0, g⟩ (fun r => (∀ c : Dev Cert.KDUpIdeal.nD,
      r.2.mem ((c.tc : Thread Cert.KDUpIdeal.nD Cert.KDUpIdeal.τ).loc Cert.KDUpIdeal.main_arg0) = m ((c.tc : Thread Cert.KDUpIdeal.nD Cert.KDUpIdeal.τ).loc Cert.KDUpIdeal.main_arg0)
      ∧ r.2.mem ((c.tc : Thread Cert.KDUpIdeal.nD Cert.KDUpIdeal.τ).loc Cert.KDUpIdeal.main_arg1) = m ((c.tc : Thread Cert.KDUpIdeal.nD Cert.KDUpIdeal.τ).loc Cert.KDUpIdeal.main_arg1)
      ∧ r.2.mem ((c.tc : Thread Cert.KDUpIdeal.nD Cert.KDUpIdeal.τ).loc Cert.KDUpIdeal.main_arg2) = m ((c.tc : Thread Cert.KDUpIdeal.nD Cert.KDUpIdeal.τ).loc Cert.KDUpIdeal.main_arg2))
      ∧ r.2.sem = fun _ => 0)

def quiescent_RDUpIdeal [hRDUpIdeal : Cert.RDUpIdeal.Facts] : Prop :=
  ∀ (m : (ℓ : Loc Cert.RDUpIdeal.nD Cert.RDUpIdeal.τ Cert.RDUpIdeal.sig) → Buf (Elt Ideal) ℓ) (g : Dev Cert.RDUpIdeal.nD → PrngReg), Pre_RDUpIdeal m →
    θ_run (Cert.RDUpIdeal.defs (F := Ideal)) (onTc (τ := Cert.RDUpIdeal.τ) (Cert.RDUpIdeal.main (F := Ideal))) ⟨m, fun _ => 0, g⟩ (fun r => (∀ c : Dev Cert.RDUpIdeal.nD,
      r.2.mem ((c.tc : Thread Cert.RDUpIdeal.nD Cert.RDUpIdeal.τ).loc Cert.RDUpIdeal.main_arg0) = m ((c.tc : Thread Cert.RDUpIdeal.nD Cert.RDUpIdeal.τ).loc Cert.RDUpIdeal.main_arg0)
      ∧ r.2.mem ((c.tc : Thread Cert.RDUpIdeal.nD Cert.RDUpIdeal.τ).loc Cert.RDUpIdeal.main_arg1) = m ((c.tc : Thread Cert.RDUpIdeal.nD Cert.RDUpIdeal.τ).loc Cert.RDUpIdeal.main_arg1)
      ∧ r.2.mem ((c.tc : Thread Cert.RDUpIdeal.nD Cert.RDUpIdeal.τ).loc Cert.RDUpIdeal.main_arg2) = m ((c.tc : Thread Cert.RDUpIdeal.nD Cert.RDUpIdeal.τ).loc Cert.RDUpIdeal.main_arg2))
      ∧ r.2.sem = fun _ => 0)

def quiescent_KDH1 [hKDH1 : Cert.KDH1.Facts] : Prop :=
  ∀ (m : (ℓ : Loc Cert.KDH1.nD Cert.KDH1.τ Cert.KDH1.sig) → Buf (Elt Bits) ℓ) (g : Dev Cert.KDH1.nD → PrngReg), Pre_KDH1 m →
    θ_run (Cert.KDH1.defs (F := Bits)) (onTc (τ := Cert.KDH1.τ) (Cert.KDH1.main (F := Bits))) ⟨m, fun _ => 0, g⟩ (fun r => (∀ c : Dev Cert.KDH1.nD,
      r.2.mem ((c.tc : Thread Cert.KDH1.nD Cert.KDH1.τ).loc Cert.KDH1.main_arg0) = m ((c.tc : Thread Cert.KDH1.nD Cert.KDH1.τ).loc Cert.KDH1.main_arg0)
      ∧ r.2.mem ((c.tc : Thread Cert.KDH1.nD Cert.KDH1.τ).loc Cert.KDH1.main_arg1) = m ((c.tc : Thread Cert.KDH1.nD Cert.KDH1.τ).loc Cert.KDH1.main_arg1)
      ∧ r.2.mem ((c.tc : Thread Cert.KDH1.nD Cert.KDH1.τ).loc Cert.KDH1.main_arg2) = m ((c.tc : Thread Cert.KDH1.nD Cert.KDH1.τ).loc Cert.KDH1.main_arg2)
      ∧ r.2.mem ((c.tc : Thread Cert.KDH1.nD Cert.KDH1.τ).loc Cert.KDH1.main_arg3) = m ((c.tc : Thread Cert.KDH1.nD Cert.KDH1.τ).loc Cert.KDH1.main_arg3)
      ∧ r.2.mem ((c.tc : Thread Cert.KDH1.nD Cert.KDH1.τ).loc Cert.KDH1.main_arg4) = m ((c.tc : Thread Cert.KDH1.nD Cert.KDH1.τ).loc Cert.KDH1.main_arg4)
      ∧ r.2.mem ((c.tc : Thread Cert.KDH1.nD Cert.KDH1.τ).loc Cert.KDH1.main_arg5) = m ((c.tc : Thread Cert.KDH1.nD Cert.KDH1.τ).loc Cert.KDH1.main_arg5))
      ∧ r.2.sem = fun _ => 0)

def quiescent_KDH1Ideal [hKDH1Ideal : Cert.KDH1Ideal.Facts] : Prop :=
  ∀ (m : (ℓ : Loc Cert.KDH1Ideal.nD Cert.KDH1Ideal.τ Cert.KDH1Ideal.sig) → Buf (Elt Ideal) ℓ) (g : Dev Cert.KDH1Ideal.nD → PrngReg), Pre_KDH1Ideal m →
    θ_run (Cert.KDH1Ideal.defs (F := Ideal)) (onTc (τ := Cert.KDH1Ideal.τ) (Cert.KDH1Ideal.main (F := Ideal))) ⟨m, fun _ => 0, g⟩ (fun r => (∀ c : Dev Cert.KDH1Ideal.nD,
      r.2.mem ((c.tc : Thread Cert.KDH1Ideal.nD Cert.KDH1Ideal.τ).loc Cert.KDH1Ideal.main_arg0) = m ((c.tc : Thread Cert.KDH1Ideal.nD Cert.KDH1Ideal.τ).loc Cert.KDH1Ideal.main_arg0)
      ∧ r.2.mem ((c.tc : Thread Cert.KDH1Ideal.nD Cert.KDH1Ideal.τ).loc Cert.KDH1Ideal.main_arg1) = m ((c.tc : Thread Cert.KDH1Ideal.nD Cert.KDH1Ideal.τ).loc Cert.KDH1Ideal.main_arg1)
      ∧ r.2.mem ((c.tc : Thread Cert.KDH1Ideal.nD Cert.KDH1Ideal.τ).loc Cert.KDH1Ideal.main_arg2) = m ((c.tc : Thread Cert.KDH1Ideal.nD Cert.KDH1Ideal.τ).loc Cert.KDH1Ideal.main_arg2)
      ∧ r.2.mem ((c.tc : Thread Cert.KDH1Ideal.nD Cert.KDH1Ideal.τ).loc Cert.KDH1Ideal.main_arg3) = m ((c.tc : Thread Cert.KDH1Ideal.nD Cert.KDH1Ideal.τ).loc Cert.KDH1Ideal.main_arg3)
      ∧ r.2.mem ((c.tc : Thread Cert.KDH1Ideal.nD Cert.KDH1Ideal.τ).loc Cert.KDH1Ideal.main_arg4) = m ((c.tc : Thread Cert.KDH1Ideal.nD Cert.KDH1Ideal.τ).loc Cert.KDH1Ideal.main_arg4)
      ∧ r.2.mem ((c.tc : Thread Cert.KDH1Ideal.nD Cert.KDH1Ideal.τ).loc Cert.KDH1Ideal.main_arg5) = m ((c.tc : Thread Cert.KDH1Ideal.nD Cert.KDH1Ideal.τ).loc Cert.KDH1Ideal.main_arg5))
      ∧ r.2.sem = fun _ => 0)

def quiescent_KDH1Ideal_pre_finite_d_h1 [hKDH1Ideal : Cert.KDH1Ideal.Facts] [hPre_finite_d_h1 : Cert.Pre_finite_d_h1.Facts] : Prop :=
  ∀ (m : (ℓ : Loc Cert.KDH1Ideal.nD Cert.KDH1Ideal.τ Cert.KDH1Ideal.sig) → Buf (Elt Ideal) ℓ) (g : Dev Cert.KDH1Ideal.nD → PrngReg), Pre_KDH1Ideal_finite_d_h1 m →
    θ_run (Cert.KDH1Ideal.defs (F := Ideal)) (onTc (τ := Cert.KDH1Ideal.τ) (Cert.KDH1Ideal.main (F := Ideal))) ⟨m, fun _ => 0, g⟩ (fun r => (∀ c : Dev Cert.KDH1Ideal.nD,
      r.2.mem ((c.tc : Thread Cert.KDH1Ideal.nD Cert.KDH1Ideal.τ).loc Cert.KDH1Ideal.main_arg0) = m ((c.tc : Thread Cert.KDH1Ideal.nD Cert.KDH1Ideal.τ).loc Cert.KDH1Ideal.main_arg0)
      ∧ r.2.mem ((c.tc : Thread Cert.KDH1Ideal.nD Cert.KDH1Ideal.τ).loc Cert.KDH1Ideal.main_arg1) = m ((c.tc : Thread Cert.KDH1Ideal.nD Cert.KDH1Ideal.τ).loc Cert.KDH1Ideal.main_arg1)
      ∧ r.2.mem ((c.tc : Thread Cert.KDH1Ideal.nD Cert.KDH1Ideal.τ).loc Cert.KDH1Ideal.main_arg2) = m ((c.tc : Thread Cert.KDH1Ideal.nD Cert.KDH1Ideal.τ).loc Cert.KDH1Ideal.main_arg2)
      ∧ r.2.mem ((c.tc : Thread Cert.KDH1Ideal.nD Cert.KDH1Ideal.τ).loc Cert.KDH1Ideal.main_arg3) = m ((c.tc : Thread Cert.KDH1Ideal.nD Cert.KDH1Ideal.τ).loc Cert.KDH1Ideal.main_arg3)
      ∧ r.2.mem ((c.tc : Thread Cert.KDH1Ideal.nD Cert.KDH1Ideal.τ).loc Cert.KDH1Ideal.main_arg4) = m ((c.tc : Thread Cert.KDH1Ideal.nD Cert.KDH1Ideal.τ).loc Cert.KDH1Ideal.main_arg4)
      ∧ r.2.mem ((c.tc : Thread Cert.KDH1Ideal.nD Cert.KDH1Ideal.τ).loc Cert.KDH1Ideal.main_arg5) = m ((c.tc : Thread Cert.KDH1Ideal.nD Cert.KDH1Ideal.τ).loc Cert.KDH1Ideal.main_arg5))
      ∧ r.2.sem = fun _ => 0)

def quiescent_RDH1Ideal [hRDH1Ideal : Cert.RDH1Ideal.Facts] : Prop :=
  ∀ (m : (ℓ : Loc Cert.RDH1Ideal.nD Cert.RDH1Ideal.τ Cert.RDH1Ideal.sig) → Buf (Elt Ideal) ℓ) (g : Dev Cert.RDH1Ideal.nD → PrngReg), Pre_RDH1Ideal m →
    θ_run (Cert.RDH1Ideal.defs (F := Ideal)) (onTc (τ := Cert.RDH1Ideal.τ) (Cert.RDH1Ideal.main (F := Ideal))) ⟨m, fun _ => 0, g⟩ (fun r => (∀ c : Dev Cert.RDH1Ideal.nD,
      r.2.mem ((c.tc : Thread Cert.RDH1Ideal.nD Cert.RDH1Ideal.τ).loc Cert.RDH1Ideal.main_arg0) = m ((c.tc : Thread Cert.RDH1Ideal.nD Cert.RDH1Ideal.τ).loc Cert.RDH1Ideal.main_arg0)
      ∧ r.2.mem ((c.tc : Thread Cert.RDH1Ideal.nD Cert.RDH1Ideal.τ).loc Cert.RDH1Ideal.main_arg1) = m ((c.tc : Thread Cert.RDH1Ideal.nD Cert.RDH1Ideal.τ).loc Cert.RDH1Ideal.main_arg1)
      ∧ r.2.mem ((c.tc : Thread Cert.RDH1Ideal.nD Cert.RDH1Ideal.τ).loc Cert.RDH1Ideal.main_arg2) = m ((c.tc : Thread Cert.RDH1Ideal.nD Cert.RDH1Ideal.τ).loc Cert.RDH1Ideal.main_arg2)
      ∧ r.2.mem ((c.tc : Thread Cert.RDH1Ideal.nD Cert.RDH1Ideal.τ).loc Cert.RDH1Ideal.main_arg3) = m ((c.tc : Thread Cert.RDH1Ideal.nD Cert.RDH1Ideal.τ).loc Cert.RDH1Ideal.main_arg3)
      ∧ r.2.mem ((c.tc : Thread Cert.RDH1Ideal.nD Cert.RDH1Ideal.τ).loc Cert.RDH1Ideal.main_arg4) = m ((c.tc : Thread Cert.RDH1Ideal.nD Cert.RDH1Ideal.τ).loc Cert.RDH1Ideal.main_arg4)
      ∧ r.2.mem ((c.tc : Thread Cert.RDH1Ideal.nD Cert.RDH1Ideal.τ).loc Cert.RDH1Ideal.main_arg5) = m ((c.tc : Thread Cert.RDH1Ideal.nD Cert.RDH1Ideal.τ).loc Cert.RDH1Ideal.main_arg5))
      ∧ r.2.sem = fun _ => 0)

def quiescent_RDH1Ideal_pre_finite_d_h1 [hRDH1Ideal : Cert.RDH1Ideal.Facts] [hPre_finite_d_h1 : Cert.Pre_finite_d_h1.Facts] : Prop :=
  ∀ (m : (ℓ : Loc Cert.RDH1Ideal.nD Cert.RDH1Ideal.τ Cert.RDH1Ideal.sig) → Buf (Elt Ideal) ℓ) (g : Dev Cert.RDH1Ideal.nD → PrngReg), Pre_RDH1Ideal_finite_d_h1 m →
    θ_run (Cert.RDH1Ideal.defs (F := Ideal)) (onTc (τ := Cert.RDH1Ideal.τ) (Cert.RDH1Ideal.main (F := Ideal))) ⟨m, fun _ => 0, g⟩ (fun r => (∀ c : Dev Cert.RDH1Ideal.nD,
      r.2.mem ((c.tc : Thread Cert.RDH1Ideal.nD Cert.RDH1Ideal.τ).loc Cert.RDH1Ideal.main_arg0) = m ((c.tc : Thread Cert.RDH1Ideal.nD Cert.RDH1Ideal.τ).loc Cert.RDH1Ideal.main_arg0)
      ∧ r.2.mem ((c.tc : Thread Cert.RDH1Ideal.nD Cert.RDH1Ideal.τ).loc Cert.RDH1Ideal.main_arg1) = m ((c.tc : Thread Cert.RDH1Ideal.nD Cert.RDH1Ideal.τ).loc Cert.RDH1Ideal.main_arg1)
      ∧ r.2.mem ((c.tc : Thread Cert.RDH1Ideal.nD Cert.RDH1Ideal.τ).loc Cert.RDH1Ideal.main_arg2) = m ((c.tc : Thread Cert.RDH1Ideal.nD Cert.RDH1Ideal.τ).loc Cert.RDH1Ideal.main_arg2)
      ∧ r.2.mem ((c.tc : Thread Cert.RDH1Ideal.nD Cert.RDH1Ideal.τ).loc Cert.RDH1Ideal.main_arg3) = m ((c.tc : Thread Cert.RDH1Ideal.nD Cert.RDH1Ideal.τ).loc Cert.RDH1Ideal.main_arg3)
      ∧ r.2.mem ((c.tc : Thread Cert.RDH1Ideal.nD Cert.RDH1Ideal.τ).loc Cert.RDH1Ideal.main_arg4) = m ((c.tc : Thread Cert.RDH1Ideal.nD Cert.RDH1Ideal.τ).loc Cert.RDH1Ideal.main_arg4)
      ∧ r.2.mem ((c.tc : Thread Cert.RDH1Ideal.nD Cert.RDH1Ideal.τ).loc Cert.RDH1Ideal.main_arg5) = m ((c.tc : Thread Cert.RDH1Ideal.nD Cert.RDH1Ideal.τ).loc Cert.RDH1Ideal.main_arg5))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2)
      ∧ r.2.mem ((c.tc : Thread Cert.KLoss.nD Cert.KLoss.τ).loc Cert.KLoss.main_arg3) = m ((c.tc : Thread Cert.KLoss.nD Cert.KLoss.τ).loc Cert.KLoss.main_arg3)
      ∧ r.2.mem ((c.tc : Thread Cert.KLoss.nD Cert.KLoss.τ).loc Cert.KLoss.main_arg4) = m ((c.tc : Thread Cert.KLoss.nD Cert.KLoss.τ).loc Cert.KLoss.main_arg4)
      ∧ r.2.mem ((c.tc : Thread Cert.KLoss.nD Cert.KLoss.τ).loc Cert.KLoss.main_arg5) = m ((c.tc : Thread Cert.KLoss.nD Cert.KLoss.τ).loc Cert.KLoss.main_arg5)
      ∧ r.2.mem ((c.tc : Thread Cert.KLoss.nD Cert.KLoss.τ).loc Cert.KLoss.main_arg6) = m ((c.tc : Thread Cert.KLoss.nD Cert.KLoss.τ).loc Cert.KLoss.main_arg6)
      ∧ r.2.mem ((c.tc : Thread Cert.KLoss.nD Cert.KLoss.τ).loc Cert.KLoss.main_arg7) = m ((c.tc : Thread Cert.KLoss.nD Cert.KLoss.τ).loc Cert.KLoss.main_arg7))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
      ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4)
      ∧ r.2.mem ((c.tc : Thread Cert.KLossIdeal.nD Cert.KLossIdeal.τ).loc Cert.KLossIdeal.main_arg5) = m ((c.tc : Thread Cert.KLossIdeal.nD Cert.KLossIdeal.τ).loc Cert.KLossIdeal.main_arg5)
      ∧ r.2.mem ((c.tc : Thread Cert.KLossIdeal.nD Cert.KLossIdeal.τ).loc Cert.KLossIdeal.main_arg6) = m ((c.tc : Thread Cert.KLossIdeal.nD Cert.KLossIdeal.τ).loc Cert.KLossIdeal.main_arg6)
      ∧ r.2.mem ((c.tc : Thread Cert.KLossIdeal.nD Cert.KLossIdeal.τ).loc Cert.KLossIdeal.main_arg7) = m ((c.tc : Thread Cert.KLossIdeal.nD Cert.KLossIdeal.τ).loc Cert.KLossIdeal.main_arg7))
      ∧ r.2.sem = fun _ => 0)

def quiescent_KLossIdeal_pre_finite_loss [hKLossIdeal : Cert.KLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal_finite_loss m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
      ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4)
      ∧ r.2.mem ((c.tc : Thread Cert.KLossIdeal.nD Cert.KLossIdeal.τ).loc Cert.KLossIdeal.main_arg5) = m ((c.tc : Thread Cert.KLossIdeal.nD Cert.KLossIdeal.τ).loc Cert.KLossIdeal.main_arg5)
      ∧ r.2.mem ((c.tc : Thread Cert.KLossIdeal.nD Cert.KLossIdeal.τ).loc Cert.KLossIdeal.main_arg6) = m ((c.tc : Thread Cert.KLossIdeal.nD Cert.KLossIdeal.τ).loc Cert.KLossIdeal.main_arg6)
      ∧ r.2.mem ((c.tc : Thread Cert.KLossIdeal.nD Cert.KLossIdeal.τ).loc Cert.KLossIdeal.main_arg7) = m ((c.tc : Thread Cert.KLossIdeal.nD Cert.KLossIdeal.τ).loc Cert.KLossIdeal.main_arg7))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4)
      ∧ r.2.mem ((c.tc : Thread Cert.RLossIdeal.nD Cert.RLossIdeal.τ).loc Cert.RLossIdeal.main_arg5) = m ((c.tc : Thread Cert.RLossIdeal.nD Cert.RLossIdeal.τ).loc Cert.RLossIdeal.main_arg5)
      ∧ r.2.mem ((c.tc : Thread Cert.RLossIdeal.nD Cert.RLossIdeal.τ).loc Cert.RLossIdeal.main_arg6) = m ((c.tc : Thread Cert.RLossIdeal.nD Cert.RLossIdeal.τ).loc Cert.RLossIdeal.main_arg6)
      ∧ r.2.mem ((c.tc : Thread Cert.RLossIdeal.nD Cert.RLossIdeal.τ).loc Cert.RLossIdeal.main_arg7) = m ((c.tc : Thread Cert.RLossIdeal.nD Cert.RLossIdeal.τ).loc Cert.RLossIdeal.main_arg7))
      ∧ r.2.sem = fun _ => 0)

def quiescent_RLossIdeal_pre_finite_loss [hRLossIdeal : Cert.RLossIdeal.Facts] [hPre_finite_loss : Cert.Pre_finite_loss.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal_finite_loss m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4)
      ∧ r.2.mem ((c.tc : Thread Cert.RLossIdeal.nD Cert.RLossIdeal.τ).loc Cert.RLossIdeal.main_arg5) = m ((c.tc : Thread Cert.RLossIdeal.nD Cert.RLossIdeal.τ).loc Cert.RLossIdeal.main_arg5)
      ∧ r.2.mem ((c.tc : Thread Cert.RLossIdeal.nD Cert.RLossIdeal.τ).loc Cert.RLossIdeal.main_arg6) = m ((c.tc : Thread Cert.RLossIdeal.nD Cert.RLossIdeal.τ).loc Cert.RLossIdeal.main_arg6)
      ∧ r.2.mem ((c.tc : Thread Cert.RLossIdeal.nD Cert.RLossIdeal.τ).loc Cert.RLossIdeal.main_arg7) = m ((c.tc : Thread Cert.RLossIdeal.nD Cert.RLossIdeal.τ).loc Cert.RLossIdeal.main_arg7))
      ∧ r.2.sem = fun _ => 0)

def quiescent_KInProj [hKInProj : Cert.KInProj.Facts] : Prop :=
  ∀ (m : (ℓ : Loc Cert.KInProj.nD Cert.KInProj.τ Cert.KInProj.sig) → Buf (Elt Bits) ℓ) (g : Dev Cert.KInProj.nD → PrngReg), Pre_KInProj m →
    θ_run (Cert.KInProj.defs (F := Bits)) (onTc (τ := Cert.KInProj.τ) (Cert.KInProj.main (F := Bits))) ⟨m, fun _ => 0, g⟩ (fun r => (∀ c : Dev Cert.KInProj.nD,
      r.2.mem ((c.tc : Thread Cert.KInProj.nD Cert.KInProj.τ).loc Cert.KInProj.main_arg0) = m ((c.tc : Thread Cert.KInProj.nD Cert.KInProj.τ).loc Cert.KInProj.main_arg0)
      ∧ r.2.mem ((c.tc : Thread Cert.KInProj.nD Cert.KInProj.τ).loc Cert.KInProj.main_arg1) = m ((c.tc : Thread Cert.KInProj.nD Cert.KInProj.τ).loc Cert.KInProj.main_arg1))
      ∧ r.2.sem = fun _ => 0)

def quiescent_KInProjIdeal [hKInProjIdeal : Cert.KInProjIdeal.Facts] : Prop :=
  ∀ (m : (ℓ : Loc Cert.KInProjIdeal.nD Cert.KInProjIdeal.τ Cert.KInProjIdeal.sig) → Buf (Elt Ideal) ℓ) (g : Dev Cert.KInProjIdeal.nD → PrngReg), Pre_KInProjIdeal m →
    θ_run (Cert.KInProjIdeal.defs (F := Ideal)) (onTc (τ := Cert.KInProjIdeal.τ) (Cert.KInProjIdeal.main (F := Ideal))) ⟨m, fun _ => 0, g⟩ (fun r => (∀ c : Dev Cert.KInProjIdeal.nD,
      r.2.mem ((c.tc : Thread Cert.KInProjIdeal.nD Cert.KInProjIdeal.τ).loc Cert.KInProjIdeal.main_arg0) = m ((c.tc : Thread Cert.KInProjIdeal.nD Cert.KInProjIdeal.τ).loc Cert.KInProjIdeal.main_arg0)
      ∧ r.2.mem ((c.tc : Thread Cert.KInProjIdeal.nD Cert.KInProjIdeal.τ).loc Cert.KInProjIdeal.main_arg1) = m ((c.tc : Thread Cert.KInProjIdeal.nD Cert.KInProjIdeal.τ).loc Cert.KInProjIdeal.main_arg1))
      ∧ r.2.sem = fun _ => 0)

def quiescent_RInProjIdeal [hRInProjIdeal : Cert.RInProjIdeal.Facts] : Prop :=
  ∀ (m : (ℓ : Loc Cert.RInProjIdeal.nD Cert.RInProjIdeal.τ Cert.RInProjIdeal.sig) → Buf (Elt Ideal) ℓ) (g : Dev Cert.RInProjIdeal.nD → PrngReg), Pre_RInProjIdeal m →
    θ_run (Cert.RInProjIdeal.defs (F := Ideal)) (onTc (τ := Cert.RInProjIdeal.τ) (Cert.RInProjIdeal.main (F := Ideal))) ⟨m, fun _ => 0, g⟩ (fun r => (∀ c : Dev Cert.RInProjIdeal.nD,
      r.2.mem ((c.tc : Thread Cert.RInProjIdeal.nD Cert.RInProjIdeal.τ).loc Cert.RInProjIdeal.main_arg0) = m ((c.tc : Thread Cert.RInProjIdeal.nD Cert.RInProjIdeal.τ).loc Cert.RInProjIdeal.main_arg0)
      ∧ r.2.mem ((c.tc : Thread Cert.RInProjIdeal.nD Cert.RInProjIdeal.τ).loc Cert.RInProjIdeal.main_arg1) = m ((c.tc : Thread Cert.RInProjIdeal.nD Cert.RInProjIdeal.τ).loc Cert.RInProjIdeal.main_arg1))
      ∧ r.2.sem = fun _ => 0)

def quiescent_KMlpUp [hKMlpUp : Cert.KMlpUp.Facts] : Prop :=
  ∀ (m : (ℓ : Loc Cert.KMlpUp.nD Cert.KMlpUp.τ Cert.KMlpUp.sig) → Buf (Elt Bits) ℓ) (g : Dev Cert.KMlpUp.nD → PrngReg), Pre_KMlpUp m →
    θ_run (Cert.KMlpUp.defs (F := Bits)) (onTc (τ := Cert.KMlpUp.τ) (Cert.KMlpUp.main (F := Bits))) ⟨m, fun _ => 0, g⟩ (fun r => (∀ c : Dev Cert.KMlpUp.nD,
      r.2.mem ((c.tc : Thread Cert.KMlpUp.nD Cert.KMlpUp.τ).loc Cert.KMlpUp.main_arg0) = m ((c.tc : Thread Cert.KMlpUp.nD Cert.KMlpUp.τ).loc Cert.KMlpUp.main_arg0)
      ∧ r.2.mem ((c.tc : Thread Cert.KMlpUp.nD Cert.KMlpUp.τ).loc Cert.KMlpUp.main_arg1) = m ((c.tc : Thread Cert.KMlpUp.nD Cert.KMlpUp.τ).loc Cert.KMlpUp.main_arg1))
      ∧ r.2.sem = fun _ => 0)

def quiescent_KMlpUpIdeal [hKMlpUpIdeal : Cert.KMlpUpIdeal.Facts] : Prop :=
  ∀ (m : (ℓ : Loc Cert.KMlpUpIdeal.nD Cert.KMlpUpIdeal.τ Cert.KMlpUpIdeal.sig) → Buf (Elt Ideal) ℓ) (g : Dev Cert.KMlpUpIdeal.nD → PrngReg), Pre_KMlpUpIdeal m →
    θ_run (Cert.KMlpUpIdeal.defs (F := Ideal)) (onTc (τ := Cert.KMlpUpIdeal.τ) (Cert.KMlpUpIdeal.main (F := Ideal))) ⟨m, fun _ => 0, g⟩ (fun r => (∀ c : Dev Cert.KMlpUpIdeal.nD,
      r.2.mem ((c.tc : Thread Cert.KMlpUpIdeal.nD Cert.KMlpUpIdeal.τ).loc Cert.KMlpUpIdeal.main_arg0) = m ((c.tc : Thread Cert.KMlpUpIdeal.nD Cert.KMlpUpIdeal.τ).loc Cert.KMlpUpIdeal.main_arg0)
      ∧ r.2.mem ((c.tc : Thread Cert.KMlpUpIdeal.nD Cert.KMlpUpIdeal.τ).loc Cert.KMlpUpIdeal.main_arg1) = m ((c.tc : Thread Cert.KMlpUpIdeal.nD Cert.KMlpUpIdeal.τ).loc Cert.KMlpUpIdeal.main_arg1))
      ∧ r.2.sem = fun _ => 0)

def quiescent_RMlpUpIdeal [hRMlpUpIdeal : Cert.RMlpUpIdeal.Facts] : Prop :=
  ∀ (m : (ℓ : Loc Cert.RMlpUpIdeal.nD Cert.RMlpUpIdeal.τ Cert.RMlpUpIdeal.sig) → Buf (Elt Ideal) ℓ) (g : Dev Cert.RMlpUpIdeal.nD → PrngReg), Pre_RMlpUpIdeal m →
    θ_run (Cert.RMlpUpIdeal.defs (F := Ideal)) (onTc (τ := Cert.RMlpUpIdeal.τ) (Cert.RMlpUpIdeal.main (F := Ideal))) ⟨m, fun _ => 0, g⟩ (fun r => (∀ c : Dev Cert.RMlpUpIdeal.nD,
      r.2.mem ((c.tc : Thread Cert.RMlpUpIdeal.nD Cert.RMlpUpIdeal.τ).loc Cert.RMlpUpIdeal.main_arg0) = m ((c.tc : Thread Cert.RMlpUpIdeal.nD Cert.RMlpUpIdeal.τ).loc Cert.RMlpUpIdeal.main_arg0)
      ∧ r.2.mem ((c.tc : Thread Cert.RMlpUpIdeal.nD Cert.RMlpUpIdeal.τ).loc Cert.RMlpUpIdeal.main_arg1) = m ((c.tc : Thread Cert.RMlpUpIdeal.nD Cert.RMlpUpIdeal.τ).loc Cert.RMlpUpIdeal.main_arg1))
      ∧ r.2.sem = fun _ => 0)

def quiescent_KDwOut [hKDwOut : Cert.KDwOut.Facts] : Prop :=
  ∀ (m : (ℓ : Loc Cert.KDwOut.nD Cert.KDwOut.τ Cert.KDwOut.sig) → Buf (Elt Bits) ℓ) (g : Dev Cert.KDwOut.nD → PrngReg), Pre_KDwOut m →
    θ_run (Cert.KDwOut.defs (F := Bits)) (onTc (τ := Cert.KDwOut.τ) (Cert.KDwOut.main (F := Bits))) ⟨m, fun _ => 0, g⟩ (fun r => (∀ c : Dev Cert.KDwOut.nD,
      r.2.mem ((c.tc : Thread Cert.KDwOut.nD Cert.KDwOut.τ).loc Cert.KDwOut.main_arg0) = m ((c.tc : Thread Cert.KDwOut.nD Cert.KDwOut.τ).loc Cert.KDwOut.main_arg0)
      ∧ r.2.mem ((c.tc : Thread Cert.KDwOut.nD Cert.KDwOut.τ).loc Cert.KDwOut.main_arg1) = m ((c.tc : Thread Cert.KDwOut.nD Cert.KDwOut.τ).loc Cert.KDwOut.main_arg1))
      ∧ r.2.sem = fun _ => 0)

def quiescent_KDwOutIdeal [hKDwOutIdeal : Cert.KDwOutIdeal.Facts] : Prop :=
  ∀ (m : (ℓ : Loc Cert.KDwOutIdeal.nD Cert.KDwOutIdeal.τ Cert.KDwOutIdeal.sig) → Buf (Elt Ideal) ℓ) (g : Dev Cert.KDwOutIdeal.nD → PrngReg), Pre_KDwOutIdeal m →
    θ_run (Cert.KDwOutIdeal.defs (F := Ideal)) (onTc (τ := Cert.KDwOutIdeal.τ) (Cert.KDwOutIdeal.main (F := Ideal))) ⟨m, fun _ => 0, g⟩ (fun r => (∀ c : Dev Cert.KDwOutIdeal.nD,
      r.2.mem ((c.tc : Thread Cert.KDwOutIdeal.nD Cert.KDwOutIdeal.τ).loc Cert.KDwOutIdeal.main_arg0) = m ((c.tc : Thread Cert.KDwOutIdeal.nD Cert.KDwOutIdeal.τ).loc Cert.KDwOutIdeal.main_arg0)
      ∧ r.2.mem ((c.tc : Thread Cert.KDwOutIdeal.nD Cert.KDwOutIdeal.τ).loc Cert.KDwOutIdeal.main_arg1) = m ((c.tc : Thread Cert.KDwOutIdeal.nD Cert.KDwOutIdeal.τ).loc Cert.KDwOutIdeal.main_arg1))
      ∧ r.2.sem = fun _ => 0)

def quiescent_RDwOutIdeal [hRDwOutIdeal : Cert.RDwOutIdeal.Facts] : Prop :=
  ∀ (m : (ℓ : Loc Cert.RDwOutIdeal.nD Cert.RDwOutIdeal.τ Cert.RDwOutIdeal.sig) → Buf (Elt Ideal) ℓ) (g : Dev Cert.RDwOutIdeal.nD → PrngReg), Pre_RDwOutIdeal m →
    θ_run (Cert.RDwOutIdeal.defs (F := Ideal)) (onTc (τ := Cert.RDwOutIdeal.τ) (Cert.RDwOutIdeal.main (F := Ideal))) ⟨m, fun _ => 0, g⟩ (fun r => (∀ c : Dev Cert.RDwOutIdeal.nD,
      r.2.mem ((c.tc : Thread Cert.RDwOutIdeal.nD Cert.RDwOutIdeal.τ).loc Cert.RDwOutIdeal.main_arg0) = m ((c.tc : Thread Cert.RDwOutIdeal.nD Cert.RDwOutIdeal.τ).loc Cert.RDwOutIdeal.main_arg0)
      ∧ r.2.mem ((c.tc : Thread Cert.RDwOutIdeal.nD Cert.RDwOutIdeal.τ).loc Cert.RDwOutIdeal.main_arg1) = m ((c.tc : Thread Cert.RDwOutIdeal.nD Cert.RDwOutIdeal.τ).loc Cert.RDwOutIdeal.main_arg1))
      ∧ r.2.sem = fun _ => 0)

def quiescent_KDwProjSsd [hKDwProjSsd : Cert.KDwProjSsd.Facts] : Prop :=
  ∀ (m : (ℓ : Loc Cert.KDwProjSsd.nD Cert.KDwProjSsd.τ Cert.KDwProjSsd.sig) → Buf (Elt Bits) ℓ) (g : Dev Cert.KDwProjSsd.nD → PrngReg), Pre_KDwProjSsd m →
    θ_run (Cert.KDwProjSsd.defs (F := Bits)) (onTc (τ := Cert.KDwProjSsd.τ) (Cert.KDwProjSsd.main (F := Bits))) ⟨m, fun _ => 0, g⟩ (fun r => (∀ c : Dev Cert.KDwProjSsd.nD,
      r.2.mem ((c.tc : Thread Cert.KDwProjSsd.nD Cert.KDwProjSsd.τ).loc Cert.KDwProjSsd.main_arg0) = m ((c.tc : Thread Cert.KDwProjSsd.nD Cert.KDwProjSsd.τ).loc Cert.KDwProjSsd.main_arg0)
      ∧ r.2.mem ((c.tc : Thread Cert.KDwProjSsd.nD Cert.KDwProjSsd.τ).loc Cert.KDwProjSsd.main_arg1) = m ((c.tc : Thread Cert.KDwProjSsd.nD Cert.KDwProjSsd.τ).loc Cert.KDwProjSsd.main_arg1))
      ∧ r.2.sem = fun _ => 0)

def quiescent_KDwProjSsdIdeal [hKDwProjSsdIdeal : Cert.KDwProjSsdIdeal.Facts] : Prop :=
  ∀ (m : (ℓ : Loc Cert.KDwProjSsdIdeal.nD Cert.KDwProjSsdIdeal.τ Cert.KDwProjSsdIdeal.sig) → Buf (Elt Ideal) ℓ) (g : Dev Cert.KDwProjSsdIdeal.nD → PrngReg), Pre_KDwProjSsdIdeal m →
    θ_run (Cert.KDwProjSsdIdeal.defs (F := Ideal)) (onTc (τ := Cert.KDwProjSsdIdeal.τ) (Cert.KDwProjSsdIdeal.main (F := Ideal))) ⟨m, fun _ => 0, g⟩ (fun r => (∀ c : Dev Cert.KDwProjSsdIdeal.nD,
      r.2.mem ((c.tc : Thread Cert.KDwProjSsdIdeal.nD Cert.KDwProjSsdIdeal.τ).loc Cert.KDwProjSsdIdeal.main_arg0) = m ((c.tc : Thread Cert.KDwProjSsdIdeal.nD Cert.KDwProjSsdIdeal.τ).loc Cert.KDwProjSsdIdeal.main_arg0)
      ∧ r.2.mem ((c.tc : Thread Cert.KDwProjSsdIdeal.nD Cert.KDwProjSsdIdeal.τ).loc Cert.KDwProjSsdIdeal.main_arg1) = m ((c.tc : Thread Cert.KDwProjSsdIdeal.nD Cert.KDwProjSsdIdeal.τ).loc Cert.KDwProjSsdIdeal.main_arg1))
      ∧ r.2.sem = fun _ => 0)

def quiescent_RDwProjSsdIdeal [hRDwProjSsdIdeal : Cert.RDwProjSsdIdeal.Facts] : Prop :=
  ∀ (m : (ℓ : Loc Cert.RDwProjSsdIdeal.nD Cert.RDwProjSsdIdeal.τ Cert.RDwProjSsdIdeal.sig) → Buf (Elt Ideal) ℓ) (g : Dev Cert.RDwProjSsdIdeal.nD → PrngReg), Pre_RDwProjSsdIdeal m →
    θ_run (Cert.RDwProjSsdIdeal.defs (F := Ideal)) (onTc (τ := Cert.RDwProjSsdIdeal.τ) (Cert.RDwProjSsdIdeal.main (F := Ideal))) ⟨m, fun _ => 0, g⟩ (fun r => (∀ c : Dev Cert.RDwProjSsdIdeal.nD,
      r.2.mem ((c.tc : Thread Cert.RDwProjSsdIdeal.nD Cert.RDwProjSsdIdeal.τ).loc Cert.RDwProjSsdIdeal.main_arg0) = m ((c.tc : Thread Cert.RDwProjSsdIdeal.nD Cert.RDwProjSsdIdeal.τ).loc Cert.RDwProjSsdIdeal.main_arg0)
      ∧ r.2.mem ((c.tc : Thread Cert.RDwProjSsdIdeal.nD Cert.RDwProjSsdIdeal.τ).loc Cert.RDwProjSsdIdeal.main_arg1) = m ((c.tc : Thread Cert.RDwProjSsdIdeal.nD Cert.RDwProjSsdIdeal.τ).loc Cert.RDwProjSsdIdeal.main_arg1))
      ∧ r.2.sem = fun _ => 0)

def quiescent_KDwProjAttn [hKDwProjAttn : Cert.KDwProjAttn.Facts] : Prop :=
  ∀ (m : (ℓ : Loc Cert.KDwProjAttn.nD Cert.KDwProjAttn.τ Cert.KDwProjAttn.sig) → Buf (Elt Bits) ℓ) (g : Dev Cert.KDwProjAttn.nD → PrngReg), Pre_KDwProjAttn m →
    θ_run (Cert.KDwProjAttn.defs (F := Bits)) (onTc (τ := Cert.KDwProjAttn.τ) (Cert.KDwProjAttn.main (F := Bits))) ⟨m, fun _ => 0, g⟩ (fun r => (∀ c : Dev Cert.KDwProjAttn.nD,
      r.2.mem ((c.tc : Thread Cert.KDwProjAttn.nD Cert.KDwProjAttn.τ).loc Cert.KDwProjAttn.main_arg0) = m ((c.tc : Thread Cert.KDwProjAttn.nD Cert.KDwProjAttn.τ).loc Cert.KDwProjAttn.main_arg0)
      ∧ r.2.mem ((c.tc : Thread Cert.KDwProjAttn.nD Cert.KDwProjAttn.τ).loc Cert.KDwProjAttn.main_arg1) = m ((c.tc : Thread Cert.KDwProjAttn.nD Cert.KDwProjAttn.τ).loc Cert.KDwProjAttn.main_arg1))
      ∧ r.2.sem = fun _ => 0)

def quiescent_KDwProjAttnIdeal [hKDwProjAttnIdeal : Cert.KDwProjAttnIdeal.Facts] : Prop :=
  ∀ (m : (ℓ : Loc Cert.KDwProjAttnIdeal.nD Cert.KDwProjAttnIdeal.τ Cert.KDwProjAttnIdeal.sig) → Buf (Elt Ideal) ℓ) (g : Dev Cert.KDwProjAttnIdeal.nD → PrngReg), Pre_KDwProjAttnIdeal m →
    θ_run (Cert.KDwProjAttnIdeal.defs (F := Ideal)) (onTc (τ := Cert.KDwProjAttnIdeal.τ) (Cert.KDwProjAttnIdeal.main (F := Ideal))) ⟨m, fun _ => 0, g⟩ (fun r => (∀ c : Dev Cert.KDwProjAttnIdeal.nD,
      r.2.mem ((c.tc : Thread Cert.KDwProjAttnIdeal.nD Cert.KDwProjAttnIdeal.τ).loc Cert.KDwProjAttnIdeal.main_arg0) = m ((c.tc : Thread Cert.KDwProjAttnIdeal.nD Cert.KDwProjAttnIdeal.τ).loc Cert.KDwProjAttnIdeal.main_arg0)
      ∧ r.2.mem ((c.tc : Thread Cert.KDwProjAttnIdeal.nD Cert.KDwProjAttnIdeal.τ).loc Cert.KDwProjAttnIdeal.main_arg1) = m ((c.tc : Thread Cert.KDwProjAttnIdeal.nD Cert.KDwProjAttnIdeal.τ).loc Cert.KDwProjAttnIdeal.main_arg1))
      ∧ r.2.sem = fun _ => 0)

def quiescent_RDwProjAttnIdeal [hRDwProjAttnIdeal : Cert.RDwProjAttnIdeal.Facts] : Prop :=
  ∀ (m : (ℓ : Loc Cert.RDwProjAttnIdeal.nD Cert.RDwProjAttnIdeal.τ Cert.RDwProjAttnIdeal.sig) → Buf (Elt Ideal) ℓ) (g : Dev Cert.RDwProjAttnIdeal.nD → PrngReg), Pre_RDwProjAttnIdeal m →
    θ_run (Cert.RDwProjAttnIdeal.defs (F := Ideal)) (onTc (τ := Cert.RDwProjAttnIdeal.τ) (Cert.RDwProjAttnIdeal.main (F := Ideal))) ⟨m, fun _ => 0, g⟩ (fun r => (∀ c : Dev Cert.RDwProjAttnIdeal.nD,
      r.2.mem ((c.tc : Thread Cert.RDwProjAttnIdeal.nD Cert.RDwProjAttnIdeal.τ).loc Cert.RDwProjAttnIdeal.main_arg0) = m ((c.tc : Thread Cert.RDwProjAttnIdeal.nD Cert.RDwProjAttnIdeal.τ).loc Cert.RDwProjAttnIdeal.main_arg0)
      ∧ r.2.mem ((c.tc : Thread Cert.RDwProjAttnIdeal.nD Cert.RDwProjAttnIdeal.τ).loc Cert.RDwProjAttnIdeal.main_arg1) = m ((c.tc : Thread Cert.RDwProjAttnIdeal.nD Cert.RDwProjAttnIdeal.τ).loc Cert.RDwProjAttnIdeal.main_arg1))
      ∧ r.2.sem = fun _ => 0)

def quiescent_KGatenorm [hKGatenorm : Cert.KGatenorm.Facts] : Prop :=
  ∀ (m : (ℓ : Loc Cert.KGatenorm.nD Cert.KGatenorm.τ Cert.KGatenorm.sig) → Buf (Elt Bits) ℓ) (g : Dev Cert.KGatenorm.nD → PrngReg), Pre_KGatenorm m →
    θ_run (Cert.KGatenorm.defs (F := Bits)) (onTc (τ := Cert.KGatenorm.τ) (Cert.KGatenorm.main (F := Bits))) ⟨m, fun _ => 0, g⟩ (fun r => (∀ c : Dev Cert.KGatenorm.nD,
      r.2.mem ((c.tc : Thread Cert.KGatenorm.nD Cert.KGatenorm.τ).loc Cert.KGatenorm.main_arg0) = m ((c.tc : Thread Cert.KGatenorm.nD Cert.KGatenorm.τ).loc Cert.KGatenorm.main_arg0)
      ∧ r.2.mem ((c.tc : Thread Cert.KGatenorm.nD Cert.KGatenorm.τ).loc Cert.KGatenorm.main_arg1) = m ((c.tc : Thread Cert.KGatenorm.nD Cert.KGatenorm.τ).loc Cert.KGatenorm.main_arg1)
      ∧ r.2.mem ((c.tc : Thread Cert.KGatenorm.nD Cert.KGatenorm.τ).loc Cert.KGatenorm.main_arg2) = m ((c.tc : Thread Cert.KGatenorm.nD Cert.KGatenorm.τ).loc Cert.KGatenorm.main_arg2)
      ∧ r.2.mem ((c.tc : Thread Cert.KGatenorm.nD Cert.KGatenorm.τ).loc Cert.KGatenorm.main_arg3) = m ((c.tc : Thread Cert.KGatenorm.nD Cert.KGatenorm.τ).loc Cert.KGatenorm.main_arg3)
      ∧ r.2.mem ((c.tc : Thread Cert.KGatenorm.nD Cert.KGatenorm.τ).loc Cert.KGatenorm.main_arg4) = m ((c.tc : Thread Cert.KGatenorm.nD Cert.KGatenorm.τ).loc Cert.KGatenorm.main_arg4)
      ∧ r.2.mem ((c.tc : Thread Cert.KGatenorm.nD Cert.KGatenorm.τ).loc Cert.KGatenorm.main_arg5) = m ((c.tc : Thread Cert.KGatenorm.nD Cert.KGatenorm.τ).loc Cert.KGatenorm.main_arg5))
      ∧ r.2.sem = fun _ => 0)

def quiescent_KGatenormIdeal [hKGatenormIdeal : Cert.KGatenormIdeal.Facts] : Prop :=
  ∀ (m : (ℓ : Loc Cert.KGatenormIdeal.nD Cert.KGatenormIdeal.τ Cert.KGatenormIdeal.sig) → Buf (Elt Ideal) ℓ) (g : Dev Cert.KGatenormIdeal.nD → PrngReg), Pre_KGatenormIdeal m →
    θ_run (Cert.KGatenormIdeal.defs (F := Ideal)) (onTc (τ := Cert.KGatenormIdeal.τ) (Cert.KGatenormIdeal.main (F := Ideal))) ⟨m, fun _ => 0, g⟩ (fun r => (∀ c : Dev Cert.KGatenormIdeal.nD,
      r.2.mem ((c.tc : Thread Cert.KGatenormIdeal.nD Cert.KGatenormIdeal.τ).loc Cert.KGatenormIdeal.main_arg0) = m ((c.tc : Thread Cert.KGatenormIdeal.nD Cert.KGatenormIdeal.τ).loc Cert.KGatenormIdeal.main_arg0)
      ∧ r.2.mem ((c.tc : Thread Cert.KGatenormIdeal.nD Cert.KGatenormIdeal.τ).loc Cert.KGatenormIdeal.main_arg1) = m ((c.tc : Thread Cert.KGatenormIdeal.nD Cert.KGatenormIdeal.τ).loc Cert.KGatenormIdeal.main_arg1)
      ∧ r.2.mem ((c.tc : Thread Cert.KGatenormIdeal.nD Cert.KGatenormIdeal.τ).loc Cert.KGatenormIdeal.main_arg2) = m ((c.tc : Thread Cert.KGatenormIdeal.nD Cert.KGatenormIdeal.τ).loc Cert.KGatenormIdeal.main_arg2)
      ∧ r.2.mem ((c.tc : Thread Cert.KGatenormIdeal.nD Cert.KGatenormIdeal.τ).loc Cert.KGatenormIdeal.main_arg3) = m ((c.tc : Thread Cert.KGatenormIdeal.nD Cert.KGatenormIdeal.τ).loc Cert.KGatenormIdeal.main_arg3)
      ∧ r.2.mem ((c.tc : Thread Cert.KGatenormIdeal.nD Cert.KGatenormIdeal.τ).loc Cert.KGatenormIdeal.main_arg4) = m ((c.tc : Thread Cert.KGatenormIdeal.nD Cert.KGatenormIdeal.τ).loc Cert.KGatenormIdeal.main_arg4)
      ∧ r.2.mem ((c.tc : Thread Cert.KGatenormIdeal.nD Cert.KGatenormIdeal.τ).loc Cert.KGatenormIdeal.main_arg5) = m ((c.tc : Thread Cert.KGatenormIdeal.nD Cert.KGatenormIdeal.τ).loc Cert.KGatenormIdeal.main_arg5))
      ∧ r.2.sem = fun _ => 0)

def quiescent_RGatenormIdeal [hRGatenormIdeal : Cert.RGatenormIdeal.Facts] : Prop :=
  ∀ (m : (ℓ : Loc Cert.RGatenormIdeal.nD Cert.RGatenormIdeal.τ Cert.RGatenormIdeal.sig) → Buf (Elt Ideal) ℓ) (g : Dev Cert.RGatenormIdeal.nD → PrngReg), Pre_RGatenormIdeal m →
    θ_run (Cert.RGatenormIdeal.defs (F := Ideal)) (onTc (τ := Cert.RGatenormIdeal.τ) (Cert.RGatenormIdeal.main (F := Ideal))) ⟨m, fun _ => 0, g⟩ (fun r => (∀ c : Dev Cert.RGatenormIdeal.nD,
      r.2.mem ((c.tc : Thread Cert.RGatenormIdeal.nD Cert.RGatenormIdeal.τ).loc Cert.RGatenormIdeal.main_arg0) = m ((c.tc : Thread Cert.RGatenormIdeal.nD Cert.RGatenormIdeal.τ).loc Cert.RGatenormIdeal.main_arg0)
      ∧ r.2.mem ((c.tc : Thread Cert.RGatenormIdeal.nD Cert.RGatenormIdeal.τ).loc Cert.RGatenormIdeal.main_arg1) = m ((c.tc : Thread Cert.RGatenormIdeal.nD Cert.RGatenormIdeal.τ).loc Cert.RGatenormIdeal.main_arg1)
      ∧ r.2.mem ((c.tc : Thread Cert.RGatenormIdeal.nD Cert.RGatenormIdeal.τ).loc Cert.RGatenormIdeal.main_arg2) = m ((c.tc : Thread Cert.RGatenormIdeal.nD Cert.RGatenormIdeal.τ).loc Cert.RGatenormIdeal.main_arg2)
      ∧ r.2.mem ((c.tc : Thread Cert.RGatenormIdeal.nD Cert.RGatenormIdeal.τ).loc Cert.RGatenormIdeal.main_arg3) = m ((c.tc : Thread Cert.RGatenormIdeal.nD Cert.RGatenormIdeal.τ).loc Cert.RGatenormIdeal.main_arg3)
      ∧ r.2.mem ((c.tc : Thread Cert.RGatenormIdeal.nD Cert.RGatenormIdeal.τ).loc Cert.RGatenormIdeal.main_arg4) = m ((c.tc : Thread Cert.RGatenormIdeal.nD Cert.RGatenormIdeal.τ).loc Cert.RGatenormIdeal.main_arg4)
      ∧ r.2.mem ((c.tc : Thread Cert.RGatenormIdeal.nD Cert.RGatenormIdeal.τ).loc Cert.RGatenormIdeal.main_arg5) = m ((c.tc : Thread Cert.RGatenormIdeal.nD Cert.RGatenormIdeal.τ).loc Cert.RGatenormIdeal.main_arg5))
      ∧ r.2.sem = fun _ => 0)

def quiescent_KMixOut [hKMixOut : Cert.KMixOut.Facts] : Prop :=
  ∀ (m : (ℓ : Loc Cert.KMixOut.nD Cert.KMixOut.τ Cert.KMixOut.sig) → Buf (Elt Bits) ℓ) (g : Dev Cert.KMixOut.nD → PrngReg), Pre_KMixOut m →
    θ_run (Cert.KMixOut.defs (F := Bits)) (onTc (τ := Cert.KMixOut.τ) (Cert.KMixOut.main (F := Bits))) ⟨m, fun _ => 0, g⟩ (fun r => (∀ c : Dev Cert.KMixOut.nD,
      r.2.mem ((c.tc : Thread Cert.KMixOut.nD Cert.KMixOut.τ).loc Cert.KMixOut.main_arg0) = m ((c.tc : Thread Cert.KMixOut.nD Cert.KMixOut.τ).loc Cert.KMixOut.main_arg0)
      ∧ r.2.mem ((c.tc : Thread Cert.KMixOut.nD Cert.KMixOut.τ).loc Cert.KMixOut.main_arg1) = m ((c.tc : Thread Cert.KMixOut.nD Cert.KMixOut.τ).loc Cert.KMixOut.main_arg1)
      ∧ r.2.mem ((c.tc : Thread Cert.KMixOut.nD Cert.KMixOut.τ).loc Cert.KMixOut.main_arg2) = m ((c.tc : Thread Cert.KMixOut.nD Cert.KMixOut.τ).loc Cert.KMixOut.main_arg2)
      ∧ r.2.mem ((c.tc : Thread Cert.KMixOut.nD Cert.KMixOut.τ).loc Cert.KMixOut.main_arg3) = m ((c.tc : Thread Cert.KMixOut.nD Cert.KMixOut.τ).loc Cert.KMixOut.main_arg3)
      ∧ r.2.mem ((c.tc : Thread Cert.KMixOut.nD Cert.KMixOut.τ).loc Cert.KMixOut.main_arg4) = m ((c.tc : Thread Cert.KMixOut.nD Cert.KMixOut.τ).loc Cert.KMixOut.main_arg4)
      ∧ r.2.mem ((c.tc : Thread Cert.KMixOut.nD Cert.KMixOut.τ).loc Cert.KMixOut.main_arg5) = m ((c.tc : Thread Cert.KMixOut.nD Cert.KMixOut.τ).loc Cert.KMixOut.main_arg5)
      ∧ r.2.mem ((c.tc : Thread Cert.KMixOut.nD Cert.KMixOut.τ).loc Cert.KMixOut.main_arg6) = m ((c.tc : Thread Cert.KMixOut.nD Cert.KMixOut.τ).loc Cert.KMixOut.main_arg6)
      ∧ r.2.mem ((c.tc : Thread Cert.KMixOut.nD Cert.KMixOut.τ).loc Cert.KMixOut.main_arg7) = m ((c.tc : Thread Cert.KMixOut.nD Cert.KMixOut.τ).loc Cert.KMixOut.main_arg7)
      ∧ r.2.mem ((c.tc : Thread Cert.KMixOut.nD Cert.KMixOut.τ).loc Cert.KMixOut.main_arg8) = m ((c.tc : Thread Cert.KMixOut.nD Cert.KMixOut.τ).loc Cert.KMixOut.main_arg8)
      ∧ r.2.mem ((c.tc : Thread Cert.KMixOut.nD Cert.KMixOut.τ).loc Cert.KMixOut.main_arg9) = m ((c.tc : Thread Cert.KMixOut.nD Cert.KMixOut.τ).loc Cert.KMixOut.main_arg9)
      ∧ r.2.mem ((c.tc : Thread Cert.KMixOut.nD Cert.KMixOut.τ).loc Cert.KMixOut.main_arg10) = m ((c.tc : Thread Cert.KMixOut.nD Cert.KMixOut.τ).loc Cert.KMixOut.main_arg10)
      ∧ r.2.mem ((c.tc : Thread Cert.KMixOut.nD Cert.KMixOut.τ).loc Cert.KMixOut.main_arg11) = m ((c.tc : Thread Cert.KMixOut.nD Cert.KMixOut.τ).loc Cert.KMixOut.main_arg11)
      ∧ r.2.mem ((c.tc : Thread Cert.KMixOut.nD Cert.KMixOut.τ).loc Cert.KMixOut.main_arg12) = m ((c.tc : Thread Cert.KMixOut.nD Cert.KMixOut.τ).loc Cert.KMixOut.main_arg12)
      ∧ r.2.mem ((c.tc : Thread Cert.KMixOut.nD Cert.KMixOut.τ).loc Cert.KMixOut.main_arg13) = m ((c.tc : Thread Cert.KMixOut.nD Cert.KMixOut.τ).loc Cert.KMixOut.main_arg13))
      ∧ r.2.sem = fun _ => 0)

def quiescent_KMixOutIdeal [hKMixOutIdeal : Cert.KMixOutIdeal.Facts] : Prop :=
  ∀ (m : (ℓ : Loc Cert.KMixOutIdeal.nD Cert.KMixOutIdeal.τ Cert.KMixOutIdeal.sig) → Buf (Elt Ideal) ℓ) (g : Dev Cert.KMixOutIdeal.nD → PrngReg), Pre_KMixOutIdeal m →
    θ_run (Cert.KMixOutIdeal.defs (F := Ideal)) (onTc (τ := Cert.KMixOutIdeal.τ) (Cert.KMixOutIdeal.main (F := Ideal))) ⟨m, fun _ => 0, g⟩ (fun r => (∀ c : Dev Cert.KMixOutIdeal.nD,
      r.2.mem ((c.tc : Thread Cert.KMixOutIdeal.nD Cert.KMixOutIdeal.τ).loc Cert.KMixOutIdeal.main_arg0) = m ((c.tc : Thread Cert.KMixOutIdeal.nD Cert.KMixOutIdeal.τ).loc Cert.KMixOutIdeal.main_arg0)
      ∧ r.2.mem ((c.tc : Thread Cert.KMixOutIdeal.nD Cert.KMixOutIdeal.τ).loc Cert.KMixOutIdeal.main_arg1) = m ((c.tc : Thread Cert.KMixOutIdeal.nD Cert.KMixOutIdeal.τ).loc Cert.KMixOutIdeal.main_arg1)
      ∧ r.2.mem ((c.tc : Thread Cert.KMixOutIdeal.nD Cert.KMixOutIdeal.τ).loc Cert.KMixOutIdeal.main_arg2) = m ((c.tc : Thread Cert.KMixOutIdeal.nD Cert.KMixOutIdeal.τ).loc Cert.KMixOutIdeal.main_arg2)
      ∧ r.2.mem ((c.tc : Thread Cert.KMixOutIdeal.nD Cert.KMixOutIdeal.τ).loc Cert.KMixOutIdeal.main_arg3) = m ((c.tc : Thread Cert.KMixOutIdeal.nD Cert.KMixOutIdeal.τ).loc Cert.KMixOutIdeal.main_arg3)
      ∧ r.2.mem ((c.tc : Thread Cert.KMixOutIdeal.nD Cert.KMixOutIdeal.τ).loc Cert.KMixOutIdeal.main_arg4) = m ((c.tc : Thread Cert.KMixOutIdeal.nD Cert.KMixOutIdeal.τ).loc Cert.KMixOutIdeal.main_arg4)
      ∧ r.2.mem ((c.tc : Thread Cert.KMixOutIdeal.nD Cert.KMixOutIdeal.τ).loc Cert.KMixOutIdeal.main_arg5) = m ((c.tc : Thread Cert.KMixOutIdeal.nD Cert.KMixOutIdeal.τ).loc Cert.KMixOutIdeal.main_arg5)
      ∧ r.2.mem ((c.tc : Thread Cert.KMixOutIdeal.nD Cert.KMixOutIdeal.τ).loc Cert.KMixOutIdeal.main_arg6) = m ((c.tc : Thread Cert.KMixOutIdeal.nD Cert.KMixOutIdeal.τ).loc Cert.KMixOutIdeal.main_arg6)
      ∧ r.2.mem ((c.tc : Thread Cert.KMixOutIdeal.nD Cert.KMixOutIdeal.τ).loc Cert.KMixOutIdeal.main_arg7) = m ((c.tc : Thread Cert.KMixOutIdeal.nD Cert.KMixOutIdeal.τ).loc Cert.KMixOutIdeal.main_arg7)
      ∧ r.2.mem ((c.tc : Thread Cert.KMixOutIdeal.nD Cert.KMixOutIdeal.τ).loc Cert.KMixOutIdeal.main_arg8) = m ((c.tc : Thread Cert.KMixOutIdeal.nD Cert.KMixOutIdeal.τ).loc Cert.KMixOutIdeal.main_arg8)
      ∧ r.2.mem ((c.tc : Thread Cert.KMixOutIdeal.nD Cert.KMixOutIdeal.τ).loc Cert.KMixOutIdeal.main_arg9) = m ((c.tc : Thread Cert.KMixOutIdeal.nD Cert.KMixOutIdeal.τ).loc Cert.KMixOutIdeal.main_arg9)
      ∧ r.2.mem ((c.tc : Thread Cert.KMixOutIdeal.nD Cert.KMixOutIdeal.τ).loc Cert.KMixOutIdeal.main_arg10) = m ((c.tc : Thread Cert.KMixOutIdeal.nD Cert.KMixOutIdeal.τ).loc Cert.KMixOutIdeal.main_arg10)
      ∧ r.2.mem ((c.tc : Thread Cert.KMixOutIdeal.nD Cert.KMixOutIdeal.τ).loc Cert.KMixOutIdeal.main_arg11) = m ((c.tc : Thread Cert.KMixOutIdeal.nD Cert.KMixOutIdeal.τ).loc Cert.KMixOutIdeal.main_arg11)
      ∧ r.2.mem ((c.tc : Thread Cert.KMixOutIdeal.nD Cert.KMixOutIdeal.τ).loc Cert.KMixOutIdeal.main_arg12) = m ((c.tc : Thread Cert.KMixOutIdeal.nD Cert.KMixOutIdeal.τ).loc Cert.KMixOutIdeal.main_arg12)
      ∧ r.2.mem ((c.tc : Thread Cert.KMixOutIdeal.nD Cert.KMixOutIdeal.τ).loc Cert.KMixOutIdeal.main_arg13) = m ((c.tc : Thread Cert.KMixOutIdeal.nD Cert.KMixOutIdeal.τ).loc Cert.KMixOutIdeal.main_arg13))
      ∧ r.2.sem = fun _ => 0)

def quiescent_KMixOutIdeal_pre_finite_mix_out [hKMixOutIdeal : Cert.KMixOutIdeal.Facts] [hPre_finite_mix_out : Cert.Pre_finite_mix_out.Facts] : Prop :=
  ∀ (m : (ℓ : Loc Cert.KMixOutIdeal.nD Cert.KMixOutIdeal.τ Cert.KMixOutIdeal.sig) → Buf (Elt Ideal) ℓ) (g : Dev Cert.KMixOutIdeal.nD → PrngReg), Pre_KMixOutIdeal_finite_mix_out m →
    θ_run (Cert.KMixOutIdeal.defs (F := Ideal)) (onTc (τ := Cert.KMixOutIdeal.τ) (Cert.KMixOutIdeal.main (F := Ideal))) ⟨m, fun _ => 0, g⟩ (fun r => (∀ c : Dev Cert.KMixOutIdeal.nD,
      r.2.mem ((c.tc : Thread Cert.KMixOutIdeal.nD Cert.KMixOutIdeal.τ).loc Cert.KMixOutIdeal.main_arg0) = m ((c.tc : Thread Cert.KMixOutIdeal.nD Cert.KMixOutIdeal.τ).loc Cert.KMixOutIdeal.main_arg0)
      ∧ r.2.mem ((c.tc : Thread Cert.KMixOutIdeal.nD Cert.KMixOutIdeal.τ).loc Cert.KMixOutIdeal.main_arg1) = m ((c.tc : Thread Cert.KMixOutIdeal.nD Cert.KMixOutIdeal.τ).loc Cert.KMixOutIdeal.main_arg1)
      ∧ r.2.mem ((c.tc : Thread Cert.KMixOutIdeal.nD Cert.KMixOutIdeal.τ).loc Cert.KMixOutIdeal.main_arg2) = m ((c.tc : Thread Cert.KMixOutIdeal.nD Cert.KMixOutIdeal.τ).loc Cert.KMixOutIdeal.main_arg2)
      ∧ r.2.mem ((c.tc : Thread Cert.KMixOutIdeal.nD Cert.KMixOutIdeal.τ).loc Cert.KMixOutIdeal.main_arg3) = m ((c.tc : Thread Cert.KMixOutIdeal.nD Cert.KMixOutIdeal.τ).loc Cert.KMixOutIdeal.main_arg3)
      ∧ r.2.mem ((c.tc : Thread Cert.KMixOutIdeal.nD Cert.KMixOutIdeal.τ).loc Cert.KMixOutIdeal.main_arg4) = m ((c.tc : Thread Cert.KMixOutIdeal.nD Cert.KMixOutIdeal.τ).loc Cert.KMixOutIdeal.main_arg4)
      ∧ r.2.mem ((c.tc : Thread Cert.KMixOutIdeal.nD Cert.KMixOutIdeal.τ).loc Cert.KMixOutIdeal.main_arg5) = m ((c.tc : Thread Cert.KMixOutIdeal.nD Cert.KMixOutIdeal.τ).loc Cert.KMixOutIdeal.main_arg5)
      ∧ r.2.mem ((c.tc : Thread Cert.KMixOutIdeal.nD Cert.KMixOutIdeal.τ).loc Cert.KMixOutIdeal.main_arg6) = m ((c.tc : Thread Cert.KMixOutIdeal.nD Cert.KMixOutIdeal.τ).loc Cert.KMixOutIdeal.main_arg6)
      ∧ r.2.mem ((c.tc : Thread Cert.KMixOutIdeal.nD Cert.KMixOutIdeal.τ).loc Cert.KMixOutIdeal.main_arg7) = m ((c.tc : Thread Cert.KMixOutIdeal.nD Cert.KMixOutIdeal.τ).loc Cert.KMixOutIdeal.main_arg7)
      ∧ r.2.mem ((c.tc : Thread Cert.KMixOutIdeal.nD Cert.KMixOutIdeal.τ).loc Cert.KMixOutIdeal.main_arg8) = m ((c.tc : Thread Cert.KMixOutIdeal.nD Cert.KMixOutIdeal.τ).loc Cert.KMixOutIdeal.main_arg8)
      ∧ r.2.mem ((c.tc : Thread Cert.KMixOutIdeal.nD Cert.KMixOutIdeal.τ).loc Cert.KMixOutIdeal.main_arg9) = m ((c.tc : Thread Cert.KMixOutIdeal.nD Cert.KMixOutIdeal.τ).loc Cert.KMixOutIdeal.main_arg9)
      ∧ r.2.mem ((c.tc : Thread Cert.KMixOutIdeal.nD Cert.KMixOutIdeal.τ).loc Cert.KMixOutIdeal.main_arg10) = m ((c.tc : Thread Cert.KMixOutIdeal.nD Cert.KMixOutIdeal.τ).loc Cert.KMixOutIdeal.main_arg10)
      ∧ r.2.mem ((c.tc : Thread Cert.KMixOutIdeal.nD Cert.KMixOutIdeal.τ).loc Cert.KMixOutIdeal.main_arg11) = m ((c.tc : Thread Cert.KMixOutIdeal.nD Cert.KMixOutIdeal.τ).loc Cert.KMixOutIdeal.main_arg11)
      ∧ r.2.mem ((c.tc : Thread Cert.KMixOutIdeal.nD Cert.KMixOutIdeal.τ).loc Cert.KMixOutIdeal.main_arg12) = m ((c.tc : Thread Cert.KMixOutIdeal.nD Cert.KMixOutIdeal.τ).loc Cert.KMixOutIdeal.main_arg12)
      ∧ r.2.mem ((c.tc : Thread Cert.KMixOutIdeal.nD Cert.KMixOutIdeal.τ).loc Cert.KMixOutIdeal.main_arg13) = m ((c.tc : Thread Cert.KMixOutIdeal.nD Cert.KMixOutIdeal.τ).loc Cert.KMixOutIdeal.main_arg13))
      ∧ r.2.sem = fun _ => 0)

def quiescent_RMixOutIdeal [hRMixOutIdeal : Cert.RMixOutIdeal.Facts] : Prop :=
  ∀ (m : (ℓ : Loc Cert.RMixOutIdeal.nD Cert.RMixOutIdeal.τ Cert.RMixOutIdeal.sig) → Buf (Elt Ideal) ℓ) (g : Dev Cert.RMixOutIdeal.nD → PrngReg), Pre_RMixOutIdeal m →
    θ_run (Cert.RMixOutIdeal.defs (F := Ideal)) (onTc (τ := Cert.RMixOutIdeal.τ) (Cert.RMixOutIdeal.main (F := Ideal))) ⟨m, fun _ => 0, g⟩ (fun r => (∀ c : Dev Cert.RMixOutIdeal.nD,
      r.2.mem ((c.tc : Thread Cert.RMixOutIdeal.nD Cert.RMixOutIdeal.τ).loc Cert.RMixOutIdeal.main_arg0) = m ((c.tc : Thread Cert.RMixOutIdeal.nD Cert.RMixOutIdeal.τ).loc Cert.RMixOutIdeal.main_arg0)
      ∧ r.2.mem ((c.tc : Thread Cert.RMixOutIdeal.nD Cert.RMixOutIdeal.τ).loc Cert.RMixOutIdeal.main_arg1) = m ((c.tc : Thread Cert.RMixOutIdeal.nD Cert.RMixOutIdeal.τ).loc Cert.RMixOutIdeal.main_arg1)
      ∧ r.2.mem ((c.tc : Thread Cert.RMixOutIdeal.nD Cert.RMixOutIdeal.τ).loc Cert.RMixOutIdeal.main_arg2) = m ((c.tc : Thread Cert.RMixOutIdeal.nD Cert.RMixOutIdeal.τ).loc Cert.RMixOutIdeal.main_arg2)
      ∧ r.2.mem ((c.tc : Thread Cert.RMixOutIdeal.nD Cert.RMixOutIdeal.τ).loc Cert.RMixOutIdeal.main_arg3) = m ((c.tc : Thread Cert.RMixOutIdeal.nD Cert.RMixOutIdeal.τ).loc Cert.RMixOutIdeal.main_arg3)
      ∧ r.2.mem ((c.tc : Thread Cert.RMixOutIdeal.nD Cert.RMixOutIdeal.τ).loc Cert.RMixOutIdeal.main_arg4) = m ((c.tc : Thread Cert.RMixOutIdeal.nD Cert.RMixOutIdeal.τ).loc Cert.RMixOutIdeal.main_arg4)
      ∧ r.2.mem ((c.tc : Thread Cert.RMixOutIdeal.nD Cert.RMixOutIdeal.τ).loc Cert.RMixOutIdeal.main_arg5) = m ((c.tc : Thread Cert.RMixOutIdeal.nD Cert.RMixOutIdeal.τ).loc Cert.RMixOutIdeal.main_arg5)
      ∧ r.2.mem ((c.tc : Thread Cert.RMixOutIdeal.nD Cert.RMixOutIdeal.τ).loc Cert.RMixOutIdeal.main_arg6) = m ((c.tc : Thread Cert.RMixOutIdeal.nD Cert.RMixOutIdeal.τ).loc Cert.RMixOutIdeal.main_arg6)
      ∧ r.2.mem ((c.tc : Thread Cert.RMixOutIdeal.nD Cert.RMixOutIdeal.τ).loc Cert.RMixOutIdeal.main_arg7) = m ((c.tc : Thread Cert.RMixOutIdeal.nD Cert.RMixOutIdeal.τ).loc Cert.RMixOutIdeal.main_arg7)
      ∧ r.2.mem ((c.tc : Thread Cert.RMixOutIdeal.nD Cert.RMixOutIdeal.τ).loc Cert.RMixOutIdeal.main_arg8) = m ((c.tc : Thread Cert.RMixOutIdeal.nD Cert.RMixOutIdeal.τ).loc Cert.RMixOutIdeal.main_arg8)
      ∧ r.2.mem ((c.tc : Thread Cert.RMixOutIdeal.nD Cert.RMixOutIdeal.τ).loc Cert.RMixOutIdeal.main_arg9) = m ((c.tc : Thread Cert.RMixOutIdeal.nD Cert.RMixOutIdeal.τ).loc Cert.RMixOutIdeal.main_arg9)
      ∧ r.2.mem ((c.tc : Thread Cert.RMixOutIdeal.nD Cert.RMixOutIdeal.τ).loc Cert.RMixOutIdeal.main_arg10) = m ((c.tc : Thread Cert.RMixOutIdeal.nD Cert.RMixOutIdeal.τ).loc Cert.RMixOutIdeal.main_arg10)
      ∧ r.2.mem ((c.tc : Thread Cert.RMixOutIdeal.nD Cert.RMixOutIdeal.τ).loc Cert.RMixOutIdeal.main_arg11) = m ((c.tc : Thread Cert.RMixOutIdeal.nD Cert.RMixOutIdeal.τ).loc Cert.RMixOutIdeal.main_arg11)
      ∧ r.2.mem ((c.tc : Thread Cert.RMixOutIdeal.nD Cert.RMixOutIdeal.τ).loc Cert.RMixOutIdeal.main_arg12) = m ((c.tc : Thread Cert.RMixOutIdeal.nD Cert.RMixOutIdeal.τ).loc Cert.RMixOutIdeal.main_arg12)
      ∧ r.2.mem ((c.tc : Thread Cert.RMixOutIdeal.nD Cert.RMixOutIdeal.τ).loc Cert.RMixOutIdeal.main_arg13) = m ((c.tc : Thread Cert.RMixOutIdeal.nD Cert.RMixOutIdeal.τ).loc Cert.RMixOutIdeal.main_arg13))
      ∧ r.2.sem = fun _ => 0)

def quiescent_RMixOutIdeal_pre_finite_mix_out [hRMixOutIdeal : Cert.RMixOutIdeal.Facts] [hPre_finite_mix_out : Cert.Pre_finite_mix_out.Facts] : Prop :=
  ∀ (m : (ℓ : Loc Cert.RMixOutIdeal.nD Cert.RMixOutIdeal.τ Cert.RMixOutIdeal.sig) → Buf (Elt Ideal) ℓ) (g : Dev Cert.RMixOutIdeal.nD → PrngReg), Pre_RMixOutIdeal_finite_mix_out m →
    θ_run (Cert.RMixOutIdeal.defs (F := Ideal)) (onTc (τ := Cert.RMixOutIdeal.τ) (Cert.RMixOutIdeal.main (F := Ideal))) ⟨m, fun _ => 0, g⟩ (fun r => (∀ c : Dev Cert.RMixOutIdeal.nD,
      r.2.mem ((c.tc : Thread Cert.RMixOutIdeal.nD Cert.RMixOutIdeal.τ).loc Cert.RMixOutIdeal.main_arg0) = m ((c.tc : Thread Cert.RMixOutIdeal.nD Cert.RMixOutIdeal.τ).loc Cert.RMixOutIdeal.main_arg0)
      ∧ r.2.mem ((c.tc : Thread Cert.RMixOutIdeal.nD Cert.RMixOutIdeal.τ).loc Cert.RMixOutIdeal.main_arg1) = m ((c.tc : Thread Cert.RMixOutIdeal.nD Cert.RMixOutIdeal.τ).loc Cert.RMixOutIdeal.main_arg1)
      ∧ r.2.mem ((c.tc : Thread Cert.RMixOutIdeal.nD Cert.RMixOutIdeal.τ).loc Cert.RMixOutIdeal.main_arg2) = m ((c.tc : Thread Cert.RMixOutIdeal.nD Cert.RMixOutIdeal.τ).loc Cert.RMixOutIdeal.main_arg2)
      ∧ r.2.mem ((c.tc : Thread Cert.RMixOutIdeal.nD Cert.RMixOutIdeal.τ).loc Cert.RMixOutIdeal.main_arg3) = m ((c.tc : Thread Cert.RMixOutIdeal.nD Cert.RMixOutIdeal.τ).loc Cert.RMixOutIdeal.main_arg3)
      ∧ r.2.mem ((c.tc : Thread Cert.RMixOutIdeal.nD Cert.RMixOutIdeal.τ).loc Cert.RMixOutIdeal.main_arg4) = m ((c.tc : Thread Cert.RMixOutIdeal.nD Cert.RMixOutIdeal.τ).loc Cert.RMixOutIdeal.main_arg4)
      ∧ r.2.mem ((c.tc : Thread Cert.RMixOutIdeal.nD Cert.RMixOutIdeal.τ).loc Cert.RMixOutIdeal.main_arg5) = m ((c.tc : Thread Cert.RMixOutIdeal.nD Cert.RMixOutIdeal.τ).loc Cert.RMixOutIdeal.main_arg5)
      ∧ r.2.mem ((c.tc : Thread Cert.RMixOutIdeal.nD Cert.RMixOutIdeal.τ).loc Cert.RMixOutIdeal.main_arg6) = m ((c.tc : Thread Cert.RMixOutIdeal.nD Cert.RMixOutIdeal.τ).loc Cert.RMixOutIdeal.main_arg6)
      ∧ r.2.mem ((c.tc : Thread Cert.RMixOutIdeal.nD Cert.RMixOutIdeal.τ).loc Cert.RMixOutIdeal.main_arg7) = m ((c.tc : Thread Cert.RMixOutIdeal.nD Cert.RMixOutIdeal.τ).loc Cert.RMixOutIdeal.main_arg7)
      ∧ r.2.mem ((c.tc : Thread Cert.RMixOutIdeal.nD Cert.RMixOutIdeal.τ).loc Cert.RMixOutIdeal.main_arg8) = m ((c.tc : Thread Cert.RMixOutIdeal.nD Cert.RMixOutIdeal.τ).loc Cert.RMixOutIdeal.main_arg8)
      ∧ r.2.mem ((c.tc : Thread Cert.RMixOutIdeal.nD Cert.RMixOutIdeal.τ).loc Cert.RMixOutIdeal.main_arg9) = m ((c.tc : Thread Cert.RMixOutIdeal.nD Cert.RMixOutIdeal.τ).loc Cert.RMixOutIdeal.main_arg9)
      ∧ r.2.mem ((c.tc : Thread Cert.RMixOutIdeal.nD Cert.RMixOutIdeal.τ).loc Cert.RMixOutIdeal.main_arg10) = m ((c.tc : Thread Cert.RMixOutIdeal.nD Cert.RMixOutIdeal.τ).loc Cert.RMixOutIdeal.main_arg10)
      ∧ r.2.mem ((c.tc : Thread Cert.RMixOutIdeal.nD Cert.RMixOutIdeal.τ).loc Cert.RMixOutIdeal.main_arg11) = m ((c.tc : Thread Cert.RMixOutIdeal.nD Cert.RMixOutIdeal.τ).loc Cert.RMixOutIdeal.main_arg11)
      ∧ r.2.mem ((c.tc : Thread Cert.RMixOutIdeal.nD Cert.RMixOutIdeal.τ).loc Cert.RMixOutIdeal.main_arg12) = m ((c.tc : Thread Cert.RMixOutIdeal.nD Cert.RMixOutIdeal.τ).loc Cert.RMixOutIdeal.main_arg12)
      ∧ r.2.mem ((c.tc : Thread Cert.RMixOutIdeal.nD Cert.RMixOutIdeal.τ).loc Cert.RMixOutIdeal.main_arg13) = m ((c.tc : Thread Cert.RMixOutIdeal.nD Cert.RMixOutIdeal.τ).loc Cert.RMixOutIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KDwIn_KDwInIdeal : Prop :=
  True

def algebraic_KDwInIdeal_RDwInIdeal [hKDwInIdeal : Cert.KDwInIdeal.Facts] [hRDwInIdeal : Cert.RDwInIdeal.Facts] : Prop :=
  ∀ (m : (ℓ : Loc Cert.KDwInIdeal.nD Cert.KDwInIdeal.τ Cert.KDwInIdeal.sig) → Buf (Elt Ideal) ℓ) (g : Dev Cert.KDwInIdeal.nD → PrngReg)
    (m' : (ℓ : Loc Cert.RDwInIdeal.nD Cert.RDwInIdeal.τ Cert.RDwInIdeal.sig) → Buf (Elt Ideal) ℓ) (g' : Dev Cert.RDwInIdeal.nD → PrngReg), Pre_KDwInIdeal m →
    (∀ c : Dev Cert.KDwInIdeal.nD,
      m' ((c.tc : Thread Cert.RDwInIdeal.nD Cert.RDwInIdeal.τ).loc Cert.RDwInIdeal.main_arg0) = m ((c.tc : Thread Cert.KDwInIdeal.nD Cert.KDwInIdeal.τ).loc Cert.KDwInIdeal.main_arg0)
      ∧ m' ((c.tc : Thread Cert.RDwInIdeal.nD Cert.RDwInIdeal.τ).loc Cert.RDwInIdeal.main_arg1) = m ((c.tc : Thread Cert.KDwInIdeal.nD Cert.KDwInIdeal.τ).loc Cert.KDwInIdeal.main_arg1)) →
    ∃ (v0 : (c : Dev Cert.KDwInIdeal.nD) → Buf (Elt Ideal) ((c.tc : Thread Cert.KDwInIdeal.nD Cert.KDwInIdeal.τ).loc Cert.KDwInIdeal.main_v1)),
      θ_run (Cert.KDwInIdeal.defs (F := Ideal)) (onTc (τ := Cert.KDwInIdeal.τ) (Cert.KDwInIdeal.main (F := Ideal))) ⟨m, fun _ => 0, g⟩ (fun r => ∀ c : Dev Cert.KDwInIdeal.nD,
          r.2.mem ((c.tc : Thread Cert.KDwInIdeal.nD Cert.KDwInIdeal.τ).loc Cert.KDwInIdeal.main_v1) = v0 c
          ∧ r.2.mem ((c.tc : Thread Cert.KDwInIdeal.nD Cert.KDwInIdeal.τ).loc Cert.KDwInIdeal.main_arg0) = m ((c.tc : Thread Cert.KDwInIdeal.nD Cert.KDwInIdeal.τ).loc Cert.KDwInIdeal.main_arg0)
          ∧ r.2.mem ((c.tc : Thread Cert.KDwInIdeal.nD Cert.KDwInIdeal.τ).loc Cert.KDwInIdeal.main_arg1) = m ((c.tc : Thread Cert.KDwInIdeal.nD Cert.KDwInIdeal.τ).loc Cert.KDwInIdeal.main_arg1))
      ∧ θ_run (Cert.RDwInIdeal.defs (F := Ideal)) (onTc (τ := Cert.RDwInIdeal.τ) (Cert.RDwInIdeal.main (F := Ideal))) ⟨m', fun _ => 0, g'⟩ (fun r => ∀ c : Dev Cert.RDwInIdeal.nD,
          r.2.mem ((c.tc : Thread Cert.RDwInIdeal.nD Cert.RDwInIdeal.τ).loc Cert.RDwInIdeal.main_v4) = v0 c
          ∧ r.2.mem ((c.tc : Thread Cert.RDwInIdeal.nD Cert.RDwInIdeal.τ).loc Cert.RDwInIdeal.main_arg0) = m' ((c.tc : Thread Cert.RDwInIdeal.nD Cert.RDwInIdeal.τ).loc Cert.RDwInIdeal.main_arg0)
          ∧ r.2.mem ((c.tc : Thread Cert.RDwInIdeal.nD Cert.RDwInIdeal.τ).loc Cert.RDwInIdeal.main_arg1) = m' ((c.tc : Thread Cert.RDwInIdeal.nD Cert.RDwInIdeal.τ).loc Cert.RDwInIdeal.main_arg1))

def preserves_KDX_KDXIdeal : Prop :=
  True

def algebraic_KDXIdeal_RDXIdeal [hKDXIdeal : Cert.KDXIdeal.Facts] [hRDXIdeal : Cert.RDXIdeal.Facts] : Prop :=
  ∀ (m : (ℓ : Loc Cert.KDXIdeal.nD Cert.KDXIdeal.τ Cert.KDXIdeal.sig) → Buf (Elt Ideal) ℓ) (g : Dev Cert.KDXIdeal.nD → PrngReg)
    (m' : (ℓ : Loc Cert.RDXIdeal.nD Cert.RDXIdeal.τ Cert.RDXIdeal.sig) → Buf (Elt Ideal) ℓ) (g' : Dev Cert.RDXIdeal.nD → PrngReg), Pre_KDXIdeal m →
    (∀ c : Dev Cert.KDXIdeal.nD,
      m' ((c.tc : Thread Cert.RDXIdeal.nD Cert.RDXIdeal.τ).loc Cert.RDXIdeal.main_arg0) = m ((c.tc : Thread Cert.KDXIdeal.nD Cert.KDXIdeal.τ).loc Cert.KDXIdeal.main_arg0)
      ∧ m' ((c.tc : Thread Cert.RDXIdeal.nD Cert.RDXIdeal.τ).loc Cert.RDXIdeal.main_arg1) = m ((c.tc : Thread Cert.KDXIdeal.nD Cert.KDXIdeal.τ).loc Cert.KDXIdeal.main_arg1)
      ∧ m' ((c.tc : Thread Cert.RDXIdeal.nD Cert.RDXIdeal.τ).loc Cert.RDXIdeal.main_arg2) = m ((c.tc : Thread Cert.KDXIdeal.nD Cert.KDXIdeal.τ).loc Cert.KDXIdeal.main_arg2)) →
    ∃ (v0 : (c : Dev Cert.KDXIdeal.nD) → Buf (Elt Ideal) ((c.tc : Thread Cert.KDXIdeal.nD Cert.KDXIdeal.τ).loc Cert.KDXIdeal.main_v0)),
      θ_run (Cert.KDXIdeal.defs (F := Ideal)) (onTc (τ := Cert.KDXIdeal.τ) (Cert.KDXIdeal.main (F := Ideal))) ⟨m, fun _ => 0, g⟩ (fun r => ∀ c : Dev Cert.KDXIdeal.nD,
          r.2.mem ((c.tc : Thread Cert.KDXIdeal.nD Cert.KDXIdeal.τ).loc Cert.KDXIdeal.main_v0) = v0 c
          ∧ r.2.mem ((c.tc : Thread Cert.KDXIdeal.nD Cert.KDXIdeal.τ).loc Cert.KDXIdeal.main_arg0) = m ((c.tc : Thread Cert.KDXIdeal.nD Cert.KDXIdeal.τ).loc Cert.KDXIdeal.main_arg0)
          ∧ r.2.mem ((c.tc : Thread Cert.KDXIdeal.nD Cert.KDXIdeal.τ).loc Cert.KDXIdeal.main_arg1) = m ((c.tc : Thread Cert.KDXIdeal.nD Cert.KDXIdeal.τ).loc Cert.KDXIdeal.main_arg1)
          ∧ r.2.mem ((c.tc : Thread Cert.KDXIdeal.nD Cert.KDXIdeal.τ).loc Cert.KDXIdeal.main_arg2) = m ((c.tc : Thread Cert.KDXIdeal.nD Cert.KDXIdeal.τ).loc Cert.KDXIdeal.main_arg2))
      ∧ θ_run (Cert.RDXIdeal.defs (F := Ideal)) (onTc (τ := Cert.RDXIdeal.τ) (Cert.RDXIdeal.main (F := Ideal))) ⟨m', fun _ => 0, g'⟩ (fun r => ∀ c : Dev Cert.RDXIdeal.nD,
          r.2.mem ((c.tc : Thread Cert.RDXIdeal.nD Cert.RDXIdeal.τ).loc Cert.RDXIdeal.main_v9) = v0 c
          ∧ r.2.mem ((c.tc : Thread Cert.RDXIdeal.nD Cert.RDXIdeal.τ).loc Cert.RDXIdeal.main_arg0) = m' ((c.tc : Thread Cert.RDXIdeal.nD Cert.RDXIdeal.τ).loc Cert.RDXIdeal.main_arg0)
          ∧ r.2.mem ((c.tc : Thread Cert.RDXIdeal.nD Cert.RDXIdeal.τ).loc Cert.RDXIdeal.main_arg1) = m' ((c.tc : Thread Cert.RDXIdeal.nD Cert.RDXIdeal.τ).loc Cert.RDXIdeal.main_arg1)
          ∧ r.2.mem ((c.tc : Thread Cert.RDXIdeal.nD Cert.RDXIdeal.τ).loc Cert.RDXIdeal.main_arg2) = m' ((c.tc : Thread Cert.RDXIdeal.nD Cert.RDXIdeal.τ).loc Cert.RDXIdeal.main_arg2))

def preserves_KDwDown_KDwDownIdeal : Prop :=
  True

def algebraic_KDwDownIdeal_RDwDownIdeal [hKDwDownIdeal : Cert.KDwDownIdeal.Facts] [hRDwDownIdeal : Cert.RDwDownIdeal.Facts] : Prop :=
  ∀ (m : (ℓ : Loc Cert.KDwDownIdeal.nD Cert.KDwDownIdeal.τ Cert.KDwDownIdeal.sig) → Buf (Elt Ideal) ℓ) (g : Dev Cert.KDwDownIdeal.nD → PrngReg)
    (m' : (ℓ : Loc Cert.RDwDownIdeal.nD Cert.RDwDownIdeal.τ Cert.RDwDownIdeal.sig) → Buf (Elt Ideal) ℓ) (g' : Dev Cert.RDwDownIdeal.nD → PrngReg), Pre_KDwDownIdeal m →
    (∀ c : Dev Cert.KDwDownIdeal.nD,
      m' ((c.tc : Thread Cert.RDwDownIdeal.nD Cert.RDwDownIdeal.τ).loc Cert.RDwDownIdeal.main_arg0) = m ((c.tc : Thread Cert.KDwDownIdeal.nD Cert.KDwDownIdeal.τ).loc Cert.KDwDownIdeal.main_arg0)
      ∧ m' ((c.tc : Thread Cert.RDwDownIdeal.nD Cert.RDwDownIdeal.τ).loc Cert.RDwDownIdeal.main_arg1) = m ((c.tc : Thread Cert.KDwDownIdeal.nD Cert.KDwDownIdeal.τ).loc Cert.KDwDownIdeal.main_arg1)) →
    ∃ (v0 : (c : Dev Cert.KDwDownIdeal.nD) → Buf (Elt Ideal) ((c.tc : Thread Cert.KDwDownIdeal.nD Cert.KDwDownIdeal.τ).loc Cert.KDwDownIdeal.main_v0)),
      θ_run (Cert.KDwDownIdeal.defs (F := Ideal)) (onTc (τ := Cert.KDwDownIdeal.τ) (Cert.KDwDownIdeal.main (F := Ideal))) ⟨m, fun _ => 0, g⟩ (fun r => ∀ c : Dev Cert.KDwDownIdeal.nD,
          r.2.mem ((c.tc : Thread Cert.KDwDownIdeal.nD Cert.KDwDownIdeal.τ).loc Cert.KDwDownIdeal.main_v0) = v0 c
          ∧ r.2.mem ((c.tc : Thread Cert.KDwDownIdeal.nD Cert.KDwDownIdeal.τ).loc Cert.KDwDownIdeal.main_arg0) = m ((c.tc : Thread Cert.KDwDownIdeal.nD Cert.KDwDownIdeal.τ).loc Cert.KDwDownIdeal.main_arg0)
          ∧ r.2.mem ((c.tc : Thread Cert.KDwDownIdeal.nD Cert.KDwDownIdeal.τ).loc Cert.KDwDownIdeal.main_arg1) = m ((c.tc : Thread Cert.KDwDownIdeal.nD Cert.KDwDownIdeal.τ).loc Cert.KDwDownIdeal.main_arg1))
      ∧ θ_run (Cert.RDwDownIdeal.defs (F := Ideal)) (onTc (τ := Cert.RDwDownIdeal.τ) (Cert.RDwDownIdeal.main (F := Ideal))) ⟨m', fun _ => 0, g'⟩ (fun r => ∀ c : Dev Cert.RDwDownIdeal.nD,
          r.2.mem ((c.tc : Thread Cert.RDwDownIdeal.nD Cert.RDwDownIdeal.τ).loc Cert.RDwDownIdeal.main_v5) = v0 c
          ∧ r.2.mem ((c.tc : Thread Cert.RDwDownIdeal.nD Cert.RDwDownIdeal.τ).loc Cert.RDwDownIdeal.main_arg0) = m' ((c.tc : Thread Cert.RDwDownIdeal.nD Cert.RDwDownIdeal.τ).loc Cert.RDwDownIdeal.main_arg0)
          ∧ r.2.mem ((c.tc : Thread Cert.RDwDownIdeal.nD Cert.RDwDownIdeal.τ).loc Cert.RDwDownIdeal.main_arg1) = m' ((c.tc : Thread Cert.RDwDownIdeal.nD Cert.RDwDownIdeal.τ).loc Cert.RDwDownIdeal.main_arg1))

def preserves_KDwUp_KDwUpIdeal : Prop :=
  True

def algebraic_KDwUpIdeal_RDwUpIdeal [hKDwUpIdeal : Cert.KDwUpIdeal.Facts] [hRDwUpIdeal : Cert.RDwUpIdeal.Facts] : Prop :=
  ∀ (m : (ℓ : Loc Cert.KDwUpIdeal.nD Cert.KDwUpIdeal.τ Cert.KDwUpIdeal.sig) → Buf (Elt Ideal) ℓ) (g : Dev Cert.KDwUpIdeal.nD → PrngReg)
    (m' : (ℓ : Loc Cert.RDwUpIdeal.nD Cert.RDwUpIdeal.τ Cert.RDwUpIdeal.sig) → Buf (Elt Ideal) ℓ) (g' : Dev Cert.RDwUpIdeal.nD → PrngReg), Pre_KDwUpIdeal m →
    (∀ c : Dev Cert.KDwUpIdeal.nD,
      m' ((c.tc : Thread Cert.RDwUpIdeal.nD Cert.RDwUpIdeal.τ).loc Cert.RDwUpIdeal.main_arg0) = m ((c.tc : Thread Cert.KDwUpIdeal.nD Cert.KDwUpIdeal.τ).loc Cert.KDwUpIdeal.main_arg0)
      ∧ m' ((c.tc : Thread Cert.RDwUpIdeal.nD Cert.RDwUpIdeal.τ).loc Cert.RDwUpIdeal.main_arg1) = m ((c.tc : Thread Cert.KDwUpIdeal.nD Cert.KDwUpIdeal.τ).loc Cert.KDwUpIdeal.main_arg1)) →
    ∃ (v0 : (c : Dev Cert.KDwUpIdeal.nD) → Buf (Elt Ideal) ((c.tc : Thread Cert.KDwUpIdeal.nD Cert.KDwUpIdeal.τ).loc Cert.KDwUpIdeal.main_v0)),
      θ_run (Cert.KDwUpIdeal.defs (F := Ideal)) (onTc (τ := Cert.KDwUpIdeal.τ) (Cert.KDwUpIdeal.main (F := Ideal))) ⟨m, fun _ => 0, g⟩ (fun r => ∀ c : Dev Cert.KDwUpIdeal.nD,
          r.2.mem ((c.tc : Thread Cert.KDwUpIdeal.nD Cert.KDwUpIdeal.τ).loc Cert.KDwUpIdeal.main_v0) = v0 c
          ∧ r.2.mem ((c.tc : Thread Cert.KDwUpIdeal.nD Cert.KDwUpIdeal.τ).loc Cert.KDwUpIdeal.main_arg0) = m ((c.tc : Thread Cert.KDwUpIdeal.nD Cert.KDwUpIdeal.τ).loc Cert.KDwUpIdeal.main_arg0)
          ∧ r.2.mem ((c.tc : Thread Cert.KDwUpIdeal.nD Cert.KDwUpIdeal.τ).loc Cert.KDwUpIdeal.main_arg1) = m ((c.tc : Thread Cert.KDwUpIdeal.nD Cert.KDwUpIdeal.τ).loc Cert.KDwUpIdeal.main_arg1))
      ∧ θ_run (Cert.RDwUpIdeal.defs (F := Ideal)) (onTc (τ := Cert.RDwUpIdeal.τ) (Cert.RDwUpIdeal.main (F := Ideal))) ⟨m', fun _ => 0, g'⟩ (fun r => ∀ c : Dev Cert.RDwUpIdeal.nD,
          r.2.mem ((c.tc : Thread Cert.RDwUpIdeal.nD Cert.RDwUpIdeal.τ).loc Cert.RDwUpIdeal.main_v29) = v0 c
          ∧ r.2.mem ((c.tc : Thread Cert.RDwUpIdeal.nD Cert.RDwUpIdeal.τ).loc Cert.RDwUpIdeal.main_arg0) = m' ((c.tc : Thread Cert.RDwUpIdeal.nD Cert.RDwUpIdeal.τ).loc Cert.RDwUpIdeal.main_arg0)
          ∧ r.2.mem ((c.tc : Thread Cert.RDwUpIdeal.nD Cert.RDwUpIdeal.τ).loc Cert.RDwUpIdeal.main_arg1) = m' ((c.tc : Thread Cert.RDwUpIdeal.nD Cert.RDwUpIdeal.τ).loc Cert.RDwUpIdeal.main_arg1))

def preserves_KDUp_KDUpIdeal : Prop :=
  True

def algebraic_KDUpIdeal_RDUpIdeal [hKDUpIdeal : Cert.KDUpIdeal.Facts] [hRDUpIdeal : Cert.RDUpIdeal.Facts] : Prop :=
  ∀ (m : (ℓ : Loc Cert.KDUpIdeal.nD Cert.KDUpIdeal.τ Cert.KDUpIdeal.sig) → Buf (Elt Ideal) ℓ) (g : Dev Cert.KDUpIdeal.nD → PrngReg)
    (m' : (ℓ : Loc Cert.RDUpIdeal.nD Cert.RDUpIdeal.τ Cert.RDUpIdeal.sig) → Buf (Elt Ideal) ℓ) (g' : Dev Cert.RDUpIdeal.nD → PrngReg), Pre_KDUpIdeal m →
    (∀ c : Dev Cert.KDUpIdeal.nD,
      m' ((c.tc : Thread Cert.RDUpIdeal.nD Cert.RDUpIdeal.τ).loc Cert.RDUpIdeal.main_arg0) = m ((c.tc : Thread Cert.KDUpIdeal.nD Cert.KDUpIdeal.τ).loc Cert.KDUpIdeal.main_arg0)
      ∧ m' ((c.tc : Thread Cert.RDUpIdeal.nD Cert.RDUpIdeal.τ).loc Cert.RDUpIdeal.main_arg1) = m ((c.tc : Thread Cert.KDUpIdeal.nD Cert.KDUpIdeal.τ).loc Cert.KDUpIdeal.main_arg1)
      ∧ m' ((c.tc : Thread Cert.RDUpIdeal.nD Cert.RDUpIdeal.τ).loc Cert.RDUpIdeal.main_arg2) = m ((c.tc : Thread Cert.KDUpIdeal.nD Cert.KDUpIdeal.τ).loc Cert.KDUpIdeal.main_arg2)) →
    ∃ (v0 : (c : Dev Cert.KDUpIdeal.nD) → Buf (Elt Ideal) ((c.tc : Thread Cert.KDUpIdeal.nD Cert.KDUpIdeal.τ).loc Cert.KDUpIdeal.main_v0)),
      θ_run (Cert.KDUpIdeal.defs (F := Ideal)) (onTc (τ := Cert.KDUpIdeal.τ) (Cert.KDUpIdeal.main (F := Ideal))) ⟨m, fun _ => 0, g⟩ (fun r => ∀ c : Dev Cert.KDUpIdeal.nD,
          r.2.mem ((c.tc : Thread Cert.KDUpIdeal.nD Cert.KDUpIdeal.τ).loc Cert.KDUpIdeal.main_v0) = v0 c
          ∧ r.2.mem ((c.tc : Thread Cert.KDUpIdeal.nD Cert.KDUpIdeal.τ).loc Cert.KDUpIdeal.main_arg0) = m ((c.tc : Thread Cert.KDUpIdeal.nD Cert.KDUpIdeal.τ).loc Cert.KDUpIdeal.main_arg0)
          ∧ r.2.mem ((c.tc : Thread Cert.KDUpIdeal.nD Cert.KDUpIdeal.τ).loc Cert.KDUpIdeal.main_arg1) = m ((c.tc : Thread Cert.KDUpIdeal.nD Cert.KDUpIdeal.τ).loc Cert.KDUpIdeal.main_arg1)
          ∧ r.2.mem ((c.tc : Thread Cert.KDUpIdeal.nD Cert.KDUpIdeal.τ).loc Cert.KDUpIdeal.main_arg2) = m ((c.tc : Thread Cert.KDUpIdeal.nD Cert.KDUpIdeal.τ).loc Cert.KDUpIdeal.main_arg2))
      ∧ θ_run (Cert.RDUpIdeal.defs (F := Ideal)) (onTc (τ := Cert.RDUpIdeal.τ) (Cert.RDUpIdeal.main (F := Ideal))) ⟨m', fun _ => 0, g'⟩ (fun r => ∀ c : Dev Cert.RDUpIdeal.nD,
          r.2.mem ((c.tc : Thread Cert.RDUpIdeal.nD Cert.RDUpIdeal.τ).loc Cert.RDUpIdeal.main_v15) = v0 c
          ∧ r.2.mem ((c.tc : Thread Cert.RDUpIdeal.nD Cert.RDUpIdeal.τ).loc Cert.RDUpIdeal.main_arg0) = m' ((c.tc : Thread Cert.RDUpIdeal.nD Cert.RDUpIdeal.τ).loc Cert.RDUpIdeal.main_arg0)
          ∧ r.2.mem ((c.tc : Thread Cert.RDUpIdeal.nD Cert.RDUpIdeal.τ).loc Cert.RDUpIdeal.main_arg1) = m' ((c.tc : Thread Cert.RDUpIdeal.nD Cert.RDUpIdeal.τ).loc Cert.RDUpIdeal.main_arg1)
          ∧ r.2.mem ((c.tc : Thread Cert.RDUpIdeal.nD Cert.RDUpIdeal.τ).loc Cert.RDUpIdeal.main_arg2) = m' ((c.tc : Thread Cert.RDUpIdeal.nD Cert.RDUpIdeal.τ).loc Cert.RDUpIdeal.main_arg2))

def preserves_KDH1_KDH1Ideal : Prop :=
  True

def algebraic_KDH1Ideal_RDH1Ideal_pre_finite_d_h1 [hKDH1Ideal : Cert.KDH1Ideal.Facts] [hRDH1Ideal : Cert.RDH1Ideal.Facts] [hPre_finite_d_h1 : Cert.Pre_finite_d_h1.Facts] : Prop :=
  ∀ (m : (ℓ : Loc Cert.KDH1Ideal.nD Cert.KDH1Ideal.τ Cert.KDH1Ideal.sig) → Buf (Elt Ideal) ℓ) (g : Dev Cert.KDH1Ideal.nD → PrngReg)
    (m' : (ℓ : Loc Cert.RDH1Ideal.nD Cert.RDH1Ideal.τ Cert.RDH1Ideal.sig) → Buf (Elt Ideal) ℓ) (g' : Dev Cert.RDH1Ideal.nD → PrngReg), Pre_KDH1Ideal_finite_d_h1 m →
    (∀ c : Dev Cert.KDH1Ideal.nD,
      m' ((c.tc : Thread Cert.RDH1Ideal.nD Cert.RDH1Ideal.τ).loc Cert.RDH1Ideal.main_arg0) = m ((c.tc : Thread Cert.KDH1Ideal.nD Cert.KDH1Ideal.τ).loc Cert.KDH1Ideal.main_arg0)
      ∧ m' ((c.tc : Thread Cert.RDH1Ideal.nD Cert.RDH1Ideal.τ).loc Cert.RDH1Ideal.main_arg1) = m ((c.tc : Thread Cert.KDH1Ideal.nD Cert.KDH1Ideal.τ).loc Cert.KDH1Ideal.main_arg1)
      ∧ m' ((c.tc : Thread Cert.RDH1Ideal.nD Cert.RDH1Ideal.τ).loc Cert.RDH1Ideal.main_arg2) = m ((c.tc : Thread Cert.KDH1Ideal.nD Cert.KDH1Ideal.τ).loc Cert.KDH1Ideal.main_arg2)
      ∧ m' ((c.tc : Thread Cert.RDH1Ideal.nD Cert.RDH1Ideal.τ).loc Cert.RDH1Ideal.main_arg3) = m ((c.tc : Thread Cert.KDH1Ideal.nD Cert.KDH1Ideal.τ).loc Cert.KDH1Ideal.main_arg3)
      ∧ m' ((c.tc : Thread Cert.RDH1Ideal.nD Cert.RDH1Ideal.τ).loc Cert.RDH1Ideal.main_arg4) = m ((c.tc : Thread Cert.KDH1Ideal.nD Cert.KDH1Ideal.τ).loc Cert.KDH1Ideal.main_arg4)
      ∧ m' ((c.tc : Thread Cert.RDH1Ideal.nD Cert.RDH1Ideal.τ).loc Cert.RDH1Ideal.main_arg5) = m ((c.tc : Thread Cert.KDH1Ideal.nD Cert.KDH1Ideal.τ).loc Cert.KDH1Ideal.main_arg5)) →
    ∃ (v0 : (c : Dev Cert.KDH1Ideal.nD) → Buf (Elt Ideal) ((c.tc : Thread Cert.KDH1Ideal.nD Cert.KDH1Ideal.τ).loc Cert.KDH1Ideal.main_v2_0)) (v1 : (c : Dev Cert.KDH1Ideal.nD) → Buf (Elt Ideal) ((c.tc : Thread Cert.KDH1Ideal.nD Cert.KDH1Ideal.τ).loc Cert.KDH1Ideal.main_v2_1)),
      θ_run (Cert.KDH1Ideal.defs (F := Ideal)) (onTc (τ := Cert.KDH1Ideal.τ) (Cert.KDH1Ideal.main (F := Ideal))) ⟨m, fun _ => 0, g⟩ (fun r => ∀ c : Dev Cert.KDH1Ideal.nD,
          r.2.mem ((c.tc : Thread Cert.KDH1Ideal.nD Cert.KDH1Ideal.τ).loc Cert.KDH1Ideal.main_v2_0) = v0 c
          ∧ r.2.mem ((c.tc : Thread Cert.KDH1Ideal.nD Cert.KDH1Ideal.τ).loc Cert.KDH1Ideal.main_v2_1) = v1 c
          ∧ r.2.mem ((c.tc : Thread Cert.KDH1Ideal.nD Cert.KDH1Ideal.τ).loc Cert.KDH1Ideal.main_arg0) = m ((c.tc : Thread Cert.KDH1Ideal.nD Cert.KDH1Ideal.τ).loc Cert.KDH1Ideal.main_arg0)
          ∧ r.2.mem ((c.tc : Thread Cert.KDH1Ideal.nD Cert.KDH1Ideal.τ).loc Cert.KDH1Ideal.main_arg1) = m ((c.tc : Thread Cert.KDH1Ideal.nD Cert.KDH1Ideal.τ).loc Cert.KDH1Ideal.main_arg1)
          ∧ r.2.mem ((c.tc : Thread Cert.KDH1Ideal.nD Cert.KDH1Ideal.τ).loc Cert.KDH1Ideal.main_arg2) = m ((c.tc : Thread Cert.KDH1Ideal.nD Cert.KDH1Ideal.τ).loc Cert.KDH1Ideal.main_arg2)
          ∧ r.2.mem ((c.tc : Thread Cert.KDH1Ideal.nD Cert.KDH1Ideal.τ).loc Cert.KDH1Ideal.main_arg3) = m ((c.tc : Thread Cert.KDH1Ideal.nD Cert.KDH1Ideal.τ).loc Cert.KDH1Ideal.main_arg3)
          ∧ r.2.mem ((c.tc : Thread Cert.KDH1Ideal.nD Cert.KDH1Ideal.τ).loc Cert.KDH1Ideal.main_arg4) = m ((c.tc : Thread Cert.KDH1Ideal.nD Cert.KDH1Ideal.τ).loc Cert.KDH1Ideal.main_arg4)
          ∧ r.2.mem ((c.tc : Thread Cert.KDH1Ideal.nD Cert.KDH1Ideal.τ).loc Cert.KDH1Ideal.main_arg5) = m ((c.tc : Thread Cert.KDH1Ideal.nD Cert.KDH1Ideal.τ).loc Cert.KDH1Ideal.main_arg5))
      ∧ θ_run (Cert.RDH1Ideal.defs (F := Ideal)) (onTc (τ := Cert.RDH1Ideal.τ) (Cert.RDH1Ideal.main (F := Ideal))) ⟨m', fun _ => 0, g'⟩ (fun r => ∀ c : Dev Cert.RDH1Ideal.nD,
          r.2.mem ((c.tc : Thread Cert.RDH1Ideal.nD Cert.RDH1Ideal.τ).loc Cert.RDH1Ideal.main_v79) = v0 c
          ∧ r.2.mem ((c.tc : Thread Cert.RDH1Ideal.nD Cert.RDH1Ideal.τ).loc Cert.RDH1Ideal.main_v83) = v1 c
          ∧ r.2.mem ((c.tc : Thread Cert.RDH1Ideal.nD Cert.RDH1Ideal.τ).loc Cert.RDH1Ideal.main_arg0) = m' ((c.tc : Thread Cert.RDH1Ideal.nD Cert.RDH1Ideal.τ).loc Cert.RDH1Ideal.main_arg0)
          ∧ r.2.mem ((c.tc : Thread Cert.RDH1Ideal.nD Cert.RDH1Ideal.τ).loc Cert.RDH1Ideal.main_arg1) = m' ((c.tc : Thread Cert.RDH1Ideal.nD Cert.RDH1Ideal.τ).loc Cert.RDH1Ideal.main_arg1)
          ∧ r.2.mem ((c.tc : Thread Cert.RDH1Ideal.nD Cert.RDH1Ideal.τ).loc Cert.RDH1Ideal.main_arg2) = m' ((c.tc : Thread Cert.RDH1Ideal.nD Cert.RDH1Ideal.τ).loc Cert.RDH1Ideal.main_arg2)
          ∧ r.2.mem ((c.tc : Thread Cert.RDH1Ideal.nD Cert.RDH1Ideal.τ).loc Cert.RDH1Ideal.main_arg3) = m' ((c.tc : Thread Cert.RDH1Ideal.nD Cert.RDH1Ideal.τ).loc Cert.RDH1Ideal.main_arg3)
          ∧ r.2.mem ((c.tc : Thread Cert.RDH1Ideal.nD Cert.RDH1Ideal.τ).loc Cert.RDH1Ideal.main_arg4) = m' ((c.tc : Thread Cert.RDH1Ideal.nD Cert.RDH1Ideal.τ).loc Cert.RDH1Ideal.main_arg4)
          ∧ r.2.mem ((c.tc : Thread Cert.RDH1Ideal.nD Cert.RDH1Ideal.τ).loc Cert.RDH1Ideal.main_arg5) = m' ((c.tc : Thread Cert.RDH1Ideal.nD Cert.RDH1Ideal.τ).loc Cert.RDH1Ideal.main_arg5))

def preserves_KLoss_KLossIdeal : Prop :=
  True

def algebraic_KLossIdeal_RLossIdeal_pre_finite_loss [hKLossIdeal : Cert.KLossIdeal.Facts] [hRLossIdeal : Cert.RLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal_finite_loss m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)
      ∧ m' ((c.tc : Thread Cert.RLossIdeal.nD Cert.RLossIdeal.τ).loc Cert.RLossIdeal.main_arg3) = m ((c.tc : Thread Cert.KLossIdeal.nD Cert.KLossIdeal.τ).loc Cert.KLossIdeal.main_arg3)
      ∧ m' ((c.tc : Thread Cert.RLossIdeal.nD Cert.RLossIdeal.τ).loc Cert.RLossIdeal.main_arg4) = m ((c.tc : Thread Cert.KLossIdeal.nD Cert.KLossIdeal.τ).loc Cert.KLossIdeal.main_arg4)
      ∧ m' ((c.tc : Thread Cert.RLossIdeal.nD Cert.RLossIdeal.τ).loc Cert.RLossIdeal.main_arg5) = m ((c.tc : Thread Cert.KLossIdeal.nD Cert.KLossIdeal.τ).loc Cert.KLossIdeal.main_arg5)
      ∧ m' ((c.tc : Thread Cert.RLossIdeal.nD Cert.RLossIdeal.τ).loc Cert.RLossIdeal.main_arg6) = m ((c.tc : Thread Cert.KLossIdeal.nD Cert.KLossIdeal.τ).loc Cert.KLossIdeal.main_arg6)
      ∧ m' ((c.tc : Thread Cert.RLossIdeal.nD Cert.RLossIdeal.τ).loc Cert.RLossIdeal.main_arg7) = m ((c.tc : Thread Cert.KLossIdeal.nD Cert.KLossIdeal.τ).loc Cert.KLossIdeal.main_arg7)) →
    ∃ (v0 : (c : Dev Cert.KLossIdeal.nD) → Buf (Elt Ideal) ((c.tc : Thread Cert.KLossIdeal.nD Cert.KLossIdeal.τ).loc Cert.KLossIdeal.main_v4_0)) (v1 : (c : Dev Cert.KLossIdeal.nD) → Buf (Elt Ideal) ((c.tc : Thread Cert.KLossIdeal.nD Cert.KLossIdeal.τ).loc Cert.KLossIdeal.main_v4_1)) (v2 : (c : Dev Cert.KLossIdeal.nD) → Buf (Elt Ideal) ((c.tc : Thread Cert.KLossIdeal.nD Cert.KLossIdeal.τ).loc Cert.KLossIdeal.main_v4_2)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v4_0) = v0 c
          ∧ r.2.mem ((c.tc : Thread Cert.KLossIdeal.nD Cert.KLossIdeal.τ).loc Cert.KLossIdeal.main_v4_1) = v1 c
          ∧ r.2.mem ((c.tc : Thread Cert.KLossIdeal.nD Cert.KLossIdeal.τ).loc Cert.KLossIdeal.main_v4_2) = v2 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
          ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
          ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4)
          ∧ r.2.mem ((c.tc : Thread Cert.KLossIdeal.nD Cert.KLossIdeal.τ).loc Cert.KLossIdeal.main_arg5) = m ((c.tc : Thread Cert.KLossIdeal.nD Cert.KLossIdeal.τ).loc Cert.KLossIdeal.main_arg5)
          ∧ r.2.mem ((c.tc : Thread Cert.KLossIdeal.nD Cert.KLossIdeal.τ).loc Cert.KLossIdeal.main_arg6) = m ((c.tc : Thread Cert.KLossIdeal.nD Cert.KLossIdeal.τ).loc Cert.KLossIdeal.main_arg6)
          ∧ r.2.mem ((c.tc : Thread Cert.KLossIdeal.nD Cert.KLossIdeal.τ).loc Cert.KLossIdeal.main_arg7) = m ((c.tc : Thread Cert.KLossIdeal.nD Cert.KLossIdeal.τ).loc Cert.KLossIdeal.main_arg7))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v106) = v0 c
          ∧ r.2.mem ((c.tc : Thread Cert.RLossIdeal.nD Cert.RLossIdeal.τ).loc Cert.RLossIdeal.main_v112) = v1 c
          ∧ r.2.mem ((c.tc : Thread Cert.RLossIdeal.nD Cert.RLossIdeal.τ).loc Cert.RLossIdeal.main_v111) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3)
          ∧ r.2.mem ((c.tc : Thread Cert.RLossIdeal.nD Cert.RLossIdeal.τ).loc Cert.RLossIdeal.main_arg4) = m' ((c.tc : Thread Cert.RLossIdeal.nD Cert.RLossIdeal.τ).loc Cert.RLossIdeal.main_arg4)
          ∧ r.2.mem ((c.tc : Thread Cert.RLossIdeal.nD Cert.RLossIdeal.τ).loc Cert.RLossIdeal.main_arg5) = m' ((c.tc : Thread Cert.RLossIdeal.nD Cert.RLossIdeal.τ).loc Cert.RLossIdeal.main_arg5)
          ∧ r.2.mem ((c.tc : Thread Cert.RLossIdeal.nD Cert.RLossIdeal.τ).loc Cert.RLossIdeal.main_arg6) = m' ((c.tc : Thread Cert.RLossIdeal.nD Cert.RLossIdeal.τ).loc Cert.RLossIdeal.main_arg6)
          ∧ r.2.mem ((c.tc : Thread Cert.RLossIdeal.nD Cert.RLossIdeal.τ).loc Cert.RLossIdeal.main_arg7) = m' ((c.tc : Thread Cert.RLossIdeal.nD Cert.RLossIdeal.τ).loc Cert.RLossIdeal.main_arg7))

def preserves_KInProj_KInProjIdeal : Prop :=
  True

def algebraic_KInProjIdeal_RInProjIdeal [hKInProjIdeal : Cert.KInProjIdeal.Facts] [hRInProjIdeal : Cert.RInProjIdeal.Facts] : Prop :=
  ∀ (m : (ℓ : Loc Cert.KInProjIdeal.nD Cert.KInProjIdeal.τ Cert.KInProjIdeal.sig) → Buf (Elt Ideal) ℓ) (g : Dev Cert.KInProjIdeal.nD → PrngReg)
    (m' : (ℓ : Loc Cert.RInProjIdeal.nD Cert.RInProjIdeal.τ Cert.RInProjIdeal.sig) → Buf (Elt Ideal) ℓ) (g' : Dev Cert.RInProjIdeal.nD → PrngReg), Pre_KInProjIdeal m →
    (∀ c : Dev Cert.KInProjIdeal.nD,
      m' ((c.tc : Thread Cert.RInProjIdeal.nD Cert.RInProjIdeal.τ).loc Cert.RInProjIdeal.main_arg0) = m ((c.tc : Thread Cert.KInProjIdeal.nD Cert.KInProjIdeal.τ).loc Cert.KInProjIdeal.main_arg0)
      ∧ m' ((c.tc : Thread Cert.RInProjIdeal.nD Cert.RInProjIdeal.τ).loc Cert.RInProjIdeal.main_arg1) = m ((c.tc : Thread Cert.KInProjIdeal.nD Cert.KInProjIdeal.τ).loc Cert.KInProjIdeal.main_arg1)) →
    ∃ (v0 : (c : Dev Cert.KInProjIdeal.nD) → Buf (Elt Ideal) ((c.tc : Thread Cert.KInProjIdeal.nD Cert.KInProjIdeal.τ).loc Cert.KInProjIdeal.main_v1)),
      θ_run (Cert.KInProjIdeal.defs (F := Ideal)) (onTc (τ := Cert.KInProjIdeal.τ) (Cert.KInProjIdeal.main (F := Ideal))) ⟨m, fun _ => 0, g⟩ (fun r => ∀ c : Dev Cert.KInProjIdeal.nD,
          r.2.mem ((c.tc : Thread Cert.KInProjIdeal.nD Cert.KInProjIdeal.τ).loc Cert.KInProjIdeal.main_v1) = v0 c
          ∧ r.2.mem ((c.tc : Thread Cert.KInProjIdeal.nD Cert.KInProjIdeal.τ).loc Cert.KInProjIdeal.main_arg0) = m ((c.tc : Thread Cert.KInProjIdeal.nD Cert.KInProjIdeal.τ).loc Cert.KInProjIdeal.main_arg0)
          ∧ r.2.mem ((c.tc : Thread Cert.KInProjIdeal.nD Cert.KInProjIdeal.τ).loc Cert.KInProjIdeal.main_arg1) = m ((c.tc : Thread Cert.KInProjIdeal.nD Cert.KInProjIdeal.τ).loc Cert.KInProjIdeal.main_arg1))
      ∧ θ_run (Cert.RInProjIdeal.defs (F := Ideal)) (onTc (τ := Cert.RInProjIdeal.τ) (Cert.RInProjIdeal.main (F := Ideal))) ⟨m', fun _ => 0, g'⟩ (fun r => ∀ c : Dev Cert.RInProjIdeal.nD,
          r.2.mem ((c.tc : Thread Cert.RInProjIdeal.nD Cert.RInProjIdeal.τ).loc Cert.RInProjIdeal.main_v1) = v0 c
          ∧ r.2.mem ((c.tc : Thread Cert.RInProjIdeal.nD Cert.RInProjIdeal.τ).loc Cert.RInProjIdeal.main_arg0) = m' ((c.tc : Thread Cert.RInProjIdeal.nD Cert.RInProjIdeal.τ).loc Cert.RInProjIdeal.main_arg0)
          ∧ r.2.mem ((c.tc : Thread Cert.RInProjIdeal.nD Cert.RInProjIdeal.τ).loc Cert.RInProjIdeal.main_arg1) = m' ((c.tc : Thread Cert.RInProjIdeal.nD Cert.RInProjIdeal.τ).loc Cert.RInProjIdeal.main_arg1))

def preserves_KMlpUp_KMlpUpIdeal : Prop :=
  True

def algebraic_KMlpUpIdeal_RMlpUpIdeal [hKMlpUpIdeal : Cert.KMlpUpIdeal.Facts] [hRMlpUpIdeal : Cert.RMlpUpIdeal.Facts] : Prop :=
  ∀ (m : (ℓ : Loc Cert.KMlpUpIdeal.nD Cert.KMlpUpIdeal.τ Cert.KMlpUpIdeal.sig) → Buf (Elt Ideal) ℓ) (g : Dev Cert.KMlpUpIdeal.nD → PrngReg)
    (m' : (ℓ : Loc Cert.RMlpUpIdeal.nD Cert.RMlpUpIdeal.τ Cert.RMlpUpIdeal.sig) → Buf (Elt Ideal) ℓ) (g' : Dev Cert.RMlpUpIdeal.nD → PrngReg), Pre_KMlpUpIdeal m →
    (∀ c : Dev Cert.KMlpUpIdeal.nD,
      m' ((c.tc : Thread Cert.RMlpUpIdeal.nD Cert.RMlpUpIdeal.τ).loc Cert.RMlpUpIdeal.main_arg0) = m ((c.tc : Thread Cert.KMlpUpIdeal.nD Cert.KMlpUpIdeal.τ).loc Cert.KMlpUpIdeal.main_arg0)
      ∧ m' ((c.tc : Thread Cert.RMlpUpIdeal.nD Cert.RMlpUpIdeal.τ).loc Cert.RMlpUpIdeal.main_arg1) = m ((c.tc : Thread Cert.KMlpUpIdeal.nD Cert.KMlpUpIdeal.τ).loc Cert.KMlpUpIdeal.main_arg1)) →
    ∃ (v0 : (c : Dev Cert.KMlpUpIdeal.nD) → Buf (Elt Ideal) ((c.tc : Thread Cert.KMlpUpIdeal.nD Cert.KMlpUpIdeal.τ).loc Cert.KMlpUpIdeal.main_v0_0)) (v1 : (c : Dev Cert.KMlpUpIdeal.nD) → Buf (Elt Ideal) ((c.tc : Thread Cert.KMlpUpIdeal.nD Cert.KMlpUpIdeal.τ).loc Cert.KMlpUpIdeal.main_v0_1)),
      θ_run (Cert.KMlpUpIdeal.defs (F := Ideal)) (onTc (τ := Cert.KMlpUpIdeal.τ) (Cert.KMlpUpIdeal.main (F := Ideal))) ⟨m, fun _ => 0, g⟩ (fun r => ∀ c : Dev Cert.KMlpUpIdeal.nD,
          r.2.mem ((c.tc : Thread Cert.KMlpUpIdeal.nD Cert.KMlpUpIdeal.τ).loc Cert.KMlpUpIdeal.main_v0_0) = v0 c
          ∧ r.2.mem ((c.tc : Thread Cert.KMlpUpIdeal.nD Cert.KMlpUpIdeal.τ).loc Cert.KMlpUpIdeal.main_v0_1) = v1 c
          ∧ r.2.mem ((c.tc : Thread Cert.KMlpUpIdeal.nD Cert.KMlpUpIdeal.τ).loc Cert.KMlpUpIdeal.main_arg0) = m ((c.tc : Thread Cert.KMlpUpIdeal.nD Cert.KMlpUpIdeal.τ).loc Cert.KMlpUpIdeal.main_arg0)
          ∧ r.2.mem ((c.tc : Thread Cert.KMlpUpIdeal.nD Cert.KMlpUpIdeal.τ).loc Cert.KMlpUpIdeal.main_arg1) = m ((c.tc : Thread Cert.KMlpUpIdeal.nD Cert.KMlpUpIdeal.τ).loc Cert.KMlpUpIdeal.main_arg1))
      ∧ θ_run (Cert.RMlpUpIdeal.defs (F := Ideal)) (onTc (τ := Cert.RMlpUpIdeal.τ) (Cert.RMlpUpIdeal.main (F := Ideal))) ⟨m', fun _ => 0, g'⟩ (fun r => ∀ c : Dev Cert.RMlpUpIdeal.nD,
          r.2.mem ((c.tc : Thread Cert.RMlpUpIdeal.nD Cert.RMlpUpIdeal.τ).loc Cert.RMlpUpIdeal.main_v12) = v0 c
          ∧ r.2.mem ((c.tc : Thread Cert.RMlpUpIdeal.nD Cert.RMlpUpIdeal.τ).loc Cert.RMlpUpIdeal.main_v15) = v1 c
          ∧ r.2.mem ((c.tc : Thread Cert.RMlpUpIdeal.nD Cert.RMlpUpIdeal.τ).loc Cert.RMlpUpIdeal.main_arg0) = m' ((c.tc : Thread Cert.RMlpUpIdeal.nD Cert.RMlpUpIdeal.τ).loc Cert.RMlpUpIdeal.main_arg0)
          ∧ r.2.mem ((c.tc : Thread Cert.RMlpUpIdeal.nD Cert.RMlpUpIdeal.τ).loc Cert.RMlpUpIdeal.main_arg1) = m' ((c.tc : Thread Cert.RMlpUpIdeal.nD Cert.RMlpUpIdeal.τ).loc Cert.RMlpUpIdeal.main_arg1))

def preserves_KDwOut_KDwOutIdeal : Prop :=
  True

def algebraic_KDwOutIdeal_RDwOutIdeal [hKDwOutIdeal : Cert.KDwOutIdeal.Facts] [hRDwOutIdeal : Cert.RDwOutIdeal.Facts] : Prop :=
  ∀ (m : (ℓ : Loc Cert.KDwOutIdeal.nD Cert.KDwOutIdeal.τ Cert.KDwOutIdeal.sig) → Buf (Elt Ideal) ℓ) (g : Dev Cert.KDwOutIdeal.nD → PrngReg)
    (m' : (ℓ : Loc Cert.RDwOutIdeal.nD Cert.RDwOutIdeal.τ Cert.RDwOutIdeal.sig) → Buf (Elt Ideal) ℓ) (g' : Dev Cert.RDwOutIdeal.nD → PrngReg), Pre_KDwOutIdeal m →
    (∀ c : Dev Cert.KDwOutIdeal.nD,
      m' ((c.tc : Thread Cert.RDwOutIdeal.nD Cert.RDwOutIdeal.τ).loc Cert.RDwOutIdeal.main_arg0) = m ((c.tc : Thread Cert.KDwOutIdeal.nD Cert.KDwOutIdeal.τ).loc Cert.KDwOutIdeal.main_arg0)
      ∧ m' ((c.tc : Thread Cert.RDwOutIdeal.nD Cert.RDwOutIdeal.τ).loc Cert.RDwOutIdeal.main_arg1) = m ((c.tc : Thread Cert.KDwOutIdeal.nD Cert.KDwOutIdeal.τ).loc Cert.KDwOutIdeal.main_arg1)) →
    ∃ (v0 : (c : Dev Cert.KDwOutIdeal.nD) → Buf (Elt Ideal) ((c.tc : Thread Cert.KDwOutIdeal.nD Cert.KDwOutIdeal.τ).loc Cert.KDwOutIdeal.main_v0)),
      θ_run (Cert.KDwOutIdeal.defs (F := Ideal)) (onTc (τ := Cert.KDwOutIdeal.τ) (Cert.KDwOutIdeal.main (F := Ideal))) ⟨m, fun _ => 0, g⟩ (fun r => ∀ c : Dev Cert.KDwOutIdeal.nD,
          r.2.mem ((c.tc : Thread Cert.KDwOutIdeal.nD Cert.KDwOutIdeal.τ).loc Cert.KDwOutIdeal.main_v0) = v0 c
          ∧ r.2.mem ((c.tc : Thread Cert.KDwOutIdeal.nD Cert.KDwOutIdeal.τ).loc Cert.KDwOutIdeal.main_arg0) = m ((c.tc : Thread Cert.KDwOutIdeal.nD Cert.KDwOutIdeal.τ).loc Cert.KDwOutIdeal.main_arg0)
          ∧ r.2.mem ((c.tc : Thread Cert.KDwOutIdeal.nD Cert.KDwOutIdeal.τ).loc Cert.KDwOutIdeal.main_arg1) = m ((c.tc : Thread Cert.KDwOutIdeal.nD Cert.KDwOutIdeal.τ).loc Cert.KDwOutIdeal.main_arg1))
      ∧ θ_run (Cert.RDwOutIdeal.defs (F := Ideal)) (onTc (τ := Cert.RDwOutIdeal.τ) (Cert.RDwOutIdeal.main (F := Ideal))) ⟨m', fun _ => 0, g'⟩ (fun r => ∀ c : Dev Cert.RDwOutIdeal.nD,
          r.2.mem ((c.tc : Thread Cert.RDwOutIdeal.nD Cert.RDwOutIdeal.τ).loc Cert.RDwOutIdeal.main_v4) = v0 c
          ∧ r.2.mem ((c.tc : Thread Cert.RDwOutIdeal.nD Cert.RDwOutIdeal.τ).loc Cert.RDwOutIdeal.main_arg0) = m' ((c.tc : Thread Cert.RDwOutIdeal.nD Cert.RDwOutIdeal.τ).loc Cert.RDwOutIdeal.main_arg0)
          ∧ r.2.mem ((c.tc : Thread Cert.RDwOutIdeal.nD Cert.RDwOutIdeal.τ).loc Cert.RDwOutIdeal.main_arg1) = m' ((c.tc : Thread Cert.RDwOutIdeal.nD Cert.RDwOutIdeal.τ).loc Cert.RDwOutIdeal.main_arg1))

def preserves_KDwProjSsd_KDwProjSsdIdeal : Prop :=
  True

def algebraic_KDwProjSsdIdeal_RDwProjSsdIdeal [hKDwProjSsdIdeal : Cert.KDwProjSsdIdeal.Facts] [hRDwProjSsdIdeal : Cert.RDwProjSsdIdeal.Facts] : Prop :=
  ∀ (m : (ℓ : Loc Cert.KDwProjSsdIdeal.nD Cert.KDwProjSsdIdeal.τ Cert.KDwProjSsdIdeal.sig) → Buf (Elt Ideal) ℓ) (g : Dev Cert.KDwProjSsdIdeal.nD → PrngReg)
    (m' : (ℓ : Loc Cert.RDwProjSsdIdeal.nD Cert.RDwProjSsdIdeal.τ Cert.RDwProjSsdIdeal.sig) → Buf (Elt Ideal) ℓ) (g' : Dev Cert.RDwProjSsdIdeal.nD → PrngReg), Pre_KDwProjSsdIdeal m →
    (∀ c : Dev Cert.KDwProjSsdIdeal.nD,
      m' ((c.tc : Thread Cert.RDwProjSsdIdeal.nD Cert.RDwProjSsdIdeal.τ).loc Cert.RDwProjSsdIdeal.main_arg0) = m ((c.tc : Thread Cert.KDwProjSsdIdeal.nD Cert.KDwProjSsdIdeal.τ).loc Cert.KDwProjSsdIdeal.main_arg0)
      ∧ m' ((c.tc : Thread Cert.RDwProjSsdIdeal.nD Cert.RDwProjSsdIdeal.τ).loc Cert.RDwProjSsdIdeal.main_arg1) = m ((c.tc : Thread Cert.KDwProjSsdIdeal.nD Cert.KDwProjSsdIdeal.τ).loc Cert.KDwProjSsdIdeal.main_arg1)) →
    ∃ (v0 : (c : Dev Cert.KDwProjSsdIdeal.nD) → Buf (Elt Ideal) ((c.tc : Thread Cert.KDwProjSsdIdeal.nD Cert.KDwProjSsdIdeal.τ).loc Cert.KDwProjSsdIdeal.main_v0)),
      θ_run (Cert.KDwProjSsdIdeal.defs (F := Ideal)) (onTc (τ := Cert.KDwProjSsdIdeal.τ) (Cert.KDwProjSsdIdeal.main (F := Ideal))) ⟨m, fun _ => 0, g⟩ (fun r => ∀ c : Dev Cert.KDwProjSsdIdeal.nD,
          r.2.mem ((c.tc : Thread Cert.KDwProjSsdIdeal.nD Cert.KDwProjSsdIdeal.τ).loc Cert.KDwProjSsdIdeal.main_v0) = v0 c
          ∧ r.2.mem ((c.tc : Thread Cert.KDwProjSsdIdeal.nD Cert.KDwProjSsdIdeal.τ).loc Cert.KDwProjSsdIdeal.main_arg0) = m ((c.tc : Thread Cert.KDwProjSsdIdeal.nD Cert.KDwProjSsdIdeal.τ).loc Cert.KDwProjSsdIdeal.main_arg0)
          ∧ r.2.mem ((c.tc : Thread Cert.KDwProjSsdIdeal.nD Cert.KDwProjSsdIdeal.τ).loc Cert.KDwProjSsdIdeal.main_arg1) = m ((c.tc : Thread Cert.KDwProjSsdIdeal.nD Cert.KDwProjSsdIdeal.τ).loc Cert.KDwProjSsdIdeal.main_arg1))
      ∧ θ_run (Cert.RDwProjSsdIdeal.defs (F := Ideal)) (onTc (τ := Cert.RDwProjSsdIdeal.τ) (Cert.RDwProjSsdIdeal.main (F := Ideal))) ⟨m', fun _ => 0, g'⟩ (fun r => ∀ c : Dev Cert.RDwProjSsdIdeal.nD,
          r.2.mem ((c.tc : Thread Cert.RDwProjSsdIdeal.nD Cert.RDwProjSsdIdeal.τ).loc Cert.RDwProjSsdIdeal.main_v5) = v0 c
          ∧ r.2.mem ((c.tc : Thread Cert.RDwProjSsdIdeal.nD Cert.RDwProjSsdIdeal.τ).loc Cert.RDwProjSsdIdeal.main_arg0) = m' ((c.tc : Thread Cert.RDwProjSsdIdeal.nD Cert.RDwProjSsdIdeal.τ).loc Cert.RDwProjSsdIdeal.main_arg0)
          ∧ r.2.mem ((c.tc : Thread Cert.RDwProjSsdIdeal.nD Cert.RDwProjSsdIdeal.τ).loc Cert.RDwProjSsdIdeal.main_arg1) = m' ((c.tc : Thread Cert.RDwProjSsdIdeal.nD Cert.RDwProjSsdIdeal.τ).loc Cert.RDwProjSsdIdeal.main_arg1))

def preserves_KDwProjAttn_KDwProjAttnIdeal : Prop :=
  True

def algebraic_KDwProjAttnIdeal_RDwProjAttnIdeal [hKDwProjAttnIdeal : Cert.KDwProjAttnIdeal.Facts] [hRDwProjAttnIdeal : Cert.RDwProjAttnIdeal.Facts] : Prop :=
  ∀ (m : (ℓ : Loc Cert.KDwProjAttnIdeal.nD Cert.KDwProjAttnIdeal.τ Cert.KDwProjAttnIdeal.sig) → Buf (Elt Ideal) ℓ) (g : Dev Cert.KDwProjAttnIdeal.nD → PrngReg)
    (m' : (ℓ : Loc Cert.RDwProjAttnIdeal.nD Cert.RDwProjAttnIdeal.τ Cert.RDwProjAttnIdeal.sig) → Buf (Elt Ideal) ℓ) (g' : Dev Cert.RDwProjAttnIdeal.nD → PrngReg), Pre_KDwProjAttnIdeal m →
    (∀ c : Dev Cert.KDwProjAttnIdeal.nD,
      m' ((c.tc : Thread Cert.RDwProjAttnIdeal.nD Cert.RDwProjAttnIdeal.τ).loc Cert.RDwProjAttnIdeal.main_arg0) = m ((c.tc : Thread Cert.KDwProjAttnIdeal.nD Cert.KDwProjAttnIdeal.τ).loc Cert.KDwProjAttnIdeal.main_arg0)
      ∧ m' ((c.tc : Thread Cert.RDwProjAttnIdeal.nD Cert.RDwProjAttnIdeal.τ).loc Cert.RDwProjAttnIdeal.main_arg1) = m ((c.tc : Thread Cert.KDwProjAttnIdeal.nD Cert.KDwProjAttnIdeal.τ).loc Cert.KDwProjAttnIdeal.main_arg1)) →
    ∃ (v0 : (c : Dev Cert.KDwProjAttnIdeal.nD) → Buf (Elt Ideal) ((c.tc : Thread Cert.KDwProjAttnIdeal.nD Cert.KDwProjAttnIdeal.τ).loc Cert.KDwProjAttnIdeal.main_v0)),
      θ_run (Cert.KDwProjAttnIdeal.defs (F := Ideal)) (onTc (τ := Cert.KDwProjAttnIdeal.τ) (Cert.KDwProjAttnIdeal.main (F := Ideal))) ⟨m, fun _ => 0, g⟩ (fun r => ∀ c : Dev Cert.KDwProjAttnIdeal.nD,
          r.2.mem ((c.tc : Thread Cert.KDwProjAttnIdeal.nD Cert.KDwProjAttnIdeal.τ).loc Cert.KDwProjAttnIdeal.main_v0) = v0 c
          ∧ r.2.mem ((c.tc : Thread Cert.KDwProjAttnIdeal.nD Cert.KDwProjAttnIdeal.τ).loc Cert.KDwProjAttnIdeal.main_arg0) = m ((c.tc : Thread Cert.KDwProjAttnIdeal.nD Cert.KDwProjAttnIdeal.τ).loc Cert.KDwProjAttnIdeal.main_arg0)
          ∧ r.2.mem ((c.tc : Thread Cert.KDwProjAttnIdeal.nD Cert.KDwProjAttnIdeal.τ).loc Cert.KDwProjAttnIdeal.main_arg1) = m ((c.tc : Thread Cert.KDwProjAttnIdeal.nD Cert.KDwProjAttnIdeal.τ).loc Cert.KDwProjAttnIdeal.main_arg1))
      ∧ θ_run (Cert.RDwProjAttnIdeal.defs (F := Ideal)) (onTc (τ := Cert.RDwProjAttnIdeal.τ) (Cert.RDwProjAttnIdeal.main (F := Ideal))) ⟨m', fun _ => 0, g'⟩ (fun r => ∀ c : Dev Cert.RDwProjAttnIdeal.nD,
          r.2.mem ((c.tc : Thread Cert.RDwProjAttnIdeal.nD Cert.RDwProjAttnIdeal.τ).loc Cert.RDwProjAttnIdeal.main_v28) = v0 c
          ∧ r.2.mem ((c.tc : Thread Cert.RDwProjAttnIdeal.nD Cert.RDwProjAttnIdeal.τ).loc Cert.RDwProjAttnIdeal.main_arg0) = m' ((c.tc : Thread Cert.RDwProjAttnIdeal.nD Cert.RDwProjAttnIdeal.τ).loc Cert.RDwProjAttnIdeal.main_arg0)
          ∧ r.2.mem ((c.tc : Thread Cert.RDwProjAttnIdeal.nD Cert.RDwProjAttnIdeal.τ).loc Cert.RDwProjAttnIdeal.main_arg1) = m' ((c.tc : Thread Cert.RDwProjAttnIdeal.nD Cert.RDwProjAttnIdeal.τ).loc Cert.RDwProjAttnIdeal.main_arg1))

def preserves_KGatenorm_KGatenormIdeal : Prop :=
  True

def algebraic_KGatenormIdeal_RGatenormIdeal [hKGatenormIdeal : Cert.KGatenormIdeal.Facts] [hRGatenormIdeal : Cert.RGatenormIdeal.Facts] : Prop :=
  ∀ (m : (ℓ : Loc Cert.KGatenormIdeal.nD Cert.KGatenormIdeal.τ Cert.KGatenormIdeal.sig) → Buf (Elt Ideal) ℓ) (g : Dev Cert.KGatenormIdeal.nD → PrngReg)
    (m' : (ℓ : Loc Cert.RGatenormIdeal.nD Cert.RGatenormIdeal.τ Cert.RGatenormIdeal.sig) → Buf (Elt Ideal) ℓ) (g' : Dev Cert.RGatenormIdeal.nD → PrngReg), Pre_KGatenormIdeal m →
    (∀ c : Dev Cert.KGatenormIdeal.nD,
      m' ((c.tc : Thread Cert.RGatenormIdeal.nD Cert.RGatenormIdeal.τ).loc Cert.RGatenormIdeal.main_arg0) = m ((c.tc : Thread Cert.KGatenormIdeal.nD Cert.KGatenormIdeal.τ).loc Cert.KGatenormIdeal.main_arg0)
      ∧ m' ((c.tc : Thread Cert.RGatenormIdeal.nD Cert.RGatenormIdeal.τ).loc Cert.RGatenormIdeal.main_arg1) = m ((c.tc : Thread Cert.KGatenormIdeal.nD Cert.KGatenormIdeal.τ).loc Cert.KGatenormIdeal.main_arg1)
      ∧ m' ((c.tc : Thread Cert.RGatenormIdeal.nD Cert.RGatenormIdeal.τ).loc Cert.RGatenormIdeal.main_arg2) = m ((c.tc : Thread Cert.KGatenormIdeal.nD Cert.KGatenormIdeal.τ).loc Cert.KGatenormIdeal.main_arg2)
      ∧ m' ((c.tc : Thread Cert.RGatenormIdeal.nD Cert.RGatenormIdeal.τ).loc Cert.RGatenormIdeal.main_arg3) = m ((c.tc : Thread Cert.KGatenormIdeal.nD Cert.KGatenormIdeal.τ).loc Cert.KGatenormIdeal.main_arg3)
      ∧ m' ((c.tc : Thread Cert.RGatenormIdeal.nD Cert.RGatenormIdeal.τ).loc Cert.RGatenormIdeal.main_arg4) = m ((c.tc : Thread Cert.KGatenormIdeal.nD Cert.KGatenormIdeal.τ).loc Cert.KGatenormIdeal.main_arg4)
      ∧ m' ((c.tc : Thread Cert.RGatenormIdeal.nD Cert.RGatenormIdeal.τ).loc Cert.RGatenormIdeal.main_arg5) = m ((c.tc : Thread Cert.KGatenormIdeal.nD Cert.KGatenormIdeal.τ).loc Cert.KGatenormIdeal.main_arg5)) →
    ∃ (v0 : (c : Dev Cert.KGatenormIdeal.nD) → Buf (Elt Ideal) ((c.tc : Thread Cert.KGatenormIdeal.nD Cert.KGatenormIdeal.τ).loc Cert.KGatenormIdeal.main_v4_0)) (v1 : (c : Dev Cert.KGatenormIdeal.nD) → Buf (Elt Ideal) ((c.tc : Thread Cert.KGatenormIdeal.nD Cert.KGatenormIdeal.τ).loc Cert.KGatenormIdeal.main_v4_1)),
      θ_run (Cert.KGatenormIdeal.defs (F := Ideal)) (onTc (τ := Cert.KGatenormIdeal.τ) (Cert.KGatenormIdeal.main (F := Ideal))) ⟨m, fun _ => 0, g⟩ (fun r => ∀ c : Dev Cert.KGatenormIdeal.nD,
          r.2.mem ((c.tc : Thread Cert.KGatenormIdeal.nD Cert.KGatenormIdeal.τ).loc Cert.KGatenormIdeal.main_v4_0) = v0 c
          ∧ r.2.mem ((c.tc : Thread Cert.KGatenormIdeal.nD Cert.KGatenormIdeal.τ).loc Cert.KGatenormIdeal.main_v4_1) = v1 c
          ∧ r.2.mem ((c.tc : Thread Cert.KGatenormIdeal.nD Cert.KGatenormIdeal.τ).loc Cert.KGatenormIdeal.main_arg0) = m ((c.tc : Thread Cert.KGatenormIdeal.nD Cert.KGatenormIdeal.τ).loc Cert.KGatenormIdeal.main_arg0)
          ∧ r.2.mem ((c.tc : Thread Cert.KGatenormIdeal.nD Cert.KGatenormIdeal.τ).loc Cert.KGatenormIdeal.main_arg1) = m ((c.tc : Thread Cert.KGatenormIdeal.nD Cert.KGatenormIdeal.τ).loc Cert.KGatenormIdeal.main_arg1)
          ∧ r.2.mem ((c.tc : Thread Cert.KGatenormIdeal.nD Cert.KGatenormIdeal.τ).loc Cert.KGatenormIdeal.main_arg2) = m ((c.tc : Thread Cert.KGatenormIdeal.nD Cert.KGatenormIdeal.τ).loc Cert.KGatenormIdeal.main_arg2)
          ∧ r.2.mem ((c.tc : Thread Cert.KGatenormIdeal.nD Cert.KGatenormIdeal.τ).loc Cert.KGatenormIdeal.main_arg3) = m ((c.tc : Thread Cert.KGatenormIdeal.nD Cert.KGatenormIdeal.τ).loc Cert.KGatenormIdeal.main_arg3)
          ∧ r.2.mem ((c.tc : Thread Cert.KGatenormIdeal.nD Cert.KGatenormIdeal.τ).loc Cert.KGatenormIdeal.main_arg4) = m ((c.tc : Thread Cert.KGatenormIdeal.nD Cert.KGatenormIdeal.τ).loc Cert.KGatenormIdeal.main_arg4)
          ∧ r.2.mem ((c.tc : Thread Cert.KGatenormIdeal.nD Cert.KGatenormIdeal.τ).loc Cert.KGatenormIdeal.main_arg5) = m ((c.tc : Thread Cert.KGatenormIdeal.nD Cert.KGatenormIdeal.τ).loc Cert.KGatenormIdeal.main_arg5))
      ∧ θ_run (Cert.RGatenormIdeal.defs (F := Ideal)) (onTc (τ := Cert.RGatenormIdeal.τ) (Cert.RGatenormIdeal.main (F := Ideal))) ⟨m', fun _ => 0, g'⟩ (fun r => ∀ c : Dev Cert.RGatenormIdeal.nD,
          r.2.mem ((c.tc : Thread Cert.RGatenormIdeal.nD Cert.RGatenormIdeal.τ).loc Cert.RGatenormIdeal.main_v27) = v0 c
          ∧ r.2.mem ((c.tc : Thread Cert.RGatenormIdeal.nD Cert.RGatenormIdeal.τ).loc Cert.RGatenormIdeal.main_v29) = v1 c
          ∧ r.2.mem ((c.tc : Thread Cert.RGatenormIdeal.nD Cert.RGatenormIdeal.τ).loc Cert.RGatenormIdeal.main_arg0) = m' ((c.tc : Thread Cert.RGatenormIdeal.nD Cert.RGatenormIdeal.τ).loc Cert.RGatenormIdeal.main_arg0)
          ∧ r.2.mem ((c.tc : Thread Cert.RGatenormIdeal.nD Cert.RGatenormIdeal.τ).loc Cert.RGatenormIdeal.main_arg1) = m' ((c.tc : Thread Cert.RGatenormIdeal.nD Cert.RGatenormIdeal.τ).loc Cert.RGatenormIdeal.main_arg1)
          ∧ r.2.mem ((c.tc : Thread Cert.RGatenormIdeal.nD Cert.RGatenormIdeal.τ).loc Cert.RGatenormIdeal.main_arg2) = m' ((c.tc : Thread Cert.RGatenormIdeal.nD Cert.RGatenormIdeal.τ).loc Cert.RGatenormIdeal.main_arg2)
          ∧ r.2.mem ((c.tc : Thread Cert.RGatenormIdeal.nD Cert.RGatenormIdeal.τ).loc Cert.RGatenormIdeal.main_arg3) = m' ((c.tc : Thread Cert.RGatenormIdeal.nD Cert.RGatenormIdeal.τ).loc Cert.RGatenormIdeal.main_arg3)
          ∧ r.2.mem ((c.tc : Thread Cert.RGatenormIdeal.nD Cert.RGatenormIdeal.τ).loc Cert.RGatenormIdeal.main_arg4) = m' ((c.tc : Thread Cert.RGatenormIdeal.nD Cert.RGatenormIdeal.τ).loc Cert.RGatenormIdeal.main_arg4)
          ∧ r.2.mem ((c.tc : Thread Cert.RGatenormIdeal.nD Cert.RGatenormIdeal.τ).loc Cert.RGatenormIdeal.main_arg5) = m' ((c.tc : Thread Cert.RGatenormIdeal.nD Cert.RGatenormIdeal.τ).loc Cert.RGatenormIdeal.main_arg5))

def preserves_KMixOut_KMixOutIdeal : Prop :=
  True

def algebraic_KMixOutIdeal_RMixOutIdeal_pre_finite_mix_out [hKMixOutIdeal : Cert.KMixOutIdeal.Facts] [hRMixOutIdeal : Cert.RMixOutIdeal.Facts] [hPre_finite_mix_out : Cert.Pre_finite_mix_out.Facts] : Prop :=
  ∀ (m : (ℓ : Loc Cert.KMixOutIdeal.nD Cert.KMixOutIdeal.τ Cert.KMixOutIdeal.sig) → Buf (Elt Ideal) ℓ) (g : Dev Cert.KMixOutIdeal.nD → PrngReg)
    (m' : (ℓ : Loc Cert.RMixOutIdeal.nD Cert.RMixOutIdeal.τ Cert.RMixOutIdeal.sig) → Buf (Elt Ideal) ℓ) (g' : Dev Cert.RMixOutIdeal.nD → PrngReg), Pre_KMixOutIdeal_finite_mix_out m →
    (∀ c : Dev Cert.KMixOutIdeal.nD,
      m' ((c.tc : Thread Cert.RMixOutIdeal.nD Cert.RMixOutIdeal.τ).loc Cert.RMixOutIdeal.main_arg0) = m ((c.tc : Thread Cert.KMixOutIdeal.nD Cert.KMixOutIdeal.τ).loc Cert.KMixOutIdeal.main_arg0)
      ∧ m' ((c.tc : Thread Cert.RMixOutIdeal.nD Cert.RMixOutIdeal.τ).loc Cert.RMixOutIdeal.main_arg1) = m ((c.tc : Thread Cert.KMixOutIdeal.nD Cert.KMixOutIdeal.τ).loc Cert.KMixOutIdeal.main_arg1)
      ∧ m' ((c.tc : Thread Cert.RMixOutIdeal.nD Cert.RMixOutIdeal.τ).loc Cert.RMixOutIdeal.main_arg2) = m ((c.tc : Thread Cert.KMixOutIdeal.nD Cert.KMixOutIdeal.τ).loc Cert.KMixOutIdeal.main_arg2)
      ∧ m' ((c.tc : Thread Cert.RMixOutIdeal.nD Cert.RMixOutIdeal.τ).loc Cert.RMixOutIdeal.main_arg3) = m ((c.tc : Thread Cert.KMixOutIdeal.nD Cert.KMixOutIdeal.τ).loc Cert.KMixOutIdeal.main_arg3)
      ∧ m' ((c.tc : Thread Cert.RMixOutIdeal.nD Cert.RMixOutIdeal.τ).loc Cert.RMixOutIdeal.main_arg4) = m ((c.tc : Thread Cert.KMixOutIdeal.nD Cert.KMixOutIdeal.τ).loc Cert.KMixOutIdeal.main_arg4)
      ∧ m' ((c.tc : Thread Cert.RMixOutIdeal.nD Cert.RMixOutIdeal.τ).loc Cert.RMixOutIdeal.main_arg5) = m ((c.tc : Thread Cert.KMixOutIdeal.nD Cert.KMixOutIdeal.τ).loc Cert.KMixOutIdeal.main_arg5)
      ∧ m' ((c.tc : Thread Cert.RMixOutIdeal.nD Cert.RMixOutIdeal.τ).loc Cert.RMixOutIdeal.main_arg6) = m ((c.tc : Thread Cert.KMixOutIdeal.nD Cert.KMixOutIdeal.τ).loc Cert.KMixOutIdeal.main_arg6)
      ∧ m' ((c.tc : Thread Cert.RMixOutIdeal.nD Cert.RMixOutIdeal.τ).loc Cert.RMixOutIdeal.main_arg7) = m ((c.tc : Thread Cert.KMixOutIdeal.nD Cert.KMixOutIdeal.τ).loc Cert.KMixOutIdeal.main_arg7)
      ∧ m' ((c.tc : Thread Cert.RMixOutIdeal.nD Cert.RMixOutIdeal.τ).loc Cert.RMixOutIdeal.main_arg8) = m ((c.tc : Thread Cert.KMixOutIdeal.nD Cert.KMixOutIdeal.τ).loc Cert.KMixOutIdeal.main_arg8)
      ∧ m' ((c.tc : Thread Cert.RMixOutIdeal.nD Cert.RMixOutIdeal.τ).loc Cert.RMixOutIdeal.main_arg9) = m ((c.tc : Thread Cert.KMixOutIdeal.nD Cert.KMixOutIdeal.τ).loc Cert.KMixOutIdeal.main_arg9)
      ∧ m' ((c.tc : Thread Cert.RMixOutIdeal.nD Cert.RMixOutIdeal.τ).loc Cert.RMixOutIdeal.main_arg10) = m ((c.tc : Thread Cert.KMixOutIdeal.nD Cert.KMixOutIdeal.τ).loc Cert.KMixOutIdeal.main_arg10)
      ∧ m' ((c.tc : Thread Cert.RMixOutIdeal.nD Cert.RMixOutIdeal.τ).loc Cert.RMixOutIdeal.main_arg11) = m ((c.tc : Thread Cert.KMixOutIdeal.nD Cert.KMixOutIdeal.τ).loc Cert.KMixOutIdeal.main_arg11)
      ∧ m' ((c.tc : Thread Cert.RMixOutIdeal.nD Cert.RMixOutIdeal.τ).loc Cert.RMixOutIdeal.main_arg12) = m ((c.tc : Thread Cert.KMixOutIdeal.nD Cert.KMixOutIdeal.τ).loc Cert.KMixOutIdeal.main_arg12)
      ∧ m' ((c.tc : Thread Cert.RMixOutIdeal.nD Cert.RMixOutIdeal.τ).loc Cert.RMixOutIdeal.main_arg13) = m ((c.tc : Thread Cert.KMixOutIdeal.nD Cert.KMixOutIdeal.τ).loc Cert.KMixOutIdeal.main_arg13)) →
    ∃ (v0 : (c : Dev Cert.KMixOutIdeal.nD) → Buf (Elt Ideal) ((c.tc : Thread Cert.KMixOutIdeal.nD Cert.KMixOutIdeal.τ).loc Cert.KMixOutIdeal.main_v15_0)) (v1 : (c : Dev Cert.KMixOutIdeal.nD) → Buf (Elt Ideal) ((c.tc : Thread Cert.KMixOutIdeal.nD Cert.KMixOutIdeal.τ).loc Cert.KMixOutIdeal.main_v15_1)) (v2 : (c : Dev Cert.KMixOutIdeal.nD) → Buf (Elt Ideal) ((c.tc : Thread Cert.KMixOutIdeal.nD Cert.KMixOutIdeal.τ).loc Cert.KMixOutIdeal.main_v15_2)) (v3 : (c : Dev Cert.KMixOutIdeal.nD) → Buf (Elt Ideal) ((c.tc : Thread Cert.KMixOutIdeal.nD Cert.KMixOutIdeal.τ).loc Cert.KMixOutIdeal.main_v15_3)),
      θ_run (Cert.KMixOutIdeal.defs (F := Ideal)) (onTc (τ := Cert.KMixOutIdeal.τ) (Cert.KMixOutIdeal.main (F := Ideal))) ⟨m, fun _ => 0, g⟩ (fun r => ∀ c : Dev Cert.KMixOutIdeal.nD,
          r.2.mem ((c.tc : Thread Cert.KMixOutIdeal.nD Cert.KMixOutIdeal.τ).loc Cert.KMixOutIdeal.main_v15_0) = v0 c
          ∧ r.2.mem ((c.tc : Thread Cert.KMixOutIdeal.nD Cert.KMixOutIdeal.τ).loc Cert.KMixOutIdeal.main_v15_1) = v1 c
          ∧ r.2.mem ((c.tc : Thread Cert.KMixOutIdeal.nD Cert.KMixOutIdeal.τ).loc Cert.KMixOutIdeal.main_v15_2) = v2 c
          ∧ r.2.mem ((c.tc : Thread Cert.KMixOutIdeal.nD Cert.KMixOutIdeal.τ).loc Cert.KMixOutIdeal.main_v15_3) = v3 c
          ∧ r.2.mem ((c.tc : Thread Cert.KMixOutIdeal.nD Cert.KMixOutIdeal.τ).loc Cert.KMixOutIdeal.main_arg0) = m ((c.tc : Thread Cert.KMixOutIdeal.nD Cert.KMixOutIdeal.τ).loc Cert.KMixOutIdeal.main_arg0)
          ∧ r.2.mem ((c.tc : Thread Cert.KMixOutIdeal.nD Cert.KMixOutIdeal.τ).loc Cert.KMixOutIdeal.main_arg1) = m ((c.tc : Thread Cert.KMixOutIdeal.nD Cert.KMixOutIdeal.τ).loc Cert.KMixOutIdeal.main_arg1)
          ∧ r.2.mem ((c.tc : Thread Cert.KMixOutIdeal.nD Cert.KMixOutIdeal.τ).loc Cert.KMixOutIdeal.main_arg2) = m ((c.tc : Thread Cert.KMixOutIdeal.nD Cert.KMixOutIdeal.τ).loc Cert.KMixOutIdeal.main_arg2)
          ∧ r.2.mem ((c.tc : Thread Cert.KMixOutIdeal.nD Cert.KMixOutIdeal.τ).loc Cert.KMixOutIdeal.main_arg3) = m ((c.tc : Thread Cert.KMixOutIdeal.nD Cert.KMixOutIdeal.τ).loc Cert.KMixOutIdeal.main_arg3)
          ∧ r.2.mem ((c.tc : Thread Cert.KMixOutIdeal.nD Cert.KMixOutIdeal.τ).loc Cert.KMixOutIdeal.main_arg4) = m ((c.tc : Thread Cert.KMixOutIdeal.nD Cert.KMixOutIdeal.τ).loc Cert.KMixOutIdeal.main_arg4)
          ∧ r.2.mem ((c.tc : Thread Cert.KMixOutIdeal.nD Cert.KMixOutIdeal.τ).loc Cert.KMixOutIdeal.main_arg5) = m ((c.tc : Thread Cert.KMixOutIdeal.nD Cert.KMixOutIdeal.τ).loc Cert.KMixOutIdeal.main_arg5)
          ∧ r.2.mem ((c.tc : Thread Cert.KMixOutIdeal.nD Cert.KMixOutIdeal.τ).loc Cert.KMixOutIdeal.main_arg6) = m ((c.tc : Thread Cert.KMixOutIdeal.nD Cert.KMixOutIdeal.τ).loc Cert.KMixOutIdeal.main_arg6)
          ∧ r.2.mem ((c.tc : Thread Cert.KMixOutIdeal.nD Cert.KMixOutIdeal.τ).loc Cert.KMixOutIdeal.main_arg7) = m ((c.tc : Thread Cert.KMixOutIdeal.nD Cert.KMixOutIdeal.τ).loc Cert.KMixOutIdeal.main_arg7)
          ∧ r.2.mem ((c.tc : Thread Cert.KMixOutIdeal.nD Cert.KMixOutIdeal.τ).loc Cert.KMixOutIdeal.main_arg8) = m ((c.tc : Thread Cert.KMixOutIdeal.nD Cert.KMixOutIdeal.τ).loc Cert.KMixOutIdeal.main_arg8)
          ∧ r.2.mem ((c.tc : Thread Cert.KMixOutIdeal.nD Cert.KMixOutIdeal.τ).loc Cert.KMixOutIdeal.main_arg9) = m ((c.tc : Thread Cert.KMixOutIdeal.nD Cert.KMixOutIdeal.τ).loc Cert.KMixOutIdeal.main_arg9)
          ∧ r.2.mem ((c.tc : Thread Cert.KMixOutIdeal.nD Cert.KMixOutIdeal.τ).loc Cert.KMixOutIdeal.main_arg10) = m ((c.tc : Thread Cert.KMixOutIdeal.nD Cert.KMixOutIdeal.τ).loc Cert.KMixOutIdeal.main_arg10)
          ∧ r.2.mem ((c.tc : Thread Cert.KMixOutIdeal.nD Cert.KMixOutIdeal.τ).loc Cert.KMixOutIdeal.main_arg11) = m ((c.tc : Thread Cert.KMixOutIdeal.nD Cert.KMixOutIdeal.τ).loc Cert.KMixOutIdeal.main_arg11)
          ∧ r.2.mem ((c.tc : Thread Cert.KMixOutIdeal.nD Cert.KMixOutIdeal.τ).loc Cert.KMixOutIdeal.main_arg12) = m ((c.tc : Thread Cert.KMixOutIdeal.nD Cert.KMixOutIdeal.τ).loc Cert.KMixOutIdeal.main_arg12)
          ∧ r.2.mem ((c.tc : Thread Cert.KMixOutIdeal.nD Cert.KMixOutIdeal.τ).loc Cert.KMixOutIdeal.main_arg13) = m ((c.tc : Thread Cert.KMixOutIdeal.nD Cert.KMixOutIdeal.τ).loc Cert.KMixOutIdeal.main_arg13))
      ∧ θ_run (Cert.RMixOutIdeal.defs (F := Ideal)) (onTc (τ := Cert.RMixOutIdeal.τ) (Cert.RMixOutIdeal.main (F := Ideal))) ⟨m', fun _ => 0, g'⟩ (fun r => ∀ c : Dev Cert.RMixOutIdeal.nD,
          r.2.mem ((c.tc : Thread Cert.RMixOutIdeal.nD Cert.RMixOutIdeal.τ).loc Cert.RMixOutIdeal.main_v23) = v0 c
          ∧ r.2.mem ((c.tc : Thread Cert.RMixOutIdeal.nD Cert.RMixOutIdeal.τ).loc Cert.RMixOutIdeal.main_v58) = v1 c
          ∧ r.2.mem ((c.tc : Thread Cert.RMixOutIdeal.nD Cert.RMixOutIdeal.τ).loc Cert.RMixOutIdeal.main_v57) = v2 c
          ∧ r.2.mem ((c.tc : Thread Cert.RMixOutIdeal.nD Cert.RMixOutIdeal.τ).loc Cert.RMixOutIdeal.main_v83) = v3 c
          ∧ r.2.mem ((c.tc : Thread Cert.RMixOutIdeal.nD Cert.RMixOutIdeal.τ).loc Cert.RMixOutIdeal.main_arg0) = m' ((c.tc : Thread Cert.RMixOutIdeal.nD Cert.RMixOutIdeal.τ).loc Cert.RMixOutIdeal.main_arg0)
          ∧ r.2.mem ((c.tc : Thread Cert.RMixOutIdeal.nD Cert.RMixOutIdeal.τ).loc Cert.RMixOutIdeal.main_arg1) = m' ((c.tc : Thread Cert.RMixOutIdeal.nD Cert.RMixOutIdeal.τ).loc Cert.RMixOutIdeal.main_arg1)
          ∧ r.2.mem ((c.tc : Thread Cert.RMixOutIdeal.nD Cert.RMixOutIdeal.τ).loc Cert.RMixOutIdeal.main_arg2) = m' ((c.tc : Thread Cert.RMixOutIdeal.nD Cert.RMixOutIdeal.τ).loc Cert.RMixOutIdeal.main_arg2)
          ∧ r.2.mem ((c.tc : Thread Cert.RMixOutIdeal.nD Cert.RMixOutIdeal.τ).loc Cert.RMixOutIdeal.main_arg3) = m' ((c.tc : Thread Cert.RMixOutIdeal.nD Cert.RMixOutIdeal.τ).loc Cert.RMixOutIdeal.main_arg3)
          ∧ r.2.mem ((c.tc : Thread Cert.RMixOutIdeal.nD Cert.RMixOutIdeal.τ).loc Cert.RMixOutIdeal.main_arg4) = m' ((c.tc : Thread Cert.RMixOutIdeal.nD Cert.RMixOutIdeal.τ).loc Cert.RMixOutIdeal.main_arg4)
          ∧ r.2.mem ((c.tc : Thread Cert.RMixOutIdeal.nD Cert.RMixOutIdeal.τ).loc Cert.RMixOutIdeal.main_arg5) = m' ((c.tc : Thread Cert.RMixOutIdeal.nD Cert.RMixOutIdeal.τ).loc Cert.RMixOutIdeal.main_arg5)
          ∧ r.2.mem ((c.tc : Thread Cert.RMixOutIdeal.nD Cert.RMixOutIdeal.τ).loc Cert.RMixOutIdeal.main_arg6) = m' ((c.tc : Thread Cert.RMixOutIdeal.nD Cert.RMixOutIdeal.τ).loc Cert.RMixOutIdeal.main_arg6)
          ∧ r.2.mem ((c.tc : Thread Cert.RMixOutIdeal.nD Cert.RMixOutIdeal.τ).loc Cert.RMixOutIdeal.main_arg7) = m' ((c.tc : Thread Cert.RMixOutIdeal.nD Cert.RMixOutIdeal.τ).loc Cert.RMixOutIdeal.main_arg7)
          ∧ r.2.mem ((c.tc : Thread Cert.RMixOutIdeal.nD Cert.RMixOutIdeal.τ).loc Cert.RMixOutIdeal.main_arg8) = m' ((c.tc : Thread Cert.RMixOutIdeal.nD Cert.RMixOutIdeal.τ).loc Cert.RMixOutIdeal.main_arg8)
          ∧ r.2.mem ((c.tc : Thread Cert.RMixOutIdeal.nD Cert.RMixOutIdeal.τ).loc Cert.RMixOutIdeal.main_arg9) = m' ((c.tc : Thread Cert.RMixOutIdeal.nD Cert.RMixOutIdeal.τ).loc Cert.RMixOutIdeal.main_arg9)
          ∧ r.2.mem ((c.tc : Thread Cert.RMixOutIdeal.nD Cert.RMixOutIdeal.τ).loc Cert.RMixOutIdeal.main_arg10) = m' ((c.tc : Thread Cert.RMixOutIdeal.nD Cert.RMixOutIdeal.τ).loc Cert.RMixOutIdeal.main_arg10)
          ∧ r.2.mem ((c.tc : Thread Cert.RMixOutIdeal.nD Cert.RMixOutIdeal.τ).loc Cert.RMixOutIdeal.main_arg11) = m' ((c.tc : Thread Cert.RMixOutIdeal.nD Cert.RMixOutIdeal.τ).loc Cert.RMixOutIdeal.main_arg11)
          ∧ r.2.mem ((c.tc : Thread Cert.RMixOutIdeal.nD Cert.RMixOutIdeal.τ).loc Cert.RMixOutIdeal.main_arg12) = m' ((c.tc : Thread Cert.RMixOutIdeal.nD Cert.RMixOutIdeal.τ).loc Cert.RMixOutIdeal.main_arg12)
          ∧ r.2.mem ((c.tc : Thread Cert.RMixOutIdeal.nD Cert.RMixOutIdeal.τ).loc Cert.RMixOutIdeal.main_arg13) = m' ((c.tc : Thread Cert.RMixOutIdeal.nD Cert.RMixOutIdeal.τ).loc Cert.RMixOutIdeal.main_arg13))

def Claim : Prop :=
  ∃ (hKernel : Cert.Kernel.Facts) (hKernelIdeal : Cert.KernelIdeal.Facts) (hReferenceIdeal : Cert.ReferenceIdeal.Facts) (hKDwIn : Cert.KDwIn.Facts) (hKDwInIdeal : Cert.KDwInIdeal.Facts) (hRDwInIdeal : Cert.RDwInIdeal.Facts) (hKDX : Cert.KDX.Facts) (hKDXIdeal : Cert.KDXIdeal.Facts) (hRDXIdeal : Cert.RDXIdeal.Facts) (hKDwDown : Cert.KDwDown.Facts) (hKDwDownIdeal : Cert.KDwDownIdeal.Facts) (hRDwDownIdeal : Cert.RDwDownIdeal.Facts) (hKDwUp : Cert.KDwUp.Facts) (hKDwUpIdeal : Cert.KDwUpIdeal.Facts) (hRDwUpIdeal : Cert.RDwUpIdeal.Facts) (hKDUp : Cert.KDUp.Facts) (hKDUpIdeal : Cert.KDUpIdeal.Facts) (hRDUpIdeal : Cert.RDUpIdeal.Facts) (hKDH1 : Cert.KDH1.Facts) (hKDH1Ideal : Cert.KDH1Ideal.Facts) (hRDH1Ideal : Cert.RDH1Ideal.Facts) (hKLoss : Cert.KLoss.Facts) (hKLossIdeal : Cert.KLossIdeal.Facts) (hRLossIdeal : Cert.RLossIdeal.Facts) (hKInProj : Cert.KInProj.Facts) (hKInProjIdeal : Cert.KInProjIdeal.Facts) (hRInProjIdeal : Cert.RInProjIdeal.Facts) (hKMlpUp : Cert.KMlpUp.Facts) (hKMlpUpIdeal : Cert.KMlpUpIdeal.Facts) (hRMlpUpIdeal : Cert.RMlpUpIdeal.Facts) (hKDwOut : Cert.KDwOut.Facts) (hKDwOutIdeal : Cert.KDwOutIdeal.Facts) (hRDwOutIdeal : Cert.RDwOutIdeal.Facts) (hKDwProjSsd : Cert.KDwProjSsd.Facts) (hKDwProjSsdIdeal : Cert.KDwProjSsdIdeal.Facts) (hRDwProjSsdIdeal : Cert.RDwProjSsdIdeal.Facts) (hKDwProjAttn : Cert.KDwProjAttn.Facts) (hKDwProjAttnIdeal : Cert.KDwProjAttnIdeal.Facts) (hRDwProjAttnIdeal : Cert.RDwProjAttnIdeal.Facts) (hKGatenorm : Cert.KGatenorm.Facts) (hKGatenormIdeal : Cert.KGatenormIdeal.Facts) (hRGatenormIdeal : Cert.RGatenormIdeal.Facts) (hKMixOut : Cert.KMixOut.Facts) (hKMixOutIdeal : Cert.KMixOutIdeal.Facts) (hRMixOutIdeal : Cert.RMixOutIdeal.Facts) (hPre_finite : Cert.Pre_finite.Facts) (hPre_finite_d_h1 : Cert.Pre_finite_d_h1.Facts) (hPre_finite_loss : Cert.Pre_finite_loss.Facts) (hPre_finite_mix_out : Cert.Pre_finite_mix_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KDwIn (hKDwIn := hKDwIn)
    ∧ quiescent_KDwInIdeal (hKDwInIdeal := hKDwInIdeal)
    ∧ quiescent_RDwInIdeal (hRDwInIdeal := hRDwInIdeal)
    ∧ quiescent_KDX (hKDX := hKDX)
    ∧ quiescent_KDXIdeal (hKDXIdeal := hKDXIdeal)
    ∧ quiescent_RDXIdeal (hRDXIdeal := hRDXIdeal)
    ∧ quiescent_KDwDown (hKDwDown := hKDwDown)
    ∧ quiescent_KDwDownIdeal (hKDwDownIdeal := hKDwDownIdeal)
    ∧ quiescent_RDwDownIdeal (hRDwDownIdeal := hRDwDownIdeal)
    ∧ quiescent_KDwUp (hKDwUp := hKDwUp)
    ∧ quiescent_KDwUpIdeal (hKDwUpIdeal := hKDwUpIdeal)
    ∧ quiescent_RDwUpIdeal (hRDwUpIdeal := hRDwUpIdeal)
    ∧ quiescent_KDUp (hKDUp := hKDUp)
    ∧ quiescent_KDUpIdeal (hKDUpIdeal := hKDUpIdeal)
    ∧ quiescent_RDUpIdeal (hRDUpIdeal := hRDUpIdeal)
    ∧ quiescent_KDH1 (hKDH1 := hKDH1)
    ∧ quiescent_KDH1Ideal (hKDH1Ideal := hKDH1Ideal)
    ∧ quiescent_KDH1Ideal_pre_finite_d_h1 (hKDH1Ideal := hKDH1Ideal) (hPre_finite_d_h1 := hPre_finite_d_h1)
    ∧ quiescent_RDH1Ideal (hRDH1Ideal := hRDH1Ideal)
    ∧ quiescent_RDH1Ideal_pre_finite_d_h1 (hRDH1Ideal := hRDH1Ideal) (hPre_finite_d_h1 := hPre_finite_d_h1)
    ∧ quiescent_KLoss (hKLoss := hKLoss)
    ∧ quiescent_KLossIdeal (hKLossIdeal := hKLossIdeal)
    ∧ quiescent_KLossIdeal_pre_finite_loss (hKLossIdeal := hKLossIdeal) (hPre_finite_loss := hPre_finite_loss)
    ∧ quiescent_RLossIdeal (hRLossIdeal := hRLossIdeal)
    ∧ quiescent_RLossIdeal_pre_finite_loss (hRLossIdeal := hRLossIdeal) (hPre_finite_loss := hPre_finite_loss)
    ∧ quiescent_KInProj (hKInProj := hKInProj)
    ∧ quiescent_KInProjIdeal (hKInProjIdeal := hKInProjIdeal)
    ∧ quiescent_RInProjIdeal (hRInProjIdeal := hRInProjIdeal)
    ∧ quiescent_KMlpUp (hKMlpUp := hKMlpUp)
    ∧ quiescent_KMlpUpIdeal (hKMlpUpIdeal := hKMlpUpIdeal)
    ∧ quiescent_RMlpUpIdeal (hRMlpUpIdeal := hRMlpUpIdeal)
    ∧ quiescent_KDwOut (hKDwOut := hKDwOut)
    ∧ quiescent_KDwOutIdeal (hKDwOutIdeal := hKDwOutIdeal)
    ∧ quiescent_RDwOutIdeal (hRDwOutIdeal := hRDwOutIdeal)
    ∧ quiescent_KDwProjSsd (hKDwProjSsd := hKDwProjSsd)
    ∧ quiescent_KDwProjSsdIdeal (hKDwProjSsdIdeal := hKDwProjSsdIdeal)
    ∧ quiescent_RDwProjSsdIdeal (hRDwProjSsdIdeal := hRDwProjSsdIdeal)
    ∧ quiescent_KDwProjAttn (hKDwProjAttn := hKDwProjAttn)
    ∧ quiescent_KDwProjAttnIdeal (hKDwProjAttnIdeal := hKDwProjAttnIdeal)
    ∧ quiescent_RDwProjAttnIdeal (hRDwProjAttnIdeal := hRDwProjAttnIdeal)
    ∧ quiescent_KGatenorm (hKGatenorm := hKGatenorm)
    ∧ quiescent_KGatenormIdeal (hKGatenormIdeal := hKGatenormIdeal)
    ∧ quiescent_RGatenormIdeal (hRGatenormIdeal := hRGatenormIdeal)
    ∧ quiescent_KMixOut (hKMixOut := hKMixOut)
    ∧ quiescent_KMixOutIdeal (hKMixOutIdeal := hKMixOutIdeal)
    ∧ quiescent_KMixOutIdeal_pre_finite_mix_out (hKMixOutIdeal := hKMixOutIdeal) (hPre_finite_mix_out := hPre_finite_mix_out)
    ∧ quiescent_RMixOutIdeal (hRMixOutIdeal := hRMixOutIdeal)
    ∧ quiescent_RMixOutIdeal_pre_finite_mix_out (hRMixOutIdeal := hRMixOutIdeal) (hPre_finite_mix_out := hPre_finite_mix_out)
    ∧ preserves_Kernel_KernelIdeal
    ∧ algebraic_KernelIdeal_ReferenceIdeal_pre_finite (hKernelIdeal := hKernelIdeal) (hReferenceIdeal := hReferenceIdeal) (hPre_finite := hPre_finite)
    ∧ preserves_KDwIn_KDwInIdeal
    ∧ algebraic_KDwInIdeal_RDwInIdeal (hKDwInIdeal := hKDwInIdeal) (hRDwInIdeal := hRDwInIdeal)
    ∧ preserves_KDX_KDXIdeal
    ∧ algebraic_KDXIdeal_RDXIdeal (hKDXIdeal := hKDXIdeal) (hRDXIdeal := hRDXIdeal)
    ∧ preserves_KDwDown_KDwDownIdeal
    ∧ algebraic_KDwDownIdeal_RDwDownIdeal (hKDwDownIdeal := hKDwDownIdeal) (hRDwDownIdeal := hRDwDownIdeal)
    ∧ preserves_KDwUp_KDwUpIdeal
    ∧ algebraic_KDwUpIdeal_RDwUpIdeal (hKDwUpIdeal := hKDwUpIdeal) (hRDwUpIdeal := hRDwUpIdeal)
    ∧ preserves_KDUp_KDUpIdeal
    ∧ algebraic_KDUpIdeal_RDUpIdeal (hKDUpIdeal := hKDUpIdeal) (hRDUpIdeal := hRDUpIdeal)
    ∧ preserves_KDH1_KDH1Ideal
    ∧ algebraic_KDH1Ideal_RDH1Ideal_pre_finite_d_h1 (hKDH1Ideal := hKDH1Ideal) (hRDH1Ideal := hRDH1Ideal) (hPre_finite_d_h1 := hPre_finite_d_h1)
    ∧ preserves_KLoss_KLossIdeal
    ∧ algebraic_KLossIdeal_RLossIdeal_pre_finite_loss (hKLossIdeal := hKLossIdeal) (hRLossIdeal := hRLossIdeal) (hPre_finite_loss := hPre_finite_loss)
    ∧ preserves_KInProj_KInProjIdeal
    ∧ algebraic_KInProjIdeal_RInProjIdeal (hKInProjIdeal := hKInProjIdeal) (hRInProjIdeal := hRInProjIdeal)
    ∧ preserves_KMlpUp_KMlpUpIdeal
    ∧ algebraic_KMlpUpIdeal_RMlpUpIdeal (hKMlpUpIdeal := hKMlpUpIdeal) (hRMlpUpIdeal := hRMlpUpIdeal)
    ∧ preserves_KDwOut_KDwOutIdeal
    ∧ algebraic_KDwOutIdeal_RDwOutIdeal (hKDwOutIdeal := hKDwOutIdeal) (hRDwOutIdeal := hRDwOutIdeal)
    ∧ preserves_KDwProjSsd_KDwProjSsdIdeal
    ∧ algebraic_KDwProjSsdIdeal_RDwProjSsdIdeal (hKDwProjSsdIdeal := hKDwProjSsdIdeal) (hRDwProjSsdIdeal := hRDwProjSsdIdeal)
    ∧ preserves_KDwProjAttn_KDwProjAttnIdeal
    ∧ algebraic_KDwProjAttnIdeal_RDwProjAttnIdeal (hKDwProjAttnIdeal := hKDwProjAttnIdeal) (hRDwProjAttnIdeal := hRDwProjAttnIdeal)
    ∧ preserves_KGatenorm_KGatenormIdeal
    ∧ algebraic_KGatenormIdeal_RGatenormIdeal (hKGatenormIdeal := hKGatenormIdeal) (hRGatenormIdeal := hRGatenormIdeal)
    ∧ preserves_KMixOut_KMixOutIdeal
    ∧ algebraic_KMixOutIdeal_RMixOutIdeal_pre_finite_mix_out (hKMixOutIdeal := hKMixOutIdeal) (hRMixOutIdeal := hRMixOutIdeal) (hPre_finite_mix_out := hPre_finite_mix_out)
-- ==== Pre_finite.lean ====
abbrev S8192x9728 : Shape := ⟨2, ![8192, 9728]⟩
abbrev S8192x4x64 : Shape := ⟨3, ![8192, 4, 64]⟩
abbrev S8192x4 : Shape := ⟨2, ![8192, 4]⟩
abbrev S_ : Shape := ⟨0, ![]⟩

class Facts : Prop where
  bcast_S_S8192x9728 : S_.BroadcastsInDim S8192x9728 (![] : Fin 0 → Fin S8192x9728.rank)
  bcast_S_S8192x4x64 : S_.BroadcastsInDim S8192x4x64 (![] : Fin 0 → Fin S8192x4x64.rank)
  bcast_S_S8192x4 : S_.BroadcastsInDim S8192x4 (![] : Fin 0 → Fin S8192x4.rank)

variable [Facts]

def fn {F : FTy → Type} [FloatOps F] (main_arg0 : FVec F S8192x9728 .f32) (main_arg1 : FVec F S8192x9728 .bf16) (main_arg2 : FVec F S8192x4x64 .f32) (main_arg3 : FVec F S8192x4x64 .f32) (main_arg4 : FVec F S8192x4x64 .f32) (main_arg5 : FVec F S8192x4 .f32) (main_arg6 : FVec F S8192x4 .f32) : IVec S8192x9728 1 × IVec S8192x4x64 1 × IVec S8192x4x64 1 × IVec S8192x4x64 1 × IVec S8192x4 1 × IVec S8192x4 1 :=
  let main_v0 : FVec F S8192x9728 .f32 := Host.absf main_arg0
  let main_cst : FVec F S_ .f32 := constant S_ .f32 0x7F800000#32
  let main_v1 : FVec F S8192x9728 .f32 := broadcastInDim S8192x9728 ![] bcast_S_S8192x9728 main_cst
  let main_v2 : IVec S8192x9728 1 := cmpf .olt main_v0 main_v1
  let main_v3 : FVec F S8192x4x64 .f32 := Host.absf main_arg2
  let main_cst_0 : FVec F S_ .f32 := constant S_ .f32 0x7F800000#32
  let main_v4 : FVec F S8192x4x64 .f32 := broadcastInDim S8192x4x64 ![] bcast_S_S8192x4x64 main_cst_0
  let main_v5 : IVec S8192x4x64 1 := cmpf .olt main_v3 main_v4
  let main_v6 : FVec F S8192x4x64 .f32 := Host.absf main_arg3
  let main_cst_1 : FVec F S_ .f32 := constant S_ .f32 0x7F800000#32
  let main_v7 : FVec F S8192x4x64 .f32 := broadcastInDim S8192x4x64 ![] bcast_S_S8192x4x64 main_cst_1
  let main_v8 : IVec S8192x4x64 1 := cmpf .olt main_v6 main_v7
  let main_v9 : FVec F S8192x4x64 .f32 := Host.absf main_arg4
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_v12 : FVec F S8192x4 .f32 := Host.absf main_arg5
  let main_cst_3 : FVec F S_ .f32 := constant S_ .f32 0x7F800000#32
  let main_v13 : FVec F S8192x4 .f32 := broadcastInDim S8192x4 ![] bcast_S_S8192x4 main_cst_3
  let main_v14 : IVec S8192x4 1 := cmpf .olt main_v12 main_v13
  let main_v15 : FVec F S8192x4 .f32 := Host.absf main_arg6
  let main_cst_4 : FVec F S_ .f32 := constant S_ .f32 0x7F800000#32
  let main_v16 : FVec F S8192x4 .f32 := broadcastInDim S8192x4 ![] bcast_S_S8192x4 main_cst_4
  let main_v17 : IVec S8192x4 1 := cmpf .olt main_v15 main_v16
  (main_v2, main_v5, main_v8, main_v11, main_v14, main_v17)
-- ==== Pre_finite_d_h1.lean ====
abbrev S8192x4096 : Shape := ⟨2, ![8192, 4096]⟩
abbrev S4x1024x1024 : Shape := ⟨3, ![4, 1024, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S4x1024x1024 : S_.BroadcastsInDim S4x1024x1024 (![] : Fin 0 → Fin S4x1024x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x4096 .bf16) (main_arg1 : FVec F S4x1024x1024 .bf16) (main_arg2 : FVec F S8192x1024 .f32) (main_arg3 : FVec F S8192x1024 .f32) (main_arg4 : FVec F S1024 .f32) (main_arg5 : FVec F S1024 .f32) : IVec S8192x4096 1 × IVec S4x1024x1024 1 × IVec S8192x1024 1 × IVec S8192x1024 1 × IVec S1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S4x1024x1024 .f32 := (extf .f32 · bitsLt_bf16_f32) main_arg1
  let main_v5 : FVec F S4x1024x1024 .f32 := Host.absf main_v4
  let main_cst_0 : FVec F S_ .f32 := constant S_ .f32 0x7F800000#32
  let main_v6 : FVec F S4x1024x1024 .f32 := broadcastInDim S4x1024x1024 ![] bcast_S_S4x1024x1024 main_cst_0
  let main_v7 : IVec S4x1024x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v3, main_v7, main_v10, main_v13, main_v16)
-- ==== Pre_finite_loss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_v3 : IVec S8192x4096 1) (main_v7 : IVec S4096x1024 1) (main_v10 : IVec S8192x1024 1) (main_v13 : IVec S8192x1024 1) (main_v16 : IVec S1024 1) (main_v17 : FVec F S1024 .f32) (main_cst_4 : FVec F S_ .f32) : IVec S8192x4096 1 × IVec S4096x1024 1 × IVec S8192x1024 1 × IVec S8192x1024 1 × IVec S1024 1 × IVec S1024 1 × IVec S1024 1 × IVec S1024 1 :=
  let main_v18 : FVec F S1024 .f32 := broadcastInDim S1024 ![] bcast_S_S1024 main_cst_4
  let main_v19 : IVec S1024 1 := cmpf .olt main_v17 main_v18
  let main_v20 : FVec F S1024 .f32 := Host.absf main_arg6
  let main_cst_5 : FVec F S_ .f32 := constant S_ .f32 0x7F800000#32
  let main_v21 : FVec F S1024 .f32 := broadcastInDim S1024 ![] bcast_S_S1024 main_cst_5
  let main_v22 : IVec S1024 1 := cmpf .olt main_v20 main_v21
  let main_v23 : FVec F S1024 .f32 := Host.absf main_arg7
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  (main_v3, main_v7, main_v10, main_v13, main_v16, main_v19, main_v22, main_v25)

def fn {F : FTy → Type} [FloatOps F] (main_arg0 : FVec F S8192x4096 .bf16) (main_arg1 : FVec F S4096x1024 .bf16) (main_arg2 : FVec F S8192x1024 .f32) (main_arg3 : FVec F S8192x1024 .f32) (main_arg4 : FVec F S1024 .f32) (main_arg5 : FVec F S1024 .f32) (main_arg6 : FVec F S1024 .f32) (main_arg7 : FVec F S1024 .f32) : IVec S8192x4096 1 × IVec S4096x1024 1 × IVec S8192x1024 1 × IVec S8192x1024 1 × IVec S1024 1 × IVec S1024 1 × IVec S1024 1 × IVec S1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  let main_v17 : FVec F S1024 .f32 := Host.absf main_arg5
  let main_cst_4 : FVec F S_ .f32 := constant S_ .f32 0x7F800000#32
  fn_part1 (F := F) main_arg6 main_arg7 main_v3 main_v7 main_v10 main_v13 main_v16 main_v17 main_cst_4
-- ==== Pre_finite_mix_out.lean ====
abbrev S8192x1024 : Shape := ⟨2, ![8192, 1024]⟩
abbrev S8192x4x64 : Shape := ⟨3, ![8192, 4, 64]⟩
abbrev S8192x4 : Shape := ⟨2, ![8192, 4]⟩
abbrev S4x256x256 : Shape := ⟨3, ![4, 256, 256]⟩
abbrev S8192x9728 : Shape := ⟨2, ![8192, 9728]⟩
abbrev S2048 : Shape := ⟨1, ![2048]⟩
abbrev S1024x1024 : Shape := ⟨2, ![1024, 1024]⟩
abbrev S1024 : Shape := ⟨1, ![1024]⟩
abbrev S_ : Shape := ⟨0, ![]⟩

class Facts : Prop where
  bcast_S_S8192x4 : S_.BroadcastsInDim S8192x4 (![] : Fin 0 → Fin S8192x4.rank)

variable [Facts]

def fn {F : FTy → Type} [FloatOps F] (main_arg0 : FVec F S8192x1024 .f32) (main_arg1 : FVec F S8192x4x64 .f32) (main_arg2 : FVec F S8192x4x64 .f32) (main_arg3 : FVec F S8192x4x64 .f32) (main_arg4 : FVec F S8192x4 .f32) (main_arg5 : FVec F S8192x4 .f32) (main_arg6 : FVec F S8192x4 .f32) (main_arg7 : FVec F S4x256x256 .bf16) (main_arg8 : FVec F S8192x9728 .f32) (main_arg9 : FVec F S2048 .f32) (main_arg10 : FVec F S8192x1024 .f32) (main_arg11 : FVec F S1024x1024 .bf16) (main_arg12 : FVec F S1024 .f32) (main_arg13 : FVec F S1024 .f32) : IVec S8192x4 1 × IVec S8192x4 1 × IVec S8192x4 1 :=
  let main_v0 : FVec F S8192x4 .f32 := Host.absf main_arg4
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_v3 : FVec F S8192x4 .f32 := Host.absf main_arg5
  let main_cst_0 : FVec F S_ .f32 := constant S_ .f32 0x7F800000#32
  let main_v4 : FVec F S8192x4 .f32 := broadcastInDim S8192x4 ![] bcast_S_S8192x4 main_cst_0
  let main_v5 : IVec S8192x4 1 := cmpf .olt main_v3 main_v4
  let main_v6 : FVec F S8192x4 .f32 := Host.absf main_arg6
  let main_cst_1 : FVec F S_ .f32 := constant S_ .f32 0x7F800000#32
  let main_v7 : FVec F S8192x4 .f32 := broadcastInDim S8192x4 ![] bcast_S_S8192x4 main_cst_1
  let main_v8 : IVec S8192x4 1 := cmpf .olt main_v6 main_v7
  (main_v2, main_v5, main_v8)
-- ==== Kernel.lean ====
abbrev S8192x9728 : Shape := ⟨2, ![8192, 9728]⟩
abbrev S8192x4x64 : Shape := ⟨3, ![8192, 4, 64]⟩
abbrev S8192x4 : Shape := ⟨2, ![8192, 4]⟩
abbrev S8192x256 : Shape := ⟨2, ![8192, 256]⟩
abbrev S8192x128 : Shape := ⟨2, ![8192, 128]⟩
abbrev S_ : Shape := ⟨0, ![]⟩
abbrev S1 : Shape := ⟨1, ![1]⟩
abbrev S4 : Shape := ⟨1, ![4]⟩
abbrev S8192x8192 : Shape := ⟨2, ![8192, 8192]⟩
abbrev S4x8192x8192 : Shape := ⟨3, ![4, 8192, 8192]⟩
abbrev S4x1x1 : Shape := ⟨3, ![4, 1, 1]⟩
abbrev S1x8192x8192 : Shape := ⟨3, ![1, 8192, 8192]⟩
abbrev S4x8192 : Shape := ⟨2, ![4, 8192]⟩
abbrev S4x8192x1 : Shape := ⟨3, ![4, 8192, 1]⟩
abbrev S4x8192x64 : Shape := ⟨3, ![4, 8192, 64]⟩
abbrev S8192x4x1 : Shape := ⟨3, ![8192, 4, 1]⟩
abbrev S512x128 : Shape := ⟨2, ![512, 128]⟩
abbrev S64x128 : Shape := ⟨2, ![64, 128]⟩
abbrev S128x128 : Shape := ⟨2, ![128, 128]⟩
abbrev S128x256 : Shape := ⟨2, ![128, 256]⟩
abbrev S192x128 : Shape := ⟨2, ![192, 128]⟩
abbrev S256x128 : Shape := ⟨2, ![256, 128]⟩
abbrev S128x1 : Shape := ⟨2, ![128, 1]⟩

abbrev nBuf : Space → Nat
  | .hbm => 111
  | .vmem => 23
  | .smem => 0
  | _ => 0

abbrev bufTy : (tb : Table) → Fin (tcTables nBuf tb) → BufTy
  | .hbm, ⟨0, _⟩ => ⟨S8192x9728, .f32⟩
  | .hbm, ⟨1, _⟩ => ⟨S8192x9728, .bf16⟩
  | .hbm, ⟨2, _⟩ => ⟨S8192x4x64, .f32⟩
  | .hbm, ⟨3, _⟩ => ⟨S8192x4x64, .f32⟩
  | .hbm, ⟨4, _⟩ => ⟨S8192x4x64, .f32⟩
  | .hbm, ⟨5, _⟩ => ⟨S8192x4, .f32⟩
  | .hbm, ⟨6, _⟩ => ⟨S8192x4, .f32⟩
  | .hbm, ⟨7, _⟩ => ⟨S8192x256, .f32⟩
  | .hbm, ⟨8, _⟩ => ⟨S8192x4x64, .f32⟩
  | .hbm, ⟨9, _⟩ => ⟨S8192x128, .f32⟩
  | .hbm, ⟨10, _⟩ => ⟨S8192x128, .f32⟩
  | .hbm, ⟨11, _⟩ => ⟨S8192x256, .f32⟩
  | .hbm, ⟨12, _⟩ => ⟨S8192x4x64, .f32⟩
  | .hbm, ⟨13, _⟩ => ⟨S8192x128, .f32⟩
  | .hbm, ⟨14, _⟩ => ⟨S8192x128, .f32⟩
  | .hbm, ⟨15, _⟩ => ⟨S8192x256, .f32⟩
  | .hbm, ⟨16, _⟩ => ⟨S8192x4x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S4, .f32⟩
  | .hbm, ⟨26, _⟩ => ⟨S8192x8192, .i32⟩
  | .hbm, ⟨27, _⟩ => ⟨S8192x8192, .i32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i1⟩
  | .hbm, ⟨33, _⟩ => ⟨S8192x8192, .f32⟩
  | .hbm, ⟨34, _⟩ => ⟨S4x8192x8192, .f32⟩
  | .hbm, ⟨35, _⟩ => ⟨S_, .f32⟩
  | .hbm, ⟨36, _⟩ => ⟨S4x8192x8192, .f32⟩
  | .hbm, ⟨37, _⟩ => ⟨S4x8192x8192, .f32⟩
  | .hbm, ⟨38, _⟩ => ⟨S4x1x1, .f32⟩
  | .hbm, ⟨39, _⟩ => ⟨S1x8192x8192, .f32⟩
  | .hbm, ⟨40, _⟩ => ⟨S4x8192x8192, .f32⟩
  | .hbm, ⟨41, _⟩ => ⟨S4x8192x8192, .f32⟩
  | .hbm, ⟨42, _⟩ => ⟨S4x8192x8192, .f32⟩
  | .hbm, ⟨43, _⟩ => ⟨S4x8192x8192, .f32⟩
  | .hbm, ⟨44, _⟩ => ⟨S_, .f32⟩
  | .hbm, ⟨45, _⟩ => ⟨S_, .f32⟩
  | .hbm, ⟨46, _⟩ => ⟨S4x8192x8192, .i1⟩
  | .hbm, ⟨47, _⟩ => ⟨S4x8192x8192, .f32⟩
  | .hbm, ⟨48, _⟩ => ⟨S4x8192x8192, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x64, .f32⟩
  | .hbm, ⟨59, _⟩ => ⟨S4x8192x64, .f32⟩
  | .hbm, ⟨60, _⟩ => ⟨S4x8192x64, .f32⟩
  | .hbm, ⟨61, _⟩ => ⟨S4x8192x1, .f32⟩
  | .hbm, ⟨62, _⟩ => ⟨S4x8192x1, .f32⟩
  | .hbm, ⟨63, _⟩ => ⟨S4x8192, .f32⟩
  | .hbm, ⟨64, _⟩ => ⟨S8192x4x64, .f32⟩
  | .hbm, ⟨65, _⟩ => ⟨S8192x4, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x4x1, .f32⟩
  | .hbm, ⟨70, _⟩ => ⟨S8192x4x64, .f32⟩
  | .hbm, ⟨71, _⟩ => ⟨S8192x256, .f32⟩
  | .hbm, ⟨72, _⟩ => ⟨S8192x4x1, .f32⟩
  | .hbm, ⟨73, _⟩ => ⟨S8192x4x64, .f32⟩
  | .hbm, ⟨74, _⟩ => ⟨S8192x256, .f32⟩
  | .hbm, ⟨75, _⟩ => ⟨S8192x4x1, .f32⟩
  | .hbm, ⟨76, _⟩ => ⟨S8192x4x64, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S8192x256, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S_, .f32⟩
  | .hbm, ⟨90, _⟩ => ⟨S8192x256, .f32⟩
  | .hbm, ⟨91, _⟩ => ⟨S8192x256, .f32⟩
  | .hbm, ⟨92, _⟩ => ⟨S8192x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S8192x256, .f32⟩
  | .hbm, ⟨99, _⟩ => ⟨S8192x256, .f32⟩
  | .hbm, ⟨100, _⟩ => ⟨S8192x256, .f32⟩
  | .hbm, ⟨101, _⟩ => ⟨S8192x4x64, .f32⟩
  | .hbm, ⟨102, _⟩ => ⟨S_, .f32⟩
  | .hbm, ⟨103, _⟩ => ⟨S8192x4, .f32⟩
  | .hbm, ⟨104, _⟩ => ⟨S8192x4x1, .f32⟩
  | .hbm, ⟨105, _⟩ => ⟨S8192x4x64, .f32⟩
  | .hbm, ⟨106, _⟩ => ⟨S8192x256, .f32⟩
  | .hbm, ⟨107, _⟩ => ⟨S8192x256, .f32⟩
  | .hbm, ⟨108, _⟩ => ⟨S8192x256, .f32⟩
  | .hbm, ⟨109, _⟩ => ⟨S8192x256, .f32⟩
  | .hbm, ⟨110, _⟩ => ⟨S8192x9728, .bf16⟩
  | .local _ .vmem, ⟨0, _⟩ => ⟨S512x128, .f32⟩
  | .local _ .vmem, ⟨1, _⟩ => ⟨S512x128, .f32⟩
  | .local _ .vmem, ⟨2, _⟩ => ⟨S64x128, .f32⟩
  | .local _ .vmem, ⟨3, _⟩ => ⟨S64x128, .f32⟩
  | .local _ .vmem, ⟨4, _⟩ => ⟨S512x128, .f32⟩
  | .local _ .vmem, ⟨5, _⟩ => ⟨S512x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S512x128, .f32⟩
  | .local _ .vmem, ⟨11, _⟩ => ⟨S512x128, .f32⟩
  | .local _ .vmem, ⟨12, _⟩ => ⟨S64x128, .f32⟩
  | .local _ .vmem, ⟨13, _⟩ => ⟨S64x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_8 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c56_i32 : BitVec 32 := 56#32
  let v4 : BitVec 32 := Scalar.addi c56_i32 v3
  let c0_i32_0 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c56_i32 : BitVec 32 := 56#32
  let v1 : BitVec 32 := Scalar.addi c56_i32 v0
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c2_i32 : BitVec 32 := 2#32
  let v3 : BitVec 32 := Scalar.muli c2_i32 arg0
  let c56_i32 : BitVec 32 := 56#32
  let v4 : BitVec 32 := Scalar.addi c56_i32 v3
  let c0_i32 : BitVec 32 := 0#32
  ![v2.toNat, v4.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c56_i32 : BitVec 32 := 56#32
  let v4 : BitVec 32 := Scalar.addi c56_i32 v3
  let c1_i32_0 : BitVec 32 := 1#32
  let v5 : BitVec 32 := Scalar.addi v4 c1_i32_0
  let c0_i32_1 : BitVec 32 := 0#32
  ![v2.toNat, v5.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c56_i32 : BitVec 32 := 56#32
  let v1 : BitVec 32 := Scalar.addi c56_i32 v0
  let c1_i32 : BitVec 32 := 1#32
  let v2 : BitVec 32 := Scalar.addi v1 c1_i32
  let c0_i32 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c2_i32 : BitVec 32 := 2#32
  let v3 : BitVec 32 := Scalar.muli c2_i32 arg0
  let c56_i32 : BitVec 32 := 56#32
  let v4 : BitVec 32 := Scalar.addi c56_i32 v3
  let c1_i32_0 : BitVec 32 := 1#32
  let v5 : BitVec 32 := Scalar.addi v4 c1_i32_0
  let c0_i32 : BitVec 32 := 0#32
  ![v2.toNat, v5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x9728 : Shape := ⟨2, ![8192, 9728]⟩
abbrev S8192x4x64 : Shape := ⟨3, ![8192, 4, 64]⟩
abbrev S8192x4 : Shape := ⟨2, ![8192, 4]⟩
abbrev S8192x256 : Shape := ⟨2, ![8192, 256]⟩
abbrev S8192x128 : Shape := ⟨2, ![8192, 128]⟩
abbrev S_ : Shape := ⟨0, ![]⟩
abbrev S1 : Shape := ⟨1, ![1]⟩
abbrev S4 : Shape := ⟨1, ![4]⟩
abbrev S8192x8192 : Shape := ⟨2, ![8192, 8192]⟩
abbrev S4x8192x8192 : Shape := ⟨3, ![4, 8192, 8192]⟩
abbrev S4x1x1 : Shape := ⟨3, ![4, 1, 1]⟩
abbrev S1x8192x8192 : Shape := ⟨3, ![1, 8192, 8192]⟩
abbrev S4x8192 : Shape := ⟨2, ![4, 8192]⟩
abbrev S4x8192x1 : Shape := ⟨3, ![4, 8192, 1]⟩
abbrev S4x8192x64 : Shape := ⟨3, ![4, 8192, 64]⟩
abbrev S1x8192x4 : Shape := ⟨3, ![1, 8192, 4]⟩
abbrev S3x8192x4 : Shape := ⟨3, ![3, 8192, 4]⟩
abbrev S3x8192x4x1 : Shape := ⟨4, ![3, 8192, 4, 1]⟩
abbrev S1x8192x4x64 : Shape := ⟨4, ![1, 8192, 4, 64]⟩
abbrev S3x8192x4x64 : Shape := ⟨4, ![3, 8192, 4, 64]⟩
abbrev S8192x8704 : Shape := ⟨2, ![8192, 8704]⟩
abbrev S8192x768 : Shape := ⟨2, ![8192, 768]⟩

abbrev nBuf : Space → Nat
  | .hbm => 216
  | .vmem => 0
  | .smem => 0
  | _ => 0

abbrev hbmTy0_0 (i : Nat) : BufTy := match i % 128 with
  | 0 => ⟨S8192x9728, .f32⟩
  | 1 => ⟨S8192x9728, .bf16⟩
  | 2 => ⟨S8192x4x64, .f32⟩
  | 3 => ⟨S8192x4x64, .f32⟩
  | 4 => ⟨S8192x4x64, .f32⟩
  | 5 => ⟨S8192x4, .f32⟩
  | 6 => ⟨S8192x4, .f32⟩
  | 7 => ⟨S8192x256, .f32⟩
  | 8 => ⟨S8192x4x64, .f32⟩
  | 9 => ⟨S8192x128, .f32⟩
  | 10 => ⟨S8192x128, .f32⟩
  | 11 => ⟨S8192x256, .f32⟩
  | 12 => ⟨S8192x4x64, .f32⟩
  | 13 => ⟨S8192x128, .f32⟩
  | 14 => ⟨S8192x128, .f32⟩
  | 15 => ⟨S8192x256, .f32⟩
  | 16 => ⟨S8192x4x64, .f32⟩
  | 17 => ⟨S_, .f32⟩
  | 18 => ⟨S_, .f32⟩
  | 19 => ⟨S_, .f32⟩
  | 20 => ⟨S_, .f32⟩
  | 21 => ⟨S1, .f32⟩
  | 22 => ⟨S1, .f32⟩
  | 23 => ⟨S1, .f32⟩
  | 24 => ⟨S1, .f32⟩
  | 25 => ⟨S4, .f32⟩
  | 26 => ⟨S8192x8192, .i32⟩
  | 27 => ⟨S8192x8192, .i32⟩
  | 28 => ⟨S8192x8192, .i32⟩
  | 29 => ⟨S8192x8192, .i32⟩
  | 30 => ⟨S_, .i32⟩
  | 31 => ⟨S8192x8192, .i32⟩
  | 32 => ⟨S8192x8192, .i1⟩
  | 33 => ⟨S8192x8192, .f32⟩
  | 34 => ⟨S4x8192x8192, .f32⟩
  | 35 => ⟨S_, .f32⟩
  | 36 => ⟨S4x8192x8192, .f32⟩
  | 37 => ⟨S4x8192x8192, .f32⟩
  | 38 => ⟨S4x1x1, .f32⟩
  | 39 => ⟨S1x8192x8192, .f32⟩
  | 40 => ⟨S4x8192x8192, .f32⟩
  | 41 => ⟨S4x8192x8192, .f32⟩
  | 42 => ⟨S4x8192x8192, .f32⟩
  | 43 => ⟨S4x8192x8192, .f32⟩
  | 44 => ⟨S_, .f32⟩
  | 45 => ⟨S_, .f32⟩
  | 46 => ⟨S4x8192x8192, .i1⟩
  | 47 => ⟨S4x8192x8192, .f32⟩
  | 48 => ⟨S4x8192x8192, .f32⟩
  | 49 => ⟨S_, .f32⟩
  | 50 => ⟨S4x8192x8192, .f32⟩
  | 51 => ⟨S_, .f32⟩
  | 52 => ⟨S4x8192, .f32⟩
  | 53 => ⟨S4x8192x1, .f32⟩
  | 54 => ⟨S4x8192x8192, .f32⟩
  | 55 => ⟨S4x8192x8192, .i1⟩
  | 56 => ⟨S4x8192x8192, .f32⟩
  | 57 => ⟨S_, .f32⟩
  | 58 => ⟨S4x8192, .f32⟩
  | 59 => ⟨S4x8192x1, .f32⟩
  | 60 => ⟨S4x8192x8192, .f32⟩
  | 61 => ⟨S4x8192x8192, .f32⟩
  | 62 => ⟨S4x8192x8192, .f32⟩
  | 63 => ⟨S_, .f32⟩
  | 64 => ⟨S4x8192, .f32⟩
  | 65 => ⟨S4x8192x1, .f32⟩
  | 66 => ⟨S4x8192x64, .f32⟩
  | 67 => ⟨S4x8192x64, .f32⟩
  | 68 => ⟨S4x8192x64, .f32⟩
  | 69 => ⟨S4x8192x1, .f32⟩
  | 70 => ⟨S_, .f32⟩
  | 71 => ⟨S4x8192x1, .f32⟩
  | 72 => ⟨S4x8192x1, .f32⟩
  | 73 => ⟨S4x8192x1, .f32⟩
  | 74 => ⟨S4x8192x1, .f32⟩
  | 75 => ⟨S4x8192, .f32⟩
  | 76 => ⟨S8192x4x64, .f32⟩
  | 77 => ⟨S8192x4, .f32⟩
  | 78 => ⟨S1x8192x4, .f32⟩
  | 79 => ⟨S1x8192x4, .f32⟩
  | 80 => ⟨S1x8192x4, .f32⟩
  | 81 => ⟨S3x8192x4, .f32⟩
  | 82 => ⟨S_, .f32⟩
  | 83 => ⟨S8192x4, .f32⟩
  | 84 => ⟨S_, .f32⟩
  | 85 => ⟨S8192x4, .f32⟩
  | 86 => ⟨S_, .f32⟩
  | 87 => ⟨S8192x4, .f32⟩
  | 88 => ⟨S1x8192x4, .f32⟩
  | 89 => ⟨S3x8192x4, .f32⟩
  | 90 => ⟨S3x8192x4, .i1⟩
  | 91 => ⟨S3x8192x4, .f32⟩
  | 92 => ⟨S_, .f32⟩
  | 93 => ⟨S8192x4, .f32⟩
  | 94 => ⟨S_, .f32⟩
  | 95 => ⟨S8192x4, .f32⟩
  | 96 => ⟨S8192x4, .f32⟩
  | 97 => ⟨S_, .f32⟩
  | 98 => ⟨S8192x4, .f32⟩
  | 99 => ⟨S8192x4, .i1⟩
  | 100 => ⟨S_, .f32⟩
  | 101 => ⟨S8192x4, .f32⟩
  | 102 => ⟨S8192x4, .i1⟩
  | 103 => ⟨S_, .f32⟩
  | 104 => ⟨S8192x4, .f32⟩
  | 105 => ⟨S_, .f32⟩
  | 106 => ⟨S8192x4, .f32⟩
  | 107 => ⟨S_, .f32⟩
  | 108 => ⟨S8192x4, .f32⟩
  | 109 => ⟨S8192x4, .f32⟩
  | 110 => ⟨S8192x4, .f32⟩
  | 111 => ⟨S1x8192x4, .f32⟩
  | 112 => ⟨S3x8192x4, .f32⟩
  | 113 => ⟨S3x8192x4, .f32⟩
  | 114 => ⟨S3x8192x4, .f32⟩
  | 115 => ⟨S_, .f32⟩
  | 116 => ⟨S8192x4, .f32⟩
  | 117 => ⟨S1x8192x4, .f32⟩
  | 118 => ⟨S3x8192x4, .f32⟩
  | 119 => ⟨S3x8192x4, .f32⟩
  | 120 => ⟨S1x8192x4, .f32⟩
  | 121 => ⟨S_, .f32⟩
  | 122 => ⟨S1x8192x4, .f32⟩
  | 123 => ⟨S1x8192x4, .f32⟩
  | 124 => ⟨S3x8192x4x1, .f32⟩
  | 125 => ⟨S1x8192x4x64, .f32⟩
  | 126 => ⟨S1x8192x4x64, .f32⟩
  | 127 => ⟨S1x8192x4x64, .f32⟩
  | _ => ⟨S8192x9728, .f32⟩

abbrev hbmTy0_1 (i : Nat) : BufTy := match i % 128 with
  | 0 => ⟨S3x8192x4x64, .f32⟩
  | 1 => ⟨S_, .f32⟩
  | 2 => ⟨S8192x4x64, .f32⟩
  | 3 => ⟨S_, .f32⟩
  | 4 => ⟨S8192x4x64, .f32⟩
  | 5 => ⟨S3x8192x4x64, .f32⟩
  | 6 => ⟨S3x8192x4x64, .f32⟩
  | 7 => ⟨S_, .f32⟩
  | 8 => ⟨S8192x4x64, .f32⟩
  | 9 => ⟨S3x8192x4x64, .f32⟩
  | 10 => ⟨S3x8192x4x64, .f32⟩
  | 11 => ⟨S3x8192x4x64, .f32⟩
  | 12 => ⟨S3x8192x4x64, .f32⟩
  | 13 => ⟨S_, .f32⟩
  | 14 => ⟨S3x8192x4, .f32⟩
  | 15 => ⟨S3x8192x4x1, .f32⟩
  | 16 => ⟨S1x8192x4x64, .f32⟩
  | 17 => ⟨S8192x4x64, .f32⟩
  | 18 => ⟨S1x8192x4x64, .f32⟩
  | 19 => ⟨S8192x4x64, .f32⟩
  | 20 => ⟨S1x8192x4x64, .f32⟩
  | 21 => ⟨S8192x4x64, .f32⟩
  | 22 => ⟨S_, .f32⟩
  | 23 => ⟨S3x8192x4, .f32⟩
  | 24 => ⟨S3x8192x4, .f32⟩
  | 25 => ⟨S3x8192x4, .f32⟩
  | 26 => ⟨S3x8192x4, .f32⟩
  | 27 => ⟨S_, .f32⟩
  | 28 => ⟨S8192x4, .f32⟩
  | 29 => ⟨S1x8192x4, .f32⟩
  | 30 => ⟨S1x8192x4, .f32⟩
  | 31 => ⟨S3x8192x4, .f32⟩
  | 32 => ⟨S3x8192x4, .f32⟩
  | 33 => ⟨S_, .f32⟩
  | 34 => ⟨S8192x4, .f32⟩
  | 35 => ⟨S3x8192x4, .f32⟩
  | 36 => ⟨S3x8192x4, .f32⟩
  | 37 => ⟨S3x8192x4, .f32⟩
  | 38 => ⟨S1x8192x4, .f32⟩
  | 39 => ⟨S8192x4, .f32⟩
  | 40 => ⟨S1x8192x4, .f32⟩
  | 41 => ⟨S8192x4, .f32⟩
  | 42 => ⟨S1x8192x4, .f32⟩
  | 43 => ⟨S8192x4, .f32⟩
  | 44 => ⟨S4x8192, .f32⟩
  | 45 => ⟨S4x8192x64, .f32⟩
  | 46 => ⟨S4x8192x1, .f32⟩
  | 47 => ⟨S4x8192x1, .f32⟩
  | 48 => ⟨S4x8192x64, .f32⟩
  | 49 => ⟨S4x8192x64, .f32⟩
  | 50 => ⟨S4x8192x64, .f32⟩
  | 51 => ⟨S_, .f32⟩
  | 52 => ⟨S4x8192, .f32⟩
  | 53 => ⟨S4x8192x1, .f32⟩
  | 54 => ⟨S4x8192x1, .f32⟩
  | 55 => ⟨S4x8192x1, .f32⟩
  | 56 => ⟨S4x8192x64, .f32⟩
  | 57 => ⟨S4x8192x64, .f32⟩
  | 58 => ⟨S4x8192x8192, .f32⟩
  | 59 => ⟨S_, .f32⟩
  | 60 => ⟨S4x8192, .f32⟩
  | 61 => ⟨S4x8192x8192, .f32⟩
  | 62 => ⟨S4x8192x8192, .f32⟩
  | 63 => ⟨S4x8192x8192, .f32⟩
  | 64 => ⟨S4x8192x8192, .f32⟩
  | 65 => ⟨S_, .f32⟩
  | 66 => ⟨S4x8192, .f32⟩
  | 67 => ⟨S4x8192x1, .f32⟩
  | 68 => ⟨S4x8192x1, .f32⟩
  | 69 => ⟨S_, .f32⟩
  | 70 => ⟨S4x8192, .f32⟩
  | 71 => ⟨S4x8192, .f32⟩
  | 72 => ⟨S4x8192x8192, .f32⟩
  | 73 => ⟨S4x8192x8192, .f32⟩
  | 74 => ⟨S4x8192x8192, .f32⟩
  | 75 => ⟨S_, .f32⟩
  | 76 => ⟨S4x8192x8192, .f32⟩
  | 77 => ⟨S4x8192x8192, .f32⟩
  | 78 => ⟨S_, .f32⟩
  | 79 => ⟨S4x8192x8192, .f32⟩
  | 80 => ⟨S4x8192x8192, .f32⟩
  | 81 => ⟨S4x8192x64, .f32⟩
  | 82 => ⟨S8192x4x64, .f32⟩
  | 83 => ⟨S8192x8704, .bf16⟩
  | 84 => ⟨S8192x256, .f32⟩
  | 85 => ⟨S8192x256, .bf16⟩
  | 86 => ⟨S8192x768, .bf16⟩
  | 87 => ⟨S8192x9728, .bf16⟩
  | _ => ⟨S8192x9728, .f32⟩

abbrev hbmTy (i : Nat) : BufTy := match i / 128 with
  | 0 => hbmTy0_0 i
  | 1 => hbmTy0_1 i
  | _ => ⟨S8192x9728, .f32⟩

abbrev bufTy : (tb : Table) → Fin (tcTables nBuf tb) → BufTy
  | .hbm, ⟨i, _⟩ => hbmTy i
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call0_v0 : Ref sig .tc := ⟨.hbm, 45, rfl⟩
abbrev main_v31_1 : Ref sig .tc := ⟨.hbm, 46, rfl⟩
abbrev main_call0_v2 : Ref sig .tc := ⟨.hbm, 47, rfl⟩
abbrev main_v31_0 : Ref sig .tc := ⟨.hbm, 48, rfl⟩
abbrev main_call0_cst : Ref sig .tc := ⟨.hbm, 49, rfl⟩
abbrev main_v31_2 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_25 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_27 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_28 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_29 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_30 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_31 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_call1_cst : Ref sig .tc := ⟨.hbm, 203, rfl⟩
abbrev main_call1_v0 : Ref sig .tc := ⟨.hbm, 204, rfl⟩
abbrev main_v157 : Ref sig .tc := ⟨.hbm, 205, rfl⟩
abbrev main_cst_32 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩

abbrev nD : Nat := 1
abbrev τ : Topo := Topo.v7x

variable {F : FTy → Type} [FloatOps F]
-- ==== KDwIn.lean ====
abbrev S8192x1024 : Shape := ⟨2, ![8192, 1024]⟩
abbrev S8192x9728 : Shape := ⟨2, ![8192, 9728]⟩
abbrev S1024x9728 : Shape := ⟨2, ![1024, 9728]⟩
abbrev S1024x1024 : Shape := ⟨2, ![1024, 1024]⟩
abbrev S1024x2432 : Shape := ⟨2, ![1024, 2432]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x9728, .bf16⟩
  | .hbm, ⟨2, _⟩ => ⟨S8192x1024, .bf16⟩
  | .hbm, ⟨3, _⟩ => ⟨S1024x9728, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwInIdeal.lean ====
abbrev S8192x1024 : Shape := ⟨2, ![8192, 1024]⟩
abbrev S8192x9728 : Shape := ⟨2, ![8192, 9728]⟩
abbrev S_ : Shape := ⟨0, ![]⟩
abbrev S1024x9728 : Shape := ⟨2, ![1024, 9728]⟩
abbrev S9728x1024 : Shape := ⟨2, ![9728, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9728, .bf16⟩
  | .hbm, ⟨2, _⟩ => ⟨S_, .f32⟩
  | .hbm, ⟨3, _⟩ => ⟨S1024x9728, .f32⟩
  | .hbm, ⟨4, _⟩ => ⟨S8192x9728, .f32⟩
  | .hbm, ⟨5, _⟩ => ⟨S8192x9728, .f32⟩
  | .hbm, ⟨6, _⟩ => ⟨S9728x1024, .f32⟩
  | .hbm, ⟨7, _⟩ => ⟨S1024x9728, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDX.lean ====
abbrev S8192x9728 : Shape := ⟨2, ![8192, 9728]⟩
abbrev S1024x9728 : Shape := ⟨2, ![1024, 9728]⟩
abbrev S8192x1024 : Shape := ⟨2, ![8192, 1024]⟩
abbrev S1024x2432 : Shape := ⟨2, ![1024, 2432]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x9728, .bf16⟩
  | .hbm, ⟨1, _⟩ => ⟨S1024x9728, .bf16⟩
  | .hbm, ⟨2, _⟩ => ⟨S8192x1024, .f32⟩
  | .hbm, ⟨3, _⟩ => ⟨S8192x1024, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let v13 : BitVec 1 := Scalar.cmpi .eq v9 c0_i32_6
  let v14 : BitVec 32 := Scalar.extui v13
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_8 : BitVec 32 := 0#32
  let v16 : BitVec 1 := Scalar.cmpi .sgt v9 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RDXIdeal.lean ====
abbrev S8192x9728 : Shape := ⟨2, ![8192, 9728]⟩
abbrev S1024x9728 : Shape := ⟨2, ![1024, 9728]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S1024x9728, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x9728, .f32⟩
  | .hbm, ⟨6, _⟩ => ⟨S8192x9728, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x9728, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KDwDown.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwDownIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDwUp.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwUpIdeal.lean ====
abbrev S8192x1024 : Shape := ⟨2, ![8192, 1024]⟩
abbrev S8192x4096 : Shape := ⟨2, ![8192, 4096]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S4x1024x1024, .f32⟩
  | .hbm, ⟨4, _⟩ => ⟨S8192x1024, .f32⟩
  | .hbm, ⟨5, _⟩ => ⟨S1x1024x1024, .f32⟩
  | .hbm, ⟨6, _⟩ => ⟨S1024x1024, .f32⟩
  | .hbm, ⟨7, _⟩ => ⟨S1x1024x1024, .f32⟩
  | .hbm, ⟨8, _⟩ => ⟨S1024x1024, .f32⟩
  | .hbm, ⟨9, _⟩ => ⟨S1x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1024x4096, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S1024x4096, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1x1024x1024, .f32⟩
  | .hbm, ⟨23, _⟩ => ⟨S_, .f32⟩
  | .hbm, ⟨24, _⟩ => ⟨S4x1024x1024, .f32⟩
  | .hbm, ⟨25, _⟩ => ⟨S1x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S1x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S1x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== KDUp.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RDUpIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KDH1.lean ====
abbrev S8192x4096 : Shape := ⟨2, ![8192, 4096]⟩
abbrev S4x1024x1024 : Shape := ⟨3, ![4, 1024, 1024]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S6x1024 : Shape := ⟨2, ![6, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_37 : BitVec 32 := 0#32
  let v70 : BitVec 1 := Scalar.cmpi .ne v69 c0_i32_37
  v70

def k0_cond2 (i : grid0.Coords) : BitVec 1 :=
  let arg0 : BitVec 32 := BitVec.ofNat 32 (i 0).val
  let c0_i32_38 : BitVec 32 := 0#32
  let v71 : BitVec 1 := Scalar.cmpi .sgt arg0 c0_i32_38
  let v72 : BitVec 32 := Scalar.extui v71
  let c0_i32_39 : BitVec 32 := 0#32
  let v73 : BitVec 1 := Scalar.cmpi .ne v72 c0_i32_39
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RDH1Ideal.lean ====
abbrev S8192x4096 : Shape := ⟨2, ![8192, 4096]⟩
abbrev S4x1024x1024 : Shape := ⟨3, ![4, 1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1024 : Shape := ⟨3, ![1, 1024, 1024]⟩
abbrev S1024x1024 : Shape := ⟨2, ![1024, 1024]⟩
abbrev S1024x4096 : Shape := ⟨2, ![1024, 4096]⟩
abbrev S6x1024 : Shape := ⟨2, ![6, 1024]⟩
abbrev S8x1024 : Shape := ⟨2, ![8, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S4x1024x1024, .f32⟩
  | .hbm, ⟨43, _⟩ => ⟨S1x1024x1024, .f32⟩
  | .hbm, ⟨44, _⟩ => ⟨S1024x1024, .f32⟩
  | .hbm, ⟨45, _⟩ => ⟨S1x1024x1024, .f32⟩
  | .hbm, ⟨46, _⟩ => ⟨S1024x1024, .f32⟩
  | .hbm, ⟨47, _⟩ => ⟨S1x1024x1024, .f32⟩
  | .hbm, ⟨48, _⟩ => ⟨S1024x1024, .f32⟩
  | .hbm, ⟨49, _⟩ => ⟨S1x1024x1024, .f32⟩
  | .hbm, ⟨50, _⟩ => ⟨S1024x1024, .f32⟩
  | .hbm, ⟨51, _⟩ => ⟨S1024x4096, .f32⟩
  | .hbm, ⟨52, _⟩ => ⟨S8192x4096, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x4096, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S6x1024, .f32⟩
  | .hbm, ⟨110, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_17 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== KLoss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S5x1024 : Shape := ⟨2, ![5, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v98 : BitVec 1 := Scalar.cmpi .eq arg0 c0_i32
  let v99 : BitVec 32 := Scalar.extui v98
  let c0_i32_43 : BitVec 32 := 0#32
  let v100 : BitVec 1 := Scalar.cmpi .ne v99 c0_i32_43
  v100

def k0_cond2 (i : grid0.Coords) : BitVec 1 :=
  let arg0 : BitVec 32 := BitVec.ofNat 32 (i 0).val
  let c0_i32_44 : BitVec 32 := 0#32
  let v101 : BitVec 1 := Scalar.cmpi .sgt arg0 c0_i32_44
  let v102 : BitVec 32 := Scalar.extui v101
  let c0_i32_45 : BitVec 32 := 0#32
  let v103 : BitVec 1 := Scalar.cmpi .ne v102 c0_i32_45
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RLossIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 154
  | .vmem => 0
  | .smem => 0
  | _ => 0

abbrev hbmTy0_0 (i : Nat) : BufTy := match i % 128 with
  | 0 => ⟨S8192x4096, .bf16⟩
  | 1 => ⟨S4096x1024, .bf16⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x1024, .f32⟩
  | 15 => ⟨S8192x1024, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S_, .f32⟩
  | 26 => ⟨S8192x1, .f32⟩
  | 27 => ⟨S8192x1, .f32⟩
  | 28 => ⟨S8192x1, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x4096, .f32⟩
  | 41 => ⟨S4096x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192, .f32⟩
  | 87 => ⟨S_, .f32⟩
  | 88 => ⟨S8192, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1, .f32⟩
  | 123 => ⟨S8192x1024, .f32⟩
  | 124 => ⟨S_, .f32⟩
  | 125 => ⟨S8192, .f32⟩
  | 126 => ⟨S8192x1, .f32⟩
  | 127 => ⟨S_, .f32⟩
  | _ => ⟨S8192x4096, .bf16⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S1x1024, .f32⟩
  | 20 => ⟨S1x1024, .f32⟩
  | 21 => ⟨S1x1024, .f32⟩
  | 22 => ⟨S_, .f32⟩
  | 23 => ⟨S5x1024, .f32⟩
  | 24 => ⟨S8x1024, .f32⟩
  | 25 => ⟨S8192x1024, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_cst_17 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_cst_21 : Ref sig .tc := ⟨.hbm, 106, rfl⟩
abbrev main_v76 : Ref sig .tc := ⟨.hbm, 107, rfl⟩
abbrev main_v77 : Ref sig .tc := ⟨.hbm, 108, rfl⟩
abbrev main_cst_22 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_cst_24 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_28 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_29 : Ref sig .tc := ⟨.hbm, 140, rfl⟩
abbrev main_v102 : Ref sig .tc := ⟨.hbm, 141, rfl⟩
abbrev main_v103 : Ref sig .tc := ⟨.hbm, 142, rfl⟩
abbrev main_cst_30 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_31 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩

abbrev nD : Nat := 1
abbrev τ : Topo := Topo.v7x

variable {F : FTy → Type} [FloatOps F]
-- ==== KInProj.lean ====
abbrev S8192x1024 : Shape := ⟨2, ![8192, 1024]⟩
abbrev S1024x9728 : Shape := ⟨2, ![1024, 9728]⟩
abbrev S8192x9728 : Shape := ⟨2, ![8192, 9728]⟩
abbrev S1024x1024 : Shape := ⟨2, ![1024, 1024]⟩
abbrev S1024x2432 : Shape := ⟨2, ![1024, 2432]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x9728, .bf16⟩
  | .hbm, ⟨2, _⟩ => ⟨S8192x1024, .bf16⟩
  | .hbm, ⟨3, _⟩ => ⟨S8192x9728, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RInProjIdeal.lean ====
abbrev S8192x1024 : Shape := ⟨2, ![8192, 1024]⟩
abbrev S1024x9728 : Shape := ⟨2, ![1024, 9728]⟩
abbrev S8192x9728 : Shape := ⟨2, ![8192, 9728]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x9728, .bf16⟩
  | .hbm, ⟨2, _⟩ => ⟨S1024x9728, .f32⟩
  | .hbm, ⟨3, _⟩ => ⟨S8192x9728, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KMlpUp.lean ====
abbrev S8192x1024 : Shape := ⟨2, ![8192, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RMlpUpIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S4x1024x1024, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1024x4096, .f32⟩
  | .hbm, ⟨13, _⟩ => ⟨S8192x4096, .f32⟩
  | .hbm, ⟨14, _⟩ => ⟨S8192x4096, .bf16⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_cst : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KDwOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RDwOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDwProjSsd.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwProjSsdIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDwProjAttn.lean ====
abbrev S8192x256 : Shape := ⟨2, ![8192, 256]⟩
abbrev S8192x1024 : Shape := ⟨2, ![8192, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwProjAttnIdeal.lean ====
abbrev S8192x256 : Shape := ⟨2, ![8192, 256]⟩
abbrev S8192x1024 : Shape := ⟨2, ![8192, 1024]⟩
abbrev S_ : Shape := ⟨0, ![]⟩
abbrev S4x256x256 : Shape := ⟨3, ![4, 256, 256]⟩
abbrev S1x256x256 : Shape := ⟨3, ![1, 256, 256]⟩
abbrev S256x256 : Shape := ⟨2, ![256, 256]⟩
abbrev S256x1024 : Shape := ⟨2, ![256, 1024]⟩
abbrev S1024x256 : Shape := ⟨2, ![1024, 256]⟩

abbrev nBuf : Space → Nat
  | .hbm => 36
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S4x256x256, .f32⟩
  | .hbm, ⟨4, _⟩ => ⟨S1x256x256, .f32⟩
  | .hbm, ⟨5, _⟩ => ⟨S256x256, .f32⟩
  | .hbm, ⟨6, _⟩ => ⟨S1x256x256, .f32⟩
  | .hbm, ⟨7, _⟩ => ⟨S256x256, .f32⟩
  | .hbm, ⟨8, _⟩ => ⟨S1x256x256, .f32⟩
  | .hbm, ⟨9, _⟩ => ⟨S256x256, .f32⟩
  | .hbm, ⟨10, _⟩ => ⟨S1x256x256, .f32⟩
  | .hbm, ⟨11, _⟩ => ⟨S256x256, .f32⟩
  | .hbm, ⟨12, _⟩ => ⟨S256x1024, .f32⟩
  | .hbm, ⟨13, _⟩ => ⟨S8192x1024, .f32⟩
  | .hbm, ⟨14, _⟩ => ⟨S8192x1024, .f32⟩
  | .hbm, ⟨15, _⟩ => ⟨S1024x256, .f32⟩
  | .hbm, ⟨16, _⟩ => ⟨S256x1024, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S1x256x256, .f32⟩
  | .hbm, ⟨22, _⟩ => ⟨S_, .f32⟩
  | .hbm, ⟨23, _⟩ => ⟨S4x256x256, .f32⟩
  | .hbm, ⟨24, _⟩ => ⟨S1x256x256, .f32⟩
  | .hbm, ⟨25, _⟩ => ⟨S_, .f32⟩
  | .hbm, ⟨26, _⟩ => ⟨S4x256x256, .f32⟩
  | .hbm, ⟨27, _⟩ => ⟨S4x256x256, .f32⟩
  | .hbm, ⟨28, _⟩ => ⟨S1x256x256, .f32⟩
  | .hbm, ⟨29, _⟩ => ⟨S_, .f32⟩
  | .hbm, ⟨30, _⟩ => ⟨S4x256x256, .f32⟩
  | .hbm, ⟨31, _⟩ => ⟨S4x256x256, .f32⟩
  | .hbm, ⟨32, _⟩ => ⟨S1x256x256, .f32⟩
  | .hbm, ⟨33, _⟩ => ⟨S_, .f32⟩
  | .hbm, ⟨34, _⟩ => ⟨S4x256x256, .f32⟩
  | .hbm, ⟨35, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== KGatenorm.lean ====
abbrev S8192x2048 : Shape := ⟨2, ![8192, 2048]⟩
abbrev S8192x3072 : Shape := ⟨2, ![8192, 3072]⟩
abbrev S8192x9728 : Shape := ⟨2, ![8192, 9728]⟩
abbrev S32 : Shape := ⟨1, ![32]⟩
abbrev S2048 : Shape := ⟨1, ![2048]⟩
abbrev S2048x1024 : Shape := ⟨2, ![2048, 1024]⟩
abbrev S32x64 : Shape := ⟨2, ![32, 64]⟩
abbrev S1x2048 : Shape := ⟨2, ![1, 2048]⟩
abbrev S8192x1024 : Shape := ⟨2, ![8192, 1024]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x9728, .f32⟩
  | .hbm, ⟨3, _⟩ => ⟨S32, .f32⟩
  | .hbm, ⟨4, _⟩ => ⟨S2048, .f32⟩
  | .hbm, ⟨5, _⟩ => ⟨S2048x1024, .bf16⟩
  | .hbm, ⟨6, _⟩ => ⟨S32x64, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .bf16⟩
  | .hbm, ⟨11, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S256x2048, .bf16⟩
  | .local _ .vmem, ⟨10, _⟩ => ⟨S256x2048, .bf16⟩
  | .local _ .vmem, ⟨11, _⟩ => ⟨S256x1024, .f32⟩
  | .local _ .vmem, ⟨12, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RGatenormIdeal.lean ====
abbrev S8192x2048 : Shape := ⟨2, ![8192, 2048]⟩
abbrev S8192x3072 : Shape := ⟨2, ![8192, 3072]⟩
abbrev S8192x9728 : Shape := ⟨2, ![8192, 9728]⟩
abbrev S32 : Shape := ⟨1, ![32]⟩
abbrev S2048 : Shape := ⟨1, ![2048]⟩
abbrev S2048x1024 : Shape := ⟨2, ![2048, 1024]⟩
abbrev S8192x32x64 : Shape := ⟨3, ![8192, 32, 64]⟩
abbrev S32x1 : Shape := ⟨2, ![32, 1]⟩
abbrev S1x32x1 : Shape := ⟨3, ![1, 32, 1]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S1x2048 : Shape := ⟨2, ![1, 2048]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x9728, .f32⟩
  | .hbm, ⟨3, _⟩ => ⟨S32, .f32⟩
  | .hbm, ⟨4, _⟩ => ⟨S2048, .f32⟩
  | .hbm, ⟨5, _⟩ => ⟨S2048x1024, .bf16⟩
  | .hbm, ⟨6, _⟩ => ⟨S8192x2048, .f32⟩
  | .hbm, ⟨7, _⟩ => ⟨S8192x2048, .f32⟩
  | .hbm, ⟨8, _⟩ => ⟨S8192x32x64, .f32⟩
  | .hbm, ⟨9, _⟩ => ⟨S32x1, .f32⟩
  | .hbm, ⟨10, _⟩ => ⟨S8192x32x64, .f32⟩
  | .hbm, ⟨11, _⟩ => ⟨S1x32x1, .f32⟩
  | .hbm, ⟨12, _⟩ => ⟨S8192x32x64, .f32⟩
  | .hbm, ⟨13, _⟩ => ⟨S8192x32x64, .f32⟩
  | .hbm, ⟨14, _⟩ => ⟨S8192x32x64, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x4x512, .f32⟩
  | .hbm, ⟨27, _⟩ => ⟨S8192x4x512, .f32⟩
  | .hbm, ⟨28, _⟩ => ⟨S_, .f32⟩
  | .hbm, ⟨29, _⟩ => ⟨S8192x4, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1, .f32⟩
  | .hbm, ⟨38, _⟩ => ⟨S8192x4x512, .f32⟩
  | .hbm, ⟨39, _⟩ => ⟨S8192x4x512, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S2048x1024, .f32⟩
  | .hbm, ⟨46, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== KMixOut.lean ====
abbrev S8192x1024 : Shape := ⟨2, ![8192, 1024]⟩
abbrev S8192x4x64 : Shape := ⟨3, ![8192, 4, 64]⟩
abbrev S8192x4 : Shape := ⟨2, ![8192, 4]⟩
abbrev S4x256x256 : Shape := ⟨3, ![4, 256, 256]⟩
abbrev S8192x9728 : Shape := ⟨2, ![8192, 9728]⟩
abbrev S2048 : Shape := ⟨1, ![2048]⟩
abbrev S1024x1024 : Shape := ⟨2, ![1024, 1024]⟩
abbrev S1024 : Shape := ⟨1, ![1024]⟩
abbrev S8192x256 : Shape := ⟨2, ![8192, 256]⟩
abbrev S8192x4x1 : Shape := ⟨3, ![8192, 4, 1]⟩
abbrev S1x2048 : Shape := ⟨2, ![1, 2048]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 33
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S8192x4, .f32⟩
  | .hbm, ⟨6, _⟩ => ⟨S8192x4, .f32⟩
  | .hbm, ⟨7, _⟩ => ⟨S4x256x256, .bf16⟩
  | .hbm, ⟨8, _⟩ => ⟨S8192x9728, .f32⟩
  | .hbm, ⟨9, _⟩ => ⟨S2048, .f32⟩
  | .hbm, ⟨10, _⟩ => ⟨S8192x1024, .f32⟩
  | .hbm, ⟨11, _⟩ => ⟨S1024x1024, .bf16⟩
  | .hbm, ⟨12, _⟩ => ⟨S1024, .f32⟩
  | .hbm, ⟨13, _⟩ => ⟨S1024, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x4x1, .f32⟩
  | .hbm, ⟨18, _⟩ => ⟨S8192x4x64, .f32⟩
  | .hbm, ⟨19, _⟩ => ⟨S8192x256, .f32⟩
  | .hbm, ⟨20, _⟩ => ⟨S8192x4x1, .f32⟩
  | .hbm, ⟨21, _⟩ => ⟨S8192x4x64, .f32⟩
  | .hbm, ⟨22, _⟩ => ⟨S8192x256, .f32⟩
  | .hbm, ⟨23, _⟩ => ⟨S8192x4x1, .f32⟩
  | .hbm, ⟨24, _⟩ => ⟨S8192x4x64, .f32⟩
  | .hbm, ⟨25, _⟩ => ⟨S8192x256, .f32⟩
  | .hbm, ⟨26, _⟩ => ⟨S1x2048, .f32⟩
  | .hbm, ⟨27, _⟩ => ⟨S1x1024, .f32⟩
  | .hbm, ⟨28, _⟩ => ⟨S1x1024, .f32⟩
  | .hbm, ⟨29, _⟩ => ⟨S8192x256, .f32⟩
  | .hbm, ⟨30, _⟩ => ⟨S8192x1024, .bf16⟩
  | .hbm, ⟨31, _⟩ => ⟨S8192x1024, .f32⟩
  | .hbm, ⟨32, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S4x256x256, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S512x256, .f32⟩
  | .local _ .vmem, ⟨27, _⟩ => ⟨S512x256, .f32⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RMixOutIdeal.lean ====
abbrev S8192x1024 : Shape := ⟨2, ![8192, 1024]⟩
abbrev S8192x4x64 : Shape := ⟨3, ![8192, 4, 64]⟩
abbrev S8192x4 : Shape := ⟨2, ![8192, 4]⟩
abbrev S4x256x256 : Shape := ⟨3, ![4, 256, 256]⟩
abbrev S8192x9728 : Shape := ⟨2, ![8192, 9728]⟩
abbrev S2048 : Shape := ⟨1, ![2048]⟩
abbrev S1024x1024 : Shape := ⟨2, ![1024, 1024]⟩
abbrev S1024 : Shape := ⟨1, ![1024]⟩
abbrev S1x8192x4 : Shape := ⟨3, ![1, 8192, 4]⟩
abbrev S3x8192x4 : Shape := ⟨3, ![3, 8192, 4]⟩
abbrev S_ : Shape := ⟨0, ![]⟩
abbrev S3x8192x4x1 : Shape := ⟨4, ![3, 8192, 4, 1]⟩
abbrev S1x8192x4x64 : Shape := ⟨4, ![1, 8192, 4, 64]⟩
abbrev S3x8192x4x64 : Shape := ⟨4, ![3, 8192, 4, 64]⟩
abbrev S8192x256 : Shape := ⟨2, ![8192, 256]⟩
abbrev S8192x2048 : Shape := ⟨2, ![8192, 2048]⟩
abbrev S1x2048 : Shape := ⟨2, ![1, 2048]⟩
abbrev S8192x2x1024 : Shape := ⟨3, ![8192, 2, 1024]⟩
abbrev S8192x1x1024 : Shape := ⟨3, ![8192, 1, 1024]⟩
abbrev S1x256x256 : Shape := ⟨3, ![1, 256, 256]⟩
abbrev S256x256 : Shape := ⟨2, ![256, 256]⟩
abbrev S256x1024 : Shape := ⟨2, ![256, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S8192x4, .f32⟩
  | .hbm, ⟨6, _⟩ => ⟨S8192x4, .f32⟩
  | .hbm, ⟨7, _⟩ => ⟨S4x256x256, .bf16⟩
  | .hbm, ⟨8, _⟩ => ⟨S8192x9728, .f32⟩
  | .hbm, ⟨9, _⟩ => ⟨S2048, .f32⟩
  | .hbm, ⟨10, _⟩ => ⟨S8192x1024, .f32⟩
  | .hbm, ⟨11, _⟩ => ⟨S1024x1024, .bf16⟩
  | .hbm, ⟨12, _⟩ => ⟨S1024, .f32⟩
  | .hbm, ⟨13, _⟩ => ⟨S1024, .f32⟩
  | .hbm, ⟨14, _⟩ => ⟨S1x8192x4, .f32⟩
  | .hbm, ⟨15, _⟩ => ⟨S1x8192x4, .f32⟩
  | .hbm, ⟨16, _⟩ => ⟨S1x8192x4, .f32⟩
  | .hbm, ⟨17, _⟩ => ⟨S3x8192x4, .f32⟩
  | .hbm, ⟨18, _⟩ => ⟨S_, .f32⟩
  | .hbm, ⟨19, _⟩ => ⟨S8192x4, .f32⟩
  | .hbm, ⟨20, _⟩ => ⟨S_, .f32⟩
  | .hbm, ⟨21, _⟩ => ⟨S8192x4, .f32⟩
  | .hbm, ⟨22, _⟩ => ⟨S8192x4, .f32⟩
  | .hbm, ⟨23, _⟩ => ⟨S1x8192x4, .f32⟩
  | .hbm, ⟨24, _⟩ => ⟨S3x8192x4, .f32⟩
  | .hbm, ⟨25, _⟩ => ⟨S3x8192x4, .f32⟩
  | .hbm, ⟨26, _⟩ => ⟨S3x8192x4, .f32⟩
  | .hbm, ⟨27, _⟩ => ⟨S_, .f32⟩
  | .hbm, ⟨28, _⟩ => ⟨S8192x4, .f32⟩
  | .hbm, ⟨29, _⟩ => ⟨S1x8192x4, .f32⟩
  | .hbm, ⟨30, _⟩ => ⟨S3x8192x4, .f32⟩
  | .hbm, ⟨31, _⟩ => ⟨S3x8192x4, .f32⟩
  | .hbm, ⟨32, _⟩ => ⟨S3x8192x4x1, .f32⟩
  | .hbm, ⟨33, _⟩ => ⟨S1x8192x4x64, .f32⟩
  | .hbm, ⟨34, _⟩ => ⟨S1x8192x4x64, .f32⟩
  | .hbm, ⟨35, _⟩ => ⟨S1x8192x4x64, .f32⟩
  | .hbm, ⟨36, _⟩ => ⟨S3x8192x4x64, .f32⟩
  | .hbm, ⟨37, _⟩ => ⟨S3x8192x4x64, .f32⟩
  | .hbm, ⟨38, _⟩ => ⟨S3x8192x4x64, .f32⟩
  | .hbm, ⟨39, _⟩ => ⟨S_, .f32⟩
  | .hbm, ⟨40, _⟩ => ⟨S8192x4x64, .f32⟩
  | .hbm, ⟨41, _⟩ => ⟨S8192x256, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2x1024, .f32⟩
  | .hbm, ⟨55, _⟩ => ⟨S8192x1x1024, .f32⟩
  | .hbm, ⟨56, _⟩ => ⟨S8192x1024, .f32⟩
  | .hbm, ⟨57, _⟩ => ⟨S8192x1024, .f32⟩
  | .hbm, ⟨58, _⟩ => ⟨S8192x1x1024, .f32⟩
  | .hbm, ⟨59, _⟩ => ⟨S8192x1024, .f32⟩
  | .hbm, ⟨60, _⟩ => ⟨S4x256x256, .f32⟩
  | .hbm, ⟨61, _⟩ => ⟨S1x256x256, .f32⟩
  | .hbm, ⟨62, _⟩ => ⟨S256x256, .f32⟩
  | .hbm, ⟨63, _⟩ => ⟨S1x256x256, .f32⟩
  | .hbm, ⟨64, _⟩ => ⟨S256x256, .f32⟩
  | .hbm, ⟨65, _⟩ => ⟨S1x256x256, .f32⟩
  | .hbm, ⟨66, _⟩ => ⟨S256x256, .f32⟩
  | .hbm, ⟨67, _⟩ => ⟨S1x256x256, .f32⟩
  | .hbm, ⟨68, _⟩ => ⟨S256x256, .f32⟩
  | .hbm, ⟨69, _⟩ => ⟨S256x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S1024x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S8192x1, .f32⟩
  | .hbm, ⟨101, _⟩ => ⟨S8192x1024, .f32⟩
  | .hbm, ⟨102, _⟩ => ⟨S8192x1024, .f32⟩
  | .hbm, ⟨103, _⟩ => ⟨S1x1024, .f32⟩
  | .hbm, ⟨104, _⟩ => ⟨S8192x1024, .f32⟩
  | .hbm, ⟨105, _⟩ => ⟨S8192x1024, .f32⟩
  | .hbm, ⟨106, _⟩ => ⟨S1x1024, .f32⟩
  | .hbm, ⟨107, _⟩ => ⟨S8192x1024, .f32⟩
  | .hbm, ⟨108, _⟩ => ⟨S8192x1024, .f32⟩
  | .hbm, ⟨109, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Proof.Attn.Host.lean ====
/-
  What the program computes before the launch: the forward lines, the weights and the two arrays made of them.
-/
module

public import proofs.«01_k».proof.Proof.Gen.KernelIdeal.Frame
public import proofs.«01_k».proof.Proof.Gen.ReferenceIdeal.Read
public import Idealize.ShloMosaic.Lib.ValueIdxCore

@[expose] public section

set_option maxRecDepth 16384
set_option maxHeartbeats 4000000

noncomputable section

namespace Attn

open Cert.KernelIdeal Cert.KernelIdeal.Gen Idealize.ShloMosaic Idealize.ShloMosaic.TcCoe Idealize.SL.Sem ValueIdx
open Idealize.ShloMosaic.StableHlo

/-- Contents of all the buffers of a core. -/
abbrev Vals := Valuation τ sig (Elt Ideal)

theorem first_v9 (X : Vals) : after (hostOps0 (F := Ideal)) X (Proc.devRef .tc main_v9) = Cert.ReferenceIdeal.Read.val_main_v9 (X (Proc.devRef .tc main_arg0)) := by
  simp only [hostOps0]
  after_results_simp
  rfl

theorem first_v20 (X : Vals) : after (hostOps0 (F := Ideal)) X (Proc.devRef .tc main_v20) = Cert.ReferenceIdeal.Read.val_main_v20 (F := Ideal) := by
  simp only [hostOps0]
  after_results_simp
  rfl

theorem first_cst (X : Vals) : after (hostOps0 (F := Ideal)) X (Proc.devRef .tc main_cst_4) = Cert.ReferenceIdeal.Read.val_main_cst_4 (F := Ideal) := by
  simp only [hostOps0]
  after_results_simp
  rfl

theorem first_v30 (X : Vals) : after (hostOps0 (F := Ideal)) X (Proc.devRef .tc main_v30) = Cert.ReferenceIdeal.Read.val_main_v30 (X (Proc.devRef .tc main_arg0)) := by
  simp only [hostOps0]
  after_results_simp
  try dsimp only [Matrix.cons_val]
  try after_results_simp
  rfl

theorem mask_v31 (X : Vals) : after (hostOps0_1 (F := Ideal)) X (Proc.devRef .tc main_v31)
    = select (broadcastInDim S4x8192x8192 ![1, 2] bcast_S8192x8192_S4x8192x8192_1_2 (X (Proc.devRef .tc main_v20))) (X (Proc.devRef .tc main_v30)) (broadcastInDim S4x8192x8192 ![] bcast_S_S4x8192x8192 (X (Proc.devRef .tc main_cst_4))) := by
  simp only [hostOps0_1]
  after_results_simp
  rfl

theorem mask_v9 (X : Vals) : after (hostOps0_1 (F := Ideal)) X (Proc.devRef .tc main_v9) = X (Proc.devRef .tc main_v9) := by
  simp only [hostOps0_1]
  after_results_simp

/-- The forward lines after the mask: the largest score, the exponentials, their sum. -/
def peak (x : FVec Ideal S4x8192x8192 .f32) : FVec Ideal S4x8192 .f32 :=
  Host.reduce FloatOps.maximumf x (constant S_ .f32 0xFF800000#32) reducesTo_S4x8192x8192_S4x8192_d2 h_S_
def numer (x : FVec Ideal S4x8192x8192 .f32) : FVec Ideal S4x8192x8192 .f32 :=
  Host.exp (subf x (broadcastInDim S4x8192x8192 ![0, 1, 2] bcast_S4x8192x1_S4x8192x8192_0_1_2 (broadcastInDim S4x8192x1 ![0, 1] bcast_S4x8192_S4x8192x1_0_1 (peak x))))
def denom (x : FVec Ideal S4x8192x8192 .f32) : FVec Ideal S4x8192x1 .f32 :=
  broadcastInDim S4x8192x1 ![0, 1] bcast_S4x8192_S4x8192x1_0_1 (Host.reduceAdd (numer x) (constant S_ .f32 0x00000000#32) reducesTo_S4x8192x8192_S4x8192_d2 h_S_)

/-- A flat array of 256 lanes: head after head, 64 coordinates each. -/
def flatOf (x : FVec Ideal S8192x4x64 .f32) : FVec Ideal S8192x256 .f32 := shapeCast _ x shapeCasts_S8192x4x64_S8192x256

/-- A number a head, repeated over the head's lanes. -/
def lanesOf (x : FVec Ideal S8192x4 .f32) : FVec Ideal S8192x256 .f32 :=
  flatOf (broadcastInDim S8192x4x64 ![0, 1, 2] bcast_S8192x4x1_S8192x4x64_0_1_2 (broadcastInDim S8192x4x1 ![0, 1] bcast_S8192x4_S8192x4x1_0_1 x))

/-- The exponentials less the largest, and one over their sum. -/
def expOf (a l0 l1 l2 : FVec Ideal S8192x256 .f32) : FVec Ideal S8192x256 .f32 := Host.exp (subf a (maximumf (maximumf l0 l1) l2))
def overOf (l0 l1 l2 : FVec Ideal S8192x256 .f32) : FVec Ideal S8192x256 .f32 :=
  Host.divf (broadcastInDim S8192x256 ![] bcast_S_S8192x256 (constant S_ .f32 0x3F800000#32)) (addf (addf (expOf l0 l0 l1 l2) (expOf l1 l0 l1 l2)) (expOf l2 l0 l1 l2))
def weightOf (a l0 l1 l2 : FVec Ideal S8192x256 .f32) : FVec Ideal S8192x256 .f32 := mulf (expOf a l0 l1 l2) (overOf l0 l1 l2)

/-- The sum over a head's lanes, given back to all of them. -/
def sumOf (z : FVec Ideal S8192x256 .f32) : FVec Ideal S8192x256 .f32 :=
  lanesOf (Host.reduceAdd (shapeCast S8192x4x64 z shapeCasts_S8192x256_S8192x4x64) (constant S_ .f32 0x00000000#32) reducesTo_S8192x4x64_S8192x4_d2 h_S_)

def scaleOf (l0 l1 l2 d : FVec Ideal S8192x256 .f32) : FVec Ideal S8192x256 .f32 := mulf (weightOf l0 l0 l1 l2) d
def shiftOf (l0 l1 l2 o0 o1 o2 d : FVec Ideal S8192x256 .f32) : FVec Ideal S8192x256 .f32 :=
  mulf (Host.negf (weightOf l0 l0 l1 l2))
    (sumOf (mulf d (addf (addf (mulf (weightOf l0 l0 l1 l2) o0) (mulf (weightOf l1 l0 l1 l2) o1)) (mulf (weightOf l2 l0 l1 l2) o2))))

section Last

variable (X : Vals)

theorem last_v45 : after (hostOps0_2 (F := Ideal)) X (Proc.devRef .tc main_v45) =
    (transpose S8192x4x64 [1, 0, 2] (Host.divf (Host.dotGeneral (φ₂ := .f32) dot_S4x8192x8192_S8192x4x64_S4x8192x64_2_0_1_2_0_1 none (numer (X (Proc.devRef .tc main_v31))) (X (Proc.devRef .tc main_v9)))
      (broadcastInDim S4x8192x64 ![0, 1, 2] bcast_S4x8192x1_S4x8192x64_0_1_2 (denom (X (Proc.devRef .tc main_v31))))) transposes_S4x8192x64_S8192x4x64_1_0_2) := by
  simp only [hostOps0_2]
  after_results_simp
  rfl

theorem last_v46 : after (hostOps0_2 (F := Ideal)) X (Proc.devRef .tc main_v46) =
    transpose S8192x4 [1, 0] (shapeCast _ (addf (broadcastInDim S4x8192x1 ![0, 1] bcast_S4x8192_S4x8192x1_0_1 (peak (X (Proc.devRef .tc main_v31)))) (Host.log (denom (X (Proc.devRef .tc main_v31)))))
      shapeCasts_S4x8192x1_S4x8192) transposes_S4x8192_S8192x4_1_0 := by
  simp only [hostOps0_2]
  after_results_simp
  rfl

theorem last_v52 : after (hostOps0_2 (F := Ideal)) X (Proc.devRef .tc main_v52) = lanesOf (after (hostOps0_2 (F := Ideal)) X (Proc.devRef .tc main_v46)) := by
  simp only [hostOps0_2]
  after_results_simp
  rfl

theorem last_v86 : after (hostOps0_2 (F := Ideal)) X (Proc.devRef .tc main_v86)
    = scaleOf (lanesOf (after (hostOps0_2 (F := Ideal)) X (Proc.devRef .tc main_v46))) (lanesOf (X (Proc.devRef .tc main_arg5))) (lanesOf (X (Proc.devRef .tc main_arg6))) (flatOf (X (Proc.devRef .tc main_arg2))) := by
  simp only [hostOps0_2]
  after_results_simp
  rfl

theorem last_v88 : after (hostOps0_2 (F := Ideal)) X (Proc.devRef .tc main_v88)
    = shiftOf (lanesOf (after (hostOps0_2 (F := Ideal)) X (Proc.devRef .tc main_v46))) (lanesOf (X (Proc.devRef .tc main_arg5))) (lanesOf (X (Proc.devRef .tc main_arg6)))
        (flatOf (after (hostOps0_2 (F := Ideal)) X (Proc.devRef .tc main_v45))) (flatOf (X (Proc.devRef .tc main_arg3))) (flatOf (X (Proc.devRef .tc main_arg4))) (flatOf (X (Proc.devRef .tc main_arg2))) := by
  simp only [hostOps0_2]
  after_results_simp
  rfl

theorem last_v89 : after (hostOps0_2 (F := Ideal)) X (Proc.devRef .tc main_v89) = X (Proc.devRef .tc main_arg1) := by
  simp only [hostOps0_2]
  after_results_simp
  rfl

end Last

variable (m : (ℓ : Loc nD τ sig) → Buf (Elt Ideal) ℓ)

theorem V_split (c : Dev nD) (b : Ref sig .tc) : V m c b = after (hostOps0_2 (F := Ideal)) (after (hostOps0_1 (F := Ideal)) (after (hostOps0 (F := Ideal)) (fun b => m (c, b)))) (Proc.devRef .tc b) := by
  show after (List.flatten [hostOps0, hostOps0_1, hostOps0_2]) _ _ = _
  rw [List.flatten_cons, List.flatten_cons, List.flatten_cons, List.flatten_nil, List.append_nil, after_append, after_append]

theorem keep2 (X : Vals) (b : Ref sig .tc) (h : b = main_arg1 ∨ b = main_arg2 ∨ b = main_arg3 ∨ b = main_arg4 ∨ b = main_arg5 ∨ b = main_arg6) :
    after (hostOps0_1 (F := Ideal)) (after (hostOps0 (F := Ideal)) X) (Proc.devRef .tc b) = X (Proc.devRef .tc b) := by
  rcases h with rfl | rfl | rfl | rfl | rfl | rfl <;>
  · simp only [hostOps0_1, hostOps0]
    after_results_simp

theorem mask_line (X : Vals) : after (hostOps0_1 (F := Ideal)) (after (hostOps0 (F := Ideal)) X) (Proc.devRef .tc main_v31)
    = Cert.ReferenceIdeal.Read.val_main_v31_0 (X (Proc.devRef .tc main_arg0)) := by
  rw [mask_v31, first_v20, first_v30, first_cst]; rfl

theorem mask_keep (X : Vals) : after (hostOps0_1 (F := Ideal)) (after (hostOps0 (F := Ideal)) X) (Proc.devRef .tc main_v9)
    = Cert.ReferenceIdeal.Read.val_main_v9 (X (Proc.devRef .tc main_arg0)) := by
  rw [mask_v9, first_v9]

theorem V_v45 (c : Dev nD) : V m c main_v45 = Cert.ReferenceIdeal.Read.val_main_v53 (m ((c : Thread nD τ).loc main_arg0)) := by
  rw [V_split, last_v45, mask_line, mask_keep]; rfl

theorem V_v46 (c : Dev nD) : V m c main_v46 = Cert.ReferenceIdeal.Read.val_main_v54 (m ((c : Thread nD τ).loc main_arg0)) := by
  rw [V_split, last_v46, mask_line]; rfl

theorem V_v52 (c : Dev nD) : V m c main_v52 = lanesOf (V m c main_v46) := by
  rw [V_split, V_split, last_v52]

theorem V_v86 (c : Dev nD) : V m c main_v86
    = scaleOf (lanesOf (V m c main_v46)) (lanesOf (m ((c : Thread nD τ).loc main_arg5))) (lanesOf (m ((c : Thread nD τ).loc main_arg6))) (flatOf (m ((c : Thread nD τ).loc main_arg2))) := by
  rw [V_split, V_split, last_v86, keep2 _ main_arg5 (by decide), keep2 _ main_arg6 (by decide), keep2 _ main_arg2 (by decide)]

theorem V_v88 (c : Dev nD) : V m c main_v88
    = shiftOf (lanesOf (V m c main_v46)) (lanesOf (m ((c : Thread nD τ).loc main_arg5))) (lanesOf (m ((c : Thread nD τ).loc main_arg6)))
        (flatOf (V m c main_v45)) (flatOf (m ((c : Thread nD τ).loc main_arg3))) (flatOf (m ((c : Thread nD τ).loc main_arg4))) (flatOf (m ((c : Thread nD τ).loc main_arg2))) := by
  rw [V_split, V_split, V_split, last_v88, keep2 _ main_arg5 (by decide), keep2 _ main_arg6 (by decide), keep2 _ main_arg2 (by decide), keep2 _ main_arg3 (by decide), keep2 _ main_arg4 (by decide)]

theorem V_v89 (c : Dev nD) : V m c main_v89 = m ((c : Thread nD τ).loc main_arg1) := by
  rw [V_split, last_v89, keep2 _ main_arg1 (by decide)]

end Attn
-- ==== Proof.Attn.Reals.lean ====
/-
  Extended reals that are real numbers: sums, quotients, exponentials, maxima and the constants of both programs.
-/
module

public import Idealize.ShloMosaic.Lib.KernelVsHost
public import Idealize.ShloMosaic.Lib.Pipeline.Value
public import Idealize.ShloMosaic.Lib.ValueIdx
public import Idealize.ShloMosaic.PureOps.Ideal.Laws

@[expose] public section

noncomputable section

namespace Attn

open Idealize.ShloMosaic

/-- The real number of an extended one that is neither infinity. -/
theorem coe_toReal {x : EReal} (h : x ≠ ⊤ ∧ x ≠ ⊥) : ((x.toReal : ℝ) : EReal) = x := EReal.coe_toReal h.1 h.2

theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum whose terms are real numbers. -/
theorem sum_of {ι : Type*} [Fintype ι] {g : ι → EReal} (f : ι → ℝ) (h : ∀ k, g k = ((f k : ℝ) : EReal)) :
    ∑ k, g k = ((∑ k, f k : ℝ) : EReal) := by
  rw [← sum_coe]; exact Finset.sum_congr rfl fun k _ => h k

theorem div_coe (a b : ℝ) (hb : b ≠ 0) : Ideal.div ((a : ℝ) : EReal) ((b : ℝ) : EReal) = ((a / b : ℝ) : EReal) := by
  unfold Ideal.div
  rw [if_neg (by exact_mod_cast hb), ← EReal.coe_inv, ← EReal.coe_mul]; rfl

theorem zero_div (x : EReal) (hx : x ≠ 0) : Ideal.div 0 x = 0 := by
  unfold Ideal.div
  rw [if_neg hx, zero_mul]

theorem log_coe_pos (a : ℝ) (ha : 0 < a) : Ideal.log ((a : ℝ) : EReal) = ((Real.log a : ℝ) : EReal) := by
  rw [Ideal.log_coe, if_neg (not_le.2 ha)]

theorem max_coe (a b : ℝ) : max ((a : ℝ) : EReal) ((b : ℝ) : EReal) = ((max a b : ℝ) : EReal) := by
  rcases le_total a b with h | h
  · rw [max_eq_right h, max_eq_right (by exact_mod_cast h)]
  · rw [max_eq_left h, max_eq_left (by exact_mod_cast h)]

/-- The largest of finitely many numbers, none of them the infinity above and one at least a real number, is a real number. -/
theorem fold_max_real {n : Nat} (b : EReal) (hb : b = ⊥) (f : Fin n → EReal) (ht : ∀ k, f k ≠ ⊤) (k₀ : Fin n) (h₀ : f k₀ ≠ ⊥) :
    (Finset.univ : Finset (Fin n)).fold max b f ≠ ⊤ ∧ (Finset.univ : Finset (Fin n)).fold max b f ≠ ⊥ := by
  subst hb
  constructor
  · have : ∀ s : Finset (Fin n), s.fold max ⊥ f < ⊤ := fun s => by
      rw [Finset.fold_max_lt]; exact ⟨bot_lt_top, fun k _ => lt_top_iff_ne_top.2 (ht k)⟩
    exact (this _).ne
  · refine (lt_of_lt_of_le (bot_lt_iff_ne_bot.2 h₀) ?_).ne'
    rw [Finset.le_fold_max]; exact Or.inr ⟨k₀, Finset.mem_univ _, le_rfl⟩

theorem eighth : Ideal.ofBits .f32 0x3E000000#32 = (((1 : ℝ) / 8 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem bot_word : Ideal.ofBits .f32 0xFF800000#32 = (⊥ : EReal) := by
  simp [Ideal.ofBits, Ideal.ieee]

/-- The four slopes of the heads of the group, as the programs write them. -/
def slopeWord : Fin 4 → BitVec 32 := ![0x3F214518#32, 0x3ECB2FF5#32, 0x3E800000#32, 0x3E214518#32]

/-- The slope of a head. -/
def sl (h : Fin 4) : ℝ := (Ideal.ofBits .f32 (slopeWord h)).toReal

theorem slope_word (h : Fin 4) : Ideal.ofBits .f32 (slopeWord h) = ((sl h : ℝ) : EReal) := by
  refine (coe_toReal ?_).symm
  fin_cases h <;> simp [slopeWord, Ideal.ofBits, Ideal.ieee, -EReal.coe_mul]

/-- The distance of two positions, as 32-bit words. -/
theorem absi_toInt (x : BitVec 32) (h : -(2 ^ 31 : ℤ) < x.toInt) : (IntOp.absi x).toInt = (x.toInt.natAbs : ℤ) := by
  unfold IntOp.absi
  have h2 := x.toInt_lt
  split
  · rename_i hm
    have hneg : x.toInt < 0 := by rw [BitVec.msb_eq_toInt] at hm; exact of_decide_eq_true hm
    rw [BitVec.toInt_neg, Int.bmod_def, show ((2 ^ 32 : ℕ) : ℤ) = 4294967296 by norm_num]
    norm_num at h h2
    split <;> omega
  · rename_i hm
    have hpos : ¬ x.toInt < 0 := by rw [BitVec.msb_eq_toInt] at hm; exact fun h => hm (decide_eq_true h)
    omega

theorem toInt_ofNat_small (n : ℕ) (h : n < 2 ^ 31) : (BitVec.ofNat 32 n).toInt = (n : ℤ) := by
  have h' : n % 2 ^ 32 = n := Nat.mod_eq_of_lt (lt_trans h (by norm_num))
  rw [BitVec.toInt_eq_toNat_of_lt (by rw [BitVec.toNat_ofNat, h']; norm_num at h ⊢; omega), BitVec.toNat_ofNat, h']

theorem subi_toInt (x y : BitVec 32) (h : -(2 ^ 31 : ℤ) ≤ x.toInt - y.toInt) (h' : x.toInt - y.toInt < (2 ^ 31 : ℤ)) :
    (IntOp.subi x y).toInt = x.toInt - y.toInt := by
  unfold IntOp.subi
  rw [BitVec.toInt_sub, Int.bmod_def]
  norm_num at h h' ⊢
  split <;> omega

theorem addi_toInt (x y : BitVec 32) (h : -(2 ^ 31 : ℤ) ≤ x.toInt + y.toInt) (h' : x.toInt + y.toInt < (2 ^ 31 : ℤ)) :
    (IntOp.addi x y).toInt = x.toInt + y.toInt := by
  unfold IntOp.addi
  rw [BitVec.toInt_add, Int.bmod_def]
  norm_num at h h' ⊢
  split <;> omega

theorem muli_toInt (x y : BitVec 32) (h : -(2 ^ 31 : ℤ) ≤ x.toInt * y.toInt) (h' : x.toInt * y.toInt < (2 ^ 31 : ℤ)) :
    (IntOp.muli x y).toInt = x.toInt * y.toInt := by
  unfold IntOp.muli
  rw [BitVec.toInt_mul, Int.bmod_def]
  generalize x.toInt * y.toInt = z at *
  norm_num at h h' ⊢
  split <;> omega

/-- A choice by a comparison's bit. -/
theorem select_bool {α : Type} (b : Bool) (x y : α) : Scalar.select (BitVec.ofBool b) x y = if b then x else y := by
  cases b <;> rfl

end Attn

end
-- ==== Proof.Attn.Math.lean ====
/-
  The mathematics of the group's attention over the real numbers: scores, weights, the combination of the three
  groups, and the two forms of the gradient of the queries.
-/
module

public import Idealize.ShloMosaic.PureOps.Ideal.Laws

@[expose] public section

noncomputable section

namespace Attn

/-- A number for every token, head and coordinate of a head; one for every token and head. -/
abbrev Vec3 := Fin 8192 → Fin 4 → Fin 64 → ℝ
abbrev Vec2 := Fin 8192 → Fin 4 → ℝ

/-- How far apart two tokens are. -/
def gap (i j : Fin 8192) : ℕ := ((j.val : ℤ) - (i.val : ℤ)).natAbs

/-- A query attends the keys at most 64 tokens away. -/
def near (i j : Fin 8192) : Prop := gap i j ≤ 64

instance (i j : Fin 8192) : Decidable (near i j) := by unfold near; infer_instance

theorem near_self (i : Fin 8192) : near i i := by simp [near, gap]

section Weights

variable (s : Fin 4 → ℝ) (q k v : Vec3) (M : Fin 4 → Fin 8192 → ℝ)

def sc (h : Fin 4) (i j : Fin 8192) : ℝ := (∑ e, q i h e * k j h e) * (1 / 8) - s h * (gap i j : ℝ)

def P (h : Fin 4) (i j : Fin 8192) : ℝ := if near i j then Real.exp (sc s q k h i j - M h i) else 0

def den (h : Fin 4) (i : Fin 8192) : ℝ := ∑ j, P s q k M h i j

def num (h : Fin 4) (i : Fin 8192) (e : Fin 64) : ℝ := ∑ j, P s q k M h i j * v j h e

/-- The group's output and the logarithm of its denominator. -/
def out : Vec3 := fun i h e => num s q k v M h i e / den s q k M h i
def lse : Vec2 := fun i h => M h i + Real.log (den s q k M h i)

theorem P_nonneg (h : Fin 4) (i j : Fin 8192) : 0 ≤ P s q k M h i j := by
  unfold P; split
  · exact (Real.exp_pos _).le
  · exact le_rfl

theorem den_pos (h : Fin 4) (i : Fin 8192) : 0 < den s q k M h i := by
  refine lt_of_lt_of_le ?_ (Finset.single_le_sum (fun j _ => P_nonneg s q k M h i j) (Finset.mem_univ i))
  rw [P, if_pos (near_self i)]; exact Real.exp_pos _

theorem exp_lse (h : Fin 4) (i j : Fin 8192) (hn : near i j) :
    Real.exp (sc s q k h i j - lse s q k M i h) = P s q k M h i j / den s q k M h i := by
  rw [lse, ← sub_sub, Real.exp_sub, Real.exp_log (den_pos s q k M h i), P, if_pos hn]

end Weights

section Combine

variable (l : Fin 3 → Vec2) (o : Fin 3 → Vec3) (da : Vec3)

/-- The weight of a group: its denominator among the three. -/
def W (g : Fin 3) : Vec2 := fun i h => Real.exp (l g i h) / ∑ g', Real.exp (l g' i h)

def dw (g : Fin 3) : Vec2 := fun i h => ∑ e, da i h e * o g i h e

def dO : Vec3 := fun i h e => W l 0 i h * da i h e

/-- The gradient of the group's logarithm. -/
def dl (g : Fin 3) : Vec2 := fun i h => (dw o da g i h - ∑ g', W l g' i h * dw o da g' i h) * W l g i h

/-- The number the kernel adds to every product of a token. -/
def E : Vec2 := fun i h => -(W l 0 i h * ∑ g, W l g i h * dw o da g i h)

theorem exps_pos (X : ℝ) (i : Fin 8192) (h : Fin 4) : 0 < ∑ g, Real.exp (l g i h - X) :=
  Finset.sum_pos (fun _ _ => Real.exp_pos _) ⟨0, Finset.mem_univ _⟩

/-- The weights do not change when one number is taken from all three logarithms. -/
theorem W_shift (X : ℝ) (g : Fin 3) (i : Fin 8192) (h : Fin 4) :
    Real.exp (l g i h - X) / ∑ g', Real.exp (l g' i h - X) = W l g i h := by
  unfold W
  simp only [Real.exp_sub, ← Finset.sum_div]
  exact div_div_div_cancel_right₀ (Real.exp_ne_zero X) _ _

/-- The gradient through the quotient, as the quotient rule writes it. -/
theorem dl_quotient (X : ℝ) (g : Fin 3) (i : Fin 8192) (h : Fin 4) :
    (dw o da g i h / (∑ g', Real.exp (l g' i h - X))
        + -(∑ g', dw o da g' i h * (1 / ((∑ g', Real.exp (l g' i h - X)) * ∑ g', Real.exp (l g' i h - X))) * Real.exp (l g' i h - X)))
      * Real.exp (l g i h - X) = dl l o da g i h := by
  have hS := (exps_pos l X i h).ne'
  unfold dl
  simp only [← W_shift l X]
  generalize (∑ g', Real.exp (l g' i h - X)) = S at *
  have : ∑ g', dw o da g' i h * (1 / (S * S)) * Real.exp (l g' i h - X)
      = (∑ g', Real.exp (l g' i h - X) / S * dw o da g' i h) / S := by
    rw [Finset.sum_div]; exact Finset.sum_congr rfl fun g' _ => by field_simp
  rw [this]; field_simp; ring

/-- The same sum, the groups' outputs combined first. -/
theorem E_eq (i : Fin 8192) (h : Fin 4) :
    E l o da i h = -W l 0 i h * ∑ e, da i h e * (W l 0 i h * o 0 i h e + W l 1 i h * o 1 i h e + W l 2 i h * o 2 i h e) := by
  unfold E dw
  rw [neg_mul]; congr 2
  rw [Fin.sum_univ_three]
  simp only [Finset.mul_sum, ← Finset.sum_add_distrib]
  exact Finset.sum_congr rfl fun e _ => by ring

end Combine

section Gradient

variable (s : Fin 4 → ℝ) (q k v : Vec3) (M : Fin 4 → Fin 8192 → ℝ) (l : Fin 3 → Vec2) (o : Fin 3 → Vec3) (da : Vec3)

/-- The gradient of the score before the row's maximum is looked at, as differentiating the quotient gives it. -/
def ds (h : Fin 4) (i j : Fin 8192) : ℝ :=
  ((∑ e, dO l da i h e / den s q k M h i * v j h e)
    + (dl l o da 0 i h / den s q k M h i
      + -(∑ e, dO l da i h e * (1 / (den s q k M h i * den s q k M h i)) * num s q k v M h i e))) * P s q k M h i j

/-- The maximum's own gradient vanishes. -/
theorem ds_sum (h : Fin 4) (i : Fin 8192) : dl l o da 0 i h + ∑ j, -(ds s q k v M l o da h i j) = 0 := by
  have hd := (den_pos s q k M h i).ne'
  rw [Finset.sum_neg_distrib]
  unfold ds
  simp only [add_mul, Finset.sum_add_distrib, ← Finset.mul_sum]
  have h1 : ∑ j, (∑ e, dO l da i h e / den s q k M h i * v j h e) * P s q k M h i j
      = ∑ e, dO l da i h e / den s q k M h i * num s q k v M h i e := by
    simp only [Finset.sum_mul, num, Finset.mul_sum]
    rw [Finset.sum_comm]
    exact Finset.sum_congr rfl fun e _ => Finset.sum_congr rfl fun j _ => by ring
  rw [h1, show ∑ j, P s q k M h i j = den s q k M h i from rfl]
  have h2 : (∑ e, dO l da i h e * (1 / (den s q k M h i * den s q k M h i)) * num s q k v M h i e) * den s q k M h i
      = ∑ e, dO l da i h e / den s q k M h i * num s q k v M h i e := by
    rw [Finset.sum_mul]; exact Finset.sum_congr rfl fun e _ => by field_simp
  rw [neg_mul, h2]; field_simp; ring

/-- The kernel's form of the gradient of a score. -/
def dsK (h : Fin 4) (i j : Fin 8192) : ℝ :=
  Real.exp (sc s q k h i j - lse s q k M i h) * ((∑ e, dO l da i h e * v j h e) + E l o da i h)

theorem dsK_eq (ho : o 0 = out s q k v M) (h : Fin 4) (i j : Fin 8192) (hn : near i j) :
    dsK s q k v M l o da h i j = ds s q k v M l o da h i j := by
  have hd := (den_pos s q k M h i).ne'
  unfold dsK ds
  rw [exp_lse s q k M h i j hn]
  have h1 : ∑ e, dO l da i h e / den s q k M h i * v j h e = (∑ e, dO l da i h e * v j h e) / den s q k M h i := by
    rw [Finset.sum_div]; exact Finset.sum_congr rfl fun e _ => by ring
  have h2 : ∑ e, dO l da i h e * (1 / (den s q k M h i * den s q k M h i)) * num s q k v M h i e
      = (W l 0 i h * dw o da 0 i h) / den s q k M h i := by
    unfold dw dO
    rw [ho, Finset.mul_sum, Finset.sum_div]
    exact Finset.sum_congr rfl fun e _ => by unfold out; field_simp
  rw [h1, h2]
  unfold dl E
  field_simp; ring

/-- The gradient of the queries, in the form the reference has and in the form the kernel has. -/
def dqR : Vec3 := fun i h e => ∑ j, (if near i j then ds s q k v M l o da h i j else 0) * (1 / 8) * k j h e

def dqK : Vec3 := fun i h e => (∑ j, if near i j then dsK s q k v M l o da h i j * k j h e else 0) * (1 / 8)

theorem dqK_eq (ho : o 0 = out s q k v M) : dqK s q k v M l o da = dqR s q k v M l o da := by
  funext i h e
  unfold dqK dqR
  rw [Finset.sum_mul]
  refine Finset.sum_congr rfl fun j _ => ?_
  by_cases hn : near i j
  · rw [if_pos hn, if_pos hn, dsK_eq s q k v M l o da ho h i j hn]; ring
  · rw [if_neg hn, if_neg hn]; ring

end Gradient

end Attn

end
-- ==== Proof.Attn.RefIn.lean ====
/-
  The columns of the packed projection, and the queries, keys and values of the reference.
-/
module

public import proofs.«01_k».proof.Proof.Gen.ReferenceIdeal.Read
public import proofs.«01_k».proof.Proof.Attn.Reals
public import proofs.«01_k».proof.Proof.Attn.Math

@[expose] public section

set_option maxRecDepth 16384

noncomputable section

namespace Attn

open Cert.ReferenceIdeal Cert.ReferenceIdeal.Gen Cert.ReferenceIdeal.Read Idealize.ShloMosaic ValueIdx

/-- Real numbers only. -/
abbrev Fine {s : Shape} (x : s.Idx → EReal) : Prop := ∀ i, x i ≠ ⊤ ∧ x i ≠ ⊥

abbrev Wide := (⟨2, ![8192, 9728]⟩ : Shape).Idx → EReal
abbrev Heads := (⟨3, ![8192, 4, 64]⟩ : Shape).Idx → EReal
abbrev Lanes := (⟨2, ![8192, 4]⟩ : Shape).Idx → EReal

/-- The columns of the packed projection: a head's queries, keys and values. -/
def colQ (h : Fin 4) (e : Fin 64) : Fin 9728 := ⟨8704 + 64 * h.val + e.val, by omega⟩
def colK (h : Fin 4) (e : Fin 64) : Fin 9728 := ⟨7168 + 256 * (h.val / 2) + 64 * (h.val % 2) + e.val, by omega⟩
def colV (h : Fin 4) (e : Fin 64) : Fin 9728 := ⟨7296 + 256 * (h.val / 2) + 64 * (h.val % 2) + e.val, by omega⟩

def qOf (u : Wide) : Vec3 := fun i h e => (u (ix2 i (colQ h e))).toReal
def kOf (u : Wide) : Vec3 := fun i h e => (u (ix2 i (colK h e))).toReal
def vOf (u : Wide) : Vec3 := fun i h e => (u (ix2 i (colV h e))).toReal
def vec3 (x : Heads) : Vec3 := fun i h e => (x (ix3 i h e)).toReal
def vec2 (x : Lanes) : Vec2 := fun i h => (x (ix2 i h)).toReal

theorem vec3_eq {x : Heads} (hx : Fine x) (i : (⟨3, ![8192, 4, 64]⟩ : Shape).Idx) : x i = ((vec3 x (i 0) (i 1) (i 2) : ℝ) : EReal) := by
  unfold vec3; rw [coe_toReal (hx _)]; exact congrArg x (eq_ix3 i)

theorem vec2_eq {x : Lanes} (hx : Fine x) (i : (⟨2, ![8192, 4]⟩ : Shape).Idx) : x i = ((vec2 x (i 0) (i 1) : ℝ) : EReal) := by
  unfold vec2; rw [coe_toReal (hx _)]; exact congrArg x (eq_ix2 i)

variable (x0 : Wide) (f0 : Fine x0)

include f0

theorem v1_eq (i : Fin 8192) (h : Fin 4) (e : Fin 64) : val_main_v1 (F := Ideal) x0 (ix3 i h e) = ((qOf x0 i h e : ℝ) : EReal) := by
  unfold qOf; rw [coe_toReal (f0 _), val_main_v1_apply, val_main_v0_apply]
  refine congrArg x0 (funext fun a => ?_)
  match a with
  | ⟨0, _⟩ => exact Fin.ext (by show ((i.val * 4 + h.val) * 64 + e.val) / 256 = i.val; omega)
  | ⟨1, _⟩ => exact Fin.ext (by show 8704 + ((i.val * 4 + h.val) * 64 + e.val) % 256 = 8704 + 64 * h.val + e.val; omega)

theorem v5_eq (i : Fin 8192) (h : Fin 4) (e : Fin 64) : val_main_v5 (F := Ideal) x0 (ix3 i h e) = ((kOf x0 i h e : ℝ) : EReal) := by
  unfold kOf
  rw [coe_toReal (f0 _), val_main_v5_apply]
  unfold val_main_v4
  by_cases hh : h.val < 2
  · refine Eq.trans (concatenate_apply_piece (t := S8192x256) 1 _ _ _ 0 (by simp) S8192x128 (val_main_v2 (F := Ideal) x0) rfl rfl 0 rfl
      (ix2 i ⟨64 * h.val + e.val, by omega⟩) (fun b hb => ?_) ?_) ?_
    · match b with
      | ⟨0, _⟩ => show i.val = ((i.val * 4 + h.val) * 64 + e.val) / 256; omega
      | ⟨1, _⟩ => exact absurd rfl hb
    · show 0 + (64 * h.val + e.val) = ((i.val * 4 + h.val) * 64 + e.val) % 256; omega
    · rw [val_main_v2_apply]
      refine congrArg x0 (funext fun a => ?_)
      match a with
      | ⟨0, _⟩ => rfl
      | ⟨1, _⟩ => exact Fin.ext (by show 7168 + (64 * h.val + e.val) = 7168 + 256 * (h.val / 2) + 64 * (h.val % 2) + e.val; omega)
  · refine Eq.trans (concatenate_apply_piece (t := S8192x256) 1 _ _ _ 1 (by simp) S8192x128 (val_main_v3 (F := Ideal) x0) rfl rfl 128 rfl
      (ix2 i ⟨64 * (h.val - 2) + e.val, by omega⟩) (fun b hb => ?_) ?_) ?_
    · match b with
      | ⟨0, _⟩ => show i.val = ((i.val * 4 + h.val) * 64 + e.val) / 256; omega
      | ⟨1, _⟩ => exact absurd rfl hb
    · show 128 + (64 * (h.val - 2) + e.val) = ((i.val * 4 + h.val) * 64 + e.val) % 256; omega
    · rw [val_main_v3_apply]
      refine congrArg x0 (funext fun a => ?_)
      match a with
      | ⟨0, _⟩ => rfl
      | ⟨1, _⟩ => exact Fin.ext (by show 7424 + (64 * (h.val - 2) + e.val) = 7168 + 256 * (h.val / 2) + 64 * (h.val % 2) + e.val; omega)

theorem v9_eq (i : Fin 8192) (h : Fin 4) (e : Fin 64) : val_main_v9 (F := Ideal) x0 (ix3 i h e) = ((vOf x0 i h e : ℝ) : EReal) := by
  unfold vOf
  rw [coe_toReal (f0 _), val_main_v9_apply]
  unfold val_main_v8
  by_cases hh : h.val < 2
  · refine Eq.trans (concatenate_apply_piece (t := S8192x256) 1 _ _ _ 0 (by simp) S8192x128 (val_main_v6 (F := Ideal) x0) rfl rfl 0 rfl
      (ix2 i ⟨64 * h.val + e.val, by omega⟩) (fun b hb => ?_) ?_) ?_
    · match b with
      | ⟨0, _⟩ => show i.val = ((i.val * 4 + h.val) * 64 + e.val) / 256; omega
      | ⟨1, _⟩ => exact absurd rfl hb
    · show 0 + (64 * h.val + e.val) = ((i.val * 4 + h.val) * 64 + e.val) % 256; omega
    · rw [val_main_v6_apply]
      refine congrArg x0 (funext fun a => ?_)
      match a with
      | ⟨0, _⟩ => rfl
      | ⟨1, _⟩ => exact Fin.ext (by show 7296 + (64 * h.val + e.val) = 7296 + 256 * (h.val / 2) + 64 * (h.val % 2) + e.val; omega)
  · refine Eq.trans (concatenate_apply_piece (t := S8192x256) 1 _ _ _ 1 (by simp) S8192x128 (val_main_v7 (F := Ideal) x0) rfl rfl 128 rfl
      (ix2 i ⟨64 * (h.val - 2) + e.val, by omega⟩) (fun b hb => ?_) ?_) ?_
    · match b with
      | ⟨0, _⟩ => show i.val = ((i.val * 4 + h.val) * 64 + e.val) / 256; omega
      | ⟨1, _⟩ => exact absurd rfl hb
    · show 128 + (64 * (h.val - 2) + e.val) = ((i.val * 4 + h.val) * 64 + e.val) % 256; omega
    · rw [val_main_v7_apply]
      refine congrArg x0 (funext fun a => ?_)
      match a with
      | ⟨0, _⟩ => rfl
      | ⟨1, _⟩ => exact Fin.ext (by show 7552 + (64 * (h.val - 2) + e.val) = 7296 + 256 * (h.val / 2) + 64 * (h.val % 2) + e.val; omega)

end Attn

end
-- ==== Proof.Attn.Ref.lean ====
/-
  The reference read: the scores, the weights, the output and the logarithm of the denominators.
-/
module

public import proofs.«01_k».proof.Proof.Attn.RefIn

@[expose] public section

set_option maxRecDepth 16384

noncomputable section

namespace Attn

open Cert.ReferenceIdeal Cert.ReferenceIdeal.Gen Cert.ReferenceIdeal.Read Idealize.ShloMosaic ValueIdx

variable (x0 : Wide) (f0 : Fine x0)

theorem v10_word : val_main_v10 (F := Ideal) (ix1 0) = Ideal.ofBits .f32 0x3F214518#32 := by
  rw [val_main_v10_apply]; rfl

theorem v11_word : val_main_v11 (F := Ideal) (ix1 0) = Ideal.ofBits .f32 0x3ECB2FF5#32 := by
  rw [val_main_v11_apply]; rfl

theorem v12_word : val_main_v12 (F := Ideal) (ix1 0) = Ideal.ofBits .f32 0x3E800000#32 := by
  rw [val_main_v12_apply]; rfl

theorem v13_word : val_main_v13 (F := Ideal) (ix1 0) = Ideal.ofBits .f32 0x3E214518#32 := by
  rw [val_main_v13_apply]; rfl

theorem v14_eq (h : Fin 4) : val_main_v14 (F := Ideal) (ix1 h) = ((sl h : ℝ) : EReal) := by
  rw [← slope_word]
  unfold val_main_v14
  match h with
  | ⟨0, _⟩ =>
    refine Eq.trans (concatenate_apply_piece (t := S4) 0 _ _ _ 0 (by simp) S1 (val_main_v10 (F := Ideal)) rfl rfl 0 rfl (ix1 0)
      (fun b hb => absurd (Subsingleton.elim _ _) hb) ?_) (v10_word.trans (congrArg (Ideal.ofBits .f32) (rfl : 0x3F214518#32 = slopeWord 0))); rfl
  | ⟨1, _⟩ =>
    refine Eq.trans (concatenate_apply_piece (t := S4) 0 _ _ _ 1 (by simp) S1 (val_main_v11 (F := Ideal)) rfl rfl 1 rfl (ix1 0)
      (fun b hb => absurd (Subsingleton.elim _ _) hb) ?_) (v11_word.trans (congrArg (Ideal.ofBits .f32) (rfl : 0x3ECB2FF5#32 = slopeWord 1))); rfl
  | ⟨2, _⟩ =>
    refine Eq.trans (concatenate_apply_piece (t := S4) 0 _ _ _ 2 (by simp) S1 (val_main_v12 (F := Ideal)) rfl rfl 2 rfl (ix1 0)
      (fun b hb => absurd (Subsingleton.elim _ _) hb) ?_) (v12_word.trans (congrArg (Ideal.ofBits .f32) (rfl : 0x3E800000#32 = slopeWord 2))); rfl
  | ⟨3, _⟩ =>
    refine Eq.trans (concatenate_apply_piece (t := S4) 0 _ _ _ 3 (by simp) S1 (val_main_v13 (F := Ideal)) rfl rfl 3 rfl (ix1 0)
      (fun b hb => absurd (Subsingleton.elim _ _) hb) ?_) (v13_word.trans (congrArg (Ideal.ofBits .f32) (rfl : 0x3E214518#32 = slopeWord 3))); rfl

theorem v18_toInt (i j : Fin 8192) : (val_main_v18 (F := Ideal) (ix2 i j)).toInt = (gap i j : ℤ) := by
  rw [val_main_v18_apply, val_main_v17_apply, val_main_v15_apply, val_main_v16_apply]
  show (IntOp.absi (IntOp.subi (BitVec.ofNat 32 j.val) (BitVec.ofNat 32 i.val))).toInt = _
  have e := subi_toInt (BitVec.ofNat 32 j.val) (BitVec.ofNat 32 i.val)
    (by rw [toInt_ofNat_small _ (by omega), toInt_ofNat_small _ (by omega)]; norm_num; omega)
    (by rw [toInt_ofNat_small _ (by omega), toInt_ofNat_small _ (by omega)]; norm_num; omega)
  rw [toInt_ofNat_small _ (by omega), toInt_ofNat_small _ (by omega)] at e
  rw [absi_toInt _ (by rw [e]; norm_num; omega), e]; rfl

theorem v20_eq (i j : Fin 8192) : val_main_v20 (F := Ideal) (ix2 i j) = BitVec.ofBool (decide (near i j)) := by
  rw [val_main_v20_apply]
  show BitVec.ofBool ((val_main_v18 (F := Ideal) (ix2 i j)).sle (64#32)) = _
  congr 1
  rw [BitVec.sle_eq_decide, v18_toInt]
  exact decide_eq_decide.2 (by show ((gap i j : ℤ) ≤ 64 ↔ gap i j ≤ 64); exact_mod_cast Iff.rfl)

theorem v21_eq (i j : Fin 8192) : val_main_v21 (F := Ideal) (ix2 i j) = (((gap i j : ℝ)) : EReal) := by
  rw [val_main_v21_apply]
  show (((val_main_v18 (F := Ideal) (ix2 i j)).toInt : ℝ) : EReal) = _
  rw [v18_toInt]; norm_cast

include f0

theorem v22_eq (h : Fin 4) (i j : Fin 8192) :
    val_main_v22 (F := Ideal) x0 (ix3 h i j) = ((∑ e, qOf x0 i h e * kOf x0 j h e : ℝ) : EReal) := by
  rw [val_main_v22_apply]
  refine sum_of _ fun e => ?_
  rw [show lidx_main_v22 (ix3 h i j) e = ix3 i h e from eq_ix3 _, show ridx_main_v22 (ix3 h i j) e = ix3 j h e from eq_ix3 _,
    v1_eq x0 f0, v5_eq x0 f0, EReal.coe_mul]

omit f0 in
theorem v23_eq (i : S4x8192x8192.Idx) : val_main_v23 (F := Ideal) i = ((1 / 8 : ℝ) : EReal) := by
  rw [val_main_v23_apply]; exact eighth

omit f0 in
theorem v29_eq (h : Fin 4) (i j : Fin 8192) :
    val_main_v29 (F := Ideal) (ix3 h i j) = ((sl h * (gap i j : ℝ) : ℝ) : EReal) := by
  rw [val_main_v29_apply, val_main_v27_apply, val_main_v28_apply, val_main_v25_apply, val_main_v26_apply]
  rw [show idx_main_v25 (idx_main_v27 (ix3 h i j)) = ix1 h from eq_ix1 _,
    show idx_main_v26 (idx_main_v28 (ix3 h i j)) = ix2 i j from eq_ix2 _, v14_eq, v21_eq]
  exact (EReal.coe_mul _ _).symm

theorem v30_eq (h : Fin 4) (i j : Fin 8192) :
    val_main_v30 (F := Ideal) x0 (ix3 h i j) = ((sc sl (qOf x0) (kOf x0) h i j : ℝ) : EReal) := by
  rw [val_main_v30_apply, val_main_v24_apply, v22_eq x0 f0, v23_eq, v29_eq]
  unfold sc
  rw [EReal.coe_sub, EReal.coe_mul]; rfl

/-- The masked score. -/
theorem v31_eq (h : Fin 4) (i j : Fin 8192) : val_main_v31_0 (F := Ideal) x0 (ix3 h i j)
    = if near i j then ((sc sl (qOf x0) (kOf x0) h i j : ℝ) : EReal) else ⊥ := by
  rw [val_main_v31_0_apply, val_main_v31_1_apply, show idx_main_v31_1 (ix3 h i j) = ix2 i j from eq_ix2 _, v20_eq, select_bool,
    v30_eq x0 f0, show val_main_call0_v2 (F := Ideal) (ix3 h i j) = ⊥ from (val_main_call0_v2_apply _).trans bot_word]
  by_cases hn : near i j <;> simp [hn]

/-- The row's maximum is a real number. -/
theorem v32_real (h : Fin 4) (i : Fin 8192) :
    val_main_v32 (F := Ideal) x0 (ix2 h i) ≠ ⊤ ∧ val_main_v32 (F := Ideal) x0 (ix2 h i) ≠ ⊥ := by
  unfold val_main_v32
  rw [Host.reduce_eq_fold_single FloatOps.maximumf _ _ reducesTo_S4x8192x8192_S4x8192_d2 (by decide : S4x8192x8192.Reduces [2] S4x8192) h_S_]
  have key : ∀ j : Fin 8192, (val_main_v31_0 (F := Ideal) x0 ∘ Shape.Reduces.lift (by decide : S4x8192x8192.Reduces [2] S4x8192) (ix2 h i)) j
      = if near i j then ((sc sl (qOf x0) (kOf x0) h i j : ℝ) : EReal) else ⊥ := fun j =>
    (congrArg (val_main_v31_0 (F := Ideal) x0) (eq_ix3 _)).trans (v31_eq x0 f0 h i j)
  refine fold_max_real _ bot_word _ (fun j => ?_) i ?_
  · refine ne_of_eq_of_ne (key j) ?_
    split
    · exact EReal.coe_ne_top _
    · exact bot_ne_top
  · exact ne_of_eq_of_ne ((key i).trans (if_pos (near_self i))) (EReal.coe_ne_bot _)

/-- The row's maximum. -/
def MOf (x0 : Wide) : Fin 4 → Fin 8192 → ℝ := fun h i => (val_main_v32 (F := Ideal) x0 (ix2 h i)).toReal

theorem v32_eq (h : Fin 4) (i : Fin 8192) : val_main_v32 (F := Ideal) x0 (ix2 h i) = ((MOf x0 h i : ℝ) : EReal) :=
  (coe_toReal (v32_real x0 f0 h i)).symm

theorem v39_eq (h : Fin 4) (i j : Fin 8192) : val_main_v39 (F := Ideal) x0 (ix3 h i j) = ((MOf x0 h i : ℝ) : EReal) := by
  rw [val_main_v39_apply, val_main_v38_apply, show idx_main_v38 (idx_main_v39 (ix3 h i j)) = ix2 h i from eq_ix2 _, v32_eq x0 f0]

/-- The unnormalised weight. -/
abbrev POf (x0 : Wide) := P sl (qOf x0) (kOf x0) (MOf x0)
abbrev denOf (x0 : Wide) := den sl (qOf x0) (kOf x0) (MOf x0)
abbrev numOf (x0 : Wide) := num sl (qOf x0) (kOf x0) (vOf x0) (MOf x0)
abbrev outOf (x0 : Wide) := out sl (qOf x0) (kOf x0) (vOf x0) (MOf x0)
abbrev lseOf (x0 : Wide) := lse sl (qOf x0) (kOf x0) (MOf x0)

omit f0 in
theorem den_ne (h : Fin 4) (i : Fin 8192) : denOf x0 h i ≠ 0 := (den_pos _ _ _ _ h i).ne'

theorem v41_eq (h : Fin 4) (i j : Fin 8192) : val_main_v41 (F := Ideal) x0 (ix3 h i j) = ((POf x0 h i j : ℝ) : EReal) := by
  rw [val_main_v41_apply, val_main_v40_apply, v31_eq x0 f0, v39_eq x0 f0]
  show Ideal.exp (_ - _) = _
  unfold POf P
  split
  · rw [← EReal.coe_sub, Ideal.exp_coe]
  · rw [EReal.bot_sub, Ideal.exp_bot]; rfl

theorem v42_eq (h : Fin 4) (i : Fin 8192) : val_main_v42 (F := Ideal) x0 (ix2 h i) = ((denOf x0 h i : ℝ) : EReal) := by
  rw [val_main_v42_apply, show val_main_cst_7 (F := Ideal) (Shape.Idx.first h_S_) = 0 from Ideal.ofBits_zero_f32, zero_add]
  exact sum_of _ fun j => (congrArg _ (eq_ix3 _)).trans (v41_eq x0 f0 h i j)

theorem v43_eq (h : Fin 4) (i : Fin 8192) (z : Fin 1) : val_main_v43 (F := Ideal) x0 (ix3 h i z) = ((denOf x0 h i : ℝ) : EReal) := by
  rw [val_main_v43_apply]; exact (congrArg _ (eq_ix2 _)).trans (v42_eq x0 f0 h i)

theorem v44_eq (h : Fin 4) (i : Fin 8192) (e : Fin 64) : val_main_v44 (F := Ideal) x0 (ix3 h i e) = ((numOf x0 h i e : ℝ) : EReal) := by
  rw [val_main_v44_apply]
  refine sum_of _ fun j => ?_
  rw [show lidx_main_v44 (ix3 h i e) j = ix3 h i j from eq_ix3 _, show ridx_main_v44 (ix3 h i e) j = ix3 j h e from eq_ix3 _,
    v41_eq x0 f0, v9_eq x0 f0, EReal.coe_mul]

theorem v46_eq (h : Fin 4) (i : Fin 8192) (e : Fin 64) : val_main_v46 (F := Ideal) x0 (ix3 h i e) = ((outOf x0 i h e : ℝ) : EReal) := by
  rw [val_main_v46_apply, v44_eq x0 f0, val_main_v45_apply, show idx_main_v45 (ix3 h i e) = ix3 h i 0 from eq_ix3 _, v43_eq x0 f0]
  exact div_coe _ _ (den_ne x0 h i)

theorem v49_eq (h : Fin 4) (i : Fin 8192) (z : Fin 1) :
    val_main_v49 (F := Ideal) x0 (ix3 h i z) = ((1 / (denOf x0 h i * denOf x0 h i) : ℝ) : EReal) := by
  rw [val_main_v49_apply, val_main_v47_apply, v43_eq x0 f0, show val_main_v48 (F := Ideal) (ix3 h i z) = ((1 : ℝ) : EReal) from (val_main_v48_apply _).trans one_word]
  show Ideal.div _ (_ * _) = _
  rw [← EReal.coe_mul]
  exact div_coe _ _ (mul_ne_zero (den_ne x0 h i) (den_ne x0 h i))

theorem v53_eq (i : Fin 8192) (h : Fin 4) (e : Fin 64) : val_main_v53 (F := Ideal) x0 (ix3 i h e) = ((outOf x0 i h e : ℝ) : EReal) := by
  rw [val_main_v53_apply]; exact (congrArg _ (eq_ix3 _)).trans (v46_eq x0 f0 h i e)

theorem v51_eq (h : Fin 4) (i : Fin 8192) (z : Fin 1) : val_main_v51 (F := Ideal) x0 (ix3 h i z) = ((lseOf x0 i h : ℝ) : EReal) := by
  rw [val_main_v51_apply, val_main_v50_apply, v43_eq x0 f0, val_main_v38_apply, show idx_main_v38 (ix3 h i z) = ix2 h i from eq_ix2 _,
    v32_eq x0 f0]
  show ((MOf x0 h i : ℝ) : EReal) + Ideal.log ((denOf x0 h i : ℝ) : EReal) = _
  rw [log_coe_pos _ (den_pos _ _ _ _ h i), ← EReal.coe_add]; rfl

theorem v54_eq (i : Fin 8192) (h : Fin 4) : val_main_v54 (F := Ideal) x0 (ix2 i h) = ((lseOf x0 i h : ℝ) : EReal) := by
  rw [val_main_v54_apply, val_main_v52_apply]
  refine (congrArg (val_main_v51 (F := Ideal) x0) (funext fun a => ?_)).trans (v51_eq x0 f0 h i 0)
  match a with
  | ⟨0, _⟩ => exact Fin.ext (by show (h.val * 8192 + i.val) / 8192 = h.val; omega)
  | ⟨1, _⟩ => exact Fin.ext (by show (h.val * 8192 + i.val) / 1 % 8192 = i.val; omega)
  | ⟨2, _⟩ => rfl

end Attn

end
-- ==== Proof.Attn.RefGrad.lean ====
/-
  The reference read: the combination of the three groups and the gradient of the queries.
-/
module

public import proofs.«01_k».proof.Proof.Attn.Ref

@[expose] public section

set_option maxRecDepth 16384

noncomputable section

namespace Attn

open Cert.ReferenceIdeal Cert.ReferenceIdeal.Gen Cert.ReferenceIdeal.Read Idealize.ShloMosaic ValueIdx

/-- The largest of finitely many numbers is one of them, or the one to begin with. -/
theorem fold_max_mem {n : Nat} (b : EReal) (f : Fin n → EReal) (s : Finset (Fin n)) :
    s.fold max b f = b ∨ ∃ k, s.fold max b f = f k := by
  classical
  induction s using Finset.induction_on with
  | empty => exact Or.inl rfl
  | insert a s ha ih =>
    rw [Finset.fold_insert ha]
    rcases max_choice (f a) (s.fold max b f) with h | h
    · exact Or.inr ⟨a, h⟩
    · rw [h]; exact ih

variable (x0 : Wide) (x2 x3 x4 : Heads) (x5 x6 : Lanes)
  (f0 : Fine x0) (f2 : Fine x2) (f3 : Fine x3) (f4 : Fine x4) (f5 : Fine x5) (f6 : Fine x6)

/-- The three groups' logarithms and outputs. -/
def lg : Fin 3 → Vec2 := ![lseOf x0, vec2 x5, vec2 x6]
def og : Fin 3 → Vec3 := ![outOf x0, vec3 x3, vec3 x4]

omit x5 x6 in
theorem vec3_at {x : Heads} (hx : Fine x) (i : Fin 8192) (h : Fin 4) (e : Fin 64) : x (ix3 i h e) = ((vec3 x i h e : ℝ) : EReal) :=
  (coe_toReal (hx _)).symm

theorem vec2_at {x : Lanes} (hx : Fine x) (i : Fin 8192) (h : Fin 4) : x (ix2 i h) = ((vec2 x i h : ℝ) : EReal) :=
  (coe_toReal (hx _)).symm

section Lanes3
include f0 f5 f6

theorem v58_eq (g : Fin 3) (i : Fin 8192) (h : Fin 4) :
    val_main_v58 (F := Ideal) x0 x5 x6 (ix3 g i h) = ((lg x0 x5 x6 g i h : ℝ) : EReal) := by
  unfold val_main_v58
  have hb : ∀ (g : Fin 3) (b : Fin S1x8192x4.rank), b.cast (show S1x8192x4.rank = S3x8192x4.rank from rfl) ≠ 0 →
      (ix3 (0 : Fin 1) i h b).val = (ix3 g i h (b.cast (show S1x8192x4.rank = S3x8192x4.rank from rfl))).val := fun g b hb => by
    match b with
    | ⟨0, _⟩ => exact absurd rfl hb
    | ⟨1, _⟩ => rfl
    | ⟨2, _⟩ => rfl
  match g with
  | ⟨0, _⟩ =>
    refine Eq.trans (concatenate_apply_piece (t := S3x8192x4) 0 _ _ _ 0 (by simp) S1x8192x4 (val_main_v55 (F := Ideal) x0) rfl rfl 0 rfl
      (ix3 0 i h) (hb _) ?_) ?_
    · rfl
    · rw [val_main_v55_apply]; exact (congrArg _ (eq_ix2 _)).trans (v54_eq x0 f0 i h)
  | ⟨1, _⟩ =>
    refine Eq.trans (concatenate_apply_piece (t := S3x8192x4) 0 _ _ _ 1 (by simp) S1x8192x4 (val_main_v56 (F := Ideal) x5) rfl rfl 1 rfl
      (ix3 0 i h) (hb _) ?_) ?_
    · rfl
    · rw [val_main_v56_apply]; exact (congrArg _ (eq_ix2 _)).trans (vec2_at f5 i h)
  | ⟨2, _⟩ =>
    refine Eq.trans (concatenate_apply_piece (t := S3x8192x4) 0 _ _ _ 2 (by simp) S1x8192x4 (val_main_v57 (F := Ideal) x6) rfl rfl 2 rfl
      (ix3 0 i h) (hb _) ?_) ?_
    · rfl
    · rw [val_main_v57_apply]; exact (congrArg _ (eq_ix2 _)).trans (vec2_at f6 i h)

theorem v61_real (i : Fin 8192) (h : Fin 4) :
    val_main_v61 (F := Ideal) x0 x5 x6 (ix2 i h) ≠ ⊤ ∧ val_main_v61 (F := Ideal) x0 x5 x6 (ix2 i h) ≠ ⊥ := by
  unfold val_main_v61
  rw [Host.reduce_eq_fold_single FloatOps.maximumf _ _ reducesTo_S3x8192x4_S8192x4_d0 (by decide : S3x8192x4.Reduces [0] S8192x4) h_S_]
  have key : ∀ g : Fin 3, (val_main_v58 (F := Ideal) x0 x5 x6 ∘ Shape.Reduces.lift (by decide : S3x8192x4.Reduces [0] S8192x4) (ix2 i h)) g
      = ((lg x0 x5 x6 g i h : ℝ) : EReal) := fun g =>
    (congrArg (val_main_v58 (F := Ideal) x0 x5 x6) (eq_ix3 _)).trans (v58_eq x0 x5 x6 f0 f5 f6 g i h)
  exact fold_max_real _ bot_word _ (fun g => ne_of_eq_of_ne (key g) (EReal.coe_ne_top _)) (0 : Fin 3) (ne_of_eq_of_ne (key (0 : Fin 3)) (EReal.coe_ne_bot _))

/-- The largest of the three logarithms. -/
def XOf (x0 : Wide) (x5 x6 : Lanes) : Vec2 := fun i h => (val_main_v61 (F := Ideal) x0 x5 x6 (ix2 i h)).toReal

theorem v68_eq (i : Fin 8192) (h : Fin 4) : val_main_v68 (F := Ideal) x0 x5 x6 (ix2 i h) = ((XOf x0 x5 x6 i h : ℝ) : EReal) := by
  rw [val_main_v68_apply, show val_main_v67 (F := Ideal) (ix2 i h) = (⊥ : EReal) from (val_main_v67_apply _).trans bot_word]
  show max ⊥ (val_main_v61 (F := Ideal) x0 x5 x6 (ix2 i h)) = _
  rw [bot_sup_eq]
  exact (coe_toReal (v61_real x0 x5 x6 f0 f5 f6 i h)).symm

theorem v81_eq (g : Fin 3) (i : Fin 8192) (h : Fin 4) :
    val_main_v81 (F := Ideal) x0 x5 x6 (ix3 g i h) = ((Real.exp (lg x0 x5 x6 g i h - XOf x0 x5 x6 i h) : ℝ) : EReal) := by
  rw [val_main_v81_apply, val_main_v80_apply, v58_eq x0 x5 x6 f0 f5 f6, val_main_v79_apply, val_main_v78_apply,
    show idx_main_v78 (idx_main_v79 (ix3 g i h)) = ix2 i h from eq_ix2 _, v68_eq x0 x5 x6 f0 f5 f6]
  show Ideal.exp (((lg x0 x5 x6 g i h : ℝ) : EReal) - ((XOf x0 x5 x6 i h : ℝ) : EReal)) = _
  rw [← EReal.coe_sub, Ideal.exp_coe]

theorem v83_eq (z : Fin 1) (i : Fin 8192) (h : Fin 4) :
    val_main_v83 (F := Ideal) x0 x5 x6 (ix3 z i h) = ((∑ g, Real.exp (lg x0 x5 x6 g i h - XOf x0 x5 x6 i h) : ℝ) : EReal) := by
  rw [val_main_v83_apply, show idx_main_v83 (ix3 z i h) = ix2 i h from eq_ix2 _, val_main_v82_apply,
    show val_main_cst_19 (F := Ideal) (Shape.Idx.first h_S_) = 0 from Ideal.ofBits_zero_f32, zero_add]
  exact sum_of _ fun g => (congrArg _ (eq_ix3 _)).trans (v81_eq x0 x5 x6 f0 f5 f6 g i h)

theorem v85_eq (g : Fin 3) (i : Fin 8192) (h : Fin 4) :
    val_main_v85 (F := Ideal) x0 x5 x6 (ix3 g i h) = ((W (lg x0 x5 x6) g i h : ℝ) : EReal) := by
  rw [val_main_v85_apply, v81_eq x0 x5 x6 f0 f5 f6, val_main_v84_apply, show idx_main_v84 (ix3 g i h) = ix3 0 i h from eq_ix3 _,
    v83_eq x0 x5 x6 f0 f5 f6]
  refine (div_coe _ _ (exps_pos _ _ i h).ne').trans ?_
  rw [W_shift]

theorem v88_eq (z : Fin 1) (i : Fin 8192) (h : Fin 4) : val_main_v88 (F := Ideal) x0 x5 x6 (ix3 z i h)
    = ((1 / ((∑ g, Real.exp (lg x0 x5 x6 g i h - XOf x0 x5 x6 i h)) * ∑ g, Real.exp (lg x0 x5 x6 g i h - XOf x0 x5 x6 i h)) : ℝ) : EReal) := by
  rw [val_main_v88_apply, val_main_v86_apply, v83_eq x0 x5 x6 f0 f5 f6,
    show val_main_v87 (F := Ideal) (ix3 z i h) = ((1 : ℝ) : EReal) from (val_main_v87_apply _).trans one_word]
  have hp := (exps_pos (lg x0 x5 x6) (XOf x0 x5 x6 i h) i h).ne'
  generalize (∑ g, Real.exp (lg x0 x5 x6 g i h - XOf x0 x5 x6 i h)) = S at *
  show Ideal.div ((1 : ℝ) : EReal) (((S : ℝ) : EReal) * ((S : ℝ) : EReal)) = _
  rw [← EReal.coe_mul]
  exact div_coe _ _ (mul_ne_zero hp hp)

include f2 in
theorem v106_eq (i : Fin 8192) (h : Fin 4) (e : Fin 64) :
    val_main_v106 (F := Ideal) x0 x2 x5 x6 (ix3 i h e) = ((dO (lg x0 x5 x6) (vec3 x2) i h e : ℝ) : EReal) := by
  have e1 : idx_main_v105 (idx_main_v106 (ix3 i h e)) = ix4 0 i h e := funext fun a => by
    match a with
    | ⟨0, _⟩ => rfl
    | ⟨1, _⟩ => exact Fin.ext (by show ((i.val * 4 + h.val) * 64 + e.val) / 256 % 8192 = i.val; omega)
    | ⟨2, _⟩ => exact Fin.ext (by show ((i.val * 4 + h.val) * 64 + e.val) / 64 % 4 = h.val; omega)
    | ⟨3, _⟩ => exact Fin.ext (by show ((i.val * 4 + h.val) * 64 + e.val) % 64 = e.val; omega)
  rw [val_main_v106_apply, val_main_v105_apply, e1, val_main_v101_apply, val_main_v100_apply, val_main_v89_apply, val_main_v99_apply,
    show idx_main_v89 (idx_main_v100 (ix4 0 i h e)) = ix3 0 i h from eq_ix3 _, show idx_main_v99 (ix4 0 i h e) = ix3 i h e from eq_ix3 _,
    v85_eq x0 x5 x6 f0 f5 f6, vec3_at f2]
  exact (EReal.coe_mul _ _).symm

end Lanes3

section Groups
include f0 f3 f4

theorem v93_eq (g : Fin 3) (i : Fin 8192) (h : Fin 4) (e : Fin 64) :
    val_main_v93 (F := Ideal) x0 x3 x4 (ix4 g i h e) = ((og x0 x3 x4 g i h e : ℝ) : EReal) := by
  unfold val_main_v93
  have hb : ∀ (g : Fin 3) (b : Fin S1x8192x4x64.rank), b.cast (show S1x8192x4x64.rank = S3x8192x4x64.rank from rfl) ≠ 0 →
      (ix4 (0 : Fin 1) i h e b).val = (ix4 g i h e (b.cast (show S1x8192x4x64.rank = S3x8192x4x64.rank from rfl))).val := fun g b hb => by
    match b with
    | ⟨0, _⟩ => exact absurd rfl hb
    | ⟨1, _⟩ => rfl
    | ⟨2, _⟩ => rfl
    | ⟨3, _⟩ => rfl
  match g with
  | ⟨0, _⟩ =>
    refine Eq.trans (concatenate_apply_piece (t := S3x8192x4x64) 0 _ _ _ 0 (by simp) S1x8192x4x64 (val_main_v90 (F := Ideal) x0) rfl rfl 0 rfl
      (ix4 0 i h e) (hb _) ?_) ?_
    · rfl
    · rw [val_main_v90_apply]; exact (congrArg _ (eq_ix3 _)).trans (v53_eq x0 f0 i h e)
  | ⟨1, _⟩ =>
    refine Eq.trans (concatenate_apply_piece (t := S3x8192x4x64) 0 _ _ _ 1 (by simp) S1x8192x4x64 (val_main_v91 (F := Ideal) x3) rfl rfl 1 rfl
      (ix4 0 i h e) (hb _) ?_) ?_
    · rfl
    · rw [val_main_v91_apply]; exact (congrArg _ (eq_ix3 _)).trans (vec3_at f3 i h e)
  | ⟨2, _⟩ =>
    refine Eq.trans (concatenate_apply_piece (t := S3x8192x4x64) 0 _ _ _ 2 (by simp) S1x8192x4x64 (val_main_v92 (F := Ideal) x4) rfl rfl 2 rfl
      (ix4 0 i h e) (hb _) ?_) ?_
    · rfl
    · rw [val_main_v92_apply]; exact (congrArg _ (eq_ix3 _)).trans (vec3_at f4 i h e)

include f2 in
theorem v111_eq (g : Fin 3) (i : Fin 8192) (h : Fin 4) :
    val_main_v111 (F := Ideal) x0 x2 x3 x4 (ix3 g i h) = ((dw (og x0 x3 x4) (vec3 x2) g i h : ℝ) : EReal) := by
  have e1 : idx_main_v104 (idx_main_v111 (ix3 g i h) 0) = ix3 g i h := funext fun a => by
    match a with
    | ⟨0, _⟩ => exact Fin.ext (by show (((g.val * 8192 + i.val) * 4 + h.val) * 1 + 0) / 32768 = g.val; omega)
    | ⟨1, _⟩ => exact Fin.ext (by show (((g.val * 8192 + i.val) * 4 + h.val) * 1 + 0) / 4 % 8192 = i.val; omega)
    | ⟨2, _⟩ => exact Fin.ext (by show (((g.val * 8192 + i.val) * 4 + h.val) * 1 + 0) % 4 = h.val; omega)
  rw [val_main_v111_apply, show val_main_cst_25 (F := Ideal) (Shape.Idx.first h_S_) = 0 from Ideal.ofBits_zero_f32, zero_add,
    Fin.sum_univ_one, val_main_v104_apply, e1, val_main_v103_apply,
    show val_main_cst_24 (F := Ideal) (Shape.Idx.first h_S_) = 0 from Ideal.ofBits_zero_f32, zero_add]
  refine sum_of _ fun e => ?_
  rw [show idx_main_v103 (ix3 g i h) e = ix4 g i h e from eq_ix4 _, val_main_v102_apply, v93_eq x0 x3 x4 f0 f3 f4, val_main_v99_apply,
    show idx_main_v99 (ix4 g i h e) = ix3 i h e from eq_ix3 _, vec3_at f2]
  exact (EReal.coe_mul _ _).symm

end Groups

section Gradient
include f0 f2 f3 f4 f5 f6

theorem v115_eq (i : Fin 8192) (h : Fin 4) : val_main_v115 (F := Ideal) x0 x2 x3 x4 x5 x6 (ix2 i h)
    = ((∑ g', dw (og x0 x3 x4) (vec3 x2) g' i h * (1 / ((∑ g', Real.exp (lg x0 x5 x6 g' i h - XOf x0 x5 x6 i h))
        * ∑ g', Real.exp (lg x0 x5 x6 g' i h - XOf x0 x5 x6 i h))) * Real.exp (lg x0 x5 x6 g' i h - XOf x0 x5 x6 i h) : ℝ) : EReal) := by
  rw [val_main_v115_apply, show val_main_cst_26 (F := Ideal) (Shape.Idx.first h_S_) = 0 from Ideal.ofBits_zero_f32, zero_add]
  refine sum_of _ fun g => ?_
  rw [show idx_main_v115 (ix2 i h) g = ix3 g i h from eq_ix3 _, val_main_v114_apply, val_main_v113_apply,
    v111_eq x0 x2 x3 x4 f0 f2 f3 f4, v81_eq x0 x5 x6 f0 f5 f6, val_main_v112_apply,
    show idx_main_v112 (ix3 g i h) = ix3 0 i h from eq_ix3 _, v88_eq x0 x5 x6 f0 f5 f6, EReal.coe_mul, EReal.coe_mul]
  rfl

theorem v123_eq (g : Fin 3) (i : Fin 8192) (h : Fin 4) : val_main_v123 (F := Ideal) x0 x2 x3 x4 x5 x6 (ix3 g i h)
    = ((dl (lg x0 x5 x6) (og x0 x3 x4) (vec3 x2) g i h : ℝ) : EReal) := by
  have e1 : idx_main_v116 (idx_main_v120 (idx_main_v121 (ix3 g i h)) 0) = ix2 i h := funext fun a => by
    match a with
    | ⟨0, _⟩ => exact Fin.ext (by show ((0 * 8192 + i.val) * 4 + h.val) / 4 = i.val; omega)
    | ⟨1, _⟩ => exact Fin.ext (by show ((0 * 8192 + i.val) * 4 + h.val) % 4 = h.val; omega)
  rw [val_main_v123_apply, val_main_v122_apply, val_main_v119_apply, val_main_v121_apply, val_main_v120_apply,
    show val_main_cst_27 (F := Ideal) (Shape.Idx.first h_S_) = 0 from Ideal.ofBits_zero_f32, zero_add,
    Fin.sum_univ_one, val_main_v117_apply, val_main_v116_apply, e1, v115_eq x0 x2 x3 x4 x5 x6 f0 f2 f3 f4 f5 f6,
    v111_eq x0 x2 x3 x4 f0 f2 f3 f4, v81_eq x0 x5 x6 f0 f5 f6, val_main_v118_apply,
    show idx_main_v118 (ix3 g i h) = ix3 0 i h from eq_ix3 _, v83_eq x0 x5 x6 f0 f5 f6, ← dl_quotient _ _ _ (XOf x0 x5 x6 i h),
    EReal.coe_mul, EReal.coe_add, EReal.coe_neg, ← div_coe _ _ (exps_pos _ _ i h).ne']
  rfl

theorem v132_eq (h : Fin 4) (i : Fin 8192) (z : Fin 1) : val_main_v132 (F := Ideal) x0 x2 x3 x4 x5 x6 (ix3 h i z)
    = ((dl (lg x0 x5 x6) (og x0 x3 x4) (vec3 x2) 0 i h : ℝ) : EReal) := by
  have e1 : idx_main_v124 (idx_main_v125 (ix2 i h)) = ix3 0 i h := funext fun a => by
    match a with
    | ⟨0, _⟩ => rfl
    | ⟨1, _⟩ => exact Fin.ext (by show (i.val * 4 + h.val) / 4 % 8192 = i.val; omega)
    | ⟨2, _⟩ => exact Fin.ext (by show (i.val * 4 + h.val) % 4 = h.val; omega)
  rw [val_main_v132_apply, val_main_v130_apply, show idx_main_v130 (idx_main_v132 (ix3 h i z)) = ix2 i h from eq_ix2 _,
    val_main_v125_apply, val_main_v124_apply, e1, v123_eq x0 x2 x3 x4 x5 x6 f0 f2 f3 f4 f5 f6]

omit f3 f4 in
theorem v131_eq (h : Fin 4) (i : Fin 8192) (e : Fin 64) : val_main_v131 (F := Ideal) x0 x2 x5 x6 (ix3 h i e)
    = ((dO (lg x0 x5 x6) (vec3 x2) i h e : ℝ) : EReal) := by
  rw [val_main_v131_apply]; exact (congrArg _ (eq_ix3 _)).trans (v106_eq x0 x2 x5 x6 f0 f2 f5 f6 i h e)

/-- The gradient of the reciprocal denominator. -/
theorem v140_eq (h : Fin 4) (i : Fin 8192) (z : Fin 1) : val_main_v140 (F := Ideal) x0 x2 x3 x4 x5 x6 (ix3 h i z)
    = ((dl (lg x0 x5 x6) (og x0 x3 x4) (vec3 x2) 0 i h / denOf x0 h i
        + -(∑ e, dO (lg x0 x5 x6) (vec3 x2) i h e * (1 / (denOf x0 h i * denOf x0 h i)) * numOf x0 h i e) : ℝ) : EReal) := by
  have e1 : idx_main_v138 (ix3 h i z) = ix2 h i := funext fun a => by
    match a with
    | ⟨0, _⟩ => exact Fin.ext (by show ((h.val * 8192 + i.val) * 1 + z.val) / 8192 = h.val; omega)
    | ⟨1, _⟩ => exact Fin.ext (by show ((h.val * 8192 + i.val) * 1 + z.val) % 8192 = i.val; omega)
  have e2 : val_main_v137 (F := Ideal) x0 x2 x5 x6 (ix2 h i)
      = ((∑ e, dO (lg x0 x5 x6) (vec3 x2) i h e * (1 / (denOf x0 h i * denOf x0 h i)) * numOf x0 h i e : ℝ) : EReal) := by
    rw [val_main_v137_apply, show val_main_cst_28 (F := Ideal) (Shape.Idx.first h_S_) = 0 from Ideal.ofBits_zero_f32, zero_add]
    refine sum_of _ fun e => ?_
    rw [show idx_main_v137 (ix2 h i) e = ix3 h i e from eq_ix3 _, val_main_v136_apply, val_main_v135_apply, v44_eq x0 f0,
      v131_eq x0 x2 x5 x6 f0 f2 f5 f6, val_main_v134_apply, show idx_main_v134 (ix3 h i e) = ix3 h i 0 from eq_ix3 _, v49_eq x0 f0,
      EReal.coe_mul, EReal.coe_mul]
    rfl
  rw [val_main_v140_apply, val_main_v133_apply, v132_eq x0 x2 x3 x4 x5 x6 f0 f2 f3 f4 f5 f6, v43_eq x0 f0, val_main_v139_apply,
    val_main_v138_apply, e1, e2, EReal.coe_add, EReal.coe_neg, ← div_coe _ _ (den_ne x0 h i)]
  rfl

/-- The gradient of a score. -/
abbrev dsOf (x0 : Wide) (x2 x3 x4 : Heads) (x5 x6 : Lanes) :=
  ds sl (qOf x0) (kOf x0) (vOf x0) (MOf x0) (lg x0 x5 x6) (og x0 x3 x4) (vec3 x2)

theorem v147_eq (h : Fin 4) (i j : Fin 8192) : val_main_v147 (F := Ideal) x0 x2 x3 x4 x5 x6 (ix3 h i j)
    = ((dsOf x0 x2 x3 x4 x5 x6 h i j : ℝ) : EReal) := by
  have e1 : val_main_v143 (F := Ideal) x0 x2 x5 x6 (ix3 h i j)
      = ((∑ e, dO (lg x0 x5 x6) (vec3 x2) i h e / denOf x0 h i * vOf x0 j h e : ℝ) : EReal) := by
    rw [val_main_v143_apply]
    refine sum_of _ fun e => ?_
    rw [show lidx_main_v143 (ix3 h i j) e = ix3 h i e from eq_ix3 _, show ridx_main_v143 (ix3 h i j) e = ix3 j h e from eq_ix3 _,
      val_main_v142_apply, v131_eq x0 x2 x5 x6 f0 f2 f5 f6, v9_eq x0 f0, val_main_v141_apply,
      show idx_main_v141 (ix3 h i e) = ix3 h i 0 from eq_ix3 _, v43_eq x0 f0, EReal.coe_mul, ← div_coe _ _ (den_ne x0 h i)]
    rfl
  rw [val_main_v147_apply, val_main_v146_apply, e1, val_main_v145_apply, val_main_v144_apply,
    show val_main_cst_29 (F := Ideal) (Shape.Idx.first h_S_) = 0 from Ideal.ofBits_zero_f32, zero_add, Fin.sum_univ_one,
    show idx_main_v144 (idx_main_v145 (ix3 h i j)) 0 = ix3 h i 0 from eq_ix3 _, v140_eq x0 x2 x3 x4 x5 x6 f0 f2 f3 f4 f5 f6,
    v41_eq x0 f0]
  unfold dsOf ds
  rw [EReal.coe_mul, EReal.coe_add]
  rfl

omit f2 f3 f4 f5 f6 in
/-- How often the row's maximum occurs: not never. -/
theorem v37_ne (h : Fin 4) (i : Fin 8192) : val_main_v37 (F := Ideal) x0 (ix2 h i) ≠ 0 := by
  have h36 : ∀ j : Fin 8192, val_main_v36 (F := Ideal) x0 (ix3 h i j)
      = ((if val_main_v31_0 (F := Ideal) x0 (ix3 h i j) = val_main_v32 (F := Ideal) x0 (ix2 h i) then 1 else 0 : ℝ) : EReal) := fun j => by
    have e1 : idx_main_v33 (idx_main_v34 (ix3 h i j)) = ix2 h i := funext fun a => by
      match a with
      | ⟨0, _⟩ => exact Fin.ext (by show ((h.val * 8192 + i.val) * 1 + 0) / 8192 = h.val; omega)
      | ⟨1, _⟩ => exact Fin.ext (by show ((h.val * 8192 + i.val) * 1 + 0) % 8192 = i.val; omega)
    rw [val_main_v36_apply, val_main_v35_apply, val_main_v34_apply, val_main_v33_apply, e1]
    show (((BitVec.ofBool (decide _)).toNat : ℝ) : EReal) = _
    by_cases hc : val_main_v31_0 (F := Ideal) x0 (ix3 h i j) = val_main_v32 (F := Ideal) x0 (ix2 h i) <;> simp [hc]
  have hmem : ∃ j : Fin 8192, val_main_v31_0 (F := Ideal) x0 (ix3 h i j) = val_main_v32 (F := Ideal) x0 (ix2 h i) := by
    have hb := (v32_real x0 f0 h i).2
    have e2 : val_main_v32 (F := Ideal) x0 (ix2 h i) = (Finset.univ : Finset (Fin 8192)).fold max (⊥ : EReal)
        (fun j => val_main_v31_0 (F := Ideal) x0 (ix3 h i j)) := by
      unfold val_main_v32
      rw [Host.reduce_eq_fold_single FloatOps.maximumf _ _ reducesTo_S4x8192x8192_S4x8192_d2 (by decide : S4x8192x8192.Reduces [2] S4x8192) h_S_]
      have hf : (val_main_v31_0 (F := Ideal) x0 ∘ Shape.Reduces.lift (by decide : S4x8192x8192.Reduces [2] S4x8192) (ix2 h i))
          = fun j : Fin 8192 => val_main_v31_0 (F := Ideal) x0 (ix3 h i j) := funext fun j => congrArg (val_main_v31_0 (F := Ideal) x0) (eq_ix3 _)
      refine Eq.trans (congrArg (fun f => Finset.fold max (Ideal.ofBits .f32 0xFF800000#32) f (Finset.univ : Finset (Fin 8192))) hf) ?_
      rw [bot_word]
    rcases fold_max_mem ⊥ (fun j : Fin 8192 => val_main_v31_0 (F := Ideal) x0 (ix3 h i j)) Finset.univ with hx | ⟨k, hk⟩
    · exact absurd (e2.trans hx) hb
    · exact ⟨k, (e2.trans hk).symm⟩
  obtain ⟨j, hj⟩ := hmem
  rw [val_main_v37_apply, show val_main_cst_6 (F := Ideal) (Shape.Idx.first h_S_) = 0 from Ideal.ofBits_zero_f32, zero_add]
  have e3 := sum_of (g := fun j : Fin 8192 => val_main_v36 (F := Ideal) x0 (idx_main_v37 (ix2 h i) j)) _
    (fun j => (congrArg _ (eq_ix3 _)).trans (h36 j))
  rw [e3]
  have hp : (0 : ℝ) < ∑ j, (if val_main_v31_0 (F := Ideal) x0 (ix3 h i j) = val_main_v32 (F := Ideal) x0 (ix2 h i) then 1 else 0 : ℝ) := by
    refine lt_of_lt_of_le ?_ (Finset.single_le_sum (fun j _ => ?_) (Finset.mem_univ j))
    · rw [if_pos hj]; exact one_pos
    · split <;> norm_num
  exact fun h0 => hp.ne' (EReal.coe_eq_zero.1 h0)

theorem v156_eq (h : Fin 4) (i j : Fin 8192) : val_main_v156 (F := Ideal) x0 x2 x3 x4 x5 x6 (ix3 h i j)
    = ((dsOf x0 x2 x3 x4 x5 x6 h i j : ℝ) : EReal) := by
  have e1 : idx_main_v150 (ix3 h i 0) = ix2 h i := funext fun a => by
    match a with
    | ⟨0, _⟩ => exact Fin.ext (by show ((h.val * 8192 + i.val) * 1 + 0) / 8192 = h.val; omega)
    | ⟨1, _⟩ => exact Fin.ext (by show ((h.val * 8192 + i.val) * 1 + 0) % 8192 = i.val; omega)
  have e2 : val_main_v149 (F := Ideal) x0 x2 x3 x4 x5 x6 (ix2 h i) = ((∑ j, -(dsOf x0 x2 x3 x4 x5 x6 h i j) : ℝ) : EReal) := by
    rw [val_main_v149_apply, show val_main_cst_30 (F := Ideal) (Shape.Idx.first h_S_) = 0 from Ideal.ofBits_zero_f32, zero_add]
    refine sum_of _ fun j => ?_
    rw [show idx_main_v149 (ix2 h i) j = ix3 h i j from eq_ix3 _, val_main_v148_apply, v147_eq x0 x2 x3 x4 x5 x6 f0 f2 f3 f4 f5 f6]
    exact (EReal.coe_neg _).symm
  have e3 : val_main_v152 (F := Ideal) x0 x2 x3 x4 x5 x6 (ix2 h i) = 0 := by
    rw [val_main_v152_apply, show val_main_cst_31 (F := Ideal) (Shape.Idx.first h_S_) = 0 from Ideal.ofBits_zero_f32, zero_add,
      Fin.sum_univ_one, show idx_main_v152 (ix2 h i) 0 = ix3 h i 0 from eq_ix3 _, val_main_v151_apply,
      v132_eq x0 x2 x3 x4 x5 x6 f0 f2 f3 f4 f5 f6, val_main_v150_apply, e1, e2]
    refine (EReal.coe_add _ _).symm.trans ?_
    rw [ds_sum]; rfl
  have e4 : val_main_v155 (F := Ideal) x0 x2 x3 x4 x5 x6 (ix3 h i j) = 0 := by
    rw [val_main_v155_apply, val_main_v154_apply, show idx_main_v154 (ix3 h i j) = ix2 h i from eq_ix2 _, val_main_v153_apply, e3]
    show Ideal.div 0 (val_main_v37 (F := Ideal) x0 (ix2 h i)) * val_main_v36 (F := Ideal) x0 (ix3 h i j) = 0
    rw [zero_div _ (v37_ne x0 f0 h i), zero_mul]
  rw [val_main_v156_apply, v147_eq x0 x2 x3 x4 x5 x6 f0 f2 f3 f4 f5 f6, e4]
  exact add_zero _

theorem v159_eq (h : Fin 4) (i j : Fin 8192) : val_main_v159 (F := Ideal) x0 x2 x3 x4 x5 x6 (ix3 h i j)
    = (((if near i j then dsOf x0 x2 x3 x4 x5 x6 h i j else 0) * (1 / 8) : ℝ) : EReal) := by
  rw [val_main_v159_apply, val_main_v157_apply, val_main_v31_1_apply, show idx_main_v31_1 (ix3 h i j) = ix2 i j from eq_ix2 _, v20_eq,
    select_bool, v156_eq x0 x2 x3 x4 x5 x6 f0 f2 f3 f4 f5 f6,
    show val_main_call1_v0 (F := Ideal) (ix3 h i j) = 0 from (val_main_call1_v0_apply _).trans Ideal.ofBits_zero_f32,
    show val_main_v158 (F := Ideal) (ix3 h i j) = ((1 / 8 : ℝ) : EReal) from (val_main_v158_apply _).trans eighth, EReal.coe_mul]
  by_cases hn : near i j <;> simp [hn] <;> rfl

/-- The gradient of the queries, as the reference computes it. -/
theorem v161_eq (i : Fin 8192) (h : Fin 4) (e : Fin 64) : val_main_v161 (F := Ideal) x0 x2 x3 x4 x5 x6 (ix3 i h e)
    = ((dqR sl (qOf x0) (kOf x0) (vOf x0) (MOf x0) (lg x0 x5 x6) (og x0 x3 x4) (vec3 x2) i h e : ℝ) : EReal) := by
  rw [val_main_v161_apply, show idx_main_v161 (ix3 i h e) = ix3 h i e from eq_ix3 _, val_main_v160_apply]
  refine sum_of _ fun j => ?_
  rw [show lidx_main_v160 (ix3 h i e) j = ix3 h i j from eq_ix3 _, show ridx_main_v160 (ix3 h i e) j = ix3 j h e from eq_ix3 _,
    v159_eq x0 x2 x3 x4 x5 x6 f0 f2 f3 f4 f5 f6, v5_eq x0 f0, EReal.coe_mul, EReal.coe_mul, EReal.coe_mul]

end Gradient

end Attn

end
-- ==== Proof.Attn.Tile.lean ====
module
public import proofs.«01_k».proof.Proof.Gen.KernelIdeal.Value
public import Idealize.ShloMosaic.Lib.ValueIdxCore
@[expose] public section
set_option maxRecDepth 16384
noncomputable section
namespace Attn
open Cert.KernelIdeal Cert.KernelIdeal.Gen Idealize.ShloMosaic Idealize.ShloMosaic.TcCoe Idealize.SL.Sem ValueIdx
variable {F : FTy → Type} [FloatOps F] [Named F]

/-- The first query row of sub-block `s` of row block `b`. -/
def rowBase (b s : BitVec 32) : BitVec 32 := Scalar.muli (Scalar.addi (Scalar.muli b 4#32) s) 128#32

/-- Query rows `a0 …` against key rows `a0 - 64 …`: the key row, the distance, whether the pair is seen. -/
def keyRow (a0 : BitVec 32) : IVec S128x256 32 :=
  addi (broadcast S128x256 (Scalar.subi a0 64#32)) (iota .tc S128x256 32 [1] iota_S128x256_d1_w32)
def dist (a0 : BitVec 32) : IVec S128x256 32 :=
  absi (subi (addi (broadcast S128x256 a0) (iota .tc S128x256 32 [0] iota_S128x256_d0_w32)) (keyRow a0))
def seen (a0 : BitVec 32) : IVec S128x256 1 :=
  andi (andi (cmpi .sle (dist a0) (broadcast S128x256 64#32)) (cmpi .sge (keyRow a0) (broadcast S128x256 0#32)))
    (cmpi .slt (keyRow a0) (broadcast S128x256 8192#32))

/-- What is added to the scores: minus slope times distance where the pair is seen, the mask elsewhere. -/
def bias (a0 : BitVec 32) (s : F .f32) : FVec F S128x256 .f32 :=
  select (seen a0)
    (mulf (broadcast S128x256 (Scalar.subf (Scalar.ofBits .f32 0x00000000#32) s))
      (sitofp .f32 (muli (dist a0) (broadcast S128x256 1#32))))
    (broadcast S128x256 (Named.named κ "mask" 0xF149F2CA#32))

/-- The half of the 128 lanes a lane lies in: the floor of lane / 64. -/
def half (v : IVec S128x128 32) : IVec S128x128 32 :=
  let z := broadcast S128x128 0#32
  let f := broadcast S128x128 64#32
  let sg := Scalar.subi (Scalar.extui (Scalar.cmpi .sgt 64#32 0#32) : BitVec 32) (Scalar.extui (Scalar.cmpi .slt 64#32 0#32))
  let q := divsi v f
  select (andi (cmpi .ne (subi (extui 32 (cmpi .sgt v z) natLt_1_32) (extui 32 (cmpi .slt v z) natLt_1_32)) (broadcast S128x128 sg))
    (cmpi .ne (remsi v f) z)) (subi q (broadcast S128x128 1#32)) q

/-- The lanes of one head of a pair. -/
def lanes (h : BitVec 32) : IVec S128x128 1 :=
  cmpi .eq (half (iota .tc S128x128 32 [1] iota_S128x128_d1_w32)) (broadcast S128x128 h)

/-- One lane of a 128-lane block, for every key. -/
def spread (c : FVec F S128x1 .f32) : FVec F S128x256 .f32 :=
  broadcastTo S128x256 (shapeCast S128x1 c shapeCasts_S128x1_S128x1) broadcasts_S128x1_S128x256

/-- The rows of `x` against those of the window `w`, on the lanes of one head. -/
def prods (hm : IVec S128x128 1) (x : FVec F S128x128 .f32) (w : FVec F S256x128 .bf16) : FVec F S128x256 .f32 :=
  matmul dot_S128x128_S256x128_S128x256_1_1_0_0_n_n none
    (truncf .bf16 (select hm x (broadcast S128x128 (Scalar.ofBits .f32 0x00000000#32))) bitsLt_bf16_f32) w
    (constant S128x256 .f32 0x00000000#32)

/-- The gradient of the scores of one head: the weight times (dO · v + E). -/
def dscore (hm : IVec S128x128 1) (b : FVec F S128x256 .f32) (q d : FVec F S128x128 .f32) (k v : FVec F S256x128 .bf16)
    (l e : FVec F S128x1 .f32) : FVec F S128x256 .f32 :=
  mulf (exp (subf (addf (prods hm q k) b) (spread l))) (addf (prods hm d v) (spread e))

/-- One head's lanes of the gradient of the queries, over what the other head left. -/
def headOut (hm : IVec S128x128 1) (b : FVec F S128x256 .f32) (q d : FVec F S128x128 .f32) (k v : FVec F S256x128 .bf16)
    (l e : FVec F S128x1 .f32) (o : FVec F S128x128 .f32) : FVec F S128x128 .f32 :=
  select hm
    (mulf (matmul dot_S128x256_S256x128_S128x128_1_0_0_1_n_n none (truncf .bf16 (dscore hm b q d k v l e) bitsLt_bf16_f32) k
        (constant S128x128 .f32 0x00000000#32))
      (broadcast S128x128 (Scalar.ofBits .f32 0x3E000000#32))) o

/-- 128 rows of the gradient of the queries of one pair of heads. -/
def tile (p a0 : BitVec 32) (q d l e : FVec F S128x128 .f32) (k v : FVec F S256x128 .bf16) : FVec F S128x128 .f32 :=
  let q' := mulf q (broadcast S128x128 (Scalar.ofBits .f32 0x3E000000#32))
  let d' := shapeCast S128x128 d shapeCasts_S128x128_S128x128
  let l' := shapeCast S128x128 l shapeCasts_S128x128_S128x128
  let e' := shapeCast S128x128 e shapeCasts_S128x128_S128x128
  let first := Scalar.cmpi .eq p 0#32
  shapeCast S128x128
    (headOut (lanes 1#32) (bias a0 (Scalar.select first (Scalar.ofBits .f32 0x3ECB2FF5#32) (Scalar.ofBits .f32 0x3E214518#32))) q' d' k v
      (extractStridedSlice S128x1 ![0, 64] l' slices_S128x128_o0_64_S128x1) (extractStridedSlice S128x1 ![0, 64] e' slices_S128x128_o0_64_S128x1)
      (headOut (lanes 0#32) (bias a0 (Scalar.select first (Scalar.ofBits .f32 0x3F214518#32) (Scalar.ofBits .f32 0x3E800000#32))) q' d' k v
        (extractStridedSlice S128x1 ![0, 0] l' slices_S128x128_o0_0_S128x1) (extractStridedSlice S128x1 ![0, 0] e' slices_S128x128_o0_0_S128x1)
        (broadcast S128x128 (Scalar.ofBits .f32 0x00000000#32))))
    shapeCasts_S128x128_S128x128

/-- Rows `128 s …` of a block of 512. -/
def rows (s : Fin 4) (x : Vec F S512x128 .f32) : FVec F S128x128 .f32 :=
  fun y => x (ix2 ⟨128 * s.val + (y 0).val, by have := s.isLt; have : (y 0).val < 128 := (y 0).isLt; omega⟩ (⟨(y 1).val, (y 1).isLt⟩ : Fin 128))

/-- Rows `128 s …` of the 640 rows of three blocks one after the other. -/
def window (s : Fin 4) (a : Vec F S64x128 .f32) (b : Vec F S512x128 .f32) (c : Vec F S64x128 .f32) : FVec F S256x128 .f32 :=
  fun y =>
    if h1 : 128 * s.val + (y 0).val < 64 then a (ix2 ⟨128 * s.val + (y 0).val, h1⟩ (⟨(y 1).val, (y 1).isLt⟩ : Fin 128))
    else if h2 : 128 * s.val + (y 0).val < 576 then b (ix2 ⟨128 * s.val + (y 0).val - 64, by omega⟩ (⟨(y 1).val, (y 1).isLt⟩ : Fin 128))
    else c (ix2 ⟨128 * s.val + (y 0).val - 576, by have := s.isLt; have : (y 0).val < 256 := (y 0).isLt; omega⟩ (⟨(y 1).val, (y 1).isLt⟩ : Fin 128))

variable (x0 : Vec F S512x128 .f32) (x1 : Vec F S64x128 .f32) (x2 : Vec F S512x128 .f32) (x3 : Vec F S64x128 .f32) (x4 : Vec F S64x128 .f32) (x5 : Vec F S512x128 .f32) (x6 : Vec F S64x128 .f32) (x7 x8 x9 : Vec F S512x128 .f32)

/-- Sub-block `s` of a block of 512 rows. -/
def subTile (p b : BitVec 32) (s : Fin 4) : FVec F S128x128 .f32 :=
  tile p (rowBase b (BitVec.ofNat 32 s.val)) (rows s x0) (rows s x7) (rows s x8) (rows s x9)
    (truncf .bf16 (window s x1 x2 x3) bitsLt_bf16_f32) (truncf .bf16 (window s x4 x5 x6) bitsLt_bf16_f32)

/-- A block of 512 rows. -/
def block (p b : BitVec 32) : FVec F S512x128 .f32 := fun y =>
  subTile x0 x1 x2 x3 x4 x5 x6 x7 x8 x9 p b ⟨(y 0).val / 128, by have : (y 0).val < 512 := (y 0).isLt; omega⟩
    (ix2 ⟨(y 0).val % 128, Nat.mod_lt _ (by omega)⟩ (⟨(y 1).val, (y 1).isLt⟩ : Fin 128))

theorem block_at (p b : BitVec 32) (s : Fin 4) (x : S128x128.Idx) (y : S512x128.Idx) (h0 : (y 0).val = 128 * s.val + (x 0).val)
    (h1 : (y 1).val = (x 1).val) :
    subTile x0 x1 x2 x3 x4 x5 x6 x7 x8 x9 p b s x = block x0 x1 x2 x3 x4 x5 x6 x7 x8 x9 p b y := by
  have hx : (x 0).val < 128 := (x 0).isLt
  unfold block
  have e1 : (⟨(y 0).val / 128, by have : (y 0).val < 512 := (y 0).isLt; omega⟩ : Fin 4) = s := Fin.ext (by show (y 0).val / 128 = _; omega)
  rw [e1]
  refine congrArg _ (funext fun a => ?_)
  match a with
  | ⟨0, _⟩ => exact Fin.ext (by show (x 0).val = (y 0).val % 128; omega)
  | ⟨1, _⟩ => exact Fin.ext h1.symm

theorem rows_ld (s : Fin 4) (x : Vec F S512x128 .f32) (o : Nat) (inb) (h : o = 128 * s.val) :
    View.ld x (Rect.unit ![o, 0] ![128, 128] inb) = rows s x := by
  subst h
  funext y
  show x _ = x _
  refine congrArg x (funext fun a => ?_)
  match a with
  | ⟨0, _⟩ => exact Fin.ext (by show 128 * s.val + 1 * (y 0).val = 128 * s.val + (y 0).val; omega)
  | ⟨1, _⟩ => exact Fin.ext (by show 0 + 1 * (y 1).val = (y 1).val; omega)

theorem window_mid (s : Fin 4) (a : Vec F S64x128 .f32) (x : Vec F S512x128 .f32) (c : Vec F S64x128 .f32) (o : Nat) (inb) (h : o + 64 = 128 * s.val)
    (hs : s.val < 3) :
    (View.ld x (Rect.unit ![o, 0] ![256, 128] inb) : FVec F S256x128 .f32) = window s a x c := by
  funext y
  have hy : (y 0).val < 256 := (y 0).isLt
  unfold window
  rw [dif_neg (by omega), dif_pos (by omega)]
  show x _ = x _
  refine congrArg x (funext fun a => ?_)
  match a with
  | ⟨0, _⟩ => exact Fin.ext (by show o + 1 * (y 0).val = 128 * s.val + (y 0).val - 64; omega)
  | ⟨1, _⟩ => exact Fin.ext (by show 0 + 1 * (y 1).val = (y 1).val; omega)

theorem window_first (a : Vec F S64x128 .f32) (x : Vec F S512x128 .f32) (c : Vec F S64x128 .f32) (inb) (inb') :
    concatenate S256x128 0 [⟨S64x128, View.ld a (Rect.unit ![0, 0] ![64, 128] inb)⟩, ⟨S192x128, View.ld x (Rect.unit ![0, 0] ![192, 128] inb')⟩]
      concatenates_S64x128_S192x128_S256x128_d0 = window 0 a x c := by
  funext y
  have hy : (y 0).val < 256 := (y 0).isLt
  unfold window
  by_cases h : (y 0).val < 64
  · rw [dif_pos (by show 128 * 0 + _ < _; omega)]
    refine (concatenate_pair_apply_left (t := S256x128) (s₁ := S64x128) (s₂ := S192x128) 0 _ _ _ y rfl
      (ix2 (⟨(y 0).val, h⟩ : Fin 64) (⟨(y 1).val, (y 1).isLt⟩ : Fin 128)) ?_).trans ?_
    · intro b; match b with
      | ⟨0, _⟩ => rfl
      | ⟨1, _⟩ => rfl
    · show a _ = a _
      refine congrArg a (funext fun b => ?_)
      match b with
      | ⟨0, _⟩ => exact Fin.ext (by show 0 + 1 * (y 0).val = 128 * 0 + (y 0).val; omega)
      | ⟨1, _⟩ => exact Fin.ext (by show 0 + 1 * (y 1).val = (y 1).val; omega)
  · rw [dif_neg (by show ¬ 128 * 0 + _ < _; omega), dif_pos (by show 128 * 0 + _ < _; omega)]
    have e1 : 128 * (0 : Fin 4).val = 0 := rfl
    have h192 : (y 0).val - 64 < 192 := by omega
    refine (concatenate_pair_apply_right (t := S256x128) (s₁ := S64x128) (s₂ := S192x128) 0 _ _ _ y rfl rfl
      (ix2 (⟨(y 0).val - 64, h192⟩ : Fin 192) (⟨(y 1).val, (y 1).isLt⟩ : Fin 128)) ?_ ?_).trans ?_
    · intro b hb; match b with
      | ⟨0, _⟩ => exact absurd rfl hb
      | ⟨1, _⟩ => rfl
    · show (y 0).val - 64 + 64 = (y 0).val; omega
    · show x _ = x _
      refine congrArg x (funext fun b => ?_)
      match b with
      | ⟨0, _⟩ => exact Fin.ext (by show 0 + 1 * ((y 0).val - 64) = 128 * 0 + (y 0).val - 64; omega)
      | ⟨1, _⟩ => exact Fin.ext (by show 0 + 1 * (y 1).val = (y 1).val; omega)

theorem window_last (a : Vec F S64x128 .f32) (x : Vec F S512x128 .f32) (c : Vec F S64x128 .f32) (inb) (inb') :
    concatenate S256x128 0 [⟨S192x128, View.ld x (Rect.unit ![320, 0] ![192, 128] inb')⟩, ⟨S64x128, View.ld c (Rect.unit ![0, 0] ![64, 128] inb)⟩]
      concatenates_S192x128_S64x128_S256x128_d0 = window 3 a x c := by
  funext y
  have hy : (y 0).val < 256 := (y 0).isLt
  have e1 : (3 : Fin 4).val = 3 := rfl
  unfold window
  rw [dif_neg (by omega)]
  by_cases h : (y 0).val < 192
  · rw [dif_pos (by omega)]
    refine (concatenate_pair_apply_left (t := S256x128) (s₁ := S192x128) (s₂ := S64x128) 0 _ _ _ y rfl
      (ix2 (⟨(y 0).val, h⟩ : Fin 192) (⟨(y 1).val, (y 1).isLt⟩ : Fin 128)) ?_).trans ?_
    · intro b; match b with
      | ⟨0, _⟩ => rfl
      | ⟨1, _⟩ => rfl
    · show x _ = x _
      refine congrArg x (funext fun b => ?_)
      match b with
      | ⟨0, _⟩ => exact Fin.ext (by show 320 + 1 * (y 0).val = 128 * 3 + (y 0).val - 64; omega)
      | ⟨1, _⟩ => exact Fin.ext (by show 0 + 1 * (y 1).val = (y 1).val; omega)
  · rw [dif_neg (by omega)]
    have h64 : (y 0).val - 192 < 64 := by omega
    refine (concatenate_pair_apply_right (t := S256x128) (s₁ := S192x128) (s₂ := S64x128) 0 _ _ _ y rfl rfl
      (ix2 (⟨(y 0).val - 192, h64⟩ : Fin 64) (⟨(y 1).val, (y 1).isLt⟩ : Fin 128)) ?_ ?_).trans ?_
    · intro b hb; match b with
      | ⟨0, _⟩ => exact absurd rfl hb
      | ⟨1, _⟩ => rfl
    · show (y 0).val - 192 + 192 = (y 0).val; omega
    · show c _ = c _
      refine congrArg c (funext fun b => ?_)
      match b with
      | ⟨0, _⟩ => exact Fin.ext (by show 0 + 1 * ((y 0).val - 192) = 128 * 3 + (y 0).val - 576; omega)
      | ⟨1, _⟩ => exact Fin.ext (by show 0 + 1 * (y 1).val = (y 1).val; omega)

end Attn
-- ==== Proof.Attn.Out.lean ====
module
public import proofs.«01_k».proof.Proof.Attn.Tile
@[expose] public section
set_option maxRecDepth 16384
noncomputable section
namespace Attn
open Cert.KernelIdeal Cert.KernelIdeal.Gen Idealize.ShloMosaic Idealize.ShloMosaic.TcCoe Idealize.SL.Sem ValueIdx
variable {F : FTy → Type} [FloatOps F] [Named F]

/-- What a grid point leaves in the output's buffer. -/
theorem out_eq (c : Dev nD) (i : grid0.Coords) (arg2 : Memref sig .tc .vmem S512x128 .f32) (harg2 : arg2.IsWhole) (arg3 : Memref sig .tc .vmem S64x128 .f32) (harg3 : arg3.IsWhole) (arg4 : Memref sig .tc .vmem S512x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S512x128 .f32) (harg7 : arg7.IsWhole) (arg8 : Memref sig .tc .vmem S64x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg13 : Memref sig .tc .vmem S512x128 .bf16) (harg13 : arg13.IsWhole) (arg14 : Memref sig .tc .vmem S512x128 .f32) (harg14 : arg14.IsWhole)
    (x0 : Vec F S512x128 .f32) (x1 : Vec F S64x128 .f32) (x2 : Vec F S512x128 .f32) (x3 : Vec F S64x128 .f32) (x4 : Vec F S64x128 .f32) (x5 : Vec F S512x128 .f32) (x6 : Vec F S64x128 .f32) (x7 : Vec F S512x128 .f32) (x8 : Vec F S512x128 .f32) (x9 : Vec F S512x128 .f32) :
    out0_A_10 c i arg2 harg2 arg3 harg3 arg4 harg4 arg5 harg5 arg6 harg6 arg7 harg7 arg8 harg8 arg9 harg9 arg10 harg10 arg11 harg11 arg13 harg13 arg14 harg14 x0 x1 x2 x3 x4 x5 x6 x7 x8 x9 =
      truncf .bf16 (block x0 x1 x2 x3 x4 x5 x6 x7 x8 x9 (BitVec.ofNat 32 (i 0).val) (BitVec.ofNat 32 (i 1).val)) bitsLt_bf16_f32 := by
  unfold out0_A_10
  rw [View.read_writes_junk_eq_canon]
  simp only [kernelRun0_A]
  sl_unfold_words
  simp only [View.readAt_eq_ld, harg2.read_unread, harg3.read_unread, harg4.read_unread, harg5.read_unread, harg6.read_unread, harg7.read_unread, harg8.read_unread, harg9.read_unread, harg10.read_unread, harg11.read_unread]
  rw [View.canon_unit_zero (S := S512x128) (by funext a; match a with | ⟨0, _⟩ => rfl | ⟨1, _⟩ => rfl)]
  rw [View.readCov_eq_canon']
  refine congrArg (fun z => truncf .bf16 z bitsLt_bf16_f32) (funext fun j => ?_)
  rw [show (Rect.unit ![0, 0] ![512, 128] inb_S512x128_S512x128_0_0).toLoadRect.idx j = j from funext fun a => by
    match a with
    | ⟨0, _⟩ => exact Fin.ext (by show 0 + 1 * (j 0).val = (j 0).val; omega)
    | ⟨1, _⟩ => exact Fin.ext (by show 0 + 1 * (j 1).val = (j 1).val; omega)]
  refine View.canon_apply_of_pieces (S := S512x128) (Val := Elt F) (e := .f32) (block x0 x1 x2 x3 x4 x5 x6 x7 x8 x9 (BitVec.ofNat 32 (i 0).val) (BitVec.ofNat 32 (i 1).val)) _ ?_ j ?_
  · intro p hp
    simp only [List.mem_cons, List.not_mem_nil, or_false] at hp
    rcases hp with rfl | rfl | rfl | rfl
    · intro x
      refine Eq.trans (congrFun (?_ : _ = subTile x0 x1 x2 x3 x4 x5 x6 x7 x8 x9 (BitVec.ofNat 32 (i 0).val) (BitVec.ofNat 32 (i 1).val) 3) x) (block_at x0 x1 x2 x3 x4 x5 x6 x7 x8 x9 _ _ 3 x _ (by show 384 + 1 * (x 0).val = 128 * 3 + (x 0).val; omega) (by show 0 + 1 * (x 1).val = (x 1).val; omega))
      show tile (BitVec.ofNat 32 (i 0).val) (rowBase (BitVec.ofNat 32 (i 1).val) 3#32) (View.ld x0 (Rect.unit ![384, 0] ![128, 128] inb_S512x128_S128x128_384_0)) (View.ld x7 (Rect.unit ![384, 0] ![128, 128] inb_S512x128_S128x128_384_0)) (View.ld x8 (Rect.unit ![384, 0] ![128, 128] inb_S512x128_S128x128_384_0)) (View.ld x9 (Rect.unit ![384, 0] ![128, 128] inb_S512x128_S128x128_384_0))
        (truncf .bf16 (concatenate S256x128 0 [⟨S192x128, View.ld x2 (Rect.unit ![320, 0] ![192, 128] inb_S512x128_S192x128_320_0)⟩, ⟨S64x128, View.ld x3 (Rect.unit ![0, 0] ![64, 128] inb_S64x128_S64x128_0_0)⟩] concatenates_S192x128_S64x128_S256x128_d0) bitsLt_bf16_f32) (truncf .bf16 (concatenate S256x128 0 [⟨S192x128, View.ld x5 (Rect.unit ![320, 0] ![192, 128] inb_S512x128_S192x128_320_0)⟩, ⟨S64x128, View.ld x6 (Rect.unit ![0, 0] ![64, 128] inb_S64x128_S64x128_0_0)⟩] concatenates_S192x128_S64x128_S256x128_d0) bitsLt_bf16_f32) = _
      rw [rows_ld 3 x0 384 _ rfl, rows_ld 3 x7 384 _ rfl, rows_ld 3 x8 384 _ rfl, rows_ld 3 x9 384 _ rfl, window_last x1 x2 x3, window_last x4 x5 x6]
      rfl
    · intro x
      refine Eq.trans (congrFun (?_ : _ = subTile x0 x1 x2 x3 x4 x5 x6 x7 x8 x9 (BitVec.ofNat 32 (i 0).val) (BitVec.ofNat 32 (i 1).val) 2) x) (block_at x0 x1 x2 x3 x4 x5 x6 x7 x8 x9 _ _ 2 x _ (by show 256 + 1 * (x 0).val = 128 * 2 + (x 0).val; omega) (by show 0 + 1 * (x 1).val = (x 1).val; omega))
      show tile (BitVec.ofNat 32 (i 0).val) (rowBase (BitVec.ofNat 32 (i 1).val) 2#32) (View.ld x0 (Rect.unit ![256, 0] ![128, 128] inb_S512x128_S128x128_256_0)) (View.ld x7 (Rect.unit ![256, 0] ![128, 128] inb_S512x128_S128x128_256_0)) (View.ld x8 (Rect.unit ![256, 0] ![128, 128] inb_S512x128_S128x128_256_0)) (View.ld x9 (Rect.unit ![256, 0] ![128, 128] inb_S512x128_S128x128_256_0))
        (truncf .bf16 (View.ld x2 (Rect.unit ![192, 0] ![256, 128] inb_S512x128_S256x128_192_0)) bitsLt_bf16_f32) (truncf .bf16 (View.ld x5 (Rect.unit ![192, 0] ![256, 128] inb_S512x128_S256x128_192_0)) bitsLt_bf16_f32) = _
      rw [rows_ld 2 x0 256 _ rfl, rows_ld 2 x7 256 _ rfl, rows_ld 2 x8 256 _ rfl, rows_ld 2 x9 256 _ rfl, window_mid 2 x1 x2 x3 192 _ rfl (by decide), window_mid 2 x4 x5 x6 192 _ rfl (by decide)]
      rfl
    · intro x
      refine Eq.trans (congrFun (?_ : _ = subTile x0 x1 x2 x3 x4 x5 x6 x7 x8 x9 (BitVec.ofNat 32 (i 0).val) (BitVec.ofNat 32 (i 1).val) 1) x) (block_at x0 x1 x2 x3 x4 x5 x6 x7 x8 x9 _ _ 1 x _ (by show 128 + 1 * (x 0).val = 128 * 1 + (x 0).val; omega) (by show 0 + 1 * (x 1).val = (x 1).val; omega))
      show tile (BitVec.ofNat 32 (i 0).val) (rowBase (BitVec.ofNat 32 (i 1).val) 1#32) (View.ld x0 (Rect.unit ![128, 0] ![128, 128] inb_S512x128_S128x128_128_0)) (View.ld x7 (Rect.unit ![128, 0] ![128, 128] inb_S512x128_S128x128_128_0)) (View.ld x8 (Rect.unit ![128, 0] ![128, 128] inb_S512x128_S128x128_128_0)) (View.ld x9 (Rect.unit ![128, 0] ![128, 128] inb_S512x128_S128x128_128_0))
        (truncf .bf16 (View.ld x2 (Rect.unit ![64, 0] ![256, 128] inb_S512x128_S256x128_64_0)) bitsLt_bf16_f32) (truncf .bf16 (View.ld x5 (Rect.unit ![64, 0] ![256, 128] inb_S512x128_S256x128_64_0)) bitsLt_bf16_f32) = _
      rw [rows_ld 1 x0 128 _ rfl, rows_ld 1 x7 128 _ rfl, rows_ld 1 x8 128 _ rfl, rows_ld 1 x9 128 _ rfl, window_mid 1 x1 x2 x3 64 _ rfl (by decide), window_mid 1 x4 x5 x6 64 _ rfl (by decide)]
      rfl
    · intro x
      refine Eq.trans (congrFun (?_ : _ = subTile x0 x1 x2 x3 x4 x5 x6 x7 x8 x9 (BitVec.ofNat 32 (i 0).val) (BitVec.ofNat 32 (i 1).val) 0) x) (block_at x0 x1 x2 x3 x4 x5 x6 x7 x8 x9 _ _ 0 x _ (by show 0 + 1 * (x 0).val = 128 * 0 + (x 0).val; omega) (by show 0 + 1 * (x 1).val = (x 1).val; omega))
      show tile (BitVec.ofNat 32 (i 0).val) (rowBase (BitVec.ofNat 32 (i 1).val) 0#32) (View.ld x0 (Rect.unit ![0, 0] ![128, 128] inb_S512x128_S128x128_0_0)) (View.ld x7 (Rect.unit ![0, 0] ![128, 128] inb_S512x128_S128x128_0_0)) (View.ld x8 (Rect.unit ![0, 0] ![128, 128] inb_S512x128_S128x128_0_0)) (View.ld x9 (Rect.unit ![0, 0] ![128, 128] inb_S512x128_S128x128_0_0))
        (truncf .bf16 (concatenate S256x128 0 [⟨S64x128, View.ld x1 (Rect.unit ![0, 0] ![64, 128] inb_S64x128_S64x128_0_0)⟩, ⟨S192x128, View.ld x2 (Rect.unit ![0, 0] ![192, 128] inb_S512x128_S192x128_0_0)⟩] concatenates_S64x128_S192x128_S256x128_d0) bitsLt_bf16_f32) (truncf .bf16 (concatenate S256x128 0 [⟨S64x128, View.ld x4 (Rect.unit ![0, 0] ![64, 128] inb_S64x128_S64x128_0_0)⟩, ⟨S192x128, View.ld x5 (Rect.unit ![0, 0] ![192, 128] inb_S512x128_S192x128_0_0)⟩] concatenates_S64x128_S192x128_S256x128_d0) bitsLt_bf16_f32) = _
      rw [rows_ld 0 x0 0 _ rfl, rows_ld 0 x7 0 _ rfl, rows_ld 0 x8 0 _ rfl, rows_ld 0 x9 0 _ rfl, window_first x1 x2 x3, window_first x4 x5 x6]
      rfl
  · exact View.cover_of_tiledL (s := S512x128) _ ![128, 128] (by sl_kernel_rfl) j
end Attn
-- ==== Proof.Attn.TileVal.lean ====
module
public import proofs.«01_k».proof.Proof.Attn.Tile
public import proofs.«01_k».proof.Proof.Attn.Reals
@[expose] public section
set_option maxRecDepth 16384
noncomputable section
namespace Attn
open Cert.KernelIdeal Cert.KernelIdeal.Gen Idealize.ShloMosaic Idealize.ShloMosaic.TcCoe Idealize.SL.Sem ValueIdx

theorem rows_by_rows (x : FVec Ideal S128x128 .bf16) (w : FVec Ideal S256x128 .bf16) (r : Fin 128) (y : Fin 256) :
    matmul dot_S128x128_S256x128_S128x256_1_1_0_0_n_n none x w (constant S128x256 .f32 0x00000000#32) (ix2 r y)
      = ∑ l : Fin 128, x (ix2 r l) * w (ix2 y l) := by
  refine (Ideal.matmul_constant_zero_apply _ none _ _ _).trans ?_
  rw [← (contrEquiv1 dot_S128x128_S256x128_S128x256_1_1_0_0_n_n 128 rfl rfl).symm.sum_comp]
  refine Finset.sum_congr rfl fun l _ => ?_
  refine congrArg₂ (· * ·) (congrArg x (funext fun a => ?_)) (congrArg w (funext fun a => ?_))
  · match a with
    | ⟨0, _⟩ => exact Fin.ext (by simp [DotDims.lhsIdx, dot_S128x128_S256x128_S128x256_1_1_0_0_n_n]; rfl)
    | ⟨1, _⟩ => exact Fin.ext (by simp [DotDims.lhsIdx, dot_S128x128_S256x128_S128x256_1_1_0_0_n_n]; rfl)
  · match a with
    | ⟨0, _⟩ => exact Fin.ext (by simp [DotDims.rhsIdx, dot_S128x128_S256x128_S128x256_1_1_0_0_n_n]; rfl)
    | ⟨1, _⟩ => exact Fin.ext (by simp [DotDims.rhsIdx, dot_S128x128_S256x128_S128x256_1_1_0_0_n_n]; rfl)

theorem rows_by_cols (x : FVec Ideal S128x256 .bf16) (w : FVec Ideal S256x128 .bf16) (r c : Fin 128) :
    matmul dot_S128x256_S256x128_S128x128_1_0_0_1_n_n none x w (constant S128x128 .f32 0x00000000#32) (ix2 r c)
      = ∑ y : Fin 256, x (ix2 r y) * w (ix2 y c) := by
  refine (Ideal.matmul_constant_zero_apply _ none _ _ _).trans ?_
  rw [← (contrEquiv1 dot_S128x256_S256x128_S128x128_1_0_0_1_n_n 256 rfl rfl).symm.sum_comp]
  refine Finset.sum_congr rfl fun l _ => ?_
  refine congrArg₂ (· * ·) (congrArg x (funext fun a => ?_)) (congrArg w (funext fun a => ?_))
  · match a with
    | ⟨0, _⟩ => exact Fin.ext (by simp [DotDims.lhsIdx, dot_S128x256_S256x128_S128x128_1_0_0_1_n_n]; rfl)
    | ⟨1, _⟩ => exact Fin.ext (by simp [DotDims.lhsIdx, dot_S128x256_S256x128_S128x128_1_0_0_1_n_n]; rfl)
  · match a with
    | ⟨0, _⟩ => exact Fin.ext (by simp [DotDims.rhsIdx, dot_S128x256_S256x128_S128x128_1_0_0_1_n_n]; rfl)
    | ⟨1, _⟩ => exact Fin.ext (by simp [DotDims.rhsIdx, dot_S128x256_S256x128_S128x128_1_0_0_1_n_n]; rfl)

/-- Which lanes belong to a head. -/
theorem lanes_eq (h : Fin 2) (r c : Fin 128) :
    lanes (BitVec.ofNat 32 h.val) (ix2 r c) = BitVec.ofBool (decide (c.val / 64 = h.val)) := by
  have key : ∀ (h : Fin 2) (c : Fin 128), IntOp.cmpi .eq (Scalar.select (IntOp.andi (IntOp.cmpi .ne (IntOp.subi ((IntOp.cmpi .sgt (BitVec.ofNat 32 c.val) 0#32).setWidth 32) ((IntOp.cmpi .slt (BitVec.ofNat 32 c.val) 0#32).setWidth 32))
        (Scalar.subi (Scalar.extui (Scalar.cmpi .sgt 64#32 0#32) : BitVec 32) (Scalar.extui (Scalar.cmpi .slt 64#32 0#32))))
        (IntOp.cmpi .ne (IntOp.remsi .vector (BitVec.ofNat 32 c.val) 64#32) 0#32)) (IntOp.subi (IntOp.divsi .vector (BitVec.ofNat 32 c.val) 64#32) 1#32) (IntOp.divsi .vector (BitVec.ofNat 32 c.val) 64#32)) (BitVec.ofNat 32 h.val)
      = BitVec.ofBool (decide (c.val / 64 = h.val)) := by decide +kernel
  refine Eq.trans ?_ (key h c)
  unfold lanes half
  have e : iota .tc S128x128 32 [1] iota_S128x128_d1_w32 (ix2 r c) = BitVec.ofNat 32 c.val := iota_single_apply _ _ _ _ _ _
  rw [← e]
  rfl

theorem rowBase_toInt (b : Fin 16) (s : Fin 4) :
    (rowBase (BitVec.ofNat 32 b.val) (BitVec.ofNat 32 s.val)).toInt = ((128 * (4 * b.val + s.val) : ℕ) : ℤ) := by
  have key : ∀ (b : Fin 16) (s : Fin 4), (rowBase (BitVec.ofNat 32 b.val) (BitVec.ofNat 32 s.val)).toInt = ((128 * (4 * b.val + s.val) : ℕ) : ℤ) := by
    decide +kernel
  exact key b s

/-- The pairs a window shows: at most 64 apart, and the key a row of the sequence. -/
def inWindow (A r y : ℕ) : Prop := ((r : ℤ) + 64 - y).natAbs ≤ 64 ∧ 64 ≤ A + y ∧ A + y < 8256
instance (A r y : ℕ) : Decidable (inWindow A r y) := by unfold inWindow; infer_instance

theorem mask_bot : (Named.named (F := Ideal) (φ := .f32) κ "mask" 0xF149F2CA#32 : EReal) = ⊥ :=
  IdealRules.named_const.ideal_named_scalar _ _ _ _ rfl

section
variable (a0 : BitVec 32) (A : ℕ) (ha : a0.toInt = (A : ℤ)) (hA : A ≤ 8064) (r : Fin 128) (y : Fin 256)
include ha hA

theorem keyRow_toInt : (keyRow a0 (ix2 r y)).toInt = (A : ℤ) - 64 + (y.val : ℤ) := by
  have e : iota .tc S128x256 32 [1] iota_S128x256_d1_w32 (ix2 r y) = BitVec.ofNat 32 y.val := iota_single_apply _ _ _ _ _ _
  have h64 : (64#32).toInt = 64 := by decide
  have hs := subi_toInt a0 64#32 (by rw [ha, h64]; omega) (by rw [ha, h64]; omega)
  have hy := toInt_ofNat_small y.val (by omega)
  show (IntOp.addi (IntOp.subi a0 64#32) (iota .tc S128x256 32 [1] iota_S128x256_d1_w32 (ix2 r y))).toInt = _
  rw [e, addi_toInt _ _ (by rw [hs, hy, ha, h64]; omega) (by rw [hs, hy, ha, h64]; omega), hs, hy, ha, h64]

theorem dist_toInt : (dist a0 (ix2 r y)).toInt = ((((r.val : ℤ) + 64 - y.val).natAbs : ℕ) : ℤ) := by
  have e : iota .tc S128x256 32 [0] iota_S128x256_d0_w32 (ix2 r y) = BitVec.ofNat 32 r.val := iota_single_apply _ _ _ _ _ _
  have hk := keyRow_toInt a0 A ha hA r y
  have hr := toInt_ofNat_small r.val (by omega)
  have h1 := addi_toInt a0 (BitVec.ofNat 32 r.val) (by rw [ha, hr]; omega) (by rw [ha, hr]; omega)
  have h2 := subi_toInt (IntOp.addi a0 (BitVec.ofNat 32 r.val)) (keyRow a0 (ix2 r y)) (by rw [h1, hk, ha, hr]; omega) (by rw [h1, hk, ha, hr]; omega)
  show (IntOp.absi (IntOp.subi (IntOp.addi a0 (iota .tc S128x256 32 [0] iota_S128x256_d0_w32 (ix2 r y))) (keyRow a0 (ix2 r y)))).toInt = _
  rw [e, absi_toInt _ (by rw [h2, h1, hk, ha, hr]; omega), h2, h1, hk, ha, hr]
  congr 2; omega

theorem seen_eq : seen a0 (ix2 r y) = BitVec.ofBool (decide (inWindow A r.val y.val)) := by
  have hk := keyRow_toInt a0 A ha hA r y
  have hd := dist_toInt a0 A ha hA r y
  have h64 : (64#32).toInt = 64 := by decide
  have h0 : (0#32).toInt = 0 := by decide
  have h8 : (8192#32).toInt = 8192 := by decide
  show IntOp.andi (IntOp.andi (BitVec.ofBool (BitVec.sle (dist a0 (ix2 r y)) 64#32)) (BitVec.ofBool (BitVec.sle 0#32 (keyRow a0 (ix2 r y)))))
    (BitVec.ofBool (BitVec.slt (keyRow a0 (ix2 r y)) 8192#32)) = _
  rw [BitVec.sle_eq_decide, BitVec.sle_eq_decide, BitVec.slt_eq_decide, hk, hd, h64, h0, h8]
  have andb : ∀ p q : Bool, IntOp.andi (BitVec.ofBool p) (BitVec.ofBool q) = BitVec.ofBool (p && q) := by decide
  rw [andb, andb]
  refine congrArg _ ?_
  rw [← Bool.decide_and, ← Bool.decide_and]
  exact decide_eq_decide.2 (by unfold inWindow; omega)

theorem bias_eq (s : EReal) (sr : ℝ) (hs : s = ((sr : ℝ) : EReal)) :
    bias (F := Ideal) a0 s (ix2 r y) = if inWindow A r.val y.val then ((-(sr * (((r.val : ℤ) + 64 - y.val).natAbs : ℝ)) : ℝ) : EReal) else ⊥ := by
  have hd := dist_toInt a0 A ha hA r y
  have h1 : (1#32).toInt = 1 := by decide
  show Scalar.select (seen a0 (ix2 r y)) (((Ideal.ofBits .f32 0x00000000#32) - s) * ((((IntOp.muli (dist a0 (ix2 r y)) 1#32)).toInt : ℝ) : EReal)) (Named.named (F := Ideal) (φ := .f32) κ "mask" 0xF149F2CA#32) = _
  rw [seen_eq a0 A ha hA r y, select_bool, mask_bot, muli_toInt _ _ (by rw [hd, h1]; omega) (by rw [hd, h1]; omega), hd, h1, Ideal.ofBits_zero_f32, hs]
  by_cases hw : inWindow A r.val y.val
  · simp only [hw, decide_true, if_true]
    rw [← EReal.coe_zero, ← EReal.coe_sub, ← EReal.coe_mul]
    congr 1
    generalize ((r.val : ℤ) + 64 - y.val).natAbs = n
    push_cast
    ring
  · simp [hw]

end

/-- The sum over the lanes of one head. -/
theorem sum_half (h : Fin 2) (f : Fin 128 → ℝ) :
    (∑ l : Fin 128, if l.val / 64 = h.val then f l else 0) = ∑ e : Fin 64, f ⟨64 * h.val + e.val, by omega⟩ := by
  rw [← Finset.sum_filter]
  symm
  refine Finset.sum_bij (fun e _ => ⟨64 * h.val + e.val, by omega⟩) ?_ ?_ ?_ ?_
  · intro e _; simp only [Finset.mem_filter, Finset.mem_univ, true_and]; omega
  · intro a _ b _ hab; simp only [Fin.mk.injEq] at hab; exact Fin.ext (by omega)
  · intro l hl
    simp only [Finset.mem_filter, Finset.mem_univ, true_and] at hl
    exact ⟨⟨l.val - 64 * h.val, by omega⟩, Finset.mem_univ _, Fin.ext (by show 64 * h.val + (l.val - 64 * h.val) = l.val; omega)⟩
  · intro _ _; rfl

/-- The products on one head's lanes. -/
theorem prods_eq (h : Fin 2) (x : FVec Ideal S128x128 .f32) (w : FVec Ideal S256x128 .bf16) (xr : Fin 128 → Fin 128 → ℝ) (wr : Fin 256 → Fin 128 → ℝ)
    (hx : ∀ r l, x (ix2 r l) = ((xr r l : ℝ) : EReal)) (hw : ∀ y l, w (ix2 y l) = ((wr y l : ℝ) : EReal)) (r : Fin 128) (y : Fin 256) :
    prods (lanes (BitVec.ofNat 32 h.val)) x w (ix2 r y)
      = ((∑ e : Fin 64, xr r ⟨64 * h.val + e.val, by omega⟩ * wr y ⟨64 * h.val + e.val, by omega⟩ : ℝ) : EReal) := by
  unfold prods
  rw [rows_by_rows]
  rw [← sum_half h (fun l => xr r l * wr y l)]
  refine sum_of _ fun l => ?_
  rw [hw]
  show Scalar.select (lanes (BitVec.ofNat 32 h.val) (ix2 r l)) (x (ix2 r l)) (Ideal.ofBits .f32 0x00000000#32) * _ = _
  rw [lanes_eq, select_bool, hx, Ideal.ofBits_zero_f32]
  by_cases hl : l.val / 64 = h.val
  · simp only [hl, decide_true, if_true, EReal.coe_mul]
  · simp [hl]

theorem spread_eq (c : FVec Ideal S128x1 .f32) (r : Fin 128) (y : Fin 256) : spread c (ix2 r y) = c (ix2 r (0 : Fin 1)) := by
  unfold spread
  rw [shapeCast_self]
  refine broadcastTo_apply _ _ _ _ fun a => ?_
  match a with
  | ⟨0, _⟩ => rfl
  | ⟨1, _⟩ => rfl

/-- One head's gradient of the scores in real numbers. -/
def dsr (A : ℕ) (h : Fin 2) (s : ℝ) (q d : Fin 128 → Fin 128 → ℝ) (k v : Fin 256 → Fin 128 → ℝ) (l e : Fin 128 → ℝ) (r : Fin 128) (y : Fin 256) : ℝ :=
  if inWindow A r.val y.val then
    Real.exp ((∑ x : Fin 64, q r ⟨64 * h.val + x.val, by omega⟩ * k y ⟨64 * h.val + x.val, by omega⟩) - s * (((r.val : ℤ) + 64 - y.val).natAbs : ℝ) - l r)
      * ((∑ x : Fin 64, d r ⟨64 * h.val + x.val, by omega⟩ * v y ⟨64 * h.val + x.val, by omega⟩) + e r)
  else 0

section
variable (a0 : BitVec 32) (A : ℕ) (ha : a0.toInt = (A : ℤ)) (hA : A ≤ 8064) (h : Fin 2) (s : EReal) (sr : ℝ) (hs : s = ((sr : ℝ) : EReal))
  (q d : FVec Ideal S128x128 .f32) (k v : FVec Ideal S256x128 .bf16) (l e : FVec Ideal S128x1 .f32)
  (qr dr : Fin 128 → Fin 128 → ℝ) (kr vr : Fin 256 → Fin 128 → ℝ) (lr er : Fin 128 → ℝ)
  (hq : ∀ r c, q (ix2 r c) = ((qr r c : ℝ) : EReal)) (hd : ∀ r c, d (ix2 r c) = ((dr r c : ℝ) : EReal))
  (hk : ∀ y c, k (ix2 y c) = ((kr y c : ℝ) : EReal)) (hv : ∀ y c, v (ix2 y c) = ((vr y c : ℝ) : EReal))
  (hl : ∀ r, l (ix2 r (0 : Fin 1)) = ((lr r : ℝ) : EReal)) (he : ∀ r, e (ix2 r (0 : Fin 1)) = ((er r : ℝ) : EReal))
include ha hA hs hq hd hk hv hl he

theorem dscore_eq (r : Fin 128) (y : Fin 256) :
    dscore (lanes (BitVec.ofNat 32 h.val)) (bias a0 s) q d k v l e (ix2 r y) = ((dsr A h sr qr dr kr vr lr er r y : ℝ) : EReal) := by
  show Ideal.exp ((prods (lanes (BitVec.ofNat 32 h.val)) q k (ix2 r y) + bias (F := Ideal) a0 s (ix2 r y)) - spread l (ix2 r y))
    * (prods (lanes (BitVec.ofNat 32 h.val)) d v (ix2 r y) + spread e (ix2 r y)) = _
  rw [prods_eq h q k qr kr hq hk, prods_eq h d v dr vr hd hv, spread_eq, spread_eq, hl, he, bias_eq a0 A ha hA r y s sr hs]
  unfold dsr
  by_cases hw : inWindow A r.val y.val
  · simp only [hw, if_true]
    rw [← EReal.coe_add, ← EReal.coe_sub, Ideal.exp_coe, ← EReal.coe_add, ← EReal.coe_mul]
    rfl
  · simp only [hw, if_false]
    rw [EReal.add_bot, EReal.bot_sub, Ideal.exp_bot, zero_mul, EReal.coe_zero]

theorem headOut_eq (o : FVec Ideal S128x128 .f32) (r c : Fin 128) :
    headOut (lanes (BitVec.ofNat 32 h.val)) (bias a0 s) q d k v l e o (ix2 r c)
      = if c.val / 64 = h.val then (((∑ y, dsr A h sr qr dr kr vr lr er r y * kr y c) * (1 / 8) : ℝ) : EReal) else o (ix2 r c) := by
  unfold headOut
  show Scalar.select (lanes (BitVec.ofNat 32 h.val) (ix2 r c)) (matmul (F := Ideal) dot_S128x256_S256x128_S128x128_1_0_0_1_n_n none (truncf .bf16 _ bitsLt_bf16_f32) k
        (constant S128x128 .f32 0x00000000#32) (ix2 r c) * Ideal.ofBits .f32 0x3E000000#32) (o (ix2 r c)) = _
  rw [lanes_eq, select_bool, rows_by_cols, eighth]
  simp only [decide_eq_true_eq]
  refine congrArg (fun z => if c.val / 64 = h.val then z else o (ix2 r c)) ?_
  rw [EReal.coe_mul]
  refine congrArg (· * (((1 / 8 : ℝ)) : EReal)) (sum_of _ fun y => ?_)
  rw [hk, EReal.coe_mul]
  exact congrArg (· * ((kr y c : ℝ) : EReal)) (dscore_eq a0 A ha hA h s sr hs q d k v l e qr dr kr vr lr er hq hd hk hv hl he r y)

end

/-- The head of a pair. -/
def headOf (p h : Fin 2) : Fin 4 := ⟨2 * p.val + h.val, by omega⟩

theorem slope_first (p : Fin 2) :
    Scalar.select (Scalar.cmpi .eq (BitVec.ofNat 32 p.val) 0#32) (Scalar.ofBits (F := Ideal) .f32 0x3F214518#32) (Scalar.ofBits .f32 0x3E800000#32)
      = ((sl (headOf p 0) : ℝ) : EReal) := by
  rw [← slope_word]
  match p with
  | ⟨0, h⟩ => exact congrArg (Ideal.ofBits .f32) (by decide : (0x3F214518#32 : BitVec 32) = slopeWord (headOf ⟨0, by decide⟩ 0))
  | ⟨1, h⟩ => exact congrArg (Ideal.ofBits .f32) (by decide : (0x3E800000#32 : BitVec 32) = slopeWord (headOf ⟨1, by decide⟩ 0))

theorem slope_second (p : Fin 2) :
    Scalar.select (Scalar.cmpi .eq (BitVec.ofNat 32 p.val) 0#32) (Scalar.ofBits (F := Ideal) .f32 0x3ECB2FF5#32) (Scalar.ofBits .f32 0x3E214518#32)
      = ((sl (headOf p 1) : ℝ) : EReal) := by
  rw [← slope_word]
  match p with
  | ⟨0, h⟩ => exact congrArg (Ideal.ofBits .f32) (by decide : (0x3ECB2FF5#32 : BitVec 32) = slopeWord (headOf ⟨0, by decide⟩ 1))
  | ⟨1, h⟩ => exact congrArg (Ideal.ofBits .f32) (by decide : (0x3E214518#32 : BitVec 32) = slopeWord (headOf ⟨1, by decide⟩ 1))

theorem column (off : Fin 2) (x : FVec Ideal S128x128 .f32) (hsl : S128x128.Slices ![0, 64 * off.val] S128x1) (r : Fin 128) :
    extractStridedSlice S128x1 ![0, 64 * off.val] x hsl (ix2 r (0 : Fin 1)) = x (ix2 r ⟨64 * off.val, by omega⟩) := by
  refine extractStridedSlice_apply _ _ _ _ _ fun a => ?_
  match a with
  | ⟨0, _⟩ => show r.val = 0 + r.val; omega
  | ⟨1, _⟩ => rfl

section
variable (p : Fin 2) (a0 : BitVec 32) (A : ℕ) (ha : a0.toInt = (A : ℤ)) (hA : A ≤ 8064)
  (q d l e : FVec Ideal S128x128 .f32) (k v : FVec Ideal S256x128 .bf16)
  (qr dr lr er : Fin 128 → Fin 128 → ℝ) (kr vr : Fin 256 → Fin 128 → ℝ)
  (hq : ∀ r c, q (ix2 r c) = ((qr r c : ℝ) : EReal)) (hd : ∀ r c, d (ix2 r c) = ((dr r c : ℝ) : EReal))
  (hl : ∀ r c, l (ix2 r c) = ((lr r c : ℝ) : EReal)) (he : ∀ r c, e (ix2 r c) = ((er r c : ℝ) : EReal))
  (hk : ∀ y c, k (ix2 y c) = ((kr y c : ℝ) : EReal)) (hv : ∀ y c, v (ix2 y c) = ((vr y c : ℝ) : EReal))
include ha hA hq hd hl he hk hv

/-- A tile of the gradient in real numbers. -/
theorem tile_eq (r c : Fin 128) (h : Fin 2) (hc : c.val / 64 = h.val) :
    tile (BitVec.ofNat 32 p.val) a0 q d l e k v (ix2 r c)
      = (((∑ y, dsr A h (sl (headOf p h)) (fun r c => qr r c * (1 / 8)) dr kr vr (fun r => lr r ⟨64 * h.val, by omega⟩)
          (fun r => er r ⟨64 * h.val, by omega⟩) r y * kr y c) * (1 / 8) : ℝ) : EReal) := by
  have hq' : ∀ r c, (mulf q (broadcast S128x128 (Scalar.ofBits (F := Ideal) .f32 0x3E000000#32))) (ix2 r c) = ((qr r c * (1 / 8) : ℝ) : EReal) := fun r c => by
    show q (ix2 r c) * Ideal.ofBits .f32 0x3E000000#32 = _
    rw [hq, eighth, EReal.coe_mul]
  unfold tile
  simp only [shapeCast_self]
  refine (headOut_eq a0 A ha hA 1 _ _ (slope_second p) _ d k v _ _ _ dr kr vr (fun r => lr r ⟨64, by omega⟩) (fun r => er r ⟨64, by omega⟩) hq' hd hk hv
    (fun r => (column 1 l _ r).trans (hl r _)) (fun r => (column 1 e _ r).trans (he r _)) _ r c).trans ?_
  match h, hc with
  | ⟨1, _⟩, hc => exact (if_pos hc).trans rfl
  | ⟨0, _⟩, hc =>
    refine (if_neg (fun h' => absurd (hc.symm.trans h') (by decide : ¬ (0 : ℕ) = 1))).trans ?_
    refine (headOut_eq a0 A ha hA 0 _ _ (slope_first p) _ d k v _ _ _ dr kr vr (fun r => lr r ⟨0, by omega⟩) (fun r => er r ⟨0, by omega⟩) hq' hd hk hv
      (fun r => (column 0 l _ r).trans (hl r _)) (fun r => (column 0 e _ r).trans (he r _)) _ r c).trans ?_
    exact (if_pos hc).trans rfl

end

end Attn
-- ==== Proof.Attn.Blocks.lean ====
module
public import proofs.«01_k».proof.Proof.Attn.Out
public import proofs.«01_k».proof.Proof.Attn.TileVal
@[expose] public section
set_option maxRecDepth 16384
noncomputable section
namespace Attn
open Cert.KernelIdeal Cert.KernelIdeal.Gen Idealize.ShloMosaic Idealize.ShloMosaic.TcCoe Idealize.SL.Sem ValueIdx
variable {F : FTy → Type} [FloatOps F] [Named F]
variable (m : (ℓ : Loc nD τ sig) → Buf (Elt F) ℓ)

/-- The pair of heads and the row block of a grid point. -/
def pairOf (t : Fin cfg0.N) : Fin 2 := grid0.coords t 0
def blockOf (t : Fin cfg0.N) : Fin 16 := grid0.coords t 1

theorem index_facts : ∀ t : Fin cfg0.N,
    (win0_0.index t (0 : Fin 2) = (blockOf t).val ∧ win0_0.index t (1 : Fin 2) = 68 + (pairOf t).val) ∧
    (win0_1.index t (0 : Fin 2) = 8 * (blockOf t).val - 1 ∧ win0_1.index t (1 : Fin 2) = 56 + 2 * (pairOf t).val) ∧
    (win0_2.index t (0 : Fin 2) = (blockOf t).val ∧ win0_2.index t (1 : Fin 2) = 56 + 2 * (pairOf t).val) ∧
    (win0_3.index t (0 : Fin 2) = min (8 * (blockOf t).val + 8) 127 ∧ win0_3.index t (1 : Fin 2) = 56 + 2 * (pairOf t).val) ∧
    (win0_4.index t (0 : Fin 2) = 8 * (blockOf t).val - 1 ∧ win0_4.index t (1 : Fin 2) = 57 + 2 * (pairOf t).val) ∧
    (win0_5.index t (0 : Fin 2) = (blockOf t).val ∧ win0_5.index t (1 : Fin 2) = 57 + 2 * (pairOf t).val) ∧
    (win0_6.index t (0 : Fin 2) = min (8 * (blockOf t).val + 8) 127 ∧ win0_6.index t (1 : Fin 2) = 57 + 2 * (pairOf t).val) ∧
    (win0_7.index t (0 : Fin 2) = (blockOf t).val ∧ win0_7.index t (1 : Fin 2) = (pairOf t).val) ∧
    (win0_8.index t (0 : Fin 2) = (blockOf t).val ∧ win0_8.index t (1 : Fin 2) = (pairOf t).val) ∧
    (win0_9.index t (0 : Fin 2) = (blockOf t).val ∧ win0_9.index t (1 : Fin 2) = (pairOf t).val) ∧
    (win0_10.index t (0 : Fin 2) = (blockOf t).val ∧ win0_10.index t (1 : Fin 2) = 68 + (pairOf t).val) :=
  (by decide +kernel : ∀ t : Fin grid0.N, _)

theorem point_of : ∀ (b : Fin 16) (p : Fin 2), ∃ t : Fin cfg0.N, blockOf t = b ∧ pairOf t = p :=
  (by decide +kernel : ∀ (b : Fin 16) (p : Fin 2), ∃ t : Fin grid0.N, blockOf t = b ∧ pairOf t = p)

theorem flush_all : ∀ t : Fin cfg0.N, (cfg0.win 10).flush t = true :=
  (by decide +kernel : ∀ t : Fin grid0.N, (cfg0.win 10).flush t = true)

theorem iblk0_apply (c : Dev nD) (t : Fin cfg0.N) (r : Fin 512) (l : Fin 128) (j : S8192x9728.Idx)
    (h0 : (j 0).val = 512 * (blockOf t).val + r.val) (h1 : (j 1).val = 128 * (68 + (pairOf t).val) + l.val) :
    iblk m c 0 t (ix2 r l) = V m c main_arg0 j := by
  have f := index_facts t
  show V m c main_arg0 _ = _
  refine congrArg _ (funext fun a => ?_)
  match a with
  | ⟨0, _⟩ => exact Fin.ext (by show win0_0.index t (0 : Fin 2) * 512 + 1 * r.val = (j 0).val; omega)
  | ⟨1, _⟩ => exact Fin.ext (by show win0_0.index t (1 : Fin 2) * 128 + 1 * l.val = (j 1).val; omega)

theorem iblk1_apply (c : Dev nD) (t : Fin cfg0.N) (r : Fin 64) (l : Fin 128) (j : S8192x9728.Idx)
    (h0 : (j 0).val = 64 * (8 * (blockOf t).val - 1) + r.val) (h1 : (j 1).val = 128 * (56 + 2 * (pairOf t).val) + l.val) :
    iblk m c 1 t (ix2 r l) = V m c main_arg0 j := by
  have f := index_facts t
  show V m c main_arg0 _ = _
  refine congrArg _ (funext fun a => ?_)
  match a with
  | ⟨0, _⟩ => exact Fin.ext (by show win0_1.index t (0 : Fin 2) * 64 + 1 * r.val = (j 0).val; omega)
  | ⟨1, _⟩ => exact Fin.ext (by show win0_1.index t (1 : Fin 2) * 128 + 1 * l.val = (j 1).val; omega)

theorem iblk2_apply (c : Dev nD) (t : Fin cfg0.N) (r : Fin 512) (l : Fin 128) (j : S8192x9728.Idx)
    (h0 : (j 0).val = 512 * (blockOf t).val + r.val) (h1 : (j 1).val = 128 * (56 + 2 * (pairOf t).val) + l.val) :
    iblk m c 2 t (ix2 r l) = V m c main_arg0 j := by
  have f := index_facts t
  show V m c main_arg0 _ = _
  refine congrArg _ (funext fun a => ?_)
  match a with
  | ⟨0, _⟩ => exact Fin.ext (by show win0_2.index t (0 : Fin 2) * 512 + 1 * r.val = (j 0).val; omega)
  | ⟨1, _⟩ => exact Fin.ext (by show win0_2.index t (1 : Fin 2) * 128 + 1 * l.val = (j 1).val; omega)

theorem iblk3_apply (c : Dev nD) (t : Fin cfg0.N) (r : Fin 64) (l : Fin 128) (j : S8192x9728.Idx)
    (h0 : (j 0).val = 64 * min (8 * (blockOf t).val + 8) 127 + r.val) (h1 : (j 1).val = 128 * (56 + 2 * (pairOf t).val) + l.val) :
    iblk m c 3 t (ix2 r l) = V m c main_arg0 j := by
  have f := index_facts t
  show V m c main_arg0 _ = _
  refine congrArg _ (funext fun a => ?_)
  match a with
  | ⟨0, _⟩ => exact Fin.ext (by show win0_3.index t (0 : Fin 2) * 64 + 1 * r.val = (j 0).val; omega)
  | ⟨1, _⟩ => exact Fin.ext (by show win0_3.index t (1 : Fin 2) * 128 + 1 * l.val = (j 1).val; omega)

theorem iblk4_apply (c : Dev nD) (t : Fin cfg0.N) (r : Fin 64) (l : Fin 128) (j : S8192x9728.Idx)
    (h0 : (j 0).val = 64 * (8 * (blockOf t).val - 1) + r.val) (h1 : (j 1).val = 128 * (57 + 2 * (pairOf t).val) + l.val) :
    iblk m c 4 t (ix2 r l) = V m c main_arg0 j := by
  have f := index_facts t
  show V m c main_arg0 _ = _
  refine congrArg _ (funext fun a => ?_)
  match a with
  | ⟨0, _⟩ => exact Fin.ext (by show win0_4.index t (0 : Fin 2) * 64 + 1 * r.val = (j 0).val; omega)
  | ⟨1, _⟩ => exact Fin.ext (by show win0_4.index t (1 : Fin 2) * 128 + 1 * l.val = (j 1).val; omega)

theorem iblk5_apply (c : Dev nD) (t : Fin cfg0.N) (r : Fin 512) (l : Fin 128) (j : S8192x9728.Idx)
    (h0 : (j 0).val = 512 * (blockOf t).val + r.val) (h1 : (j 1).val = 128 * (57 + 2 * (pairOf t).val) + l.val) :
    iblk m c 5 t (ix2 r l) = V m c main_arg0 j := by
  have f := index_facts t
  show V m c main_arg0 _ = _
  refine congrArg _ (funext fun a => ?_)
  match a with
  | ⟨0, _⟩ => exact Fin.ext (by show win0_5.index t (0 : Fin 2) * 512 + 1 * r.val = (j 0).val; omega)
  | ⟨1, _⟩ => exact Fin.ext (by show win0_5.index t (1 : Fin 2) * 128 + 1 * l.val = (j 1).val; omega)

theorem iblk6_apply (c : Dev nD) (t : Fin cfg0.N) (r : Fin 64) (l : Fin 128) (j : S8192x9728.Idx)
    (h0 : (j 0).val = 64 * min (8 * (blockOf t).val + 8) 127 + r.val) (h1 : (j 1).val = 128 * (57 + 2 * (pairOf t).val) + l.val) :
    iblk m c 6 t (ix2 r l) = V m c main_arg0 j := by
  have f := index_facts t
  show V m c main_arg0 _ = _
  refine congrArg _ (funext fun a => ?_)
  match a with
  | ⟨0, _⟩ => exact Fin.ext (by show win0_6.index t (0 : Fin 2) * 64 + 1 * r.val = (j 0).val; omega)
  | ⟨1, _⟩ => exact Fin.ext (by show win0_6.index t (1 : Fin 2) * 128 + 1 * l.val = (j 1).val; omega)

theorem iblk7_apply (c : Dev nD) (t : Fin cfg0.N) (r : Fin 512) (l : Fin 128) (j : S8192x256.Idx)
    (h0 : (j 0).val = 512 * (blockOf t).val + r.val) (h1 : (j 1).val = 128 * (pairOf t).val + l.val) :
    iblk m c 7 t (ix2 r l) = V m c main_v86 j := by
  have f := index_facts t
  show V m c main_v86 _ = _
  refine congrArg _ (funext fun a => ?_)
  match a with
  | ⟨0, _⟩ => exact Fin.ext (by show win0_7.index t (0 : Fin 2) * 512 + 1 * r.val = (j 0).val; omega)
  | ⟨1, _⟩ => exact Fin.ext (by show win0_7.index t (1 : Fin 2) * 128 + 1 * l.val = (j 1).val; omega)

theorem iblk8_apply (c : Dev nD) (t : Fin cfg0.N) (r : Fin 512) (l : Fin 128) (j : S8192x256.Idx)
    (h0 : (j 0).val = 512 * (blockOf t).val + r.val) (h1 : (j 1).val = 128 * (pairOf t).val + l.val) :
    iblk m c 8 t (ix2 r l) = V m c main_v52 j := by
  have f := index_facts t
  show V m c main_v52 _ = _
  refine congrArg _ (funext fun a => ?_)
  match a with
  | ⟨0, _⟩ => exact Fin.ext (by show win0_8.index t (0 : Fin 2) * 512 + 1 * r.val = (j 0).val; omega)
  | ⟨1, _⟩ => exact Fin.ext (by show win0_8.index t (1 : Fin 2) * 128 + 1 * l.val = (j 1).val; omega)

theorem iblk9_apply (c : Dev nD) (t : Fin cfg0.N) (r : Fin 512) (l : Fin 128) (j : S8192x256.Idx)
    (h0 : (j 0).val = 512 * (blockOf t).val + r.val) (h1 : (j 1).val = 128 * (pairOf t).val + l.val) :
    iblk m c 9 t (ix2 r l) = V m c main_v88 j := by
  have f := index_facts t
  show V m c main_v88 _ = _
  refine congrArg _ (funext fun a => ?_)
  match a with
  | ⟨0, _⟩ => exact Fin.ext (by show win0_9.index t (0 : Fin 2) * 512 + 1 * r.val = (j 0).val; omega)
  | ⟨1, _⟩ => exact Fin.ext (by show win0_9.index t (1 : Fin 2) * 128 + 1 * l.val = (j 1).val; omega)

/-- The array after the run, at an index of a point's block. -/
theorem arr_in (c : Dev nD) (t : Fin cfg0.N) (r : Fin 512) (l : Fin 128) (j : S8192x9728.Idx)
    (h0 : (j 0).val = 512 * (blockOf t).val + r.val) (h1 : (j 1).val = 128 * (68 + (pairOf t).val) + l.val) :
    (dats m 0 c).arrAt 10 cfg0.N j = truncf .bf16 (block (iblk m c 0 t) (iblk m c 1 t) (iblk m c 2 t) (iblk m c 3 t) (iblk m c 4 t) (iblk m c 5 t) (iblk m c 6 t)
      (iblk m c 7 t) (iblk m c 8 t) (iblk m c 9 t) (BitVec.ofNat 32 (pairOf t).val) (BitVec.ofNat 32 (blockOf t).val)) bitsLt_bf16_f32 (ix2 r l) := by
  have f := index_facts t
  have e := (Value.blocks10 m c t (flush_all t)).trans (Value.flushed10_A m c t)
  rw [out_eq] at e
  refine Eq.trans ?_ (congrFun e (ix2 r l))
  show (dats m 0 c).arrAt 10 cfg0.N j = (dats m 0 c).arrAt 10 cfg0.N _
  refine congrArg _ (funext fun a => ?_)
  match a with
  | ⟨0, _⟩ => exact Fin.ext (by show (j 0).val = win0_10.index t (0 : Fin 2) * 512 + 1 * r.val; omega)
  | ⟨1, _⟩ => exact Fin.ext (by show (j 1).val = win0_10.index t (1 : Fin 2) * 128 + 1 * l.val; omega)

theorem mem_blk10 (t : Fin cfg0.N) (i : S8192x9728.Idx) :
    i ∈ ((cfg0.win 10).blk t).view.set ↔ ∀ a : Fin 2, win0_10.index t a * win0_10.size a ≤ (i a : Nat) ∧ (i a : Nat) < win0_10.index t a * win0_10.size a + win0_10.xsize (grid0.coords t) a := by
  show i ∈ ((View.whole main_v89).slice (win0_10.rect t)).set ↔ _
  rw [View.set_slice_whole, Rect.mem_set_unit]
  exact Iff.rfl

/-- Outside the columns of this group's queries the array keeps what it held. -/
theorem arr_out (c : Dev nD) (j : S8192x9728.Idx) (h : (j 1).val < 8704 ∨ 8960 ≤ (j 1).val) :
    (dats m 0 c).arrAt 10 cfg0.N j = V m c main_v89 j := by
  refine Value.entry10 m c j fun t _ hm => ?_
  rw [mem_blk10] at hm
  have f := index_facts t
  have hp := (pairOf t).isLt
  have h2 : win0_10.index t (1 : Fin 2) * 128 ≤ (j 1).val ∧ (j 1).val < win0_10.index t (1 : Fin 2) * 128 + 128 := hm 1
  omega

end Attn
-- ==== Proof.Attn.DqSum.lean ====
/-
  A sum over a window of keys is the sum over the keys near the query.
-/
module

public import proofs.«01_k».proof.Proof.Attn.TileVal
public import proofs.«01_k».proof.Proof.Attn.Math

@[expose] public section

noncomputable section

namespace Attn

theorem sum_near (A r : ℕ) (hr : r < 128) (i : Fin 8192) (hi : i.val = A + r) (g : Fin 256 → ℝ) (f : Fin 8192 → ℝ)
    (h0 : ∀ y : Fin 256, ¬ inWindow A r y.val → g y = 0)
    (h1 : ∀ (y : Fin 256) (j : Fin 8192), inWindow A r y.val → j.val + 64 = A + y.val → g y = f j) :
    ∑ y, g y = ∑ j, if near i j then f j else 0 := by
  rw [← Finset.sum_filter]
  have hg : ∑ y, g y = ∑ y ∈ Finset.univ.filter (fun y : Fin 256 => inWindow A r y.val), g y := by
    rw [Finset.sum_filter]
    refine Finset.sum_congr rfl fun y _ => ?_
    by_cases h : inWindow A r y.val
    · rw [if_pos h]
    · rw [if_neg h, h0 y h]
  rw [hg]
  refine Finset.sum_bij (fun y hy => ⟨A + y.val - 64, ?_⟩) ?_ ?_ ?_ ?_
  · have h := (Finset.mem_filter.1 hy).2
    unfold inWindow at h
    omega
  · intro y hy
    have h := (Finset.mem_filter.1 hy).2
    unfold inWindow at h
    refine Finset.mem_filter.2 ⟨Finset.mem_univ _, ?_⟩
    show (((A + y.val - 64 : ℕ) : ℤ) - (i.val : ℤ)).natAbs ≤ 64
    omega
  · intro y hy y' hy' he
    have h := (Finset.mem_filter.1 hy).2
    have h' := (Finset.mem_filter.1 hy').2
    unfold inWindow at h h'
    have e := congrArg Fin.val he
    dsimp only at e
    exact Fin.ext (by omega)
  · intro j hj
    have h := (Finset.mem_filter.1 hj).2
    have hn : ((j.val : ℤ) - (i.val : ℤ)).natAbs ≤ 64 := h
    have hy : j.val + 64 - A < 256 := by omega
    refine ⟨⟨j.val + 64 - A, hy⟩, Finset.mem_filter.2 ⟨Finset.mem_univ _, ?_⟩, Fin.ext ?_⟩
    · unfold inWindow
      show ((r : ℤ) + 64 - ((j.val + 64 - A : ℕ) : ℤ)).natAbs ≤ 64 ∧ 64 ≤ A + (j.val + 64 - A) ∧ A + (j.val + 64 - A) < 8256
      omega
    · show A + (j.val + 64 - A) - 64 = j.val
      omega
  · intro y hy
    have h := (Finset.mem_filter.1 hy).2
    refine h1 y _ h ?_
    unfold inWindow at h
    show A + y.val - 64 + 64 = A + y.val
    omega

end Attn
-- ==== Proof.Attn.DqArr.lean ====
/-
  The array of the gradient after the run, in real numbers.
-/
module

public import proofs.«01_k».proof.Proof.Attn.Blocks
public import proofs.«01_k».proof.Proof.Attn.DqSum
public import proofs.«01_k».proof.Proof.Attn.RefIn

@[expose] public section

set_option maxRecDepth 16384

noncomputable section

namespace Attn

open Cert.KernelIdeal Cert.KernelIdeal.Gen Idealize.ShloMosaic Idealize.ShloMosaic.TcCoe Idealize.SL.Sem ValueIdx

/-- The row of the sequence a window row was read from (rows outside the sequence repeat rows of it). -/
def readRow (b : Fin 16) (s : Fin 4) (y : Fin 256) : Fin 8192 :=
  if h1 : 128 * s.val + y.val < 64 then ⟨64 * (8 * b.val - 1) + (128 * s.val + y.val), by omega⟩
  else if h2 : 128 * s.val + y.val < 576 then ⟨512 * b.val + (128 * s.val + y.val - 64), by omega⟩
  else ⟨64 * min (8 * b.val + 8) 127 + (128 * s.val + y.val - 576), by omega⟩

theorem readRow_val (b : Fin 16) (s : Fin 4) (y : Fin 256) (r : ℕ) (hr : r < 128) (h : inWindow (128 * (4 * b.val + s.val)) r y.val) :
    (readRow b s y).val + 64 = 128 * (4 * b.val + s.val) + y.val := by
  unfold inWindow at h
  unfold readRow
  split
  · show 64 * (8 * b.val - 1) + (128 * s.val + y.val) + 64 = _; omega
  · split
    · show 512 * b.val + (128 * s.val + y.val - 64) + 64 = _; omega
    · show 64 * min (8 * b.val + 8) 127 + (128 * s.val + y.val - 576) + 64 = _; omega

variable (m : (ℓ : Loc nD τ sig) → Buf (Elt Ideal) ℓ)

theorem window_k (c : Dev nD) (t : Fin cfg0.N) (s : Fin 4) (y : Fin 256) (l : Fin 128) :
    window (F := Ideal) s (iblk m c 1 t) (iblk m c 2 t) (iblk m c 3 t) (ix2 y l)
      = V m c main_arg0 (ix2 (readRow (blockOf t) s y) ⟨128 * (56 + 2 * (pairOf t).val) + l.val, by have := (pairOf t).isLt; omega⟩) := by
  unfold window readRow
  by_cases h1 : 128 * s.val + y.val < 64
  · rw [dif_pos (show 128 * s.val + ((ix2 y l : S256x128.Idx) 0).val < 64 from h1), dif_pos h1]
    exact iblk1_apply m c t _ _ _ rfl rfl
  · rw [dif_neg (show ¬ 128 * s.val + ((ix2 y l : S256x128.Idx) 0).val < 64 from h1), dif_neg h1]
    by_cases h2 : 128 * s.val + y.val < 576
    · rw [dif_pos (show 128 * s.val + ((ix2 y l : S256x128.Idx) 0).val < 576 from h2), dif_pos h2]
      exact iblk2_apply m c t _ _ _ rfl rfl
    · rw [dif_neg (show ¬ 128 * s.val + ((ix2 y l : S256x128.Idx) 0).val < 576 from h2), dif_neg h2]
      exact iblk3_apply m c t _ _ _ rfl rfl

theorem window_v (c : Dev nD) (t : Fin cfg0.N) (s : Fin 4) (y : Fin 256) (l : Fin 128) :
    window (F := Ideal) s (iblk m c 4 t) (iblk m c 5 t) (iblk m c 6 t) (ix2 y l)
      = V m c main_arg0 (ix2 (readRow (blockOf t) s y) ⟨128 * (57 + 2 * (pairOf t).val) + l.val, by have := (pairOf t).isLt; omega⟩) := by
  unfold window readRow
  by_cases h1 : 128 * s.val + y.val < 64
  · rw [dif_pos (show 128 * s.val + ((ix2 y l : S256x128.Idx) 0).val < 64 from h1), dif_pos h1]
    exact iblk4_apply m c t _ _ _ rfl rfl
  · rw [dif_neg (show ¬ 128 * s.val + ((ix2 y l : S256x128.Idx) 0).val < 64 from h1), dif_neg h1]
    by_cases h2 : 128 * s.val + y.val < 576
    · rw [dif_pos (show 128 * s.val + ((ix2 y l : S256x128.Idx) 0).val < 576 from h2), dif_pos h2]
      exact iblk5_apply m c t _ _ _ rfl rfl
    · rw [dif_neg (show ¬ 128 * s.val + ((ix2 y l : S256x128.Idx) 0).val < 576 from h2), dif_neg h2]
      exact iblk6_apply m c t _ _ _ rfl rfl

/-- What a flat array of 256 lanes holds. -/
def flatHead (j : Fin 256) : Fin 4 := ⟨j.val / 64, by omega⟩
def flatLane (j : Fin 256) : Fin 64 := ⟨j.val % 64, by omega⟩

/-- The gradient of the scores in real numbers, from what the launch is given. -/
def dsA (q k v dO : Vec3) (lr er : Vec2) (h : Fin 4) (i j : Fin 8192) : ℝ :=
  Real.exp (sc sl q k h i j - lr i h) * ((∑ e, dO i h e * v j h e) + er i h)

theorem arr_dq (c : Dev nD) (u : Wide) (hu : ∀ x, V m c main_arg0 x = u x) (f0 : Fine u) (dO : Vec3) (lr er : Vec2)
    (hD : ∀ i j, V m c main_v86 (ix2 i j) = ((dO i (flatHead j) (flatLane j) : ℝ) : EReal))
    (hL : ∀ i j, V m c main_v52 (ix2 i j) = ((lr i (flatHead j) : ℝ) : EReal))
    (hE : ∀ i j, V m c main_v88 (ix2 i j) = ((er i (flatHead j) : ℝ) : EReal)) (i : Fin 8192) (H : Fin 4) (e : Fin 64) :
    (dats m 0 c).arrAt 10 cfg0.N (ix2 i ⟨8704 + (64 * H.val + e.val), by omega⟩)
      = (((∑ j, if near i j then dsA (qOf u) (kOf u) (vOf u) dO lr er H i j * kOf u j H e else 0) * (1 / 8) : ℝ) : EReal) := by
  obtain ⟨t, hb, hp⟩ := point_of ⟨i.val / 512, by omega⟩ ⟨H.val / 2, by omega⟩
  have hbv : (blockOf t).val = i.val / 512 := congrArg Fin.val hb
  have hpv : (pairOf t).val = H.val / 2 := congrArg Fin.val hp
  -- row `r` of sub-block `s`, lane `l`
  let s : Fin 4 := ⟨i.val % 512 / 128, by omega⟩
  let r : Fin 128 := ⟨i.val % 128, by omega⟩
  let h : Fin 2 := ⟨H.val % 2, by omega⟩
  let l : Fin 128 := ⟨64 * h.val + e.val, by have := h.isLt; omega⟩
  have hsv : s.val = i.val % 512 / 128 := rfl
  have hrv : r.val = i.val % 128 := rfl
  have hhv : h.val = H.val % 2 := rfl
  have hlv : l.val = 64 * h.val + e.val := rfl
  have hH : headOf (pairOf t) h = H := Fin.ext (by show 2 * (pairOf t).val + h.val = H.val; omega)
  have hrow : ∀ r' : Fin 128, 512 * (blockOf t).val + (128 * s.val + r'.val) < 8192 := fun r' => by omega
  have hcol : ∀ l' : Fin 128, 128 * (pairOf t).val + l'.val < 256 := fun l' => by omega
  rw [arr_in m c t ⟨128 * s.val + r.val, by omega⟩ l _ (by show i.val = 512 * (blockOf t).val + (128 * s.val + r.val); omega)
    (by show 8704 + (64 * H.val + e.val) = 128 * (68 + (pairOf t).val) + l.val; omega)]
  show block (F := Ideal) _ _ _ _ _ _ _ _ _ _ _ _ _ = _
  rw [← block_at (F := Ideal) _ _ _ _ _ _ _ _ _ _ _ _ s (ix2 r l) (ix2 ⟨128 * s.val + r.val, by omega⟩ l) rfl rfl]
  unfold subTile
  have ha := rowBase_toInt (blockOf t) s
  rw [tile_eq (pairOf t) _ (128 * (4 * (blockOf t).val + s.val)) ha (by omega) _ _ _ _ _ _
    (fun r' l' => (u (ix2 ⟨512 * (blockOf t).val + (128 * s.val + r'.val), hrow r'⟩ ⟨128 * (68 + (pairOf t).val) + l'.val, by omega⟩)).toReal)
    (fun r' l' => dO ⟨512 * (blockOf t).val + (128 * s.val + r'.val), hrow r'⟩ (flatHead ⟨128 * (pairOf t).val + l'.val, hcol l'⟩) (flatLane ⟨128 * (pairOf t).val + l'.val, hcol l'⟩))
    (fun r' l' => lr ⟨512 * (blockOf t).val + (128 * s.val + r'.val), hrow r'⟩ (flatHead ⟨128 * (pairOf t).val + l'.val, hcol l'⟩))
    (fun r' l' => er ⟨512 * (blockOf t).val + (128 * s.val + r'.val), hrow r'⟩ (flatHead ⟨128 * (pairOf t).val + l'.val, hcol l'⟩))
    (fun y l' => (u (ix2 (readRow (blockOf t) s y) ⟨128 * (56 + 2 * (pairOf t).val) + l'.val, by omega⟩)).toReal)
    (fun y l' => (u (ix2 (readRow (blockOf t) s y) ⟨128 * (57 + 2 * (pairOf t).val) + l'.val, by omega⟩)).toReal)
    (fun r' l' => by
      rw [coe_toReal (f0 _), ← hu]
      exact iblk0_apply m c t _ _ _ rfl rfl)
    (fun r' l' => by
      rw [← hD]
      exact iblk7_apply m c t _ _ _ rfl rfl)
    (fun r' l' => by
      rw [← hL]
      exact iblk8_apply m c t _ _ _ rfl rfl)
    (fun r' l' => by
      rw [← hE]
      exact iblk9_apply m c t _ _ _ rfl rfl)
    (fun y l' => by
      rw [coe_toReal (f0 _), ← hu]
      exact window_k m c t s y l')
    (fun y l' => by
      rw [coe_toReal (f0 _), ← hu]
      exact window_v m c t s y l')
    r l h (by omega)]
  refine congrArg (fun z : ℝ => ((z * (1 / 8) : ℝ) : EReal)) ?_
  refine sum_near (128 * (4 * (blockOf t).val + s.val)) r.val r.isLt i (by omega) _ _ (fun y hy => ?_) (fun y j hy hj => ?_)
  · unfold dsr
    rw [if_neg hy, zero_mul]
  · have hj' : readRow (blockOf t) s y = j := Fin.ext (by have := readRow_val (blockOf t) s y r.val r.isLt hy; omega)
    have hi' : (⟨512 * (blockOf t).val + (128 * s.val + r.val), hrow r⟩ : Fin 8192) = i := Fin.ext (by show 512 * (blockOf t).val + (128 * s.val + r.val) = i.val; omega)
    have hq : ∀ x : Fin 64, (⟨128 * (68 + (pairOf t).val) + (64 * h.val + x.val), by omega⟩ : Fin 9728) = colQ H x := fun x => Fin.ext (by
      show 128 * (68 + (pairOf t).val) + (64 * h.val + x.val) = 8704 + 64 * H.val + x.val; omega)
    have hk : ∀ x : Fin 64, (⟨128 * (56 + 2 * (pairOf t).val) + (64 * h.val + x.val), by omega⟩ : Fin 9728) = colK H x := fun x => Fin.ext (by
      show 128 * (56 + 2 * (pairOf t).val) + (64 * h.val + x.val) = 7168 + 256 * (H.val / 2) + 64 * (H.val % 2) + x.val; omega)
    have hv : ∀ x : Fin 64, (⟨128 * (57 + 2 * (pairOf t).val) + (64 * h.val + x.val), by omega⟩ : Fin 9728) = colV H x := fun x => Fin.ext (by
      show 128 * (57 + 2 * (pairOf t).val) + (64 * h.val + x.val) = 7296 + 256 * (H.val / 2) + 64 * (H.val % 2) + x.val; omega)
    have hF : ∀ (x : Fin 64), flatHead ⟨128 * (pairOf t).val + (64 * h.val + x.val), by omega⟩ = H := fun x => Fin.ext (by
      show (128 * (pairOf t).val + (64 * h.val + x.val)) / 64 = H.val; omega)
    have hF0 : flatHead ⟨128 * (pairOf t).val + (64 * h.val), by omega⟩ = H := Fin.ext (by
      show (128 * (pairOf t).val + (64 * h.val)) / 64 = H.val; omega)
    have hG : ∀ (x : Fin 64), flatLane ⟨128 * (pairOf t).val + (64 * h.val + x.val), by omega⟩ = x := fun x => Fin.ext (by
      show (128 * (pairOf t).val + (64 * h.val + x.val)) % 64 = x.val; omega)
    have hgap : (((r.val : ℤ) + 64 - y.val).natAbs : ℝ) = (gap i j : ℝ) := by
      congr 1
      show ((r.val : ℤ) + 64 - y.val).natAbs = ((j.val : ℤ) - (i.val : ℤ)).natAbs
      omega
    unfold dsr dsA sc
    rw [if_pos hy, hH]
    simp only [hj', hi', hq, hk, hv, hF, hF0, hG, hgap]
    rw [hk e]
    have hs1 : (∑ x : Fin 64, (u (ix2 i (colQ H x))).toReal * (1 / 8) * (u (ix2 j (colK H x))).toReal)
        = (∑ x : Fin 64, qOf u i H x * kOf u j H x) * (1 / 8) := by
      rw [Finset.sum_mul]
      exact Finset.sum_congr rfl fun x _ => mul_right_comm _ _ _
    rw [hs1]
    rfl

end Attn
-- ==== Proof.Attn.Weights.lean ====
/-
  The weights of the three groups and the two arrays made of them, in real numbers.
-/
module

public import proofs.«01_k».proof.Proof.Attn.Host
public import proofs.«01_k».proof.Proof.Attn.RefGrad
public import proofs.«01_k».proof.Proof.Attn.DqArr

@[expose] public section

set_option maxRecDepth 16384

noncomputable section

namespace Attn

open Cert.KernelIdeal Cert.KernelIdeal.Gen Idealize.ShloMosaic Idealize.ShloMosaic.TcCoe Idealize.SL.Sem ValueIdx

theorem flat_at (x : FVec Ideal S8192x4x64 .f32) (i : Fin 8192) (j : Fin 256) : flatOf x (ix2 i j) = x (ix3 i (flatHead j) (flatLane j)) := by
  unfold flatOf
  exact shapeCast_apply x shapeCasts_S8192x4x64_S8192x256 _ _ (by
    rewrite [Shape.rowMajor_val_three, Shape.rowMajor_val_two]
    show (i.val * 4 + j.val / 64) * 64 + j.val % 64 = i.val * 256 + j.val
    omega)

theorem lanes_at (x : FVec Ideal S8192x4 .f32) (i : Fin 8192) (j : Fin 256) : lanesOf x (ix2 i j) = x (ix2 i (flatHead j)) := by
  unfold lanesOf
  rw [flat_at]
  generalize hy : broadcastInDim S8192x4x1 ![0, 1] bcast_S8192x4_S8192x4x1_0_1 x = y
  refine (broadcastInDim_apply _ bcast_S8192x4x1_S8192x4x64_0_1_2 y _ (ix3 i (flatHead j) (⟨0, by decide⟩ : Fin 1)) (fun a => match a with
    | ⟨0, _⟩ => by show i.val = if (8192 : Nat) = 1 then 0 else i.val; rw [if_neg (by decide)]
    | ⟨1, _⟩ => by show (flatHead j).val = if (4 : Nat) = 1 then 0 else (flatHead j).val; rw [if_neg (by decide)]
    | ⟨2, _⟩ => by show 0 = if (1 : Nat) = 1 then 0 else _; rw [if_pos rfl])).trans ?_
  subst hy
  exact broadcastInDim_apply _ bcast_S8192x4_S8192x4x1_0_1 x _ (ix2 i (flatHead j)) (fun a => match a with
    | ⟨0, _⟩ => by show i.val = if (8192 : Nat) = 1 then 0 else i.val; rw [if_neg (by decide)]
    | ⟨1, _⟩ => by show (flatHead j).val = if (4 : Nat) = 1 then 0 else (flatHead j).val; rw [if_neg (by decide)])

/-- The flat index of a head's coordinate. -/
def flatAt (h : Fin 4) (e : Fin 64) : Fin 256 := ⟨64 * h.val + e.val, by omega⟩

theorem head_at (h : Fin 4) (e : Fin 64) : flatHead (flatAt h e) = h := Fin.ext (by show (64 * h.val + e.val) / 64 = h.val; omega)
theorem lane_at (h : Fin 4) (e : Fin 64) : flatLane (flatAt h e) = e := Fin.ext (by show (64 * h.val + e.val) % 64 = e.val; omega)

theorem sum_at (z : FVec Ideal S8192x256 .f32) (i : Fin 8192) (j : Fin 256) : sumOf z (ix2 i j) = ∑ e : Fin 64, z (ix2 i (flatAt (flatHead j) e)) := by
  unfold sumOf
  rw [lanes_at]
  generalize flatHead j = h
  show Host.reduceAdd (F := Ideal) _ _ _ _ _ = _
  simp only [Host.reduceAdd, Ideal.hostReduceAdd_def]
  rw [Ideal.hostReduceAdd_single reducesTo_S8192x4x64_S8192x4_d2 (by decide), constant_apply]
  have h0 : Ideal.ofBits .f32 0x00000000#32 = (0 : EReal) := Ideal.ofBits_zero_f32
  rw [h0, zero_add]
  refine Finset.sum_congr rfl fun (e : Fin 64) _ => ?_
  refine (congrArg (shapeCast S8192x4x64 z shapeCasts_S8192x256_S8192x4x64) (show _ = ix3 i h e from funext fun a => Fin.ext (by
    match a with | ⟨0, _⟩ => rfl | ⟨1, _⟩ => rfl | ⟨2, _⟩ => rfl))).trans ?_
  exact shapeCast_apply z shapeCasts_S8192x256_S8192x4x64 _ _ (by
    rewrite [Shape.rowMajor_val_three, Shape.rowMajor_val_two]
    show i.val * 256 + (64 * h.val + e.val) = (i.val * 4 + h.val) * 64 + e.val
    omega)

section Real3

variable (l : Fin 3 → Vec2) (l0 l1 l2 : FVec Ideal S8192x256 .f32)
  (h0 : ∀ i j, l0 (ix2 i j) = ((l 0 i (flatHead j) : ℝ) : EReal)) (h1 : ∀ i j, l1 (ix2 i j) = ((l 1 i (flatHead j) : ℝ) : EReal))
  (h2 : ∀ i j, l2 (ix2 i j) = ((l 2 i (flatHead j) : ℝ) : EReal))

def top3 (i : Fin 8192) (h : Fin 4) : ℝ := max (max (l 0 i h) (l 1 i h)) (l 2 i h)

include h0 h1 h2

theorem exp_at (g : Fin 3) (a : FVec Ideal S8192x256 .f32) (ha : ∀ i j, a (ix2 i j) = ((l g i (flatHead j) : ℝ) : EReal)) (i : Fin 8192) (j : Fin 256) :
    expOf a l0 l1 l2 (ix2 i j) = ((Real.exp (l g i (flatHead j) - top3 l i (flatHead j)) : ℝ) : EReal) := by
  show Ideal.exp (a (ix2 i j) - max (max (l0 (ix2 i j)) (l1 (ix2 i j))) (l2 (ix2 i j))) = _
  rw [ha, h0, h1, h2, max_coe, max_coe, ← EReal.coe_sub, Ideal.exp_coe]
  rfl

theorem weight_at (g : Fin 3) (a : FVec Ideal S8192x256 .f32) (ha : ∀ i j, a (ix2 i j) = ((l g i (flatHead j) : ℝ) : EReal)) (i : Fin 8192) (j : Fin 256) :
    weightOf a l0 l1 l2 (ix2 i j) = ((W l g i (flatHead j) : ℝ) : EReal) := by
  have hp := exps_pos l (top3 l i (flatHead j)) i (flatHead j)
  show expOf a l0 l1 l2 (ix2 i j) * Ideal.div (broadcastInDim S8192x256 ![] bcast_S_S8192x256 (constant (F := Ideal) S_ .f32 0x3F800000#32) (ix2 i j))
    (expOf l0 l0 l1 l2 (ix2 i j) + expOf l1 l0 l1 l2 (ix2 i j) + expOf l2 l0 l1 l2 (ix2 i j)) = _
  rw [broadcastInDim_apply _ bcast_S_S8192x256 _ _ (fun a => a.elim0) (fun a => a.elim0), constant_apply,
    exp_at l l0 l1 l2 h0 h1 h2 g a ha, exp_at l l0 l1 l2 h0 h1 h2 0 l0 h0, exp_at l l0 l1 l2 h0 h1 h2 1 l1 h1, exp_at l l0 l1 l2 h0 h1 h2 2 l2 h2]
  rw [Fin.sum_univ_three] at hp
  have h1w : Ideal.ofBits .f32 0x3F800000#32 = ((1 : ℝ) : EReal) := one_word
  rw [h1w, ← EReal.coe_add, ← EReal.coe_add, div_coe _ _ hp.ne', ← EReal.coe_mul, ← W_shift l (top3 l i (flatHead j)), Fin.sum_univ_three, mul_one_div]

theorem scale_at (da : Vec3) (d : FVec Ideal S8192x256 .f32) (hd : ∀ i j, d (ix2 i j) = ((da i (flatHead j) (flatLane j) : ℝ) : EReal)) (i : Fin 8192) (j : Fin 256) :
    scaleOf l0 l1 l2 d (ix2 i j) = ((dO l da i (flatHead j) (flatLane j) : ℝ) : EReal) := by
  show weightOf l0 l0 l1 l2 (ix2 i j) * d (ix2 i j) = _
  rw [weight_at l l0 l1 l2 h0 h1 h2 0 l0 h0, hd, ← EReal.coe_mul]
  rfl

theorem shift_at (da : Vec3) (d : FVec Ideal S8192x256 .f32) (hd : ∀ i j, d (ix2 i j) = ((da i (flatHead j) (flatLane j) : ℝ) : EReal))
    (o : Fin 3 → Vec3) (o0 o1 o2 : FVec Ideal S8192x256 .f32)
    (k0 : ∀ i j, o0 (ix2 i j) = ((o 0 i (flatHead j) (flatLane j) : ℝ) : EReal)) (k1 : ∀ i j, o1 (ix2 i j) = ((o 1 i (flatHead j) (flatLane j) : ℝ) : EReal))
    (k2 : ∀ i j, o2 (ix2 i j) = ((o 2 i (flatHead j) (flatLane j) : ℝ) : EReal)) (i : Fin 8192) (j : Fin 256) :
    shiftOf l0 l1 l2 o0 o1 o2 d (ix2 i j) = ((E l o da i (flatHead j) : ℝ) : EReal) := by
  show (-(weightOf l0 l0 l1 l2 (ix2 i j)) : EReal) * sumOf _ (ix2 i j) = _
  rw [weight_at l l0 l1 l2 h0 h1 h2 0 l0 h0, sum_at, E_eq,
    sum_of (fun e => da i (flatHead j) e * (W l 0 i (flatHead j) * o 0 i (flatHead j) e + W l 1 i (flatHead j) * o 1 i (flatHead j) e + W l 2 i (flatHead j) * o 2 i (flatHead j) e)) (fun e => ?_),
    ← EReal.coe_neg, ← EReal.coe_mul]
  show d (ix2 i _) * (weightOf l0 l0 l1 l2 (ix2 i _) * o0 (ix2 i _) + weightOf l1 l0 l1 l2 (ix2 i _) * o1 (ix2 i _) + weightOf l2 l0 l1 l2 (ix2 i _) * o2 (ix2 i _)) = _
  rw [weight_at l l0 l1 l2 h0 h1 h2 0 l0 h0, weight_at l l0 l1 l2 h0 h1 h2 1 l1 h1, weight_at l l0 l1 l2 h0 h1 h2 2 l2 h2, hd, k0, k1, k2, head_at, lane_at]
  simp only [← EReal.coe_mul, ← EReal.coe_add]

end Real3

section Joined

variable (m : (ℓ : Loc nD τ sig) → Buf (Elt Ideal) ℓ) (c : Dev nD)

/-- The arguments of the program. -/
abbrev A0 : Wide := m ((c : Thread nD τ).loc main_arg0)
abbrev A2 : Heads := m ((c : Thread nD τ).loc main_arg2)
abbrev A3 : Heads := m ((c : Thread nD τ).loc main_arg3)
abbrev A4 : Heads := m ((c : Thread nD τ).loc main_arg4)
abbrev A5 : Lanes := m ((c : Thread nD τ).loc main_arg5)
abbrev A6 : Lanes := m ((c : Thread nD τ).loc main_arg6)

variable (f0 : Fine (A0 m c)) (f2 : Fine (A2 m c)) (f3 : Fine (A3 m c)) (f4 : Fine (A4 m c)) (f5 : Fine (A5 m c)) (f6 : Fine (A6 m c))

include f0 f5 f6

theorem L0_at (i : Fin 8192) (j : Fin 256) : lanesOf (V m c main_v46) (ix2 i j) = ((lg (A0 m c) (A5 m c) (A6 m c) 0 i (flatHead j) : ℝ) : EReal) := by
  rw [lanes_at, V_v46]; exact v54_eq (A0 m c) f0 i (flatHead j)
theorem L1_at (i : Fin 8192) (j : Fin 256) : lanesOf (A5 m c) (ix2 i j) = ((lg (A0 m c) (A5 m c) (A6 m c) 1 i (flatHead j) : ℝ) : EReal) := by
  rw [lanes_at]; exact vec2_eq f5 _
theorem L2_at (i : Fin 8192) (j : Fin 256) : lanesOf (A6 m c) (ix2 i j) = ((lg (A0 m c) (A5 m c) (A6 m c) 2 i (flatHead j) : ℝ) : EReal) := by
  rw [lanes_at]; exact vec2_eq f6 _

include f2 f3 f4

theorem kernel_value (i : Fin 8192) (H : Fin 4) (e : Fin 64) :
    (dats m 0 c).arrAt 10 cfg0.N (ix2 i ⟨8704 + (64 * H.val + e.val), by omega⟩)
      = ((dqR sl (qOf (A0 m c)) (kOf (A0 m c)) (vOf (A0 m c)) (MOf (A0 m c)) (lg (A0 m c) (A5 m c) (A6 m c)) (og (A0 m c) (A3 m c) (A4 m c)) (vec3 (A2 m c)) i H e : ℝ) : EReal) := by
  have h0 := L0_at m c f0 f5 f6
  have h1 := L1_at m c f0 f5 f6
  have h2 := L2_at m c f0 f5 f6
  have hd : ∀ i j, flatOf (A2 m c) (ix2 i j) = ((vec3 (A2 m c) i (flatHead j) (flatLane j) : ℝ) : EReal) := fun i j => by rw [flat_at]; exact vec3_eq f2 _
  have k0 : ∀ i j, flatOf (V m c main_v45) (ix2 i j) = ((og (A0 m c) (A3 m c) (A4 m c) 0 i (flatHead j) (flatLane j) : ℝ) : EReal) := fun i j => by
    rw [flat_at, V_v45]; exact v53_eq (A0 m c) f0 i _ _
  have k1 : ∀ i j, flatOf (A3 m c) (ix2 i j) = ((og (A0 m c) (A3 m c) (A4 m c) 1 i (flatHead j) (flatLane j) : ℝ) : EReal) := fun i j => by
    rw [flat_at]; exact vec3_eq f3 _
  have k2 : ∀ i j, flatOf (A4 m c) (ix2 i j) = ((og (A0 m c) (A3 m c) (A4 m c) 2 i (flatHead j) (flatLane j) : ℝ) : EReal) := fun i j => by
    rw [flat_at]; exact vec3_eq f4 _
  rw [arr_dq m c (A0 m c) (fun x => by rw [V_main_arg0]) f0
    (dO (lg (A0 m c) (A5 m c) (A6 m c)) (vec3 (A2 m c))) (lg (A0 m c) (A5 m c) (A6 m c) 0) (E (lg (A0 m c) (A5 m c) (A6 m c)) (og (A0 m c) (A3 m c) (A4 m c)) (vec3 (A2 m c)))
    (fun i j => by rw [V_v86]; exact scale_at _ _ _ _ h0 h1 h2 _ _ hd i j)
    (fun i j => by rw [V_v52]; exact h0 i j)
    (fun i j => by rw [V_v88]; exact shift_at _ _ _ _ h0 h1 h2 _ _ hd _ _ _ _ k0 k1 k2 i j)]
  rw [← dqK_eq (ho := (rfl : og (A0 m c) (A3 m c) (A4 m c) 0 = outOf (A0 m c)))]
  rfl

end Joined

end Attn
-- ==== Proof.Attn.RefOut.lean ====
/-
  The reference's result at an index: the gradient in its columns, the other columns as given.
-/
module

public import proofs.«01_k».proof.Proof.Attn.RefGrad

@[expose] public section

set_option maxRecDepth 16384

noncomputable section

namespace Attn

open Cert.ReferenceIdeal Cert.ReferenceIdeal.Gen Cert.ReferenceIdeal.Read Idealize.ShloMosaic Idealize.ShloMosaic.TcCoe Idealize.SL.Sem ValueIdx

variable (x0 : Wide) (x1 : Wide) (x2 x3 x4 : Heads) (x5 x6 : Lanes)

theorem result_left (i : Fin 8192) (j : Fin 9728) (h : j.val < 8704) : val_main_v166 (F := Ideal) x0 x1 x2 x3 x4 x5 x6 (ix2 i j) = x1 (ix2 i j) := by
  unfold val_main_v166
  refine (concatenate_apply_piece (t := S8192x9728) 1 _ _ _ 0 (by simp) S8192x8704 (val_main_v162 (F := Ideal) x1) rfl rfl 0 rfl (ix2 i ⟨j.val, h⟩)
    (fun b hb => ?_) ?_).trans ?_
  · match b, hb with | ⟨0, _⟩, _ => rfl | ⟨1, _⟩, hb => exact absurd rfl hb
  · show 0 + j.val = j.val; omega
  · rw [val_main_v162_apply]
    exact congrArg x1 (funext fun a => match a with | ⟨0, _⟩ => rfl | ⟨1, _⟩ => rfl)

theorem result_right (i : Fin 8192) (j : Fin 9728) (h : 8960 ≤ j.val) : val_main_v166 (F := Ideal) x0 x1 x2 x3 x4 x5 x6 (ix2 i j) = x1 (ix2 i j) := by
  unfold val_main_v166
  refine (concatenate_apply_piece (t := S8192x9728) 1 _ _ _ 2 (by simp) S8192x768 (val_main_v165 (F := Ideal) x1) rfl rfl 8960 rfl (ix2 i ⟨j.val - 8960, by omega⟩)
    (fun b hb => ?_) ?_).trans ?_
  · match b, hb with | ⟨0, _⟩, _ => rfl | ⟨1, _⟩, hb => exact absurd rfl hb
  · show 8960 + (j.val - 8960) = j.val; omega
  · rw [val_main_v165_apply]
    exact congrArg x1 (funext fun a => match a with | ⟨0, _⟩ => rfl | ⟨1, _⟩ => Fin.ext (by show 8960 + (j.val - 8960) = j.val; omega))

theorem result_mid (i : Fin 8192) (h : Fin 4) (e : Fin 64) : val_main_v166 (F := Ideal) x0 x1 x2 x3 x4 x5 x6 (ix2 i ⟨8704 + (64 * h.val + e.val), by omega⟩)
    = val_main_v161 (F := Ideal) x0 x2 x3 x4 x5 x6 (ix3 i h e) := by
  unfold val_main_v166
  refine (concatenate_apply_piece (t := S8192x9728) 1 _ _ _ 1 (by simp) S8192x256 (val_main_v164 (F := Ideal) x0 x2 x3 x4 x5 x6) rfl rfl 8704 rfl (ix2 i ⟨64 * h.val + e.val, by omega⟩)
    (fun b hb => ?_) ?_).trans ?_
  · match b, hb with | ⟨0, _⟩, _ => rfl | ⟨1, _⟩, hb => exact absurd rfl hb
  · rfl
  · rw [val_main_v164_apply]
    show val_main_v163 (F := Ideal) x0 x2 x3 x4 x5 x6 _ = _
    rw [val_main_v163_apply]
    refine congrArg (val_main_v161 (F := Ideal) x0 x2 x3 x4 x5 x6) (funext fun a => match a with
      | ⟨0, _⟩ => Fin.ext (by show (i.val * 256 + (64 * h.val + e.val)) / 256 = i.val; omega)
      | ⟨1, _⟩ => Fin.ext (by show (i.val * 256 + (64 * h.val + e.val)) / 64 % 4 = h.val; omega)
      | ⟨2, _⟩ => Fin.ext (by show (i.val * 256 + (64 * h.val + e.val)) % 64 = e.val; omega))

end Attn
-- ==== Proof.Attn.Finite.lean ====
/-
  What the precondition says of an array.
-/
module

public import proofs.«01_k».proof.Defs
public import proofs.«01_k».proof.Proof.Attn.RefIn

@[expose] public section

noncomputable section

namespace Attn

open Idealize.ShloMosaic Idealize.SL.Sem ValueIdx

instance facts_finite : Cert.Pre_finite.Facts where
  bcast_S_S8192x9728 := by decide
  bcast_S_S8192x4x64 := by decide
  bcast_S_S8192x4 := by decide

theorem fine_of {s : Shape} (x : FVec Ideal s .f32) {z : Shape} (dims : Fin z.rank → Fin s.rank) (hb : z.BroadcastsInDim s dims)
    (h : cmpf .olt (Host.absf x) (broadcastInDim s dims hb (constant (F := Ideal) z .f32 0x7F800000#32)) = fun _ => 1#1) (i : s.Idx) : x i ≠ ⊤ ∧ x i ≠ ⊥ := by
  have hi := congrFun h i
  have ht : Ideal.ofBits .f32 0x7F800000#32 = (⊤ : EReal) := by simp [Ideal.ofBits, Ideal.ieee]
  have h2 : Ideal.cmp .olt (max (x i) (-(x i))) (Ideal.ofBits .f32 0x7F800000#32) = 1#1 := hi
  rw [ht] at h2
  have h3 : max (x i) (-(x i)) < ⊤ := by
    by_contra hc
    simp [Ideal.cmp, hc] at h2
  constructor
  · intro he; rw [he] at h3; simp at h3
  · intro he; rw [he] at h3; simp at h3

end Attn
-- ==== Proof.Step.Base.lean ====
module
public import Idealize.ShloMosaic.Lib.Pointwise
public import Idealize.ShloMosaic.Lib.Pipeline.ValueKit
public import Idealize.ShloMosaic.Lib.Pipeline.Covers
@[expose] public section
namespace Step
open Idealize.ShloMosaic

/-- Two places of a matrix with the same row and column are one. -/
theorem ext2 {p q : ℕ} {i j : (⟨2, ![p, q]⟩ : Shape).Idx} (h0 : (i 0).val = (j 0).val) (h1 : (i 1).val = (j 1).val) : i = j :=
  funext fun a => match a with
    | ⟨0, _⟩ => Fin.ext h0
    | ⟨1, _⟩ => Fin.ext h1

theorem ext3 {p q r : ℕ} {i j : (⟨3, ![p, q, r]⟩ : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

end Step
end
-- ==== Proof.Step.DwIn.lean ====
module
public import proofs.«01_k».proof.Defs
public import proofs.«01_k».proof.Proof.Gen.KDwIn
public import proofs.«01_k».proof.Proof.Gen.KDwIn.Skeleton
public import proofs.«01_k».proof.Proof.Gen.KDwIn.Launch
public import proofs.«01_k».proof.Proof.Gen.KDwIn.Points
public import proofs.«01_k».proof.Proof.Gen.KDwIn.Frame
public import proofs.«01_k».proof.Proof.Gen.KDwInIdeal
public import proofs.«01_k».proof.Proof.Gen.KDwInIdeal.Skeleton
public import proofs.«01_k».proof.Proof.Gen.KDwInIdeal.Launch
public import proofs.«01_k».proof.Proof.Gen.KDwInIdeal.Points
public import proofs.«01_k».proof.Proof.Gen.KDwInIdeal.Frame
public import proofs.«01_k».proof.Proof.Gen.KDwInIdeal.Value
public import proofs.«01_k».proof.Proof.Gen.RDwInIdeal
public import proofs.«01_k».proof.Proof.Gen.RDwInIdeal.Run
public import proofs.«01_k».proof.Proof.Gen.RDwInIdeal.Read
public import Idealize.ShloMosaic.Adequacy
public import Idealize.ShloMosaic.Init
public import Idealize.ShloMosaic.Lib.ValueIdxCore
public import proofs.«01_k».proof.Proof.Step.Base
@[expose] public section
set_option maxRecDepth 16384
noncomputable section
namespace Step.DwIn
open Cert.KDwInIdeal Cert.KDwInIdeal.Gen Idealize.ShloMosaic Idealize.ShloMosaic.TcCoe Idealize.SL.Sem

variable (m : (ℓ : Loc nD τ sig) → Buf (Elt Ideal) ℓ) (c : Dev nD)

theorem pay1 (a : Vec Ideal S1024x1024 .bf16) (b : Vec Ideal S1024x2432 .bf16) (j : S1024x2432.Idx) :
    k0_pay1 a b j = ∑ k : Fin 1024, a (ix2 k (j 0)) * b (ix2 k (j 1)) := by
  pointwise [k0_pay1]

theorem pay2 (a : Vec Ideal S1024x1024 .bf16) (b o : Vec Ideal S1024x2432 _) (j : S1024x2432.Idx) :
    k0_pay2 a b o j = o j + ∑ k : Fin 1024, a (ix2 k (j 0)) * b (ix2 k (j 1)) := by
  unfold k0_pay2
  pointwise [k0_pay1]

/-- The product of the two arrays over the tokens. -/
def prod (X : S8192x1024.Idx → EReal) (Y : S8192x9728.Idx → EReal) : S1024x9728.Idx → EReal :=
  fun i => ∑ k : Fin 8192, X (ix2 k (i 0)) * Y (ix2 k (i 1))

theorem arr : (dats m 0 c).arrAt 2 cfg0.N = prod (V m c main_v0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [pay1, zero_add])
    (fun t h j => by rw [outsAt0_B m c t h (by omega)]; frame_out; rw [pay2]) t ((flush0_2 t).mp hf) _]
  rw [zero_add]
  unfold prod
  refine Fin.sum_mul_add_congr fun s k hl => ?_
  have e0 : ∀ t, win0_0.index t = ![t.val % 8, 0] := by decide +kernel
  have e1 : ∀ t, win0_1.index t = ![t.val % 8, t.val / 8] := by decide +kernel
  have e2 : ∀ t, win0_2.index t = ![0, t.val / 8] := by decide +kernel
  blk_point [iblk, e0, e1, e2]

/-- The launch's first operand is the first argument, its format changed. -/
theorem V_v0 : V m c main_v0 = m ((c : Thread nD τ).loc main_arg0) := by
  show StableHlo.after hostOps0 _ _ = _
  simp only [hostOps0]
  after_results_simp
  rfl

theorem value (x : S8192x1024.Idx → EReal) (y : S8192x9728.Idx → EReal) : Cert.RDwInIdeal.Read.val_main_v4 (F := Ideal) x y = prod x y := by
  funext i
  rw [Cert.RDwInIdeal.Read.val_main_v4_apply, Cert.RDwInIdeal.Read.val_main_v3_apply]
  refine Finset.sum_congr rfl fun k _ => ?_
  rw [Cert.RDwInIdeal.Read.val_main_v2_apply, mul_comm]
  exact congrArg₂ (· * ·) (congrArg x (ext2 rfl rfl)) (congrArg y (ext2 rfl rfl))

theorem quiet : Cert.quiescent_RDwInIdeal (hRDwInIdeal := Cert.RDwInIdeal.Gen.facts) := fun m g _ =>
  (θ_run _ _ _).mono (fun r h => ⟨fun c => (h c).2, Idealize.ShloMosaic.sem_eq_zero_of_no_sems (by decide) r.2⟩) (Cert.RDwInIdeal.Value.run m g)

theorem algebraic : Cert.algebraic_KDwInIdeal_RDwInIdeal (hKDwInIdeal := Cert.KDwInIdeal.Gen.facts) (hRDwInIdeal := Cert.RDwInIdeal.Gen.facts) :=
  fun m g m' g' _ hag =>
  ⟨fun c => (Cert.KDwInIdeal.Gen.dats m 0 c).arrAt 2 Cert.KDwInIdeal.cfg0.N, Cert.KDwInIdeal.Value.run_blocks m g,
    (θ_run _ _ _).mono (fun _ h c => ⟨((h c).1.trans (Cert.RDwInIdeal.Read.val_main_v4_eq _ _)).trans (by
      obtain ⟨a0, a1⟩ := hag c
      show Cert.RDwInIdeal.Read.val_main_v4 (F := Ideal) (m' ((c.tc : Thread Cert.RDwInIdeal.nD Cert.RDwInIdeal.τ).loc Cert.RDwInIdeal.main_arg0)) (m' ((c.tc : Thread Cert.RDwInIdeal.nD Cert.RDwInIdeal.τ).loc Cert.RDwInIdeal.main_arg1)) = _
      rw [a0, a1, value]
      exact ((arr m c).trans (by rw [V_v0, V_main_arg1])).symm), (h c).2⟩) (Cert.RDwInIdeal.Value.run m' g')⟩

end Step.DwIn
end
-- ==== Proof.Step.DX.lean ====
module
public import proofs.«01_k».proof.Defs
public import proofs.«01_k».proof.Proof.Gen.KDX
public import proofs.«01_k».proof.Proof.Gen.KDX.Skeleton
public import proofs.«01_k».proof.Proof.Gen.KDX.Launch
public import proofs.«01_k».proof.Proof.Gen.KDX.Points
public import proofs.«01_k».proof.Proof.Gen.KDX.Frame
public import proofs.«01_k».proof.Proof.Gen.KDXIdeal
public import proofs.«01_k».proof.Proof.Gen.KDXIdeal.Skeleton
public import proofs.«01_k».proof.Proof.Gen.KDXIdeal.Launch
public import proofs.«01_k».proof.Proof.Gen.KDXIdeal.Points
public import proofs.«01_k».proof.Proof.Gen.KDXIdeal.Frame
public import proofs.«01_k».proof.Proof.Gen.KDXIdeal.Value
public import proofs.«01_k».proof.Proof.Gen.RDXIdeal
public import proofs.«01_k».proof.Proof.Gen.RDXIdeal.Run
public import proofs.«01_k».proof.Proof.Gen.RDXIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DX
open Cert.KDXIdeal Cert.KDXIdeal.Gen Idealize.ShloMosaic Idealize.ShloMosaic.TcCoe Idealize.SL.Sem

variable (m : (ℓ : Loc nD τ sig) → Buf (Elt Ideal) ℓ) (c : Dev nD)

theorem pay1 (a b : Vec Ideal S1024x2432 .bf16) (j : S1024x1024.Idx) :
    k0_pay1 a b j = ∑ k : Fin 2432, a (ix2 (j 0) k) * b (ix2 (j 1) k) := by
  pointwise [k0_pay1]

theorem pay2 (a b : Vec Ideal S1024x2432 .bf16) (o : Vec Ideal S1024x1024 .f32) (j : S1024x1024.Idx) :
    k0_pay2 a b o j = (∑ k : Fin 2432, a (ix2 (j 0) k) * b (ix2 (j 1) k))
      + (Scalar.ofBits .f32 0x3F9837F0#32 : Ideal .f32) * o j := by
  unfold k0_pay2
  pointwise [k0_pay1]

theorem pay3 (a b : Vec Ideal S1024x2432 .bf16) (o : Vec Ideal S1024x1024 .f32) (j : S1024x1024.Idx) :
    k0_pay3 a b o j = o j + ∑ k : Fin 2432, a (ix2 (j 0) k) * b (ix2 (j 1) k) := by
  unfold k0_pay3
  pointwise [k0_pay1]

/-- The residual's scaled cotangent and the sum over all columns of the in projection. -/
def prod (X : S8192x9728.Idx → EReal) (Y : S1024x9728.Idx → EReal) (Z : S8192x1024.Idx → EReal) : S8192x1024.Idx → EReal :=
  fun i => (Scalar.ofBits .f32 0x3F9837F0#32 : Ideal .f32) * Z i + ∑ k : Fin 9728, X (ix2 (i 0) k) * Y (ix2 (i 1) k)

/-- A tile's partial product. -/
def part (a b : S1024x2432.Idx → EReal) (j : S1024x1024.Idx) : EReal :=
  ∑ k : Fin 2432, a (ix2 (j 0) k) * b (ix2 (j 1) k)

/-- The first point of a run adds the residual's share. -/
def first (n : ℕ) (z : S1024x1024.Idx → EReal) (j : S1024x1024.Idx) : EReal :=
  if n % 4 = 0 then (Scalar.ofBits .f32 0x3F9837F0#32 : Ideal .f32) * z j else 0

theorem run_sum (t : Fin cfg0.N) (hr : t.val % 4 = 4 - 1) (j : S1024x1024.Idx) :
    outsAt0 m c t.val t.isLt j = 0 + ∑ s : Fin 4, (fun t j => first t.val (iblk m c 2 t) j + part (iblk m c 0 t) (iblk m c 1 t) j)
      ⟨4 * (t.val / 4) + s.val, Pipeline.run_point_lt_of_flush t hr s⟩ j :=
  Pipeline.eq_sum_fin_of_reset_step_apply_of_flush (fun n h => outsAt0 m c n h) 4 (fun _ => 0) (fun t j => first t.val (iblk m c 2 t) j + part (iblk m c 0 t) (iblk m c 1 t) j)
    (fun t h j => by
      rw [outsAt0_A m c t h (by omega)]
      frame_out
      rw [pay2, first, if_pos h, zero_add, add_comm]
      rfl)
    (fun t h j => by
      rw [outsAt0_B m c t h (by omega)]
      frame_out
      rw [pay3, first, if_neg h, zero_add]
      rfl) t hr j

theorem arr : (dats m 0 c).arrAt 3 cfg0.N = prod (V m c main_arg0) (V m c main_arg1) (V m c main_arg2) := by
  refine (dats m 0 c).arrAt_eq_of_covers 3 _ (by decide +kernel) fun t hf y => ?_
  blk_simp
  have hr := (flush0_3 t).mp hf
  rw [after0_3, run_sum m c t hr, zero_add]
  simp only []
  rw [Finset.sum_add_distrib]
  have e0 : ∀ t, win0_0.index t = ![t.val / 4, t.val % 4] := by decide +kernel
  have e1 : ∀ t, win0_1.index t = ![0, t.val % 4] := by decide +kernel
  have e2 : ∀ t, win0_2.index t = ![t.val / 4, 0] := by decide +kernel
  have e3 : ∀ t, win0_3.index t = ![t.val / 4, 0] := by decide +kernel
  unfold prod
  refine congrArg₂ (· + ·) ?_ ?_
  · rw [Fin.sum_univ_four]
    unfold first
    rw [if_pos (show (4 * (t.val / 4) + (0 : Fin 4).val) % 4 = 0 from by simp),
      if_neg (show ¬(4 * (t.val / 4) + (1 : Fin 4).val) % 4 = 0 from by simp [Nat.mul_add_mod]),
      if_neg (show ¬(4 * (t.val / 4) + (2 : Fin 4).val) % 4 = 0 from by simp [Nat.mul_add_mod]),
      if_neg (show ¬(4 * (t.val / 4) + (3 : Fin 4).val) % 4 = 0 from by simp [Nat.mul_add_mod]), add_zero, add_zero, add_zero]
    refine congrArg₂ (· * ·) rfl ?_
    blk_point [iblk, e2, e3]
  · unfold part
    refine Fin.sum_mul_add_congr fun s k hl => ?_
    blk_point [iblk, e0, e1, e3]

theorem value (x : (⟨S8192x9728, .bf16⟩ : BufTy).Contents (Elt Ideal)) (y : (⟨S1024x9728, .bf16⟩ : BufTy).Contents (Elt Ideal))
    (z : (⟨S8192x1024, .f32⟩ : BufTy).Contents (Elt Ideal)) :
    Cert.RDXIdeal.Read.val_main_v9 (F := Ideal) x y z = prod x y z := by
  funext i
  rw [Cert.RDXIdeal.Read.val_main_v9_apply, Cert.RDXIdeal.Read.val_main_v8_apply, Cert.RDXIdeal.Read.val_main_v7_apply]
  refine congrArg₂ (· + ·) rfl (Finset.sum_congr rfl fun k _ => ?_)
  rw [Cert.RDXIdeal.Read.val_main_v5_apply, Cert.RDXIdeal.Read.val_main_v1_apply]
  exact congrArg₂ (· * ·) (congrArg x (ext2 rfl rfl)) (congrArg y (ext2 rfl rfl))

theorem quiet : Cert.quiescent_RDXIdeal (hRDXIdeal := Cert.RDXIdeal.Gen.facts) := fun m g _ =>
  (θ_run _ _ _).mono (fun r h => ⟨fun c => (h c).2, Idealize.ShloMosaic.sem_eq_zero_of_no_sems (by decide) r.2⟩) (Cert.RDXIdeal.Value.run m g)

theorem algebraic : Cert.algebraic_KDXIdeal_RDXIdeal (hKDXIdeal := Cert.KDXIdeal.Gen.facts)
    (hRDXIdeal := Cert.RDXIdeal.Gen.facts) := fun m g m' g' _ hag =>
  ⟨fun c => (dats m 0 c).arrAt 3 cfg0.N, Cert.KDXIdeal.Value.run_blocks m g,
    (θ_run _ _ _).mono (fun _ h c => ⟨((h c).1.trans (Cert.RDXIdeal.Read.val_main_v9_eq _ _ _ )).trans (by
      obtain ⟨a0, a1, a2⟩ := hag c
      show Cert.RDXIdeal.Read.val_main_v9 (F := Ideal) (m' ((c : Thread Cert.RDXIdeal.nD Cert.RDXIdeal.τ).loc Cert.RDXIdeal.main_arg0)) (m' ((c : Thread Cert.RDXIdeal.nD Cert.RDXIdeal.τ).loc Cert.RDXIdeal.main_arg1)) (m' ((c : Thread Cert.RDXIdeal.nD Cert.RDXIdeal.τ).loc Cert.RDXIdeal.main_arg2)) = _
      rw [a0, a1, a2, value]
      exact ((arr m c).trans (by rw [V_main_arg0, V_main_arg1, V_main_arg2])).symm), (h c).2⟩) (Cert.RDXIdeal.Value.run m' g')⟩

end Step.DX
end
end
-- ==== Proof.Step.DwDown.lean ====
module
public import proofs.«01_k».proof.Defs
public import proofs.«01_k».proof.Proof.Gen.KDwDown
public import proofs.«01_k».proof.Proof.Gen.KDwDown.Skeleton
public import proofs.«01_k».proof.Proof.Gen.KDwDown.Launch
public import proofs.«01_k».proof.Proof.Gen.KDwDown.Points
public import proofs.«01_k».proof.Proof.Gen.KDwDown.Frame
public import proofs.«01_k».proof.Proof.Gen.KDwDownIdeal
public import proofs.«01_k».proof.Proof.Gen.KDwDownIdeal.Skeleton
public import proofs.«01_k».proof.Proof.Gen.KDwDownIdeal.Launch
public import proofs.«01_k».proof.Proof.Gen.KDwDownIdeal.Points
public import proofs.«01_k».proof.Proof.Gen.KDwDownIdeal.Frame
public import proofs.«01_k».proof.Proof.Gen.KDwDownIdeal.Value
public import proofs.«01_k».proof.Proof.Gen.RDwDownIdeal
public import proofs.«01_k».proof.Proof.Gen.RDwDownIdeal.Run
public import proofs.«01_k».proof.Proof.Gen.RDwDownIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DwDown
open Cert.KDwDownIdeal Cert.KDwDownIdeal.Gen Idealize.ShloMosaic Idealize.ShloMosaic.TcCoe Idealize.SL.Sem

variable (m : (ℓ : Loc nD τ sig) → Buf (Elt Ideal) ℓ) (c : Dev nD)

theorem pay1 (a b : Vec Ideal S1024x1024 .bf16) (j : S1024x1024.Idx) :
    k0_pay1 a b j = ∑ k : Fin 1024, a (ix2 k (j 0)) * b (ix2 k (j 1)) := by
  pointwise [k0_pay1]

theorem pay2 (a b : Vec Ideal S1024x1024 .bf16) (o : Vec Ideal S1024x1024 .f32) (j : S1024x1024.Idx) :
    k0_pay2 a b o j = o j + ∑ k : Fin 1024, a (ix2 k (j 0)) * b (ix2 k (j 1)) := by
  unfold k0_pay2
  pointwise [k0_pay1]

/-- The sum over all tokens. -/
def prod (X : S8192x4096.Idx → EReal) (Y : S8192x1024.Idx → EReal) : S4096x1024.Idx → EReal :=
  fun i => ∑ k : Fin 8192, X (ix2 k (i 0)) * Y (ix2 k (i 1))

theorem arr : (dats m 0 c).arrAt 2 cfg0.N = prod (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [pay1, zero_add])
    (fun t h j => by rw [outsAt0_B m c t h (by omega)]; frame_out; rw [pay2]) t ((flush0_2 t).mp hf) _]
  rw [zero_add]
  unfold prod
  refine Fin.sum_mul_add_congr fun s k hl => ?_
  have e0 : ∀ t, win0_0.index t = ![t.val % 8, t.val / 8] := by decide +kernel
  have e1 : ∀ t, win0_1.index t = ![t.val % 8, 0] := by decide +kernel
  have e2 : ∀ t, win0_2.index t = ![t.val / 8, 0] := by decide +kernel
  blk_point [iblk, e0, e1, e2]

theorem value (x : (⟨S8192x4096, .bf16⟩ : BufTy).Contents (Elt Ideal)) (y : (⟨S8192x1024, .bf16⟩ : BufTy).Contents (Elt Ideal)) :
    Cert.RDwDownIdeal.Read.val_main_v5 (F := Ideal) x y = prod x y := by
  funext i
  rw [Cert.RDwDownIdeal.Read.val_main_v5_apply, Cert.RDwDownIdeal.Read.val_main_v4_apply]
  refine Finset.sum_congr rfl fun k _ => ?_
  rw [Cert.RDwDownIdeal.Read.val_main_v3_apply, Cert.RDwDownIdeal.Read.val_main_v1_apply, mul_comm]
  exact congrArg₂ (· * ·) (congrArg x (ext2 rfl rfl)) (congrArg y (ext2 rfl rfl))

theorem quiet : Cert.quiescent_RDwDownIdeal (hRDwDownIdeal := Cert.RDwDownIdeal.Gen.facts) := fun m g _ =>
  (θ_run _ _ _).mono (fun r h => ⟨fun c => (h c).2, Idealize.ShloMosaic.sem_eq_zero_of_no_sems (by decide) r.2⟩) (Cert.RDwDownIdeal.Value.run m g)

theorem algebraic : Cert.algebraic_KDwDownIdeal_RDwDownIdeal (hKDwDownIdeal := Cert.KDwDownIdeal.Gen.facts)
    (hRDwDownIdeal := Cert.RDwDownIdeal.Gen.facts) := fun m g m' g' _ hag =>
  ⟨fun c => (dats m 0 c).arrAt 2 cfg0.N, Cert.KDwDownIdeal.Value.run_blocks m g,
    (θ_run _ _ _).mono (fun _ h c => ⟨((h c).1.trans (Cert.RDwDownIdeal.Read.val_main_v5_eq _ _ )).trans (by
      obtain ⟨a0, a1⟩ := hag c
      show Cert.RDwDownIdeal.Read.val_main_v5 (F := Ideal) (m' ((c : Thread Cert.RDwDownIdeal.nD Cert.RDwDownIdeal.τ).loc Cert.RDwDownIdeal.main_arg0)) (m' ((c : Thread Cert.RDwDownIdeal.nD Cert.RDwDownIdeal.τ).loc Cert.RDwDownIdeal.main_arg1)) = _
      rw [a0, a1, value]
      exact ((arr m c).trans (by rw [V_main_arg0, V_main_arg1])).symm), (h c).2⟩) (Cert.RDwDownIdeal.Value.run m' g')⟩

end Step.DwDown
end
end
-- ==== Proof.Step.DwUp.lean ====
module
public import proofs.«01_k».proof.Defs
public import proofs.«01_k».proof.Proof.Gen.KDwUp
public import proofs.«01_k».proof.Proof.Gen.KDwUp.Skeleton
public import proofs.«01_k».proof.Proof.Gen.KDwUp.Launch
public import proofs.«01_k».proof.Proof.Gen.KDwUp.Points
public import proofs.«01_k».proof.Proof.Gen.KDwUp.Frame
public import proofs.«01_k».proof.Proof.Gen.KDwUpIdeal
public import proofs.«01_k».proof.Proof.Gen.KDwUpIdeal.Skeleton
public import proofs.«01_k».proof.Proof.Gen.KDwUpIdeal.Launch
public import proofs.«01_k».proof.Proof.Gen.KDwUpIdeal.Points
public import proofs.«01_k».proof.Proof.Gen.KDwUpIdeal.Frame
public import proofs.«01_k».proof.Proof.Gen.KDwUpIdeal.Value
public import proofs.«01_k».proof.Proof.Gen.RDwUpIdeal
public import proofs.«01_k».proof.Proof.Gen.RDwUpIdeal.Run
public import proofs.«01_k».proof.Proof.Gen.RDwUpIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DwUp
open Cert.KDwUpIdeal Cert.KDwUpIdeal.Gen Idealize.ShloMosaic Idealize.ShloMosaic.TcCoe Idealize.SL.Sem

variable (m : (ℓ : Loc nD τ sig) → Buf (Elt Ideal) ℓ) (c : Dev nD)

theorem pay1 (a b : Vec Ideal S1024x1024 .bf16) (j : S1024x1024.Idx) :
    k0_pay1 a b j = ∑ k : Fin 1024, a (ix2 k (j 0)) * b (ix2 k (j 1)) := by
  pointwise [k0_pay1]

theorem pay2 (a b : Vec Ideal S1024x1024 .bf16) (j : S1x1024x1024.Idx) :
    k0_pay2 a b j = ∑ k : Fin 1024, a (ix2 k (j 1)) * b (ix2 k (j 2)) := by
  unfold k0_pay2
  pointwise [k0_pay1]

theorem pay3 (a b : Vec Ideal S1024x1024 .bf16) (o : Vec Ideal S1x1024x1024 .f32) (j : S1x1024x1024.Idx) :
    k0_pay3 a b o j = o j + ∑ k : Fin 1024, a (ix2 k (j 1)) * b (ix2 k (j 2)) := by
  unfold k0_pay3
  pointwise [k0_pay1]

/-- The sum over all tokens, a group of columns a piece. -/
def prod (X : S8192x1024.Idx → EReal) (Y : S8192x4096.Idx → EReal) : S4x1024x1024.Idx → EReal :=
  fun i => ∑ k : Fin 8192, X (ix2 k (i 1)) * Y (ix2 k ⟨(i 0).val * 1024 + (i 2).val, by
    have h0 : (i 0).val < 4 := (i 0).isLt
    have h2 : (i 2).val < 1024 := (i 2).isLt
    omega⟩)

theorem arr : (dats m 0 c).arrAt 2 cfg0.N = prod (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [pay2, zero_add])
    (fun t h j => by rw [outsAt0_B m c t h (by omega)]; frame_out; rw [pay3]) t ((flush0_2 t).mp hf) _]
  rw [zero_add]
  unfold prod
  refine Fin.sum_mul_add_congr fun s k hl => ?_
  have e0 : ∀ t, win0_0.index t = ![t.val % 8, 0] := by decide +kernel
  have e1 : ∀ t, win0_1.index t = ![t.val % 8, t.val / 8] := by decide +kernel
  have e2 : ∀ t, win0_2.index t = ![t.val / 8, 0, 0] := by decide +kernel
  blk_point [iblk, e0, e1, e2]

theorem value (x : (⟨S8192x1024, .bf16⟩ : BufTy).Contents (Elt Ideal)) (y : (⟨S8192x4096, .bf16⟩ : BufTy).Contents (Elt Ideal)) :
    Cert.RDwUpIdeal.Read.val_main_v29 (F := Ideal) x y = prod x y := by
  funext i
  have h14 : ∀ j, Cert.RDwUpIdeal.Read.val_main_v14 (F := Ideal) x y j = ∑ k : Fin 8192, x (ix2 k (j 0)) * y (ix2 k (j 1)) := fun j => by
    rw [Cert.RDwUpIdeal.Read.val_main_v14_apply, Cert.RDwUpIdeal.Read.val_main_v13_apply]
    refine Finset.sum_congr rfl fun k _ => ?_
    rw [Cert.RDwUpIdeal.Read.val_main_v12_apply, Cert.RDwUpIdeal.Read.val_main_v1_apply, mul_comm]
    exact congrArg₂ (· * ·) (congrArg x (ext2 rfl rfl)) (congrArg y (ext2 rfl rfl))
  rw [Cert.RDwUpIdeal.Read.val_main_v29_apply, Cert.RDwUpIdeal.Read.val_main_v26_apply, Cert.RDwUpIdeal.Read.val_main_v23_apply]
  pointwise [Cert.RDwUpIdeal.Read.val_main_v20, Cert.RDwUpIdeal.Read.val_main_v22, Cert.RDwUpIdeal.Read.val_main_v25, Cert.RDwUpIdeal.Read.val_main_v28, Cert.RDwUpIdeal.Read.val_main_v15, Cert.RDwUpIdeal.Read.val_main_v16, Cert.RDwUpIdeal.Read.val_main_v17, Cert.RDwUpIdeal.Read.val_main_v18, Cert.RDwUpIdeal.Read.val_main_v19, Cert.RDwUpIdeal.Read.val_main_v21, Cert.RDwUpIdeal.Read.val_main_v24, Cert.RDwUpIdeal.Read.val_main_v27]
  rw [show Cert.RDwUpIdeal.Read.val_main_cst_0 (F := Ideal) (Shape.Idx.first Cert.RDwUpIdeal.Gen.h_S_) = 0 from Ideal.ofBits_zero_f32,
    show Cert.RDwUpIdeal.Read.val_main_cst_1 (F := Ideal) (Shape.Idx.first Cert.RDwUpIdeal.Gen.h_S_) = 0 from Ideal.ofBits_zero_f32,
    show Cert.RDwUpIdeal.Read.val_main_cst_2 (F := Ideal) (Shape.Idx.first Cert.RDwUpIdeal.Gen.h_S_) = 0 from Ideal.ofBits_zero_f32,
    show Cert.RDwUpIdeal.Read.val_main_cst_3 (F := Ideal) (Shape.Idx.first Cert.RDwUpIdeal.Gen.h_S_) = 0 from Ideal.ofBits_zero_f32]
  have hi : (i 0).val < 4 := (i 0).isLt
  split_ifs with h3 h2 h1 h0 h0 h1 h0 h0 h2 h1 h0 h0 h1 h0 h0
  all_goals first
    | omega
    | (simp only [zero_add, add_zero]
       rw [h14]
       exact Finset.sum_congr rfl fun k _ => congrArg₂ (· * ·) rfl (congrArg y (ext2 rfl (by
         show _ + (i 2).val = (i 0).val * 1024 + (i 2).val
         omega))))
    | (simp only [zero_add, add_zero]
       rw [h14]
       exact Finset.sum_congr rfl fun k _ => congrArg₂ (· * ·) rfl (congrArg y (ext2 rfl (by
         show (i 2).val = (i 0).val * 1024 + (i 2).val
         omega))))

theorem quiet : Cert.quiescent_RDwUpIdeal (hRDwUpIdeal := Cert.RDwUpIdeal.Gen.facts) := fun m g _ =>
  (θ_run _ _ _).mono (fun r h => ⟨fun c => (h c).2, Idealize.ShloMosaic.sem_eq_zero_of_no_sems (by decide) r.2⟩) (Cert.RDwUpIdeal.Value.run m g)

theorem algebraic : Cert.algebraic_KDwUpIdeal_RDwUpIdeal (hKDwUpIdeal := Cert.KDwUpIdeal.Gen.facts)
    (hRDwUpIdeal := Cert.RDwUpIdeal.Gen.facts) := fun m g m' g' _ hag =>
  ⟨fun c => (dats m 0 c).arrAt 2 cfg0.N, Cert.KDwUpIdeal.Value.run_blocks m g,
    (θ_run _ _ _).mono (fun _ h c => ⟨((h c).1.trans (Cert.RDwUpIdeal.Read.val_main_v29_eq _ _ )).trans (by
      obtain ⟨a0, a1⟩ := hag c
      show Cert.RDwUpIdeal.Read.val_main_v29 (F := Ideal) (m' ((c : Thread Cert.RDwUpIdeal.nD Cert.RDwUpIdeal.τ).loc Cert.RDwUpIdeal.main_arg0)) (m' ((c : Thread Cert.RDwUpIdeal.nD Cert.RDwUpIdeal.τ).loc Cert.RDwUpIdeal.main_arg1)) = _
      rw [a0, a1, value]
      exact ((arr m c).trans (by rw [V_main_arg0, V_main_arg1])).symm), (h c).2⟩) (Cert.RDwUpIdeal.Value.run m' g')⟩

end Step.DwUp
end
end
-- ==== Proof.Step.DUp.lean ====
module
public import proofs.«01_k».proof.Defs
public import proofs.«01_k».proof.Proof.Gen.KDUp
public import proofs.«01_k».proof.Proof.Gen.KDUp.Skeleton
public import proofs.«01_k».proof.Proof.Gen.KDUp.Launch
public import proofs.«01_k».proof.Proof.Gen.KDUp.Points
public import proofs.«01_k».proof.Proof.Gen.KDUp.Frame
public import proofs.«01_k».proof.Proof.Gen.KDUpIdeal
public import proofs.«01_k».proof.Proof.Gen.KDUpIdeal.Skeleton
public import proofs.«01_k».proof.Proof.Gen.KDUpIdeal.Launch
public import proofs.«01_k».proof.Proof.Gen.KDUpIdeal.Points
public import proofs.«01_k».proof.Proof.Gen.KDUpIdeal.Frame
public import proofs.«01_k».proof.Proof.Gen.KDUpIdeal.Value
public import proofs.«01_k».proof.Proof.Gen.RDUpIdeal
public import proofs.«01_k».proof.Proof.Gen.RDUpIdeal.Run
public import proofs.«01_k».proof.Proof.Gen.RDUpIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DUp
open Cert.KDUpIdeal Cert.KDUpIdeal.Gen Idealize.ShloMosaic Idealize.ShloMosaic.TcCoe Idealize.SL.Sem

variable (m : (ℓ : Loc nD τ sig) → Buf (Elt Ideal) ℓ) (c : Dev nD)

theorem pay1 (a b u : Vec Ideal S1024x1024 .bf16) (j : S1024x1024.Idx) :
    k0_pay1 a b u j = (∑ k : Fin 1024, a (ix2 (j 0) k) * b (ix2 (j 1) k)) * (Scalar.ofBits .f32 0x40000000#32 : Ideal .f32)
      * max (u j) (Scalar.ofBits .f32 0x00000000#32 : Ideal .f32) := by
  unfold k0_pay1
  pointwise []

/-- The cotangent before the squared clamp. -/
def prod (X : S8192x1024.Idx → EReal) (Y : S4096x1024.Idx → EReal) (U : S8192x4096.Idx → EReal) : S8192x4096.Idx → EReal :=
  fun i => (∑ k : Fin 1024, X (ix2 (i 0) k) * Y (ix2 (i 1) k)) * (Scalar.ofBits .f32 0x40000000#32 : Ideal .f32)
    * max (U i) (Scalar.ofBits .f32 0x00000000#32 : Ideal .f32)

theorem arr : (dats m 0 c).arrAt 3 cfg0.N = prod (V m c main_arg0) (V m c main_arg1) (V m c main_arg2) := by
  refine (dats m 0 c).arrAt_eq_of_covers 3 _ (by decide +kernel) fun t hf y => ?_
  blk_simp
  rw [after0_3]
  frame_out
  rw [pay1]
  unfold prod
  have e0 : ∀ t, win0_0.index t = ![t.val % 8, 0] := by decide +kernel
  have e1 : ∀ t, win0_1.index t = ![t.val / 8, 0] := by decide +kernel
  have e2 : ∀ t, win0_2.index t = ![t.val % 8, t.val / 8] := by decide +kernel
  have e3 : ∀ t, win0_3.index t = ![t.val % 8, t.val / 8] := by decide +kernel
  refine congrArg₂ (· * ·) (congrArg₂ (· * ·) (Finset.sum_congr rfl fun k _ => ?_) rfl) (congrArg₂ max ?_ rfl)
  · blk_point [iblk, e0, e1, e3]
  · blk_point [iblk, e2, e3]

theorem value (x : (⟨S8192x1024, .bf16⟩ : BufTy).Contents (Elt Ideal)) (y : (⟨S4096x1024, .bf16⟩ : BufTy).Contents (Elt Ideal))
    (z : (⟨S8192x4096, .bf16⟩ : BufTy).Contents (Elt Ideal)) :
    Cert.RDUpIdeal.Read.val_main_v15 (F := Ideal) x y z = prod x y z := by
  funext i
  rw [Cert.RDUpIdeal.Read.val_main_v15_apply, Cert.RDUpIdeal.Read.val_main_v14_apply]
  have h11 : Cert.RDUpIdeal.Read.val_main_v11 (F := Ideal) x y i = ∑ k : Fin 1024, x (ix2 (i 0) k) * y (ix2 (i 1) k) := by
    rw [Cert.RDUpIdeal.Read.val_main_v11_apply]
    refine Finset.sum_congr rfl fun k _ => ?_
    rw [Cert.RDUpIdeal.Read.val_main_v10_apply, Cert.RDUpIdeal.Read.val_main_v8_apply]
    exact congrArg₂ (· * ·) (congrArg x (ext2 rfl rfl)) (congrArg y (ext2 rfl rfl))
  rw [Cert.RDUpIdeal.Read.val_main_v12_apply, h11, Cert.RDUpIdeal.Read.val_main_v7_apply, Cert.RDUpIdeal.Read.val_main_v1_apply,
    Cert.RDUpIdeal.Read.val_main_v3_apply]
  unfold prod
  generalize (∑ k : Fin 1024, x (ix2 (i 0) k) * y (ix2 (i 1) k)) = s
  show (if Ideal.cmp .ogt (z i) (Ideal.ofBits .f32 0x00000000#32) = 1 then s * (Ideal.ofBits .f32 0x40000000#32 * max (z i) (Ideal.ofBits .f32 0x00000000#32))
    else Ideal.ofBits .f32 0x00000000#32) = s * Ideal.ofBits .f32 0x40000000#32 * max (z i) (Ideal.ofBits .f32 0x00000000#32)
  rw [Ideal.ofBits_zero_f32, mul_assoc]
  by_cases h : (0 : EReal) < z i
  · rw [if_pos (by simp [Ideal.cmp, h])]
  · rw [if_neg (by simp [Ideal.cmp, h]), max_eq_right (not_lt.1 h), mul_zero, mul_zero]

theorem quiet : Cert.quiescent_RDUpIdeal (hRDUpIdeal := Cert.RDUpIdeal.Gen.facts) := fun m g _ =>
  (θ_run _ _ _).mono (fun r h => ⟨fun c => (h c).2, Idealize.ShloMosaic.sem_eq_zero_of_no_sems (by decide) r.2⟩) (Cert.RDUpIdeal.Value.run m g)

theorem algebraic : Cert.algebraic_KDUpIdeal_RDUpIdeal (hKDUpIdeal := Cert.KDUpIdeal.Gen.facts)
    (hRDUpIdeal := Cert.RDUpIdeal.Gen.facts) := fun m g m' g' _ hag =>
  ⟨fun c => (dats m 0 c).arrAt 3 cfg0.N, Cert.KDUpIdeal.Value.run_blocks m g,
    (θ_run _ _ _).mono (fun _ h c => ⟨((h c).1.trans (Cert.RDUpIdeal.Read.val_main_v15_eq _ _ _ )).trans (by
      obtain ⟨a0, a1, a2⟩ := hag c
      show Cert.RDUpIdeal.Read.val_main_v15 (F := Ideal) (m' ((c : Thread Cert.RDUpIdeal.nD Cert.RDUpIdeal.τ).loc Cert.RDUpIdeal.main_arg0)) (m' ((c : Thread Cert.RDUpIdeal.nD Cert.RDUpIdeal.τ).loc Cert.RDUpIdeal.main_arg1)) (m' ((c : Thread Cert.RDUpIdeal.nD Cert.RDUpIdeal.τ).loc Cert.RDUpIdeal.main_arg2)) = _
      rw [a0, a1, a2, value]
      exact ((arr m c).trans (by rw [V_main_arg0, V_main_arg1, V_main_arg2])).symm), (h c).2⟩) (Cert.RDUpIdeal.Value.run m' g')⟩

end Step.DUp
end
end
-- ==== Proof.Step.NormMath.lean ====
/-
  The layer norm of a row of 1024 numbers and its derivative: the three-term formula, and the derivative as it is taken
  step by step through the mean, the variance and the reciprocal root. Over finite numbers they are equal.
-/
module

public import proofs.«01_k».proof.Proof.Attn.Reals

@[expose] public section

noncomputable section

namespace Step

open Idealize.ShloMosaic

/-- An extended real that is a real number. -/
def IsR (x : EReal) : Prop := ∃ r : ℝ, x = (r : EReal)

theorem IsR.of {x : EReal} (h : x ≠ ⊤ ∧ x ≠ ⊥) : IsR x := ⟨x.toReal, (Attn.coe_toReal h).symm⟩

theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.mul {x y : EReal} : IsR x → IsR y → IsR (x * y) := fun ⟨a, ha⟩ ⟨b, hb⟩ => ⟨a * b, by rw [ha, hb, EReal.coe_mul]⟩
theorem IsR.sum {ι : Type*} [Fintype ι] {f : ι → EReal} (h : ∀ k, IsR (f k)) : IsR (∑ k, f k) := by
  choose r hr using h
  exact ⟨∑ k, r k, Attn.sum_of r hr⟩

/-- A sum that the host starts from zero. -/
theorem hostSum {n : ℕ} {f g : Fin n → EReal} (h : ∀ k, f k = g k) : Ideal.ofBits .f32 0x00000000#32 + ∑ k, f k = ∑ k, g k := by
  rw [Ideal.ofBits_zero_f32, zero_add]; exact Finset.sum_congr rfl fun k _ => h k

/-- A sum of one term that the host starts from zero. -/
theorem hostSum1 (f : Fin 1 → EReal) : Ideal.ofBits .f32 0x00000000#32 + ∑ k, f k = f 0 := by
  rw [Ideal.ofBits_zero_f32, zero_add]; exact Fin.sum_univ_one f

/-- The row's length, as the programs write it. -/
def count : EReal := Ideal.ofBits .f32 0x44800000#32
/-- What is added to the variance. -/
def tiny : EReal := Ideal.ofBits .f32 0x3727C5AC#32
/-- The weight of the residual. -/
def weight : EReal := Ideal.ofBits .f32 0x3F9837F0#32

theorem count_eq : count = ((1024 : ℝ) : EReal) := by
  simp [count, Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul]; norm_num
theorem tiny_eq : ∃ e : ℝ, 0 < e ∧ tiny = (e : EReal) := by
  refine ⟨_, ?_, (by simp [tiny, Ideal.ofBits, Ideal.ieee, -EReal.coe_mul]; rfl)⟩
  positivity
theorem weight_real : IsR weight := by
  refine ⟨_, (by simp [weight, Ideal.ofBits, Ideal.ieee, -EReal.coe_mul]; rfl)⟩

variable (x d g b : Fin 1024 → EReal)

/-- The mean of a row. -/
def mean : EReal := Ideal.div (∑ k, x k) count
/-- The row with its mean subtracted. -/
def cen (k : Fin 1024) : EReal := x k - mean x
/-- The variance, a little more than it. -/
def spread : EReal := mean (fun k => cen x k * cen x k) + tiny
/-- The reciprocal of the deviation. -/
def rstd : EReal := Ideal.rsqrt (spread x)
/-- The normalised row. -/
def hat (k : Fin 1024) : EReal := cen x k * rstd x
/-- The layer norm. -/
def norm (k : Fin 1024) : EReal := hat x k * g k + b k

/-- The derivative of the normalised row along `d`, in three terms. -/
def back (k : Fin 1024) : EReal := rstd x * (d k - mean d - hat x k * mean (fun j => d j * hat x j))

/-- What the derivative brings through the variance. -/
def through : EReal :=
  Ideal.div ((∑ k, cen x k * d k) * (Ideal.ofBits .f32 0xBF000000#32 * Ideal.div (rstd x) (spread x))) count

/-- The derivative taken step by step. -/
def backSteps (k : Fin 1024) : EReal :=
  d k * rstd x + through x d * (Ideal.ofBits .f32 0x40000000#32 * cen x k)
    + Ideal.div ((∑ j, -(d j * rstd x)) + ∑ j, -(through x d * (Ideal.ofBits .f32 0x40000000#32 * cen x j))) count

section Coe
variable (u v : Fin 1024 → ℝ)

theorem mean_coe : mean (fun k => (u k : EReal)) = (((∑ k, u k) / 1024 : ℝ) : EReal) := by
  unfold mean
  rw [Attn.sum_coe, count_eq, Attn.div_coe _ _ (by norm_num)]

/-- The real row with its mean subtracted. -/
def cenR (k : Fin 1024) : ℝ := u k - (∑ j, u j) / 1024

theorem cen_coe (k : Fin 1024) : cen (fun k => (u k : EReal)) k = ((cenR u k : ℝ) : EReal) := by
  unfold cen
  rw [mean_coe, ← EReal.coe_sub]; rfl

theorem sum_cenR : ∑ k, cenR u k = 0 := by
  unfold cenR
  rw [Finset.sum_sub_distrib, Finset.sum_const, Finset.card_univ, Fintype.card_fin, nsmul_eq_mul]
  push_cast
  ring

theorem spread_coe : ∃ w : ℝ, 0 < w ∧ spread (fun k => (u k : EReal)) = (w : EReal) := by
  obtain ⟨e, he, h⟩ := tiny_eq
  refine ⟨(∑ k, cenR u k * cenR u k) / 1024 + e, ?_, ?_⟩
  · have : 0 ≤ ∑ k, cenR u k * cenR u k := Finset.sum_nonneg fun k _ => mul_self_nonneg _
    positivity
  · unfold spread
    rw [h, EReal.coe_add, ← mean_coe]
    simp only [cen_coe, EReal.coe_mul]

/-- The deviation's reciprocal is a real number, of which the square is the reciprocal of the variance. -/
theorem rstd_coe : ∃ s w : ℝ, w ≠ 0 ∧ s * s * w = 1 ∧ rstd (fun k => (u k : EReal)) = (s : EReal) ∧ spread (fun k => (u k : EReal)) = (w : EReal) := by
  obtain ⟨w, hw, h⟩ := spread_coe u
  refine ⟨(Real.sqrt w)⁻¹, w, hw.ne', ?_, ?_, h⟩
  · have h1 : Real.sqrt w * Real.sqrt w = w := Real.mul_self_sqrt hw.le
    have h2 : Real.sqrt w ≠ 0 := (Real.sqrt_pos.2 hw).ne'
    field_simp
    rw [pow_two, h1]
  · unfold rstd
    rw [h, Ideal.rsqrt_coe, if_neg (not_lt.2 hw.le), if_neg hw.ne']

/-- The derivative's two forms over the reals. -/
theorem back_real (s w : ℝ) (hw : w ≠ 0) (h : s * s * w = 1) (k : Fin 1024) :
    s * (v k - (∑ j, v j) / 1024 - cenR u k * s * ((∑ j, v j * (cenR u j * s)) / 1024))
      = v k * s + (∑ j, cenR u j * v j) * (-(1 / 2) * (s / w)) / 1024 * (2 * cenR u k)
        + ((∑ j, -(v j * s)) + ∑ j, -((∑ j, cenR u j * v j) * (-(1 / 2) * (s / w)) / 1024 * (2 * cenR u j))) / 1024 := by
  have e1 : ∑ j, v j * (cenR u j * s) = s * ∑ j, cenR u j * v j := by
    rw [Finset.mul_sum]; exact Finset.sum_congr rfl fun j _ => by ring
  have e2 : ∑ j, -(v j * s) = -s * ∑ j, v j := by
    rw [Finset.mul_sum]; exact Finset.sum_congr rfl fun j _ => by ring
  generalize hC : ∑ j, cenR u j * v j = C at *
  have e3 : ∑ j, -(C * (-(1 / 2) * (s / w)) / 1024 * (2 * cenR u j)) = 0 := by
    have : ∀ j, -(C * (-(1 / 2) * (s / w)) / 1024 * (2 * cenR u j)) = (-(C * (-(1 / 2) * (s / w)) / 1024 * 2)) * cenR u j := fun j => by ring
    simp only [this]
    rw [← Finset.mul_sum, sum_cenR, mul_zero]
  rw [e1, e2, e3]
  have e4 : s / w = s * s * s := by
    rw [div_eq_iff hw]; linear_combination (-s) * h
  rw [e4]
  ring

end Coe

theorem back_eq (hx : ∀ k, IsR (x k)) (hd : ∀ k, IsR (d k)) (k : Fin 1024) : back x d k = backSteps x d k := by
  choose u hu using hx
  choose v hv using hd
  obtain rfl : x = fun k => (u k : EReal) := funext hu
  obtain rfl : d = fun k => (v k : EReal) := funext hv
  obtain ⟨s, w, hw, h, hs, hsp⟩ := rstd_coe u
  have hthr : through (fun k => (u k : EReal)) (fun k => (v k : EReal))
      = (((∑ j, cenR u j * v j) * (-(1 / 2) * (s / w)) / 1024 : ℝ) : EReal) := by
    unfold through
    rw [hs, hsp, neg_half_eq, Attn.div_coe _ _ hw, count_eq]
    simp only [cen_coe, ← EReal.coe_mul]
    rw [Attn.sum_coe, ← EReal.coe_mul, Attn.div_coe _ _ (by norm_num)]
  unfold back backSteps hat
  rw [hs, hthr, two_eq, count_eq]
  simp only [cen_coe, ← EReal.coe_mul, mean_coe, ← EReal.coe_sub, ← EReal.coe_neg]
  rw [Attn.sum_coe, Attn.sum_coe, ← EReal.coe_add, ← EReal.coe_add, Attn.div_coe _ _ (by norm_num), ← EReal.coe_add]
  exact congrArg _ (back_real u v s w hw h k)

theorem mean_isR (hx : ∀ k, IsR (x k)) : IsR (mean x) := by
  choose u hu using hx
  obtain rfl : x = fun k => (u k : EReal) := funext hu
  exact ⟨_, mean_coe u⟩

theorem hat_isR (hx : ∀ k, IsR (x k)) (k : Fin 1024) : IsR (hat x k) := by
  choose u hu using hx
  obtain rfl : x = fun k => (u k : EReal) := funext hu
  obtain ⟨s, w, -, -, hs, -⟩ := rstd_coe u
  exact ⟨cenR u k * s, by unfold hat; rw [cen_coe, hs, EReal.coe_mul]⟩

theorem norm_isR (hx : ∀ k, IsR (x k)) (hg : ∀ k, IsR (g k)) (hb : ∀ k, IsR (b k)) (k : Fin 1024) : IsR (norm x g b k) :=
  ((hat_isR x hx k).mul (hg k)).add (hb k)

end Step
end
end
-- ==== Proof.Step.DH1Ref.lean ====
/-
  What the reference for the derivative through the channel sublayer's first product and the first layer norm computes:
  the two results, place by place.
-/
module
public import proofs.«01_k».proof.Defs
public import proofs.«01_k».proof.Proof.Gen.RDH1Ideal
public import proofs.«01_k».proof.Proof.Gen.RDH1Ideal.Run
public import proofs.«01_k».proof.Proof.Gen.RDH1Ideal.Read
public import Idealize.ShloMosaic.Lib.ValueIdxCore
public import Idealize.ShloMosaic.Lib.KernelVsHost
public import proofs.«01_k».proof.Proof.Step.Base
public import proofs.«01_k».proof.Proof.Step.NormMath
@[expose] public section
set_option maxRecDepth 16384
noncomputable section
namespace Step.DH1
open Cert.RDH1Ideal Cert.RDH1Ideal.Read Idealize.ShloMosaic

/-- The derivative along a token's normalised row: the residual's part and the product's, a group of columns from each
    piece of the weight. -/
def dh (U : S8192x4096.Idx → EReal) (W : S4x1024x1024.Idx → EReal) (P : S8192x1024.Idx → EReal) (t : Fin 8192) (k : Fin 1024) : EReal :=
  weight * P (ix2 t k) + ∑ l : Fin 4096, U (ix2 t l) * W (ix3 ⟨l.val / 1024, by omega⟩ k ⟨l.val % 1024, Nat.mod_lt _ (by decide)⟩)

/-- The product's part, one group of 1024 columns after the other. -/
theorem dh_split (U : S8192x4096.Idx → EReal) (W : S4x1024x1024.Idx → EReal) (P : S8192x1024.Idx → EReal) (t : Fin 8192) (k : Fin 1024) :
    dh U W P t k = weight * P (ix2 t k) + ∑ l : Fin 1024, U (ix2 t ⟨l.val, by omega⟩) * W (ix3 0 k l)
      + ∑ l : Fin 1024, U (ix2 t ⟨1024 + l.val, by omega⟩) * W (ix3 1 k l) + ∑ l : Fin 1024, U (ix2 t ⟨2048 + l.val, by omega⟩) * W (ix3 2 k l)
      + ∑ l : Fin 1024, U (ix2 t ⟨3072 + l.val, by omega⟩) * W (ix3 3 k l) := by
  have hs : ∑ l : Fin 4096, U (ix2 t l) * W (ix3 ⟨l.val / 1024, by omega⟩ k ⟨l.val % 1024, Nat.mod_lt _ (by decide)⟩)
      = ∑ s : Fin 4, ∑ l : Fin 1024, U (ix2 t ⟨s.val * 1024 + l.val, by omega⟩) * W (ix3 s k l) := by
    refine (Fin.sum_mul_add_congr (fun s l hl => ?_) (by decide)).symm
    exact congrArg (U _ * ·) (congrArg W (ext3 (show s.val = (s.val * 1024 + l.val) / 1024 by omega) rfl (show l.val = (s.val * 1024 + l.val) % 1024 by omega)))
  unfold dh
  rw [hs, Fin.sum_univ_four, ← add_assoc, ← add_assoc, ← add_assoc]
  refine congrArg₂ (· + ·) (congrArg₂ (· + ·) (congrArg₂ (· + ·) (congrArg (weight * P (ix2 t k) + ·) ?_) ?_) ?_) ?_
  · exact Fin.sum_fin_congr fun l => congrArg (· * _) (congrArg U (ext2 rfl (by show 0 * 1024 + l.val = l.val; omega)))
  · exact Fin.sum_fin_congr fun l => congrArg (· * _) (congrArg U (ext2 rfl (by show 1 * 1024 + l.val = 1024 + l.val; omega)))
  · exact Fin.sum_fin_congr fun l => congrArg (· * _) (congrArg U (ext2 rfl (by show 2 * 1024 + l.val = 2048 + l.val; omega)))
  · exact Fin.sum_fin_congr fun l => congrArg (· * _) (congrArg U (ext2 rfl (by show 3 * 1024 + l.val = 3072 + l.val; omega)))

/-- The first result: the derivative along the residual before the layer norm. -/
def dpre (U : S8192x4096.Idx → EReal) (W : S4x1024x1024.Idx → EReal) (P X : S8192x1024.Idx → EReal) (g : S1024.Idx → EReal) : S8192x1024.Idx → EReal :=
  fun i => back (fun k => X (ix2 (i 0) k)) (fun k => dh U W P (i 0) k * g (ix1 k)) (i 1)

/-- The second result: the scale's derivative, the shift's, and six rows of zeros. -/
def rows (U : S8192x4096.Idx → EReal) (W : S4x1024x1024.Idx → EReal) (P X : S8192x1024.Idx → EReal) : S8x1024.Idx → EReal :=
  fun i => if (i 0).val = 0 then ∑ t : Fin 8192, dh U W P t (i 1) * hat (fun k => X (ix2 t k)) (i 1)
    else if (i 0).val = 1 then ∑ t : Fin 8192, dh U W P t (i 1) else 0

section Reference
variable (U : (⟨S8192x4096, .bf16⟩ : BufTy).Contents (Elt Ideal)) (W : (⟨S4x1024x1024, .bf16⟩ : BufTy).Contents (Elt Ideal))
  (P X : (⟨S8192x1024, .f32⟩ : BufTy).Contents (Elt Ideal)) (g : (⟨S1024, .f32⟩ : BufTy).Contents (Elt Ideal))

theorem v3 (i : S8192x1.Idx) : val_main_v3 (F := Ideal) X i = mean (fun k => X (ix2 (i 0) k)) := by
  rw [val_main_v3_apply, val_main_v1_apply, val_main_v0_apply, val_main_v2_apply]
  exact congrArg (Ideal.div · count) (hostSum fun k => congrArg X (ext2 rfl rfl))

theorem v5 (i : S8192x1024.Idx) : val_main_v5 (F := Ideal) X i = cen (fun k => X (ix2 (i 0) k)) (i 1) := by
  rw [val_main_v5_apply, val_main_v4_apply, v3]
  exact congrArg (· - mean (fun k => X (ix2 (i 0) k))) (congrArg X (ext2 rfl rfl))

theorem v14 (i : S8192x1024.Idx) : val_main_v14 (F := Ideal) X i = cen (fun k => X (ix2 (i 0) k)) (i 1) := by
  rw [val_main_v14_apply, val_main_v13_apply, v3]
  exact congrArg (· - mean (fun k => X (ix2 (i 0) k))) (congrArg X (ext2 rfl rfl))

theorem v16 (i : S8192x1.Idx) : val_main_v16 (F := Ideal) X i = spread (fun k => X (ix2 (i 0) k)) := by
  rw [val_main_v16_apply, val_main_v12_apply, val_main_v10_apply, val_main_v9_apply, val_main_v11_apply, val_main_v15_apply]
  refine congrArg (· + tiny) (congrArg (Ideal.div · count) (hostSum fun k => ?_))
  rw [val_main_v6_apply, v5]
  rfl

theorem v17 (i : S8192x1.Idx) : val_main_v17 (F := Ideal) X i = rstd (fun k => X (ix2 (i 0) k)) := by
  rw [val_main_v17_apply, v16]
  rfl

theorem v22 (i : S8192x1024.Idx) : val_main_v22 (F := Ideal) X i = hat (fun k => X (ix2 (i 0) k)) (i 1) := by
  rw [val_main_v22_apply, val_main_v21_apply, v14, v17]
  rfl

theorem columns (i : S1024x4096.Idx) : val_main_v38 (F := Ideal) W i = W (ix3 ⟨(i 1).val / 1024, by
    have h1 : (i 1).val < 4096 := (i 1).isLt
    omega⟩ (i 0) ⟨(i 1).val % 1024, Nat.mod_lt _ (by decide)⟩) := by
  pointwise [val_main_v38, val_main_v37, val_main_v36, val_main_v35, val_main_v34, val_main_v33, val_main_v32, val_main_v31, val_main_v30, val_main_v29]
  have hi : (i 1).val < 4096 := (i 1).isLt
  by_cases h0 : (i 1).val < 1024
  · rw [dif_pos h0]
    exact congrArg W (ext3 (by show 0 = (i 1).val / 1024; omega) rfl (by show (i 1).val = (i 1).val % 1024; omega))
  rw [dif_neg h0]
  by_cases h1 : (i 1).val - 1024 < 1024
  · rw [dif_pos h1]
    exact congrArg W (ext3 (by show 1 = (i 1).val / 1024; omega) rfl (by show (i 1).val - 1024 = (i 1).val % 1024; omega))
  rw [dif_neg h1]
  by_cases h2 : (i 1).val - 1024 - 1024 < 1024
  · rw [dif_pos h2]
    exact congrArg W (ext3 (by show 2 = (i 1).val / 1024; omega) rfl (by show (i 1).val - 1024 - 1024 = (i 1).val % 1024; omega))
  rw [dif_neg h2]
  exact congrArg W (ext3 (by show 3 = (i 1).val / 1024; omega) rfl (by show (i 1).val - 1024 - 1024 - 1024 = (i 1).val % 1024; omega))

theorem v46 (i : S8192x1024.Idx) : val_main_v46 (F := Ideal) U W P i = dh U W P (i 0) (i 1) := by
  rw [val_main_v46_apply, val_main_v44_apply, val_main_v43_apply, val_main_v45_apply]
  refine congrArg₂ (· + ·) (congrArg (weight * ·) (congrArg P (ext2 rfl rfl))) (Finset.sum_congr rfl fun l _ => ?_)
  rw [val_main_v42_apply, columns]
  exact congrArg₂ (· * ·) (congrArg U (ext2 rfl rfl)) (congrArg W (ext3 rfl rfl rfl))

theorem v49 (i : S1024.Idx) : val_main_v49 (F := Ideal) U W P i = ∑ t : Fin 8192, dh U W P t (i 0) := by
  rw [val_main_v49_apply]
  refine (hostSum1 _).trans ?_
  rw [val_main_v48_apply, val_main_v47_apply]
  refine hostSum fun t => ?_
  rw [v46]
  exact congrArg (dh U W P t) (Fin.ext (by show 0 * 1024 + (i 0).val = (i 0).val; omega))

theorem v55 (i : S1024.Idx) : val_main_v55 (F := Ideal) U W P X i = ∑ t : Fin 8192, dh U W P t (i 0) * hat (fun k => X (ix2 t k)) (i 0) := by
  rw [val_main_v55_apply]
  refine (hostSum1 _).trans ?_
  rw [val_main_v52_apply, val_main_v51_apply]
  refine hostSum fun t => ?_
  rw [val_main_v50_apply, v46, v22]
  have e : ∀ h, (⟨0 * 1024 + (i 0).val, h⟩ : Fin 1024) = i 0 := fun h => Fin.ext (by show 0 * 1024 + (i 0).val = (i 0).val; omega)
  refine (mul_comm _ _).trans ?_
  exact congrArg (fun k : Fin 1024 => dh U W P t k * hat (fun k => X (ix2 t k)) k) (e _)

/-- The derivative along the normalised row before the scale. -/
theorem v54 (i : S8192x1024.Idx) : val_main_v54 (F := Ideal) U W P g i = dh U W P (i 0) (i 1) * g (ix1 (i 1)) := by
  rw [val_main_v54_apply, v46, val_main_v53_apply, val_main_v23_apply]
  exact congrArg (dh U W P (i 0) (i 1) * ·) (congrArg g (funext fun a => match a with | ⟨0, _⟩ => rfl))

theorem v60 (i : S8192x1024.Idx) : val_main_v60 (F := Ideal) U W P X g i
    = dh U W P (i 0) (i 1) * g (ix1 (i 1)) * rstd (fun k => X (ix2 (i 0) k)) := by
  rw [val_main_v60_apply, v54, val_main_v59_apply, v17]
  rfl

theorem v68 (i : S8192x1024.Idx) : val_main_v68 (F := Ideal) U W P X g i
    = through (fun k => X (ix2 (i 0) k)) (fun k => dh U W P (i 0) k * g (ix1 k)) := by
  rw [val_main_v68_apply, val_main_v67_apply]
  refine (hostSum1 _).trans ?_
  rw [val_main_v66_apply, val_main_v61_apply, val_main_v58_apply, val_main_v57_apply, val_main_v65_apply, val_main_v20_apply, val_main_v19_apply, val_main_v18_apply, v17, v16]
  refine congrArg (Ideal.div · count) (congrArg (· * _) (hostSum fun k => ?_))
  rw [val_main_v56_apply, show idx_main_v57 (idx_main_v58 (idx_main_v67 (idx_main_v68 i) 0)) k = (ix2 (n0 := 8192) (n1 := 1024) (i 0) k : S8192x1024.Idx) from ext2 (by show (i 0).val * 1 + 0 = (i 0).val; omega) rfl, v14, v54]
  rfl

theorem v69 (i : S8192x1024.Idx) : val_main_v69 (F := Ideal) U W P X g i
    = through (fun k => X (ix2 (i 0) k)) (fun k => dh U W P (i 0) k * g (ix1 k)) * (Ideal.ofBits .f32 0x40000000#32 * cen (fun k => X (ix2 (i 0) k)) (i 1)) := by
  rw [val_main_v69_apply, v68, val_main_v8_apply, val_main_v7_apply, v5]
  rfl

theorem v79 (i : S8192x1024.Idx) : val_main_v79 (F := Ideal) U W P X g i
    = backSteps (fun k => X (ix2 (i 0) k)) (fun k => dh U W P (i 0) k * g (ix1 k)) (i 1) := by
  rw [val_main_v79_apply, val_main_v73_apply, v60, v69, val_main_v78_apply, val_main_v77_apply]
  refine congrArg₂ (· + ·) rfl ((hostSum1 _).trans ?_)
  rw [val_main_v76_apply, val_main_v74_apply, val_main_v64_apply, val_main_v63_apply, val_main_v72_apply, val_main_v71_apply, val_main_v75_apply]
  refine congrArg (Ideal.div · count) (congrArg₂ (· + ·) (hostSum fun k => ?_) (hostSum fun k => ?_))
  · rw [val_main_v62_apply, show idx_main_v63 (idx_main_v64 (idx_main_v77 (idx_main_v78 i) 0)) k = (ix2 (n0 := 8192) (n1 := 1024) (i 0) k : S8192x1024.Idx) from ext2 (by show (i 0).val * 1 + 0 = (i 0).val; omega) rfl, v60, Ideal.hostNegf_def, Ideal.negf_def]
    rfl
  · rw [val_main_v70_apply, show idx_main_v71 (idx_main_v72 (idx_main_v77 (idx_main_v78 i) 0)) k = (ix2 (n0 := 8192) (n1 := 1024) (i 0) k : S8192x1024.Idx) from ext2 (by show (i 0).val * 1 + 0 = (i 0).val; omega) rfl, v69, Ideal.hostNegf_def, Ideal.negf_def]
    rfl

theorem value_rows : val_main_v83 (F := Ideal) U W P X = rows U W P X := by
  funext i
  unfold val_main_v83
  have e80 : ∀ j, val_main_v80 (F := Ideal) U W P X j = ∑ t : Fin 8192, dh U W P t (j 1) * hat (fun k => X (ix2 t k)) (j 1) := fun j => by
    rw [val_main_v80_apply, v55]
    rfl
  have e81 : ∀ j, val_main_v81 (F := Ideal) U W P j = ∑ t : Fin 8192, dh U W P t (j 1) := fun j => by
    rw [val_main_v81_apply, v49]
    rfl
  have e82 : ∀ j, val_main_v82 (F := Ideal) j = (0 : EReal) := fun j => by
    rw [val_main_v82_apply]; exact Ideal.ofBits_zero_f32
  generalize val_main_v80 (F := Ideal) U W P X = a at *
  generalize val_main_v81 (F := Ideal) U W P = b at *
  generalize val_main_v82 (F := Ideal) = z at *
  pointwise []
  unfold rows
  have hi : (i 0).val = 0 ∨ (i 0).val = 1 ∨ 2 ≤ (i 0).val := by omega
  rcases hi with hi | hi | hi
  · rw [dif_pos (by omega)]
    exact (e80 _).trans (if_pos hi).symm
  · rw [dif_neg (by omega), dif_pos (by omega)]
    exact (e81 _).trans ((if_neg (by omega)).trans (if_pos hi)).symm
  · rw [dif_neg (by omega), dif_neg (by omega)]
    exact (e82 _).trans ((if_neg (by omega)).trans (if_neg (by omega))).symm

/-- What the precondition asks, as the value proof uses it. -/
structure Real : Prop where
  u : ∀ i, IsR (U i)
  w : ∀ i, IsR (W i)
  p : ∀ i, IsR (P i)
  x : ∀ i, IsR (X i)
  g : ∀ i, IsR (g i)

theorem dh_isR (h : Real U W P X g) (t : Fin 8192) (k : Fin 1024) : IsR (dh U W P t k) :=
  (weight_real.mul (h.p _)).add (IsR.sum fun _ => (h.u _).mul (h.w _))

theorem value_dpre (h : Real U W P X g) : val_main_v79 (F := Ideal) U W P X g = dpre U W P X g := by
  funext i
  rw [v79]
  exact (back_eq _ _ (fun k => h.x _) (fun k => (dh_isR U W P X g h _ _).mul (h.g _)) _).symm

end Reference
end Step.DH1
end
end
-- ==== Proof.Step.DH1.lean ====
module
public import proofs.«01_k».proof.Defs
public import proofs.«01_k».proof.Proof.Gen.KDH1
public import proofs.«01_k».proof.Proof.Gen.KDH1.Skeleton
public import proofs.«01_k».proof.Proof.Gen.KDH1.Launch
public import proofs.«01_k».proof.Proof.Gen.KDH1.Points
public import proofs.«01_k».proof.Proof.Gen.KDH1.Frame
public import proofs.«01_k».proof.Proof.Gen.KDH1Ideal
public import proofs.«01_k».proof.Proof.Gen.KDH1Ideal.Skeleton
public import proofs.«01_k».proof.Proof.Gen.KDH1Ideal.Launch
public import proofs.«01_k».proof.Proof.Gen.KDH1Ideal.Points
public import proofs.«01_k».proof.Proof.Gen.KDH1Ideal.Frame
public import proofs.«01_k».proof.Proof.Gen.KDH1Ideal.Value
public import proofs.«01_k».proof.Proof.Gen.RDH1Ideal
public import proofs.«01_k».proof.Proof.Gen.RDH1Ideal.Run
public import proofs.«01_k».proof.Proof.Gen.RDH1Ideal.Read
public import Idealize.ShloMosaic.Adequacy
public import Idealize.ShloMosaic.Init
public import Idealize.ShloMosaic.Lib.ValueIdxCore
public import Idealize.ShloMosaic.Lib.KernelVsHost
public import proofs.«01_k».proof.Proof.Attn.Finite
public import proofs.«01_k».proof.Proof.Step.Base
public import proofs.«01_k».proof.Proof.Step.DH1Ref
@[expose] public section
set_option maxRecDepth 16384
noncomputable section
namespace Step.DH1
open Cert.KDH1Ideal Cert.KDH1Ideal.Gen Idealize.ShloMosaic Idealize.ShloMosaic.TcCoe Idealize.SL.Sem

variable (m : (ℓ : Loc nD τ sig) → Buf (Elt Ideal) ℓ) (c : Dev nD)

theorem pay2 (v0 : Vec Ideal S512x1024 .f32) (d0 : Vec Ideal S512x1024 .bf16) (w0 : Vec Ideal S1x1024x1024 .bf16) (d1 : Vec Ideal S512x1024 .bf16) (w1 : Vec Ideal S1x1024x1024 .bf16)
    (d2 : Vec Ideal S512x1024 .bf16) (w2 : Vec Ideal S1x1024x1024 .bf16) (d3 : Vec Ideal S512x1024 .bf16) (w3 : Vec Ideal S1x1024x1024 .bf16) (j : S512x1024.Idx) :
    k0_pay2 v0 d0 w0 d1 w1 d2 w2 d3 w3 j = weight * v0 j + ∑ k : Fin 1024, d0 (ix2 (j 0) k) * w0 (ix3 0 (j 1) k) + ∑ k : Fin 1024, d1 (ix2 (j 0) k) * w1 (ix3 0 (j 1) k)
      + ∑ k : Fin 1024, d2 (ix2 (j 0) k) * w2 (ix3 0 (j 1) k) + ∑ k : Fin 1024, d3 (ix2 (j 0) k) * w3 (ix3 0 (j 1) k) := by
  pointwise [k0_pay2]
  rfl

theorem pay3 (x : Vec Ideal S512x1024 .f32) (j : S512x1.Idx) : k0_pay3 x j = mean (fun k => x (ix2 (j 0) k)) := by
  pointwise [k0_pay3]
  rfl

theorem pay4 (x : Vec Ideal S512x1024 .f32) (j : S512x1024.Idx) : k0_pay4 x (k0_pay3 x) j = cen (fun k => x (ix2 (j 0) k)) (j 1) := by
  have e : j = ix2 (j 0) (j 1) := ext2 rfl rfl
  have h := pay3 x
  generalize k0_pay3 x = y at *
  pointwise [k0_pay4]
  rw [h]
  exact congrArg (· - mean (fun k => x (ix2 (j 0) k))) (congrArg x e)

theorem pay5 (x : Vec Ideal S512x1024 .f32) (j : S512x1.Idx) : k0_pay5 x (k0_pay3 x) j = rstd (fun k => x (ix2 (j 0) k)) := by
  have h := pay4 x
  unfold k0_pay5
  generalize k0_pay4 x (k0_pay3 x) = y at *
  pointwise []
  simp only [h]
  rfl

theorem pay6 (x : Vec Ideal S512x1024 .f32) (j : S512x1024.Idx) : k0_pay6 x (k0_pay3 x) j = hat (fun k => x (ix2 (j 0) k)) (j 1) := by
  have h := pay4 x
  have h5 := pay5 x
  unfold k0_pay6
  generalize k0_pay4 x (k0_pay3 x) = y at *
  generalize k0_pay5 x (k0_pay3 x) = z at *
  pointwise []
  rw [h, h5]
  rfl

theorem pay7 (d x : Vec Ideal S512x1024 .f32) (g : Vec Ideal S1x1024 .f32) (j : S512x1024.Idx) :
    k0_pay7 d x (k0_pay3 x) g j = back (fun k => x (ix2 (j 0) k)) (fun k => d (ix2 (j 0) k) * g (ix2 0 k)) (j 1) := by
  have e : j = ix2 (j 0) (j 1) := ext2 rfl rfl
  have h5 := pay5 x
  have h6 := pay6 x
  unfold k0_pay7
  generalize k0_pay5 x (k0_pay3 x) = y at *
  generalize k0_pay6 x (k0_pay3 x) = z at *
  pointwise []
  simp only [h5, h6]
  rw [e]
  rfl

theorem pay8 (d x : Vec Ideal S512x1024 .f32) (j : S8x1024.Idx) :
    k0_pay8 d x (k0_pay3 x) j = if (j 0).val = 0 then ∑ r : Fin 512, d (ix2 r (j 1)) * hat (fun k => x (ix2 r k)) (j 1)
      else if (j 0).val = 1 then ∑ r : Fin 512, d (ix2 r (j 1)) else 0 := by
  have h6 := pay6 x
  unfold k0_pay8
  generalize k0_pay6 x (k0_pay3 x) = z at *
  pointwise []
  have hj : (j 0).val < 8 := (j 0).isLt
  have hi : (j 0).val = 0 ∨ (j 0).val = 1 ∨ 2 ≤ (j 0).val := by omega
  rcases hi with hi | hi | hi
  · rw [dif_pos (by omega)]
    refine Eq.trans ?_ (if_pos hi).symm
    refine Fin.sum_fin_congr fun r => ?_
    rw [h6]
    rfl
  · rw [dif_neg (by omega), dif_pos (by omega)]
    exact ((if_neg (by omega)).trans (if_pos hi)).symm
  · rw [dif_neg (by omega), dif_neg (by omega)]
    have h0 : ¬ (j 0).val = 0 := by omega
    have h1 : ¬ (j 0).val = 1 := by omega
    exact Eq.trans (by first | rfl | exact Ideal.ofBits_zero_f32) ((if_neg h0).trans (if_neg h1)).symm

theorem pay1 (a o : Vec Ideal S8x1024 .f32) (j : S8x1024.Idx) : k0_pay1 a o j = o j + a j := by
  pointwise [k0_pay1]

theorem V_v0 (k : Fin 1024) : V m c main_v0 (ix2 0 k) = m ((c : Thread nD τ).loc main_arg4) (ix1 k) := by
  have h : V m c main_v0 = shapeCast S1x1024 (m ((c : Thread nD τ).loc main_arg4)) Gen.shapeCasts_S1024_S1x1024 := by
    show StableHlo.after hostOps0 _ _ = _
    simp only [hostOps0]
    after_results_simp
    rfl
  rw [h]
  pointwise []

/-- A block's derivative along the normalised rows, from the blocks the point reads. -/
theorem block_dh (t : Fin cfg0.N) (r : Fin 512) (k : Fin 1024) (h : t.val * 512 + r.val < 8192) :
    k0_pay2 (iblk m c 2 t) (View.ld (iblk m c 0 t) (Rect.unit ![0, 0] ![512, 1024] inb_S512x4096_S512x1024_0_0))
      (View.ld (iblk m c 1 t) (Rect.unit ![0, 0, 0] ![1, 1024, 1024] inb_S4x1024x1024_S1x1024x1024_0_0_0))
      (View.ld (iblk m c 0 t) (Rect.unit ![0, 1024] ![512, 1024] inb_S512x4096_S512x1024_0_1024))
      (View.ld (iblk m c 1 t) (Rect.unit ![1, 0, 0] ![1, 1024, 1024] inb_S4x1024x1024_S1x1024x1024_1_0_0))
      (View.ld (iblk m c 0 t) (Rect.unit ![0, 2048] ![512, 1024] inb_S512x4096_S512x1024_0_2048))
      (View.ld (iblk m c 1 t) (Rect.unit ![2, 0, 0] ![1, 1024, 1024] inb_S4x1024x1024_S1x1024x1024_2_0_0))
      (View.ld (iblk m c 0 t) (Rect.unit ![0, 3072] ![512, 1024] inb_S512x4096_S512x1024_0_3072))
      (View.ld (iblk m c 1 t) (Rect.unit ![3, 0, 0] ![1, 1024, 1024] inb_S4x1024x1024_S1x1024x1024_3_0_0)) (ix2 r k)
      = dh (V m c main_arg0) (V m c main_arg1) (V m c main_arg2) ⟨t.val * 512 + r.val, h⟩ k := by
  rw [pay2, dh_split]
  have e0 : ∀ t, win0_0.index t = ![t.val, 0] := by decide +kernel
  have e1 : ∀ t, win0_1.index t = ![0, 0, 0] := by decide +kernel
  have e2 : ∀ t, win0_2.index t = ![t.val, 0] := by decide +kernel
  refine congrArg₂ (· + ·) (congrArg₂ (· + ·) (congrArg₂ (· + ·) (congrArg₂ (· + ·) (congrArg (weight * ·) ?_) ?_) ?_) ?_) ?_
  · blk_point [iblk, e2]
  · refine Fin.sum_fin_congr fun l => ?_
    blk_point [iblk, e0, e1]
  · refine Fin.sum_fin_congr fun l => ?_
    blk_point [iblk, e0, e1]
  · refine Fin.sum_fin_congr fun l => ?_
    blk_point [iblk, e0, e1]
  · refine Fin.sum_fin_congr fun l => ?_
    blk_point [iblk, e0, e1]

/-- A block's rows before the layer norm. -/
theorem block_x (t : Fin cfg0.N) (r : Fin 512) (h : t.val * 512 + r.val < 8192) :
    (fun k : Fin 1024 => iblk m c 3 t (ix2 r k)) = fun k => V m c main_arg3 (ix2 ⟨t.val * 512 + r.val, h⟩ k) := by
  funext k
  have e3 : ∀ t, win0_3.index t = ![t.val, 0] := by decide +kernel
  blk_point [iblk, e3]

/-- The scale's block is the whole scale. -/
theorem block_g (t : Fin cfg0.N) (k : Fin 1024) : iblk m c 4 t (ix2 0 k) = V m c main_v0 (ix2 0 k) := by
  have e4 : ∀ t, win0_4.index t = ![0, 0] := by decide +kernel
  blk_point [iblk, e4]

theorem lt16 (t : Fin cfg0.N) : t.val < 16 := lt_of_lt_of_eq t.isLt N_0

theorem arr6 : (dats m 0 c).arrAt 6 cfg0.N = dpre (V m c main_arg0) (V m c main_arg1) (V m c main_arg2) (V m c main_arg3) (fun i => V m c main_v0 (ix2 0 (i 0))) := by
  refine (dats m 0 c).arrAt_eq_of_covers 6 _ (by decide +kernel) fun t hf y => ?_
  have ht16 := lt16 t
  blk_simp
  have e6 : ∀ t, win0_6.index t = ![t.val, 0] := by decide +kernel
  have hy : (y 0).val < 512 := (y 0).isLt
  have hr : t.val * 512 + (y 0).val < 8192 := by omega
  have e : ∀ f : S8192x1024.Idx → EReal, f (((View.whole main_v2_0).slice (win0_6.rect t)).emb y) = f (ix2 ⟨t.val * 512 + (y 0).val, hr⟩ (y 1)) := fun f => by
    blk_point [e6]
  refine Eq.trans ?_ (e _).symm
  rw [after0_6]
  by_cases ht : t.val % 16 = 0
  · rw [outsAt0_A m c t ht (by omega)]
    frame_out
    rw [pay7, block_x m c t _ hr]
    refine congrArg (fun d => back _ d (y 1)) (funext fun k => ?_)
    exact congrArg₂ (· * ·) (block_dh m c t _ k hr) (block_g m c t k)
  · rw [outsAt0_B m c t ht (by omega)]
    frame_out
    rw [pay7, block_x m c t _ hr]
    refine congrArg (fun d => back _ d (y 1)) (funext fun k => ?_)
    exact congrArg₂ (· * ·) (block_dh m c t _ k hr) (block_g m c t k)

/-- Sixteen blocks of 512 tokens are all the tokens. -/
theorem tokens (f : Fin 8192 → EReal) (F : Fin 16 → Fin 512 → EReal) (h : ∀ s k hl, F s k = f ⟨s.val * 512 + k.val, hl⟩) : ∑ s : Fin 16, ∑ k : Fin 512, F s k = ∑ l : Fin 8192, f l :=
  Fin.sum_mul_add_congr h (by decide)

theorem arr7 : (dats m 0 c).arrAt 7 cfg0.N = rows (V m c main_arg0) (V m c main_arg1) (V m c main_arg2) (V m c main_arg3) := by
  refine (dats m 0 c).arrAt_eq_of_after_last 7 t0_15 (by decide +kernel) _ fun j => ?_
  blk_simp
  rw [after0_7, Pipeline.eq_sum_fin_of_reset_step_apply_last (fun n h => (outsAt0 m c n h).2) 16 (fun _ => 0) _
    (fun t h j => by have := lt16 t; rw [outsAt0_A m c t h (by omega)]; frame_out; rw [zero_add])
    (fun t h j => by have := lt16 t; rw [outsAt0_B m c t h (by omega)]; frame_out; rw [pay1]) (le_of_eq Gen.N_0) t0_15 rfl j, zero_add]
  simp only [pay8]
  unfold rows
  have hi : (j 0).val = 0 ∨ (j 0).val = 1 ∨ 2 ≤ (j 0).val := by omega
  rcases hi with hi | hi | hi
  · refine Eq.trans ?_ (if_pos hi).symm
    refine (Fin.sum_fin_congr fun s => if_pos hi).trans (tokens _ _ fun s k hl => ?_)
    exact congrArg₂ (· * ·) (block_dh m c s k (j 1) hl) (congrArg (fun x => hat x (j 1)) (block_x m c s k hl))
  · refine Eq.trans ?_ ((if_neg (by omega)).trans (if_pos hi)).symm
    refine (Fin.sum_fin_congr fun s => (if_neg (by omega)).trans (if_pos hi)).trans (tokens _ _ fun s k hl => ?_)
    exact block_dh m c s k (j 1) hl
  · refine Eq.trans ?_ ((if_neg (by omega)).trans (if_neg (by omega))).symm
    exact (Fin.sum_fin_congr fun s => (if_neg (by omega)).trans (if_neg (by omega))).trans (by simp)

theorem facts_pre : Cert.Pre_finite_d_h1.Facts where
  bitsLt_bf16_f32 := by decide
  bcast_S_S8192x4096 := by decide
  bcast_S_S4x1024x1024 := by decide
  bcast_S_S8192x1024 := by decide
  bcast_S_S1024 := by decide

theorem real (hf : Cert.Pre_KDH1Ideal_finite_d_h1 (hPre_finite_d_h1 := facts_pre) m) :
    Real (m ((c : Thread nD τ).loc main_arg0)) (m ((c : Thread nD τ).loc main_arg1)) (m ((c : Thread nD τ).loc main_arg2))
      (m ((c : Thread nD τ).loc main_arg3)) (m ((c : Thread nD τ).loc main_arg4)) := by
  obtain ⟨p0, p1, p2, p3, p4⟩ := hf c
  exact ⟨fun i => IsR.of (Attn.fine_of _ _ _ p0 i), fun i => IsR.of (Attn.fine_of _ _ _ p1 i), fun i => IsR.of (Attn.fine_of _ _ _ p2 i),
    fun i => IsR.of (Attn.fine_of _ _ _ p3 i), fun i => IsR.of (Attn.fine_of _ _ _ p4 i)⟩

theorem scale : (fun i : S1024.Idx => V m c main_v0 (ix2 0 (i 0))) = m ((c : Thread nD τ).loc main_arg4) :=
  funext fun i => (V_v0 m c (i 0)).trans (congrArg (m ((c : Thread nD τ).loc main_arg4)) (funext fun a => match a with | ⟨0, _⟩ => rfl))

theorem quiet : Cert.quiescent_RDH1Ideal (hRDH1Ideal := Cert.RDH1Ideal.Gen.facts) := fun m g _ =>
  (θ_run _ _ _).mono (fun r h => ⟨fun c => (h c).2.2, Idealize.ShloMosaic.sem_eq_zero_of_no_sems (by decide) r.2⟩) (Cert.RDH1Ideal.Value.run m g)

theorem quiet_pre : Cert.quiescent_RDH1Ideal_pre_finite_d_h1 (hRDH1Ideal := Cert.RDH1Ideal.Gen.facts) (hPre_finite_d_h1 := facts_pre) := fun m g _ =>
  (θ_run _ _ _).mono (fun r h => ⟨fun c => (h c).2.2, Idealize.ShloMosaic.sem_eq_zero_of_no_sems (by decide) r.2⟩) (Cert.RDH1Ideal.Value.run m g)

theorem algebraic : Cert.algebraic_KDH1Ideal_RDH1Ideal_pre_finite_d_h1 (hKDH1Ideal := Cert.KDH1Ideal.Gen.facts)
    (hRDH1Ideal := Cert.RDH1Ideal.Gen.facts) (hPre_finite_d_h1 := facts_pre) := fun m g m' g' hf hag =>
  ⟨fun c => (dats m 0 c).arrAt 6 cfg0.N, fun c => (dats m 0 c).arrAt 7 cfg0.N, Cert.KDH1Ideal.Value.run_blocks m g,
    (θ_run _ _ _).mono (fun _ h c => ⟨((h c).1.trans (Cert.RDH1Ideal.Read.val_main_v79_eq _ _)).trans (by
      obtain ⟨a0, a1, a2, a3, a4, a5⟩ := hag c
      show Cert.RDH1Ideal.Read.val_main_v79 (F := Ideal) (m' ((c : Thread Cert.RDH1Ideal.nD Cert.RDH1Ideal.τ).loc Cert.RDH1Ideal.main_arg0)) (m' ((c : Thread Cert.RDH1Ideal.nD Cert.RDH1Ideal.τ).loc Cert.RDH1Ideal.main_arg1)) (m' ((c : Thread Cert.RDH1Ideal.nD Cert.RDH1Ideal.τ).loc Cert.RDH1Ideal.main_arg2)) (m' ((c : Thread Cert.RDH1Ideal.nD Cert.RDH1Ideal.τ).loc Cert.RDH1Ideal.main_arg3)) (m' ((c : Thread Cert.RDH1Ideal.nD Cert.RDH1Ideal.τ).loc Cert.RDH1Ideal.main_arg4)) = _
      rw [a0, a1, a2, a3, a4, value_dpre _ _ _ _ _ (real m c hf)]
      exact ((arr6 m c).trans (by rw [V_main_arg0, V_main_arg1, V_main_arg2, V_main_arg3, scale])).symm),
      ((h c).2.1.trans (Cert.RDH1Ideal.Read.val_main_v83_eq _ _)).trans (by
      obtain ⟨a0, a1, a2, a3, a4, a5⟩ := hag c
      show Cert.RDH1Ideal.Read.val_main_v83 (F := Ideal) (m' ((c : Thread Cert.RDH1Ideal.nD Cert.RDH1Ideal.τ).loc Cert.RDH1Ideal.main_arg0)) (m' ((c : Thread Cert.RDH1Ideal.nD Cert.RDH1Ideal.τ).loc Cert.RDH1Ideal.main_arg1)) (m' ((c : Thread Cert.RDH1Ideal.nD Cert.RDH1Ideal.τ).loc Cert.RDH1Ideal.main_arg2)) (m' ((c : Thread Cert.RDH1Ideal.nD Cert.RDH1Ideal.τ).loc Cert.RDH1Ideal.main_arg3)) = _
      rw [a0, a1, a2, a3, value_rows]
      exact ((arr7 m c).trans (by rw [V_main_arg0, V_main_arg1, V_main_arg2, V_main_arg3])).symm), (h c).2.2⟩) (Cert.RDH1Ideal.Value.run m' g')⟩

end Step.DH1
end
end
-- ==== Proof.Step.LossRef.lean ====
/-
  What the reference for the down projection, the second layer norm and the loss computes: the three results, place by
  place.
-/
module
public import proofs.«01_k».proof.Defs
public import proofs.«01_k».proof.Proof.Gen.RLossIdeal
public import proofs.«01_k».proof.Proof.Gen.RLossIdeal.Run
public import proofs.«01_k».proof.Proof.Gen.RLossIdeal.Read
public import Idealize.ShloMosaic.Lib.ValueIdxCore
public import Idealize.ShloMosaic.Lib.KernelVsHost
public import proofs.«01_k».proof.Proof.Step.Base
public import proofs.«01_k».proof.Proof.Step.NormMath
@[expose] public section
set_option maxRecDepth 16384
noncomputable section
namespace Step.Loss
open Cert.RLossIdeal Cert.RLossIdeal.Read Idealize.ShloMosaic

/-- The factor the loss's derivative has: the reciprocal of the row's length. -/
def share : EReal := Ideal.ofBits .f32 0x3A800000#32
/-- One half. -/
def half : EReal := Ideal.ofBits .f32 0x3F000000#32
/-- The factor of a block's share of the loss. -/
def halfShare : EReal := Ideal.ofBits .f32 0x3A000000#32

theorem share_eq : share = ((1 / 1024 : ℝ) : EReal) := by
  simp [share, Ideal.ofBits, Ideal.ieee, -EReal.coe_mul]; norm_num
theorem half_eq : half = ((1 / 2 : ℝ) : EReal) := by
  simp [half, Ideal.ofBits, Ideal.ieee, -EReal.coe_mul]; norm_num
theorem halfShare_eq : halfShare = ((1 / 2048 : ℝ) : EReal) := by
  simp [halfShare, Ideal.ofBits, Ideal.ieee, -EReal.coe_mul]; norm_num
theorem one_eq : Ideal.ofBits .f32 0x3F800000#32 = ((1 : ℝ) : EReal) := by
  simp [Ideal.ofBits, Ideal.ieee, -EReal.coe_mul]; norm_num

/-- The loss's derivative along an entry of the second norm, as it is taken step by step. -/
theorem factor (e : EReal) : Ideal.div (half * Ideal.ofBits .f32 0x3F800000#32) count * (Ideal.ofBits .f32 0x40000000#32 * e) = e * share := by
  rw [half_eq, one_eq, two_eq, count_eq, share_eq, ← mul_assoc, ← EReal.coe_mul, Attn.div_coe _ _ (by norm_num), ← EReal.coe_mul, mul_comm]
  norm_num

/-- The loss of blocks of 512 tokens, added up, is the loss of all of them. -/
theorem loss_eq (q : Fin 8192 → EReal) (hq : ∀ t, IsR (q t)) :
    ∑ s : Fin 16, (∑ r : Fin 512, q ⟨s.val * 512 + r.val, by omega⟩) * halfShare = half * ∑ t : Fin 8192, Ideal.div (q t) count := by
  choose u hu using hq
  simp only [hu, half_eq, halfShare_eq, count_eq]
  have hd : ∀ t, Ideal.div (u t : EReal) ((1024 : ℝ) : EReal) = ((u t / 1024 : ℝ) : EReal) := fun t => Attn.div_coe _ _ (by norm_num)
  simp only [hd, Attn.sum_coe, ← EReal.coe_mul]
  refine congrArg _ ?_
  have e : ∑ s : Fin 16, ∑ r : Fin 512, u ⟨s.val * 512 + r.val, by omega⟩ = ∑ t : Fin 8192, u t := by
    refine Fin.sum_mul_add_congr (fun s r hl => rfl) (by decide)
  rw [← Finset.sum_mul, e, ← Finset.sum_div]
  ring

section Defs
variable (A : S8192x4096.Idx → EReal) (W : S4096x1024.Idx → EReal) (X T : S8192x1024.Idx → EReal) (g b g2 b2 : S1024.Idx → EReal)

/-- A token's row at the second sum. -/
def pre2 (t : Fin 8192) (k : Fin 1024) : EReal :=
  weight * norm (fun k => X (ix2 t k)) (fun k => g (ix1 k)) (fun k => b (ix1 k)) k + ∑ l : Fin 4096, A (ix2 t l) * W (ix2 l k)

/-- The second norm less the target. -/
def err (p : Fin 1024 → EReal) (t : Fin 8192) (k : Fin 1024) : EReal :=
  norm p (fun k => g2 (ix1 k)) (fun k => b2 (ix1 k)) k - T (ix2 t k)

/-- The derivative at the second sum. -/
def dpre2 : S8192x1024.Idx → EReal :=
  fun i => back (pre2 A W X g b (i 0)) (fun k => err T g2 b2 (pre2 A W X g b (i 0)) (i 0) k * share * g2 (ix1 k)) (i 1)

/-- The derivatives of the scale and the shift, the loss, and five rows of zeros. -/
def rows : S8x1024.Idx → EReal :=
  fun i => if (i 0).val = 0 then ∑ t : Fin 8192, err T g2 b2 (pre2 A W X g b t) t (i 1) * share * hat (pre2 A W X g b t) (i 1)
    else if (i 0).val = 1 then ∑ t : Fin 8192, err T g2 b2 (pre2 A W X g b t) t (i 1) * share
    else if (i 0).val = 2 then half * ∑ t : Fin 8192, Ideal.div (∑ k : Fin 1024, err T g2 b2 (pre2 A W X g b t) t k * err T g2 b2 (pre2 A W X g b t) t k) count
    else 0
end Defs

section Reference
variable (A : (⟨S8192x4096, .bf16⟩ : BufTy).Contents (Elt Ideal)) (W : (⟨S4096x1024, .bf16⟩ : BufTy).Contents (Elt Ideal))
  (X T : (⟨S8192x1024, .f32⟩ : BufTy).Contents (Elt Ideal)) (g b g2 b2 : (⟨S1024, .f32⟩ : BufTy).Contents (Elt Ideal))

theorem v3 (i : S8192x1.Idx) : val_main_v3 (F := Ideal) X i = mean (fun k => X (ix2 (i 0) k)) := by
  rw [val_main_v3_apply, val_main_v1_apply, val_main_v0_apply, val_main_v2_apply]
  exact congrArg (Ideal.div · count) (hostSum fun k => congrArg X (ext2 rfl rfl))

theorem v5 (i : S8192x1024.Idx) : val_main_v5 (F := Ideal) X i = cen (fun k => X (ix2 (i 0) k)) (i 1) := by
  rw [val_main_v5_apply, val_main_v4_apply, v3]
  exact congrArg (· - mean (fun k => X (ix2 (i 0) k))) (congrArg X (ext2 rfl rfl))

theorem v12 (i : S8192x1024.Idx) : val_main_v12 (F := Ideal) X i = cen (fun k => X (ix2 (i 0) k)) (i 1) := by
  rw [val_main_v12_apply, val_main_v11_apply, v3]
  exact congrArg (· - mean (fun k => X (ix2 (i 0) k))) (congrArg X (ext2 rfl rfl))

theorem v15 (i : S8192x1.Idx) : val_main_v15 (F := Ideal) X i = rstd (fun k => X (ix2 (i 0) k)) := by
  rw [val_main_v15_apply, val_main_v14_apply, val_main_v10_apply, val_main_v8_apply, val_main_v7_apply, val_main_v9_apply, val_main_v13_apply]
  refine congrArg Ideal.rsqrt (congrArg (· + tiny) (congrArg (Ideal.div · count) (hostSum fun k => ?_)))
  rw [val_main_v6_apply, v5]
  rfl

theorem v23 (i : S8192x1024.Idx) : val_main_v23 (F := Ideal) X g b i
    = norm (fun k => X (ix2 (i 0) k)) (fun k => g (ix1 k)) (fun k => b (ix1 k)) (i 1) := by
  rw [val_main_v23_apply, val_main_v20_apply, val_main_v17_apply, v12, val_main_v16_apply, v15, val_main_v19_apply, val_main_v18_apply,
    val_main_v22_apply, val_main_v21_apply]
  exact congrArg₂ (· + ·) (congrArg (hat (fun k => X (ix2 (i 0) k)) (i 1) * ·) (congrArg g (funext fun a => match a with | ⟨0, _⟩ => rfl)))
    (congrArg b (funext fun a => match a with | ⟨0, _⟩ => rfl))

theorem v29 (i : S8192x1024.Idx) : val_main_v29 (F := Ideal) A W X g b i = pre2 A W X g b (i 0) (i 1) := by
  rw [val_main_v29_apply, val_main_v25_apply, val_main_v24_apply, v23, val_main_v28_apply]
  refine congrArg (weight * norm (fun k => X (ix2 (i 0) k)) (fun k => g (ix1 k)) (fun k => b (ix1 k)) (i 1) + ·) (Finset.sum_congr rfl fun l _ => ?_)
  rw [val_main_v26_apply, val_main_v27_apply]
  exact congrArg₂ (· * ·) (congrArg A (ext2 rfl rfl)) (congrArg W (ext2 rfl rfl))

theorem v33 (i : S8192x1.Idx) : val_main_v33 (F := Ideal) A W X g b i = mean (pre2 A W X g b (i 0)) := by
  rw [val_main_v33_apply, val_main_v31_apply, val_main_v30_apply, val_main_v32_apply]
  exact congrArg (Ideal.div · count) (hostSum fun k => v29 A W X g b _)

theorem v35 (i : S8192x1024.Idx) : val_main_v35 (F := Ideal) A W X g b i = cen (pre2 A W X g b (i 0)) (i 1) := by
  rw [val_main_v35_apply, val_main_v34_apply, v33, v29]
  rfl

theorem v44 (i : S8192x1024.Idx) : val_main_v44 (F := Ideal) A W X g b i = cen (pre2 A W X g b (i 0)) (i 1) := by
  rw [val_main_v44_apply, val_main_v43_apply, v33, v29]
  rfl

theorem v46 (i : S8192x1.Idx) : val_main_v46 (F := Ideal) A W X g b i = spread (pre2 A W X g b (i 0)) := by
  rw [val_main_v46_apply, val_main_v42_apply, val_main_v40_apply, val_main_v39_apply, val_main_v41_apply, val_main_v45_apply]
  refine congrArg (· + tiny) (congrArg (Ideal.div · count) (hostSum fun k => ?_))
  rw [val_main_v36_apply, v35]
  rfl

theorem v47 (i : S8192x1.Idx) : val_main_v47 (F := Ideal) A W X g b i = rstd (pre2 A W X g b (i 0)) := by
  rw [val_main_v47_apply, v46]
  rfl

theorem v52 (i : S8192x1024.Idx) : val_main_v52 (F := Ideal) A W X g b i = hat (pre2 A W X g b (i 0)) (i 1) := by
  rw [val_main_v52_apply, val_main_v51_apply, v44, v47]
  rfl

theorem v59 (i : S8192x1024.Idx) : val_main_v59 (F := Ideal) A W X T g b g2 b2 i = err T g2 b2 (pre2 A W X g b (i 0)) (i 0) (i 1) := by
  rw [val_main_v59_apply, val_main_v58_apply, val_main_v55_apply, v52, val_main_v54_apply, val_main_v53_apply, val_main_v57_apply, val_main_v56_apply]
  exact congrArg₂ (· - ·) (congrArg₂ (· + ·) (congrArg (hat (pre2 A W X g b (i 0)) (i 1) * ·) (congrArg g2 (funext fun a => match a with | ⟨0, _⟩ => rfl)))
    (congrArg b2 (funext fun a => match a with | ⟨0, _⟩ => rfl))) (congrArg T (ext2 rfl rfl))

/-- The loss. -/
theorem v67 (i : S_.Idx) : val_main_v67 (F := Ideal) A W X T g b g2 b2 i
    = half * ∑ t : Fin 8192, Ideal.div (∑ k : Fin 1024, err T g2 b2 (pre2 A W X g b t) t k * err T g2 b2 (pre2 A W X g b t) t k) count := by
  rw [val_main_v67_apply, val_main_v66_apply]
  refine congrArg (half * ·) ?_
  have e : ∀ j : S8192.Idx, val_main_v65 (F := Ideal) A W X T g b g2 b2 j
      = Ideal.div (∑ k : Fin 1024, err T g2 b2 (pre2 A W X g b (j 0)) (j 0) k * err T g2 b2 (pre2 A W X g b (j 0)) (j 0) k) count := fun j => by
    rw [val_main_v65_apply, val_main_v63_apply, val_main_v64_apply]
    refine congrArg (Ideal.div · count) (hostSum fun k => ?_)
    rw [val_main_v60_apply, v59]
    rfl
  simp only [e]
  refine (congrArg (· + _) Ideal.ofBits_zero_f32).trans ((zero_add _).trans ?_)
  exact Fintype.sum_equiv ⟨fun j : S8192.Idx => (j 0 : Fin 8192), fun t => ix1 t, fun j => funext fun a => match a with | ⟨0, _⟩ => rfl, fun t => rfl⟩ _ _ fun j => rfl

/-- The derivative along an entry of the second norm. -/
theorem v73 (i : S8192x1024.Idx) : val_main_v73 (F := Ideal) A W X T g b g2 b2 i = err T g2 b2 (pre2 A W X g b (i 0)) (i 0) (i 1) * share := by
  rw [val_main_v73_apply, val_main_v72_apply, val_main_v71_apply, val_main_v69_apply, val_main_v68_apply, val_main_v70_apply, val_main_v62_apply, val_main_v61_apply, v59]
  exact factor _

theorem v76 (i : S1024.Idx) : val_main_v76 (F := Ideal) A W X T g b g2 b2 i = ∑ t : Fin 8192, err T g2 b2 (pre2 A W X g b t) t (i 0) * share := by
  rw [val_main_v76_apply]
  refine (hostSum1 _).trans ?_
  rw [val_main_v75_apply, val_main_v74_apply]
  refine hostSum fun t => ?_
  rw [v73]
  exact congrArg (err T g2 b2 (pre2 A W X g b t) t · * share) (Fin.ext (by show 0 * 1024 + (i 0).val = (i 0).val; omega))

theorem v82 (i : S1024.Idx) : val_main_v82 (F := Ideal) A W X T g b g2 b2 i
    = ∑ t : Fin 8192, err T g2 b2 (pre2 A W X g b t) t (i 0) * share * hat (pre2 A W X g b t) (i 0) := by
  rw [val_main_v82_apply]
  refine (hostSum1 _).trans ?_
  rw [val_main_v79_apply, val_main_v78_apply]
  refine hostSum fun t => ?_
  rw [val_main_v77_apply, v73, v52]
  have e : ∀ h, (⟨0 * 1024 + (i 0).val, h⟩ : Fin 1024) = i 0 := fun h => Fin.ext (by show 0 * 1024 + (i 0).val = (i 0).val; omega)
  refine (mul_comm _ _).trans ?_
  exact congrArg (fun k : Fin 1024 => err T g2 b2 (pre2 A W X g b t) t k * share * hat (pre2 A W X g b t) k) (e _)

/-- What the derivative of the second norm starts from. -/
theorem v81 (i : S8192x1024.Idx) : val_main_v81 (F := Ideal) A W X T g b g2 b2 i
    = err T g2 b2 (pre2 A W X g b (i 0)) (i 0) (i 1) * share * g2 (ix1 (i 1)) := by
  rw [val_main_v81_apply, v73, val_main_v80_apply, val_main_v53_apply]
  exact congrArg (err T g2 b2 (pre2 A W X g b (i 0)) (i 0) (i 1) * share * ·) (congrArg g2 (funext fun a => match a with | ⟨0, _⟩ => rfl))

theorem v87 (i : S8192x1024.Idx) : val_main_v87 (F := Ideal) A W X T g b g2 b2 i
    = err T g2 b2 (pre2 A W X g b (i 0)) (i 0) (i 1) * share * g2 (ix1 (i 1)) * rstd (pre2 A W X g b (i 0)) := by
  rw [val_main_v87_apply, v81, val_main_v86_apply, v47]
  rfl

theorem v95 (i : S8192x1024.Idx) : val_main_v95 (F := Ideal) A W X T g b g2 b2 i
    = through (pre2 A W X g b (i 0)) (fun k => err T g2 b2 (pre2 A W X g b (i 0)) (i 0) k * share * g2 (ix1 k)) := by
  rw [val_main_v95_apply, val_main_v94_apply]
  refine (hostSum1 _).trans ?_
  rw [val_main_v93_apply, val_main_v88_apply, val_main_v85_apply, val_main_v84_apply, val_main_v92_apply, val_main_v50_apply, val_main_v49_apply, val_main_v48_apply, v47, v46]
  refine congrArg (Ideal.div · count) (congrArg (· * _) (hostSum fun k => ?_))
  rw [val_main_v83_apply, show idx_main_v84 (idx_main_v85 (idx_main_v94 (idx_main_v95 i) 0)) k = (ix2 (n0 := 8192) (n1 := 1024) (i 0) k : S8192x1024.Idx) from ext2 (by show (i 0).val * 1 + 0 = (i 0).val; omega) rfl, v44, v81]
  rfl

theorem v96 (i : S8192x1024.Idx) : val_main_v96 (F := Ideal) A W X T g b g2 b2 i
    = through (pre2 A W X g b (i 0)) (fun k => err T g2 b2 (pre2 A W X g b (i 0)) (i 0) k * share * g2 (ix1 k))
      * (Ideal.ofBits .f32 0x40000000#32 * cen (pre2 A W X g b (i 0)) (i 1)) := by
  rw [val_main_v96_apply, v95, val_main_v38_apply, val_main_v37_apply, v35]
  rfl

theorem v106 (i : S8192x1024.Idx) : val_main_v106 (F := Ideal) A W X T g b g2 b2 i
    = backSteps (pre2 A W X g b (i 0)) (fun k => err T g2 b2 (pre2 A W X g b (i 0)) (i 0) k * share * g2 (ix1 k)) (i 1) := by
  rw [val_main_v106_apply, val_main_v100_apply, v87, v96, val_main_v105_apply, val_main_v104_apply]
  refine congrArg₂ (· + ·) rfl ((hostSum1 _).trans ?_)
  rw [val_main_v103_apply, val_main_v101_apply, val_main_v91_apply, val_main_v90_apply, val_main_v99_apply, val_main_v98_apply, val_main_v102_apply]
  refine congrArg (Ideal.div · count) (congrArg₂ (· + ·) (hostSum fun k => ?_) (hostSum fun k => ?_))
  · rw [val_main_v89_apply, show idx_main_v90 (idx_main_v91 (idx_main_v104 (idx_main_v105 i) 0)) k = (ix2 (n0 := 8192) (n1 := 1024) (i 0) k : S8192x1024.Idx) from ext2 (by show (i 0).val * 1 + 0 = (i 0).val; omega) rfl, v87, Ideal.hostNegf_def, Ideal.negf_def]
    rfl
  · rw [val_main_v97_apply, show idx_main_v98 (idx_main_v99 (idx_main_v104 (idx_main_v105 i) 0)) k = (ix2 (n0 := 8192) (n1 := 1024) (i 0) k : S8192x1024.Idx) from ext2 (by show (i 0).val * 1 + 0 = (i 0).val; omega) rfl, v96, Ideal.hostNegf_def, Ideal.negf_def]
    rfl

theorem value_rows : val_main_v111 (F := Ideal) A W X T g b g2 b2 = rows A W X T g b g2 b2 := by
  funext i
  unfold val_main_v111
  have e0 : ∀ j, val_main_v107 (F := Ideal) A W X T g b g2 b2 j
      = ∑ t : Fin 8192, err T g2 b2 (pre2 A W X g b t) t (j 1) * share * hat (pre2 A W X g b t) (j 1) := fun j => by
    rw [val_main_v107_apply, v82]
    rfl
  have e1 : ∀ j, val_main_v108 (F := Ideal) A W X T g b g2 b2 j = ∑ t : Fin 8192, err T g2 b2 (pre2 A W X g b t) t (j 1) * share := fun j => by
    rw [val_main_v108_apply, v76]
    rfl
  have e2 : ∀ j, val_main_v109 (F := Ideal) A W X T g b g2 b2 j
      = half * ∑ t : Fin 8192, Ideal.div (∑ k : Fin 1024, err T g2 b2 (pre2 A W X g b t) t k * err T g2 b2 (pre2 A W X g b t) t k) count := fun j => by
    rw [val_main_v109_apply, v67]
  have e3 : ∀ j, val_main_v110 (F := Ideal) j = (0 : EReal) := fun j => by
    rw [val_main_v110_apply]; exact Ideal.ofBits_zero_f32
  generalize val_main_v107 (F := Ideal) A W X T g b g2 b2 = r0 at *
  generalize val_main_v108 (F := Ideal) A W X T g b g2 b2 = r1 at *
  generalize val_main_v109 (F := Ideal) A W X T g b g2 b2 = r2 at *
  generalize val_main_v110 (F := Ideal) = z at *
  pointwise []
  unfold rows
  have hi : (i 0).val = 0 ∨ (i 0).val = 1 ∨ (i 0).val = 2 ∨ 3 ≤ (i 0).val := by omega
  rcases hi with hi | hi | hi | hi
  · rw [dif_pos (by omega)]
    exact (e0 _).trans (if_pos hi).symm
  · rw [dif_neg (by omega), dif_pos (by omega)]
    exact (e1 _).trans ((if_neg (by omega)).trans (if_pos hi)).symm
  · rw [dif_neg (by omega), dif_neg (by omega), dif_pos (by omega)]
    exact (e2 _).trans ((if_neg (by omega)).trans ((if_neg (by omega)).trans (if_pos hi))).symm
  · rw [dif_neg (by omega), dif_neg (by omega), dif_neg (by omega)]
    exact (e3 _).trans ((if_neg (by omega)).trans ((if_neg (by omega)).trans (if_neg (by omega)))).symm

/-- What the precondition asks, as the value proof uses it. -/
structure Real : Prop where
  a : ∀ i, IsR (A i)
  w : ∀ i, IsR (W i)
  x : ∀ i, IsR (X i)
  t : ∀ i, IsR (T i)
  g : ∀ i, IsR (g i)
  b : ∀ i, IsR (b i)
  g2 : ∀ i, IsR (g2 i)
  b2 : ∀ i, IsR (b2 i)

theorem pre2_isR (h : Real A W X T g b g2 b2) (t : Fin 8192) (k : Fin 1024) : IsR (pre2 A W X g b t k) :=
  (weight_real.mul (norm_isR _ _ _ (fun _ => h.x _) (fun _ => h.g _) (fun _ => h.b _) k)).add (IsR.sum fun _ => (h.a _).mul (h.w _))

theorem err_isR (h : Real A W X T g b g2 b2) (t : Fin 8192) (k : Fin 1024) : IsR (err T g2 b2 (pre2 A W X g b t) t k) :=
  (norm_isR _ _ _ (pre2_isR A W X T g b g2 b2 h t) (fun _ => h.g2 _) (fun _ => h.b2 _) k).sub (h.t _)

theorem value_dpre2 (h : Real A W X T g b g2 b2) : val_main_v106 (F := Ideal) A W X T g b g2 b2 = dpre2 A W X T g b g2 b2 := by
  funext i
  rw [v106]
  exact (back_eq _ _ (pre2_isR A W X T g b g2 b2 h _) (fun k => ((err_isR A W X T g b g2 b2 h _ _).mul ⟨_, share_eq⟩).mul (h.g2 _)) _).symm

theorem value_cast (h : Real A W X T g b g2 b2) : val_main_v112 (F := Ideal) A W X T g b g2 b2 = dpre2 A W X T g b g2 b2 := by
  funext i
  rw [val_main_v112_apply, value_dpre2 _ _ _ _ _ _ _ _ h]
  rfl

end Reference
end Step.Loss
end
end
-- ==== Proof.Step.Loss.lean ====
module
public import proofs.«01_k».proof.Defs
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.KLossIdeal.Value
public import proofs.«01_k».proof.Proof.Gen.RLossIdeal
public import proofs.«01_k».proof.Proof.Gen.RLossIdeal.Run
public import proofs.«01_k».proof.Proof.Gen.RLossIdeal.Read
public import Idealize.ShloMosaic.Adequacy
public import Idealize.ShloMosaic.Init
public import Idealize.ShloMosaic.Lib.ValueIdxCore
public import Idealize.ShloMosaic.Lib.KernelVsHost
public import proofs.«01_k».proof.Proof.Attn.Finite
public import proofs.«01_k».proof.Proof.Step.Base
public import proofs.«01_k».proof.Proof.Step.LossRef
@[expose] public section
set_option maxRecDepth 16384
noncomputable section
namespace Step.Loss
open Cert.KLossIdeal Cert.KLossIdeal.Gen Idealize.ShloMosaic Idealize.ShloMosaic.TcCoe Idealize.SL.Sem

variable (m : (ℓ : Loc nD τ sig) → Buf (Elt Ideal) ℓ) (c : Dev nD)

section Payloads
variable (a : Vec Ideal S512x4096 .bf16) (w : Vec Ideal S4096x1024 .bf16) (x : Vec Ideal S512x1024 .f32) (g b : Vec Ideal S1x1024 .f32)

theorem pay3 (r : Fin 512) (k : Fin 1024) : k0_pay3 a w x g b (ix2 r k)
    = weight * norm (fun k => x (ix2 r k)) (fun k => g (ix2 0 k)) (fun k => b (ix2 0 k)) k + ∑ l : Fin 4096, a (ix2 r l) * w (ix2 l k) := by
  pointwise [k0_pay3]
  rfl

theorem pay6 (j : S512x1.Idx) : k0_pay6 a w x g b j = ∑ k : Fin 1024, k0_pay3 a w x g b (ix2 (j 0) k) := by
  unfold k0_pay6
  generalize k0_pay3 a w x g b = y
  pointwise []

theorem pay4 (y : Vec Ideal S1x1024 .f32) : k0_pay4 y = y := by
  funext j
  pointwise [k0_pay4]

theorem pay5 (y : Vec Ideal S1x1024 .f32) : k0_pay5 y = y := by
  funext j
  pointwise [k0_pay5]

variable (p : Vec Ideal S512x1024 .f32) (s : Vec Ideal S512x1 .f32) (hs : ∀ j, s j = ∑ k : Fin 1024, p (ix2 (j 0) k)) (t : Vec Ideal S512x1024 .f32)
include hs

theorem pay7 (j : S512x1024.Idx) : k0_pay7 (F := Ideal) p s j = cen (fun k => p (ix2 (j 0) k)) (j 1) := by
  have e : j = ix2 (j 0) (j 1) := ext2 rfl rfl
  pointwise [k0_pay7]
  rw [hs]
  exact congrArg (· - mean (fun k => p (ix2 (j 0) k))) (congrArg p e)

theorem pay8 (j : S512x1.Idx) : k0_pay8 (F := Ideal) p s j = rstd (fun k => p (ix2 (j 0) k)) := by
  have h := pay7 p s hs
  unfold k0_pay8
  generalize k0_pay7 (F := Ideal) p s = y at *
  pointwise []
  simp only [h]
  rfl

theorem pay9 (r : Fin 512) (k : Fin 1024) : k0_pay9 (F := Ideal) p s (ix2 r k) = hat (fun k => p (ix2 r k)) k := by
  have h := pay7 p s hs
  have h8 := pay8 p s hs
  unfold k0_pay9
  generalize k0_pay7 (F := Ideal) p s = y at *
  generalize k0_pay8 (F := Ideal) p s = z at *
  pointwise []
  rw [h, h8]
  rfl

theorem pay10 (r : Fin 512) (k : Fin 1024) : k0_pay10 (F := Ideal) p g b s t (ix2 r k)
    = norm (fun k => p (ix2 r k)) (fun k => g (ix2 0 k)) (fun k => b (ix2 0 k)) k - t (ix2 r k) := by
  have h := pay9 p s hs
  unfold k0_pay10
  generalize k0_pay9 (F := Ideal) p s = y at *
  pointwise []
  rw [h]
  rfl

theorem pay12 (g' : Vec Ideal S1x1024 .f32) (r : Fin 512) (k : Fin 1024) : k0_pay12 (F := Ideal) p g b s t g' (ix2 r k)
    = back (fun k => p (ix2 r k)) (fun k => k0_pay11 (F := Ideal) p g b s t (ix2 r k) * g' (ix2 0 k)) k := by
  have h8 := pay8 p s hs
  have h9 := pay9 p s hs
  unfold k0_pay12
  generalize k0_pay8 (F := Ideal) p s = y at *
  generalize k0_pay9 (F := Ideal) p s = z at *
  generalize k0_pay11 (F := Ideal) p g b s t = d at *
  pointwise []
  simp only [h8, h9]
  rfl
end Payloads

theorem pay11 (p t : Vec Ideal S512x1024 .f32) (g b : Vec Ideal S1x1024 .f32) (s : Vec Ideal S512x1 .f32) (j : S512x1024.Idx) :
    k0_pay11 (F := Ideal) p g b s t j = k0_pay10 (F := Ideal) p g b s t j * share := by
  unfold k0_pay11
  generalize k0_pay10 (F := Ideal) p g b s t = y
  pointwise []
  rfl

theorem pay1 (h e d : Vec Ideal S512x1024 .f32) (j : S8x1024.Idx) :
    k0_pay1 (F := Ideal) h e d j = if (j 0).val = 0 then ∑ r : Fin 512, d (ix2 r (j 1)) * h (ix2 r (j 1))
      else if (j 0).val = 1 then ∑ r : Fin 512, d (ix2 r (j 1))
      else if (j 0).val = 2 then (∑ r : Fin 512, ∑ k : Fin 1024, e (ix2 r k) * e (ix2 r k)) * halfShare else 0 := by
  pointwise [k0_pay1]
  have hj : (j 0).val < 8 := (j 0).isLt
  have hi : (j 0).val = 0 ∨ (j 0).val = 1 ∨ (j 0).val = 2 ∨ 3 ≤ (j 0).val := by omega
  rcases hi with hi | hi | hi | hi
  · rw [dif_pos (by omega)]
    exact (if_pos hi).symm
  · rw [dif_neg (by omega), dif_pos (by omega)]
    exact ((if_neg (by omega)).trans (if_pos hi)).symm
  · rw [dif_neg (by omega), dif_neg (by omega), dif_pos (by omega)]
    exact ((if_neg (by omega)).trans ((if_neg (by omega)).trans (if_pos hi))).symm
  · rw [dif_neg (by omega), dif_neg (by omega), dif_neg (by omega)]
    have h0 : ¬ (j 0).val = 0 := by omega
    have h1 : ¬ (j 0).val = 1 := by omega
    have h2 : ¬ (j 0).val = 2 := by omega
    exact Eq.trans (by first | rfl | exact Ideal.ofBits_zero_f32) ((if_neg h0).trans ((if_neg h1).trans (if_neg h2))).symm

theorem pay2 (h e d : Vec Ideal S512x1024 .f32) (o : Vec Ideal S8x1024 .f32) (j : S8x1024.Idx) : k0_pay2 (F := Ideal) h e d o j = o j + k0_pay1 (F := Ideal) h e d j := by
  unfold k0_pay2
  generalize k0_pay1 (F := Ideal) h e d = y
  pointwise []

/-- A row of 1024 numbers, as a vector. -/
def line (y : S1x1024.Idx → EReal) : S1024.Idx → EReal := fun i => y (ix2 0 (i 0))

theorem V_v0 : line (V m c main_v0) = m ((c : Thread nD τ).loc main_arg4) := by
  have h : V m c main_v0 = shapeCast S1x1024 (m ((c : Thread nD τ).loc main_arg4)) Gen.shapeCasts_S1024_S1x1024 := by
    show StableHlo.after hostOps0 _ _ = _
    simp only [hostOps0]
    after_results_simp
    rfl
  funext i
  unfold line
  rw [h]
  pointwise []

theorem V_v1 : line (V m c main_v1) = m ((c : Thread nD τ).loc main_arg5) := by
  have h : V m c main_v1 = shapeCast S1x1024 (m ((c : Thread nD τ).loc main_arg5)) Gen.shapeCasts_S1024_S1x1024 := by
    show StableHlo.after hostOps0 _ _ = _
    simp only [hostOps0]
    after_results_simp
    rfl
  funext i
  unfold line
  rw [h]
  pointwise []

theorem V_v2 : line (V m c main_v2) = m ((c : Thread nD τ).loc main_arg6) := by
  have h : V m c main_v2 = shapeCast S1x1024 (m ((c : Thread nD τ).loc main_arg6)) Gen.shapeCasts_S1024_S1x1024 := by
    show StableHlo.after hostOps0 _ _ = _
    simp only [hostOps0]
    after_results_simp
    rfl
  funext i
  unfold line
  rw [h]
  pointwise []

theorem V_v3 : line (V m c main_v3) = m ((c : Thread nD τ).loc main_arg7) := by
  have h : V m c main_v3 = shapeCast S1x1024 (m ((c : Thread nD τ).loc main_arg7)) Gen.shapeCasts_S1024_S1x1024 := by
    show StableHlo.after hostOps0 _ _ = _
    simp only [hostOps0]
    after_results_simp
    rfl
  funext i
  unfold line
  rw [h]
  pointwise []

theorem lt16 (t : Fin cfg0.N) : t.val < 16 := lt_of_lt_of_eq t.isLt N_0

/-- A token's row at the second sum, from the launch's arrays. -/
abbrev sumRow (t : Fin 8192) : Fin 1024 → EReal :=
  pre2 (V m c main_arg0) (V m c main_arg1) (V m c main_arg2) (line (V m c main_v0)) (line (V m c main_v1)) t
/-- The error at a token, from the launch's arrays. -/
abbrev errRow (t : Fin 8192) (k : Fin 1024) : EReal :=
  err (V m c main_arg3) (line (V m c main_v2)) (line (V m c main_v3)) (sumRow m c t) t k

theorem block_row (t : Fin cfg0.N) (r : Fin 512) (h : t.val * 512 + r.val < 8192) :
    (fun k : Fin 1024 => k0_pay3 (iblk m c 0 t) (iblk m c 1 t) (iblk m c 2 t) (iblk m c 4 t) (iblk m c 5 t) (ix2 r k)) = sumRow m c ⟨t.val * 512 + r.val, h⟩ := by
  funext k
  rw [pay3]
  have e0 : ∀ t, win0_0.index t = ![t.val, 0] := by decide +kernel
  have e1 : ∀ t, win0_1.index t = ![0, 0] := by decide +kernel
  have e2 : ∀ t, win0_2.index t = ![t.val, 0] := by decide +kernel
  have e4 : ∀ t, win0_4.index t = ![0, 0] := by decide +kernel
  have e5 : ∀ t, win0_5.index t = ![0, 0] := by decide +kernel
  have hx : (fun k : Fin 1024 => iblk m c 2 t (ix2 r k)) = fun k => V m c main_arg2 (ix2 ⟨t.val * 512 + r.val, h⟩ k) := by
    funext k
    blk_point [iblk, e2]
  have hg : (fun k : Fin 1024 => iblk m c 4 t (ix2 0 k)) = fun k => line (V m c main_v0) (ix1 k) := by
    funext k
    show _ = V m c main_v0 (ix2 0 k)
    blk_point [iblk, e4]
  have hb : (fun k : Fin 1024 => iblk m c 5 t (ix2 0 k)) = fun k => line (V m c main_v1) (ix1 k) := by
    funext k
    show _ = V m c main_v1 (ix2 0 k)
    blk_point [iblk, e5]
  refine congrArg₂ (· + ·) (congrArg (weight * ·) ?_) (Fin.sum_fin_congr fun l => ?_)
  · rw [hx, hg, hb]
  · blk_point [iblk, e0, e1]

theorem block_sum (t : Fin cfg0.N) : ∀ j, k0_pay6 (iblk m c 0 t) (iblk m c 1 t) (iblk m c 2 t) (iblk m c 4 t) (iblk m c 5 t) j
    = ∑ k : Fin 1024, k0_pay3 (iblk m c 0 t) (iblk m c 1 t) (iblk m c 2 t) (iblk m c 4 t) (iblk m c 5 t) (ix2 (j 0) k) := fun j => pay6 _ _ _ _ _ j

theorem block_err (t : Fin cfg0.N) (r : Fin 512) (k : Fin 1024) (h : t.val * 512 + r.val < 8192) :
    k0_pay10 (F := Ideal) (k0_pay3 (iblk m c 0 t) (iblk m c 1 t) (iblk m c 2 t) (iblk m c 4 t) (iblk m c 5 t)) (k0_pay4 (iblk m c 6 t)) (k0_pay5 (iblk m c 7 t))
      (k0_pay6 (iblk m c 0 t) (iblk m c 1 t) (iblk m c 2 t) (iblk m c 4 t) (iblk m c 5 t)) (iblk m c 3 t) (ix2 r k) = errRow m c ⟨t.val * 512 + r.val, h⟩ k := by
  rw [pay4, pay5, pay10 _ _ _ _ (block_sum m c t), block_row m c t r h]
  have e3 : ∀ t, win0_3.index t = ![t.val, 0] := by decide +kernel
  have e6 : ∀ t, win0_6.index t = ![0, 0] := by decide +kernel
  have e7 : ∀ t, win0_7.index t = ![0, 0] := by decide +kernel
  have hg : (fun k : Fin 1024 => iblk m c 6 t (ix2 0 k)) = fun k => line (V m c main_v2) (ix1 k) := by
    funext k
    show _ = V m c main_v2 (ix2 0 k)
    blk_point [iblk, e6]
  have hb : (fun k : Fin 1024 => iblk m c 7 t (ix2 0 k)) = fun k => line (V m c main_v3) (ix1 k) := by
    funext k
    show _ = V m c main_v3 (ix2 0 k)
    blk_point [iblk, e7]
  rw [hg, hb]
  refine congrArg (norm _ _ _ k - ·) ?_
  blk_point [iblk, e3]

theorem block_d (t : Fin cfg0.N) (r : Fin 512) (k : Fin 1024) (h : t.val * 512 + r.val < 8192) :
    k0_pay11 (F := Ideal) (k0_pay3 (iblk m c 0 t) (iblk m c 1 t) (iblk m c 2 t) (iblk m c 4 t) (iblk m c 5 t)) (k0_pay4 (iblk m c 6 t)) (k0_pay5 (iblk m c 7 t))
      (k0_pay6 (iblk m c 0 t) (iblk m c 1 t) (iblk m c 2 t) (iblk m c 4 t) (iblk m c 5 t)) (iblk m c 3 t) (ix2 r k) = errRow m c ⟨t.val * 512 + r.val, h⟩ k * share :=
  (pay11 _ _ _ _ _ _).trans (congrArg (· * share) (block_err m c t r k h))

theorem block_hat (t : Fin cfg0.N) (r : Fin 512) (k : Fin 1024) (h : t.val * 512 + r.val < 8192) :
    k0_pay9 (F := Ideal) (k0_pay3 (iblk m c 0 t) (iblk m c 1 t) (iblk m c 2 t) (iblk m c 4 t) (iblk m c 5 t))
      (k0_pay6 (iblk m c 0 t) (iblk m c 1 t) (iblk m c 2 t) (iblk m c 4 t) (iblk m c 5 t)) (ix2 r k) = hat (sumRow m c ⟨t.val * 512 + r.val, h⟩) k := by
  rw [pay9 _ _ (block_sum m c t), block_row m c t r h]

/-- A block's derivative at the second sum. -/
theorem block_back (t : Fin cfg0.N) (r : Fin 512) (k : Fin 1024) (h : t.val * 512 + r.val < 8192) :
    k0_pay12 (F := Ideal) (k0_pay3 (iblk m c 0 t) (iblk m c 1 t) (iblk m c 2 t) (iblk m c 4 t) (iblk m c 5 t)) (k0_pay4 (iblk m c 6 t)) (k0_pay5 (iblk m c 7 t))
      (k0_pay6 (iblk m c 0 t) (iblk m c 1 t) (iblk m c 2 t) (iblk m c 4 t) (iblk m c 5 t)) (iblk m c 3 t) (iblk m c 6 t) (ix2 r k)
      = dpre2 (V m c main_arg0) (V m c main_arg1) (V m c main_arg2) (V m c main_arg3) (line (V m c main_v0)) (line (V m c main_v1)) (line (V m c main_v2)) (line (V m c main_v3))
        (ix2 ⟨t.val * 512 + r.val, h⟩ k) := by
  rw [pay12 _ _ _ _ (block_sum m c t), block_row m c t r h]
  have e6 : ∀ t, win0_6.index t = ![0, 0] := by decide +kernel
  refine congrArg (fun d => back (sumRow m c ⟨t.val * 512 + r.val, h⟩) d k) (funext fun l => congrArg₂ (· * ·) (block_d m c t r l h) ?_)
  show _ = V m c main_v2 (ix2 0 l)
  blk_point [iblk, e6]

theorem arr8 : (dats m 0 c).arrAt 8 cfg0.N = dpre2 (V m c main_arg0) (V m c main_arg1) (V m c main_arg2) (V m c main_arg3) (line (V m c main_v0)) (line (V m c main_v1)) (line (V m c main_v2)) (line (V m c main_v3)) := by
  refine (dats m 0 c).arrAt_eq_of_covers 8 _ (by decide +kernel) fun t hf y => ?_
  have ht16 := lt16 t
  blk_simp
  have e8 : ∀ t, win0_8.index t = ![t.val, 0] := by decide +kernel
  have hy : (y 0).val < 512 := (y 0).isLt
  have hr : t.val * 512 + (y 0).val < 8192 := by omega
  have e : ∀ f : S8192x1024.Idx → EReal, f (((View.whole main_v4_0).slice (win0_8.rect t)).emb y) = f (ix2 ⟨t.val * 512 + (y 0).val, hr⟩ (y 1)) := fun f => by
    blk_point [e8]
  have ey : y = ix2 (n0 := 512) (n1 := 1024) (y 0) (y 1) := ext2 rfl rfl
  refine Eq.trans ?_ (e _).symm
  refine Eq.trans ?_ (block_back m c t (y 0) (y 1) hr)
  rw [after0_8]
  by_cases ht : t.val % 16 = 0
  · rw [outsAt0_A m c t ht (by omega)]
    frame_out
    exact congrArg (k0_pay12 (F := Ideal) _ _ _ _ _ _) ey
  · rw [outsAt0_B m c t ht (by omega)]
    frame_out
    exact congrArg (k0_pay12 (F := Ideal) _ _ _ _ _ _) ey

theorem arr9 : (dats m 0 c).arrAt 9 cfg0.N = dpre2 (V m c main_arg0) (V m c main_arg1) (V m c main_arg2) (V m c main_arg3) (line (V m c main_v0)) (line (V m c main_v1)) (line (V m c main_v2)) (line (V m c main_v3)) := by
  refine (dats m 0 c).arrAt_eq_of_covers 9 _ (by decide +kernel) fun t hf y => ?_
  have ht16 := lt16 t
  blk_simp
  have e9 : ∀ t, win0_9.index t = ![t.val, 0] := by decide +kernel
  have hy : (y 0).val < 512 := (y 0).isLt
  have hr : t.val * 512 + (y 0).val < 8192 := by omega
  have e : ∀ f : S8192x1024.Idx → EReal, f (((View.whole main_v4_1).slice (win0_9.rect t)).emb y) = f (ix2 ⟨t.val * 512 + (y 0).val, hr⟩ (y 1)) := fun f => by
    blk_point [e9]
  have ey : y = ix2 (n0 := 512) (n1 := 1024) (y 0) (y 1) := ext2 rfl rfl
  refine Eq.trans ?_ (e _).symm
  refine Eq.trans ?_ (block_back m c t (y 0) (y 1) hr)
  rw [after0_9]
  by_cases ht : t.val % 16 = 0
  · rw [outsAt0_A m c t ht (by omega)]
    frame_out
    exact congrArg (k0_pay12 (F := Ideal) _ _ _ _ _ _) ey
  · rw [outsAt0_B m c t ht (by omega)]
    frame_out
    exact congrArg (k0_pay12 (F := Ideal) _ _ _ _ _ _) ey

/-- Sixteen blocks of 512 tokens are all the tokens. -/
theorem tokens (f : Fin 8192 → EReal) (F : Fin 16 → Fin 512 → EReal) (h : ∀ s k hl, F s k = f ⟨s.val * 512 + k.val, hl⟩) : ∑ s : Fin 16, ∑ k : Fin 512, F s k = ∑ l : Fin 8192, f l :=
  Fin.sum_mul_add_congr h (by decide)

theorem arr10 (hq : ∀ t k, IsR (errRow m c t k)) : (dats m 0 c).arrAt 10 cfg0.N
    = rows (V m c main_arg0) (V m c main_arg1) (V m c main_arg2) (V m c main_arg3) (line (V m c main_v0)) (line (V m c main_v1)) (line (V m c main_v2)) (line (V m c main_v3)) := by
  refine (dats m 0 c).arrAt_eq_of_after_last 10 t0_15 (by decide +kernel) _ fun j => ?_
  blk_simp
  rw [after0_10, Pipeline.eq_sum_fin_of_reset_step_apply_last (fun n h => (outsAt0 m c n h).2.2) 16 (fun _ => 0) _
    (fun t h j => by have := lt16 t; rw [outsAt0_A m c t h (by omega)]; frame_out; rw [zero_add])
    (fun t h j => by have := lt16 t; rw [outsAt0_B m c t h (by omega)]; frame_out; rw [pay2]) (le_of_eq Gen.N_0) t0_15 rfl j, zero_add]
  simp only [pay1]
  unfold rows
  have hi : (j 0).val = 0 ∨ (j 0).val = 1 ∨ (j 0).val = 2 ∨ 3 ≤ (j 0).val := by omega
  rcases hi with hi | hi | hi | hi
  · refine Eq.trans ?_ (if_pos hi).symm
    refine (Fin.sum_fin_congr fun s => if_pos hi).trans (tokens _ _ fun s k hl => ?_)
    exact congrArg₂ (· * ·) (block_d m c s k (j 1) hl) (block_hat m c s k (j 1) hl)
  · have h0 : ¬ (j 0).val = 0 := by omega
    refine Eq.trans ?_ ((if_neg h0).trans (if_pos hi)).symm
    refine (Fin.sum_fin_congr fun s => (if_neg h0).trans (if_pos hi)).trans (tokens _ _ fun s k hl => ?_)
    exact block_d m c s k (j 1) hl
  · have h0 : ¬ (j 0).val = 0 := by omega
    have h1 : ¬ (j 0).val = 1 := by omega
    refine Eq.trans ?_ ((if_neg h0).trans ((if_neg h1).trans (if_pos hi))).symm
    refine Eq.trans ?_ (loss_eq (fun t => ∑ k : Fin 1024, errRow m c t k * errRow m c t k) fun t => IsR.sum fun k => (hq t k).mul (hq t k))
    refine (Fin.sum_fin_congr fun s => (if_neg h0).trans ((if_neg h1).trans (if_pos hi))).trans ?_
    refine Fin.sum_fin_congr fun s => congrArg (· * halfShare) (Fin.sum_fin_congr fun r => Fin.sum_fin_congr fun k => ?_)
    have hl : s.val * 512 + r.val < 8192 := by have := lt16 s; omega
    exact congrArg₂ (· * ·) (block_err m c s r k hl) (block_err m c s r k hl)
  · have h0 : ¬ (j 0).val = 0 := by omega
    have h1 : ¬ (j 0).val = 1 := by omega
    have h2 : ¬ (j 0).val = 2 := by omega
    refine Eq.trans ?_ ((if_neg h0).trans ((if_neg h1).trans (if_neg h2))).symm
    exact (Fin.sum_fin_congr fun s => (if_neg h0).trans ((if_neg h1).trans (if_neg h2))).trans (by simp)

theorem facts_pre : Cert.Pre_finite_loss.Facts where
  bitsLt_bf16_f32 := by decide
  bcast_S_S8192x4096 := by decide
  bcast_S_S4096x1024 := by decide
  bcast_S_S8192x1024 := by decide
  bcast_S_S1024 := by decide

theorem real (hf : Cert.Pre_KLossIdeal_finite_loss (hPre_finite_loss := facts_pre) m) :
    Real (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨p0, p1, p2, p3, p4, p5, p6, p7⟩ := hf c
  exact ⟨fun i => IsR.of (Attn.fine_of _ _ _ p0 i), fun i => IsR.of (Attn.fine_of _ _ _ p1 i), fun i => IsR.of (Attn.fine_of _ _ _ p2 i),
    fun i => IsR.of (Attn.fine_of _ _ _ p3 i), fun i => IsR.of (Attn.fine_of _ _ _ p4 i), fun i => IsR.of (Attn.fine_of _ _ _ p5 i),
    fun i => IsR.of (Attn.fine_of _ _ _ p6 i), fun i => IsR.of (Attn.fine_of _ _ _ p7 i)⟩

theorem quiet : Cert.quiescent_RLossIdeal (hRLossIdeal := Cert.RLossIdeal.Gen.facts) := fun m g _ =>
  (θ_run _ _ _).mono (fun r h => ⟨fun c => (h c).2.2.2, Idealize.ShloMosaic.sem_eq_zero_of_no_sems (by decide) r.2⟩) (Cert.RLossIdeal.Value.run m g)

theorem quiet_pre : Cert.quiescent_RLossIdeal_pre_finite_loss (hRLossIdeal := Cert.RLossIdeal.Gen.facts) (hPre_finite_loss := facts_pre) := fun m g _ =>
  (θ_run _ _ _).mono (fun r h => ⟨fun c => (h c).2.2.2, Idealize.ShloMosaic.sem_eq_zero_of_no_sems (by decide) r.2⟩) (Cert.RLossIdeal.Value.run m g)

theorem algebraic : Cert.algebraic_KLossIdeal_RLossIdeal_pre_finite_loss (hKLossIdeal := Cert.KLossIdeal.Gen.facts)
    (hRLossIdeal := Cert.RLossIdeal.Gen.facts) (hPre_finite_loss := facts_pre) := fun m g m' g' hf hag =>
  ⟨fun c => (dats m 0 c).arrAt 8 cfg0.N, fun c => (dats m 0 c).arrAt 9 cfg0.N, fun c => (dats m 0 c).arrAt 10 cfg0.N, Cert.KLossIdeal.Value.run_blocks m g,
    (θ_run _ _ _).mono (fun _ h c => ⟨((h c).1.trans (Cert.RLossIdeal.Read.val_main_v106_eq _)).trans (by
      obtain ⟨a0, a1, a2, a3, a4, a5, a6, a7⟩ := hag c
      show Cert.RLossIdeal.Read.val_main_v106 (F := Ideal) (m' ((c : Thread Cert.RLossIdeal.nD Cert.RLossIdeal.τ).loc Cert.RLossIdeal.main_arg0)) (m' ((c : Thread Cert.RLossIdeal.nD Cert.RLossIdeal.τ).loc Cert.RLossIdeal.main_arg1)) (m' ((c : Thread Cert.RLossIdeal.nD Cert.RLossIdeal.τ).loc Cert.RLossIdeal.main_arg2)) (m' ((c : Thread Cert.RLossIdeal.nD Cert.RLossIdeal.τ).loc Cert.RLossIdeal.main_arg3)) (m' ((c : Thread Cert.RLossIdeal.nD Cert.RLossIdeal.τ).loc Cert.RLossIdeal.main_arg4)) (m' ((c : Thread Cert.RLossIdeal.nD Cert.RLossIdeal.τ).loc Cert.RLossIdeal.main_arg5)) (m' ((c : Thread Cert.RLossIdeal.nD Cert.RLossIdeal.τ).loc Cert.RLossIdeal.main_arg6)) (m' ((c : Thread Cert.RLossIdeal.nD Cert.RLossIdeal.τ).loc Cert.RLossIdeal.main_arg7)) = _
      rw [a0, a1, a2, a3, a4, a5, a6, a7, value_dpre2 _ _ _ _ _ _ _ _ (real m c hf)]
      exact ((arr8 m c).trans (by rw [V_main_arg0, V_main_arg1, V_main_arg2, V_main_arg3, V_v0, V_v1, V_v2, V_v3])).symm),
      ((h c).2.1.trans (Cert.RLossIdeal.Read.val_main_v112_eq _)).trans (by
      obtain ⟨a0, a1, a2, a3, a4, a5, a6, a7⟩ := hag c
      show Cert.RLossIdeal.Read.val_main_v112 (F := Ideal) (m' ((c : Thread Cert.RLossIdeal.nD Cert.RLossIdeal.τ).loc Cert.RLossIdeal.main_arg0)) (m' ((c : Thread Cert.RLossIdeal.nD Cert.RLossIdeal.τ).loc Cert.RLossIdeal.main_arg1)) (m' ((c : Thread Cert.RLossIdeal.nD Cert.RLossIdeal.τ).loc Cert.RLossIdeal.main_arg2)) (m' ((c : Thread Cert.RLossIdeal.nD Cert.RLossIdeal.τ).loc Cert.RLossIdeal.main_arg3)) (m' ((c : Thread Cert.RLossIdeal.nD Cert.RLossIdeal.τ).loc Cert.RLossIdeal.main_arg4)) (m' ((c : Thread Cert.RLossIdeal.nD Cert.RLossIdeal.τ).loc Cert.RLossIdeal.main_arg5)) (m' ((c : Thread Cert.RLossIdeal.nD Cert.RLossIdeal.τ).loc Cert.RLossIdeal.main_arg6)) (m' ((c : Thread Cert.RLossIdeal.nD Cert.RLossIdeal.τ).loc Cert.RLossIdeal.main_arg7)) = _
      rw [a0, a1, a2, a3, a4, a5, a6, a7, value_cast _ _ _ _ _ _ _ _ (real m c hf)]
      exact ((arr9 m c).trans (by rw [V_main_arg0, V_main_arg1, V_main_arg2, V_main_arg3, V_v0, V_v1, V_v2, V_v3])).symm),
      ((h c).2.2.1.trans (Cert.RLossIdeal.Read.val_main_v111_eq _)).trans (by
      obtain ⟨a0, a1, a2, a3, a4, a5, a6, a7⟩ := hag c
      show Cert.RLossIdeal.Read.val_main_v111 (F := Ideal) (m' ((c : Thread Cert.RLossIdeal.nD Cert.RLossIdeal.τ).loc Cert.RLossIdeal.main_arg0)) (m' ((c : Thread Cert.RLossIdeal.nD Cert.RLossIdeal.τ).loc Cert.RLossIdeal.main_arg1)) (m' ((c : Thread Cert.RLossIdeal.nD Cert.RLossIdeal.τ).loc Cert.RLossIdeal.main_arg2)) (m' ((c : Thread Cert.RLossIdeal.nD Cert.RLossIdeal.τ).loc Cert.RLossIdeal.main_arg3)) (m' ((c : Thread Cert.RLossIdeal.nD Cert.RLossIdeal.τ).loc Cert.RLossIdeal.main_arg4)) (m' ((c : Thread Cert.RLossIdeal.nD Cert.RLossIdeal.τ).loc Cert.RLossIdeal.main_arg5)) (m' ((c : Thread Cert.RLossIdeal.nD Cert.RLossIdeal.τ).loc Cert.RLossIdeal.main_arg6)) (m' ((c : Thread Cert.RLossIdeal.nD Cert.RLossIdeal.τ).loc Cert.RLossIdeal.main_arg7)) = _
      rw [a0, a1, a2, a3, a4, a5, a6, a7, value_rows]
      exact ((arr10 m c (fun t k => by
        unfold errRow sumRow
        rw [V_main_arg0, V_main_arg1, V_main_arg2, V_main_arg3, V_v0, V_v1, V_v2, V_v3]
        exact err_isR _ _ _ _ _ _ _ _ (real m c hf) t k)).trans (by rw [V_main_arg0, V_main_arg1, V_main_arg2, V_main_arg3, V_v0, V_v1, V_v2, V_v3])).symm), (h c).2.2.2⟩) (Cert.RLossIdeal.Value.run m' g')⟩

end Step.Loss
end
end
-- ==== Proof.Step.InProj.lean ====
module
public import proofs.«01_k».proof.Defs
public import proofs.«01_k».proof.Proof.Gen.KInProj
public import proofs.«01_k».proof.Proof.Gen.KInProj.Skeleton
public import proofs.«01_k».proof.Proof.Gen.KInProj.Launch
public import proofs.«01_k».proof.Proof.Gen.KInProj.Points
public import proofs.«01_k».proof.Proof.Gen.KInProj.Frame
public import proofs.«01_k».proof.Proof.Gen.KInProjIdeal
public import proofs.«01_k».proof.Proof.Gen.KInProjIdeal.Skeleton
public import proofs.«01_k».proof.Proof.Gen.KInProjIdeal.Launch
public import proofs.«01_k».proof.Proof.Gen.KInProjIdeal.Points
public import proofs.«01_k».proof.Proof.Gen.KInProjIdeal.Frame
public import proofs.«01_k».proof.Proof.Gen.KInProjIdeal.Value
public import proofs.«01_k».proof.Proof.Gen.RInProjIdeal
public import proofs.«01_k».proof.Proof.Gen.RInProjIdeal.Run
public import proofs.«01_k».proof.Proof.Gen.RInProjIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.InProj
open Cert.KInProjIdeal Cert.KInProjIdeal.Gen Idealize.ShloMosaic Idealize.ShloMosaic.TcCoe Idealize.SL.Sem

variable (m : (ℓ : Loc nD τ sig) → Buf (Elt Ideal) ℓ) (c : Dev nD)

theorem pay1 (a : Vec Ideal S1024x1024 .bf16) (b : Vec Ideal S1024x2432 .bf16) (j : S1024x2432.Idx) :
    k0_pay1 a b j = ∑ k : Fin 1024, a (ix2 (j 0) k) * b (ix2 k (j 1)) := by
  unfold k0_pay1
  pointwise []

/-- The projection of every token. -/
def prod (X : S8192x1024.Idx → EReal) (Y : S1024x9728.Idx → EReal) : S8192x9728.Idx → EReal :=
  fun i => ∑ k : Fin 1024, X (ix2 (i 0) k) * Y (ix2 k (i 1))

theorem arr : (dats m 0 c).arrAt 2 cfg0.N = prod (V m c main_v0) (V m c main_arg1) := by
  refine (dats m 0 c).arrAt_eq_of_covers 2 _ (by decide +kernel) fun t hf y => ?_
  blk_simp
  rw [after0_2]
  frame_out
  rw [pay1]
  unfold prod
  refine Fin.sum_fin_congr fun k => ?_
  have e0 : ∀ t, win0_0.index t = ![t.val % 8, 0] := by decide +kernel
  have e1 : ∀ t, win0_1.index t = ![0, t.val / 8] := by decide +kernel
  have e2 : ∀ t, win0_2.index t = ![t.val % 8, t.val / 8] := by decide +kernel
  blk_point [iblk, e0, e1, e2]

theorem V_v0 : V m c main_v0 = m ((c : Thread nD τ).loc main_arg0) := by
  show StableHlo.after hostOps0 _ _ = _
  simp only [hostOps0]
  after_results_simp
  rfl

theorem value (x : (⟨S8192x1024, .f32⟩ : BufTy).Contents (Elt Ideal)) (y : (⟨S1024x9728, .bf16⟩ : BufTy).Contents (Elt Ideal)) :
    Cert.RInProjIdeal.Read.val_main_v1 (F := Ideal) x y = prod x y := by
  funext i
  rw [Cert.RInProjIdeal.Read.val_main_v1_apply]
  refine Finset.sum_congr rfl fun k _ => ?_
  rw [Cert.RInProjIdeal.Read.val_main_v0_apply]
  exact congrArg₂ (· * ·) (congrArg x (ext2 rfl rfl)) (congrArg y (ext2 rfl rfl))

theorem quiet : Cert.quiescent_RInProjIdeal (hRInProjIdeal := Cert.RInProjIdeal.Gen.facts) := fun m g _ =>
  (θ_run _ _ _).mono (fun r h => ⟨fun c => (h c).2, Idealize.ShloMosaic.sem_eq_zero_of_no_sems (by decide) r.2⟩) (Cert.RInProjIdeal.Value.run m g)

theorem algebraic : Cert.algebraic_KInProjIdeal_RInProjIdeal (hKInProjIdeal := Cert.KInProjIdeal.Gen.facts)
    (hRInProjIdeal := Cert.RInProjIdeal.Gen.facts) := fun m g m' g' _ hag =>
  ⟨fun c => (dats m 0 c).arrAt 2 cfg0.N, Cert.KInProjIdeal.Value.run_blocks m g,
    (θ_run _ _ _).mono (fun _ h c => ⟨((h c).1.trans (Cert.RInProjIdeal.Read.val_main_v1_eq _ _ )).trans (by
      obtain ⟨a0, a1⟩ := hag c
      show Cert.RInProjIdeal.Read.val_main_v1 (F := Ideal) (m' ((c : Thread Cert.RInProjIdeal.nD Cert.RInProjIdeal.τ).loc Cert.RInProjIdeal.main_arg0)) (m' ((c : Thread Cert.RInProjIdeal.nD Cert.RInProjIdeal.τ).loc Cert.RInProjIdeal.main_arg1)) = _
      rw [a0, a1, value]
      exact ((arr m c).trans (by rw [V_v0, V_main_arg1])).symm), (h c).2⟩) (Cert.RInProjIdeal.Value.run m' g')⟩

end Step.InProj
end
end
-- ==== Proof.Step.MlpUp.lean ====
module
public import proofs.«01_k».proof.Defs
public import proofs.«01_k».proof.Proof.Gen.KMlpUp
public import proofs.«01_k».proof.Proof.Gen.KMlpUp.Skeleton
public import proofs.«01_k».proof.Proof.Gen.KMlpUp.Launch
public import proofs.«01_k».proof.Proof.Gen.KMlpUp.Points
public import proofs.«01_k».proof.Proof.Gen.KMlpUp.Frame
public import proofs.«01_k».proof.Proof.Gen.KMlpUpIdeal
public import proofs.«01_k».proof.Proof.Gen.KMlpUpIdeal.Skeleton
public import proofs.«01_k».proof.Proof.Gen.KMlpUpIdeal.Launch
public import proofs.«01_k».proof.Proof.Gen.KMlpUpIdeal.Points
public import proofs.«01_k».proof.Proof.Gen.KMlpUpIdeal.Frame
public import proofs.«01_k».proof.Proof.Gen.KMlpUpIdeal.Value
public import proofs.«01_k».proof.Proof.Gen.RMlpUpIdeal
public import proofs.«01_k».proof.Proof.Gen.RMlpUpIdeal.Run
public import proofs.«01_k».proof.Proof.Gen.RMlpUpIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.MlpUp
open Cert.KMlpUpIdeal Cert.KMlpUpIdeal.Gen Idealize.ShloMosaic Idealize.ShloMosaic.TcCoe Idealize.SL.Sem

variable (m : (ℓ : Loc nD τ sig) → Buf (Elt Ideal) ℓ) (c : Dev nD)

theorem pay1 (a : Vec Ideal S1024x1024 .bf16) (b : Vec Ideal S1x1024x1024 .bf16) (j : S1024x1024.Idx) :
    k0_pay1 a b j = ∑ k : Fin 1024, a (ix2 (j 0) k) * b (ix3 0 k (j 1)) := by
  unfold k0_pay1
  pointwise []

theorem pay2 (a : Vec Ideal S1024x1024 .bf16) (b : Vec Ideal S1x1024x1024 .bf16) (j : S1024x1024.Idx) :
    k0_pay2 a b j = ∑ k : Fin 1024, a (ix2 (j 0) k) * b (ix3 0 k (j 1)) := by
  rw [← pay1]
  rfl

theorem pay3 (a : Vec Ideal S1024x1024 .bf16) (b : Vec Ideal S1x1024x1024 .bf16) (j : S1024x1024.Idx) :
    k0_pay3 a b j = max (∑ k : Fin 1024, a (ix2 (j 0) k) * b (ix3 0 k (j 1))) (Scalar.ofBits .f32 0x00000000#32 : Ideal .f32)
      * max (∑ k : Fin 1024, a (ix2 (j 0) k) * b (ix3 0 k (j 1))) (Scalar.ofBits .f32 0x00000000#32 : Ideal .f32) := by
  rw [← pay1]
  rfl

/-- The projection of every token, a group of columns from each piece of the weight. -/
def prod (X : S8192x1024.Idx → EReal) (Y : S4x1024x1024.Idx → EReal) : S8192x4096.Idx → EReal :=
  fun i => ∑ k : Fin 1024, X (ix2 (i 0) k) * Y (ix3 ⟨(i 1).val / 1024, by
    have h1 : (i 1).val < 4096 := (i 1).isLt
    omega⟩ k ⟨(i 1).val % 1024, Nat.mod_lt _ (by decide)⟩)

/-- Its clamped square. -/
def square (X : S8192x1024.Idx → EReal) (Y : S4x1024x1024.Idx → EReal) : S8192x4096.Idx → EReal :=
  fun i => max (prod X Y i) (Scalar.ofBits .f32 0x00000000#32 : Ideal .f32) * max (prod X Y i) (Scalar.ofBits .f32 0x00000000#32 : Ideal .f32)

theorem arr2 : (dats m 0 c).arrAt 2 cfg0.N = prod (V m c main_arg0) (V m c main_arg1) := by
  refine (dats m 0 c).arrAt_eq_of_covers 2 _ (by decide +kernel) fun t hf y => ?_
  blk_simp
  rw [after0_2]
  frame_out
  rw [pay2]
  unfold prod
  refine Fin.sum_fin_congr fun k => ?_
  have e0 : ∀ t, win0_0.index t = ![t.val % 8, 0] := by decide +kernel
  have e1 : ∀ t, win0_1.index t = ![t.val / 8, 0, 0] := by decide +kernel
  have e2 : ∀ t, win0_2.index t = ![t.val % 8, t.val / 8] := by decide +kernel
  blk_point [iblk, e0, e1, e2]

theorem arr3 : (dats m 0 c).arrAt 3 cfg0.N = square (V m c main_arg0) (V m c main_arg1) := by
  refine (dats m 0 c).arrAt_eq_of_covers 3 _ (by decide +kernel) fun t hf y => ?_
  blk_simp
  rw [after0_3]
  frame_out
  rw [pay3]
  unfold square prod
  have e0 : ∀ t, win0_0.index t = ![t.val % 8, 0] := by decide +kernel
  have e1 : ∀ t, win0_1.index t = ![t.val / 8, 0, 0] := by decide +kernel
  have e2 : ∀ t, win0_3.index t = ![t.val % 8, t.val / 8] := by decide +kernel
  refine congrArg (fun e : EReal => max e (Scalar.ofBits .f32 0x00000000#32 : Ideal .f32) * max e (Scalar.ofBits .f32 0x00000000#32 : Ideal .f32)) (Fin.sum_fin_congr fun k => ?_)
  blk_point [iblk, e0, e1, e2]

theorem columns (y : (⟨S4x1024x1024, .bf16⟩ : BufTy).Contents (Elt Ideal)) (i : Cert.RMlpUpIdeal.S1024x4096.Idx) :
    Cert.RMlpUpIdeal.Read.val_main_v10 (F := Ideal) y i = y (ix3 ⟨(i 1).val / 1024, by
    have h1 : (i 1).val < 4096 := (i 1).isLt
    omega⟩ (i 0) ⟨(i 1).val % 1024, Nat.mod_lt _ (by decide)⟩) := by
  pointwise [Cert.RMlpUpIdeal.Read.val_main_v10, Cert.RMlpUpIdeal.Read.val_main_v9, Cert.RMlpUpIdeal.Read.val_main_v8, Cert.RMlpUpIdeal.Read.val_main_v7, Cert.RMlpUpIdeal.Read.val_main_v6, Cert.RMlpUpIdeal.Read.val_main_v5, Cert.RMlpUpIdeal.Read.val_main_v4, Cert.RMlpUpIdeal.Read.val_main_v3, Cert.RMlpUpIdeal.Read.val_main_v2]
  have hi : (i 1).val < 4096 := (i 1).isLt
  by_cases h0 : (i 1).val < 1024
  · rw [dif_pos h0]
    exact congrArg y (ext3 (by show 0 = (i 1).val / 1024; omega) rfl (by show (i 1).val = (i 1).val % 1024; omega))
  rw [dif_neg h0]
  by_cases h1 : (i 1).val - 1024 < 1024
  · rw [dif_pos h1]
    exact congrArg y (ext3 (by show 1 = (i 1).val / 1024; omega) rfl (by show (i 1).val - 1024 = (i 1).val % 1024; omega))
  rw [dif_neg h1]
  by_cases h2 : (i 1).val - 1024 - 1024 < 1024
  · rw [dif_pos h2]
    exact congrArg y (ext3 (by show 2 = (i 1).val / 1024; omega) rfl (by show (i 1).val - 1024 - 1024 = (i 1).val % 1024; omega))
  rw [dif_neg h2]
  exact congrArg y (ext3 (by show 3 = (i 1).val / 1024; omega) rfl (by show (i 1).val - 1024 - 1024 - 1024 = (i 1).val % 1024; omega))

theorem product (x : (⟨S8192x1024, .bf16⟩ : BufTy).Contents (Elt Ideal)) (y : (⟨S4x1024x1024, .bf16⟩ : BufTy).Contents (Elt Ideal)) :
    Cert.RMlpUpIdeal.Read.val_main_v11 (F := Ideal) x y = prod x y := by
  funext i
  rw [Cert.RMlpUpIdeal.Read.val_main_v11_apply]
  refine Finset.sum_congr rfl fun k _ => ?_
  rw [Cert.RMlpUpIdeal.Read.val_main_v0_apply, columns]
  exact congrArg₂ (· * ·) (congrArg x (ext2 rfl rfl)) (congrArg y (ext3 rfl rfl rfl))

theorem value2 (x : (⟨S8192x1024, .bf16⟩ : BufTy).Contents (Elt Ideal)) (y : (⟨S4x1024x1024, .bf16⟩ : BufTy).Contents (Elt Ideal)) :
    Cert.RMlpUpIdeal.Read.val_main_v12 (F := Ideal) x y = prod x y := by
  funext i
  rw [Cert.RMlpUpIdeal.Read.val_main_v12_apply, product]
  rfl

theorem value3 (x : (⟨S8192x1024, .bf16⟩ : BufTy).Contents (Elt Ideal)) (y : (⟨S4x1024x1024, .bf16⟩ : BufTy).Contents (Elt Ideal)) :
    Cert.RMlpUpIdeal.Read.val_main_v15 (F := Ideal) x y = square x y := by
  funext i
  rw [Cert.RMlpUpIdeal.Read.val_main_v15_apply, Cert.RMlpUpIdeal.Read.val_main_v14_apply, Cert.RMlpUpIdeal.Read.val_main_v13_apply, product]
  rfl

theorem quiet : Cert.quiescent_RMlpUpIdeal (hRMlpUpIdeal := Cert.RMlpUpIdeal.Gen.facts) := fun m g _ =>
  (θ_run _ _ _).mono (fun r h => ⟨fun c => (h c).2.2, Idealize.ShloMosaic.sem_eq_zero_of_no_sems (by decide) r.2⟩) (Cert.RMlpUpIdeal.Value.run m g)

theorem algebraic : Cert.algebraic_KMlpUpIdeal_RMlpUpIdeal (hKMlpUpIdeal := Cert.KMlpUpIdeal.Gen.facts)
    (hRMlpUpIdeal := Cert.RMlpUpIdeal.Gen.facts) := fun m g m' g' _ hag =>
  ⟨fun c => (dats m 0 c).arrAt 2 cfg0.N, fun c => (dats m 0 c).arrAt 3 cfg0.N, Cert.KMlpUpIdeal.Value.run_blocks m g,
    (θ_run _ _ _).mono (fun _ h c => ⟨((h c).1.trans (Cert.RMlpUpIdeal.Read.val_main_v12_eq _ _)).trans (by
      obtain ⟨a0, a1⟩ := hag c
      show Cert.RMlpUpIdeal.Read.val_main_v12 (F := Ideal) (m' ((c : Thread Cert.RMlpUpIdeal.nD Cert.RMlpUpIdeal.τ).loc Cert.RMlpUpIdeal.main_arg0)) (m' ((c : Thread Cert.RMlpUpIdeal.nD Cert.RMlpUpIdeal.τ).loc Cert.RMlpUpIdeal.main_arg1)) = _
      rw [a0, a1, value2]
      exact ((arr2 m c).trans (by rw [V_main_arg0, V_main_arg1])).symm),
      ((h c).2.1.trans (Cert.RMlpUpIdeal.Read.val_main_v15_eq _ _)).trans (by
      obtain ⟨a0, a1⟩ := hag c
      show Cert.RMlpUpIdeal.Read.val_main_v15 (F := Ideal) (m' ((c : Thread Cert.RMlpUpIdeal.nD Cert.RMlpUpIdeal.τ).loc Cert.RMlpUpIdeal.main_arg0)) (m' ((c : Thread Cert.RMlpUpIdeal.nD Cert.RMlpUpIdeal.τ).loc Cert.RMlpUpIdeal.main_arg1)) = _
      rw [a0, a1, value3]
      exact ((arr3 m c).trans (by rw [V_main_arg0, V_main_arg1])).symm), (h c).2.2⟩) (Cert.RMlpUpIdeal.Value.run m' g')⟩

end Step.MlpUp
end
end
-- ==== Proof.Step.DwOut.lean ====
module
public import proofs.«01_k».proof.Defs
public import proofs.«01_k».proof.Proof.Gen.KDwOut
public import proofs.«01_k».proof.Proof.Gen.KDwOut.Skeleton
public import proofs.«01_k».proof.Proof.Gen.KDwOut.Launch
public import proofs.«01_k».proof.Proof.Gen.KDwOut.Points
public import proofs.«01_k».proof.Proof.Gen.KDwOut.Frame
public import proofs.«01_k».proof.Proof.Gen.KDwOutIdeal
public import proofs.«01_k».proof.Proof.Gen.KDwOutIdeal.Skeleton
public import proofs.«01_k».proof.Proof.Gen.KDwOutIdeal.Launch
public import proofs.«01_k».proof.Proof.Gen.KDwOutIdeal.Points
public import proofs.«01_k».proof.Proof.Gen.KDwOutIdeal.Frame
public import proofs.«01_k».proof.Proof.Gen.KDwOutIdeal.Value
public import proofs.«01_k».proof.Proof.Gen.RDwOutIdeal
public import proofs.«01_k».proof.Proof.Gen.RDwOutIdeal.Run
public import proofs.«01_k».proof.Proof.Gen.RDwOutIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DwOut
open Cert.KDwOutIdeal Cert.KDwOutIdeal.Gen Idealize.ShloMosaic Idealize.ShloMosaic.TcCoe Idealize.SL.Sem

variable (m : (ℓ : Loc nD τ sig) → Buf (Elt Ideal) ℓ) (c : Dev nD)

theorem pay1 (a : Vec Ideal S1024x1024 .bf16) (b : Vec Ideal S1024x1024 .f32) (j : S1024x1024.Idx) :
    k0_pay1 a b j = ∑ k : Fin 1024, a (ix2 k (j 0)) * b (ix2 k (j 1)) := by
  pointwise [k0_pay1]

theorem pay2 (a : Vec Ideal S1024x1024 .bf16) (b : Vec Ideal S1024x1024 .f32) (o : Vec Ideal S1024x1024 .f32) (j : S1024x1024.Idx) :
    k0_pay2 a b o j = o j + ∑ k : Fin 1024, a (ix2 k (j 0)) * b (ix2 k (j 1)) := by
  unfold k0_pay2
  pointwise [k0_pay1]

/-- The sum over all tokens. -/
def prod (X : S8192x1024.Idx → EReal) (Y : S8192x1024.Idx → EReal) : S1024x1024.Idx → EReal :=
  fun i => ∑ k : Fin 8192, X (ix2 k (i 0)) * Y (ix2 k (i 1))

theorem lt8 (t : Fin cfg0.N) : t.val < 8 := lt_of_lt_of_eq t.isLt N_0

theorem arr : (dats m 0 c).arrAt 2 cfg0.N = prod (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by have := lt8 t; rw [outsAt0_A m c t h (by omega)]; frame_out; rw [pay1, zero_add])
    (fun t h j => by have := lt8 t; rw [outsAt0_B m c t h (by omega)]; frame_out; rw [pay2]) t ((flush0_2 t).mp hf) _]
  rw [zero_add]
  unfold prod
  refine Fin.sum_mul_add_congr fun s k hl => ?_
  have e0 : ∀ t, win0_0.index t = ![t.val % 8, 0] := by decide +kernel
  have e1 : ∀ t, win0_1.index t = ![t.val % 8, 0] := by decide +kernel
  have e2 : ∀ t, win0_2.index t = ![0, 0] := by decide +kernel
  blk_point [iblk, e0, e1, e2]

theorem value (x : (⟨S8192x1024, .bf16⟩ : BufTy).Contents (Elt Ideal)) (y : (⟨S8192x1024, .f32⟩ : BufTy).Contents (Elt Ideal)) :
    Cert.RDwOutIdeal.Read.val_main_v4 (F := Ideal) x y = prod x y := by
  funext i
  rw [Cert.RDwOutIdeal.Read.val_main_v4_apply, Cert.RDwOutIdeal.Read.val_main_v3_apply]
  refine Finset.sum_congr rfl fun k _ => ?_
  rw [Cert.RDwOutIdeal.Read.val_main_v1_apply, mul_comm]
  exact congrArg₂ (· * ·) (congrArg x (ext2 rfl rfl)) (congrArg y (ext2 rfl rfl))

theorem quiet : Cert.quiescent_RDwOutIdeal (hRDwOutIdeal := Cert.RDwOutIdeal.Gen.facts) := fun m g _ =>
  (θ_run _ _ _).mono (fun r h => ⟨fun c => (h c).2, Idealize.ShloMosaic.sem_eq_zero_of_no_sems (by decide) r.2⟩) (Cert.RDwOutIdeal.Value.run m g)

theorem algebraic : Cert.algebraic_KDwOutIdeal_RDwOutIdeal (hKDwOutIdeal := Cert.KDwOutIdeal.Gen.facts)
    (hRDwOutIdeal := Cert.RDwOutIdeal.Gen.facts) := fun m g m' g' _ hag =>
  ⟨fun c => (dats m 0 c).arrAt 2 cfg0.N, Cert.KDwOutIdeal.Value.run_blocks m g,
    (θ_run _ _ _).mono (fun _ h c => ⟨((h c).1.trans (Cert.RDwOutIdeal.Read.val_main_v4_eq _ _ )).trans (by
      obtain ⟨a0, a1⟩ := hag c
      show Cert.RDwOutIdeal.Read.val_main_v4 (F := Ideal) (m' ((c : Thread Cert.RDwOutIdeal.nD Cert.RDwOutIdeal.τ).loc Cert.RDwOutIdeal.main_arg0)) (m' ((c : Thread Cert.RDwOutIdeal.nD Cert.RDwOutIdeal.τ).loc Cert.RDwOutIdeal.main_arg1)) = _
      rw [a0, a1, value]
      exact ((arr m c).trans (by rw [V_main_arg0, V_main_arg1])).symm), (h c).2⟩) (Cert.RDwOutIdeal.Value.run m' g')⟩

end Step.DwOut
end
end
-- ==== Proof.Step.DwProjSsd.lean ====
module
public import proofs.«01_k».proof.Defs
public import proofs.«01_k».proof.Proof.Gen.KDwProjSsd
public import proofs.«01_k».proof.Proof.Gen.KDwProjSsd.Skeleton
public import proofs.«01_k».proof.Proof.Gen.KDwProjSsd.Launch
public import proofs.«01_k».proof.Proof.Gen.KDwProjSsd.Points
public import proofs.«01_k».proof.Proof.Gen.KDwProjSsd.Frame
public import proofs.«01_k».proof.Proof.Gen.KDwProjSsdIdeal
public import proofs.«01_k».proof.Proof.Gen.KDwProjSsdIdeal.Skeleton
public import proofs.«01_k».proof.Proof.Gen.KDwProjSsdIdeal.Launch
public import proofs.«01_k».proof.Proof.Gen.KDwProjSsdIdeal.Points
public import proofs.«01_k».proof.Proof.Gen.KDwProjSsdIdeal.Frame
public import proofs.«01_k».proof.Proof.Gen.KDwProjSsdIdeal.Value
public import proofs.«01_k».proof.Proof.Gen.RDwProjSsdIdeal
public import proofs.«01_k».proof.Proof.Gen.RDwProjSsdIdeal.Run
public import proofs.«01_k».proof.Proof.Gen.RDwProjSsdIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DwProjSsd
open Cert.KDwProjSsdIdeal Cert.KDwProjSsdIdeal.Gen Idealize.ShloMosaic Idealize.ShloMosaic.TcCoe Idealize.SL.Sem

variable (m : (ℓ : Loc nD τ sig) → Buf (Elt Ideal) ℓ) (c : Dev nD)

theorem pay1 (a b : Vec Ideal S1024x1024 .bf16) (j : S1024x1024.Idx) :
    k0_pay1 a b j = ∑ k : Fin 1024, a (ix2 k (j 0)) * b (ix2 k (j 1)) := by
  pointwise [k0_pay1]

theorem pay2 (a b : Vec Ideal S1024x1024 .bf16) (o : Vec Ideal S1024x1024 .f32) (j : S1024x1024.Idx) :
    k0_pay2 a b o j = o j + ∑ k : Fin 1024, a (ix2 k (j 0)) * b (ix2 k (j 1)) := by
  unfold k0_pay2
  pointwise [k0_pay1]

/-- The sum over all tokens. -/
def prod (X : S8192x2048.Idx → EReal) (Y : S8192x1024.Idx → EReal) : S2048x1024.Idx → EReal :=
  fun i => ∑ k : Fin 8192, X (ix2 k (i 0)) * Y (ix2 k (i 1))

theorem arr : (dats m 0 c).arrAt 2 cfg0.N = prod (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [pay1, zero_add])
    (fun t h j => by rw [outsAt0_B m c t h (by omega)]; frame_out; rw [pay2]) t ((flush0_2 t).mp hf) _]
  rw [zero_add]
  unfold prod
  refine Fin.sum_mul_add_congr fun s k hl => ?_
  have e0 : ∀ t, win0_0.index t = ![t.val % 8, t.val / 8] := by decide +kernel
  have e1 : ∀ t, win0_1.index t = ![t.val % 8, 0] := by decide +kernel
  have e2 : ∀ t, win0_2.index t = ![t.val / 8, 0] := by decide +kernel
  blk_point [iblk, e0, e1, e2]

theorem value (x : (⟨S8192x2048, .bf16⟩ : BufTy).Contents (Elt Ideal)) (y : (⟨S8192x1024, .bf16⟩ : BufTy).Contents (Elt Ideal)) :
    Cert.RDwProjSsdIdeal.Read.val_main_v5 (F := Ideal) x y = prod x y := by
  funext i
  rw [Cert.RDwProjSsdIdeal.Read.val_main_v5_apply, Cert.RDwProjSsdIdeal.Read.val_main_v4_apply]
  refine Finset.sum_congr rfl fun k _ => ?_
  rw [Cert.RDwProjSsdIdeal.Read.val_main_v3_apply, Cert.RDwProjSsdIdeal.Read.val_main_v1_apply, mul_comm]
  exact congrArg₂ (· * ·) (congrArg x (ext2 rfl rfl)) (congrArg y (ext2 rfl rfl))

theorem quiet : Cert.quiescent_RDwProjSsdIdeal (hRDwProjSsdIdeal := Cert.RDwProjSsdIdeal.Gen.facts) := fun m g _ =>
  (θ_run _ _ _).mono (fun r h => ⟨fun c => (h c).2, Idealize.ShloMosaic.sem_eq_zero_of_no_sems (by decide) r.2⟩) (Cert.RDwProjSsdIdeal.Value.run m g)

theorem algebraic : Cert.algebraic_KDwProjSsdIdeal_RDwProjSsdIdeal (hKDwProjSsdIdeal := Cert.KDwProjSsdIdeal.Gen.facts)
    (hRDwProjSsdIdeal := Cert.RDwProjSsdIdeal.Gen.facts) := fun m g m' g' _ hag =>
  ⟨fun c => (dats m 0 c).arrAt 2 cfg0.N, Cert.KDwProjSsdIdeal.Value.run_blocks m g,
    (θ_run _ _ _).mono (fun _ h c => ⟨((h c).1.trans (Cert.RDwProjSsdIdeal.Read.val_main_v5_eq _ _ )).trans (by
      obtain ⟨a0, a1⟩ := hag c
      show Cert.RDwProjSsdIdeal.Read.val_main_v5 (F := Ideal) (m' ((c : Thread Cert.RDwProjSsdIdeal.nD Cert.RDwProjSsdIdeal.τ).loc Cert.RDwProjSsdIdeal.main_arg0)) (m' ((c : Thread Cert.RDwProjSsdIdeal.nD Cert.RDwProjSsdIdeal.τ).loc Cert.RDwProjSsdIdeal.main_arg1)) = _
      rw [a0, a1, value]
      exact ((arr m c).trans (by rw [V_main_arg0, V_main_arg1])).symm), (h c).2⟩) (Cert.RDwProjSsdIdeal.Value.run m' g')⟩

end Step.DwProjSsd
end
end
-- ==== Proof.Step.DwProjAttn.lean ====
module
public import proofs.«01_k».proof.Defs
public import proofs.«01_k».proof.Proof.Gen.KDwProjAttn
public import proofs.«01_k».proof.Proof.Gen.KDwProjAttn.Skeleton
public import proofs.«01_k».proof.Proof.Gen.KDwProjAttn.Launch
public import proofs.«01_k».proof.Proof.Gen.KDwProjAttn.Points
public import proofs.«01_k».proof.Proof.Gen.KDwProjAttn.Frame
public import proofs.«01_k».proof.Proof.Gen.KDwProjAttnIdeal
public import proofs.«01_k».proof.Proof.Gen.KDwProjAttnIdeal.Skeleton
public import proofs.«01_k».proof.Proof.Gen.KDwProjAttnIdeal.Launch
public import proofs.«01_k».proof.Proof.Gen.KDwProjAttnIdeal.Points
public import proofs.«01_k».proof.Proof.Gen.KDwProjAttnIdeal.Frame
public import proofs.«01_k».proof.Proof.Gen.KDwProjAttnIdeal.Value
public import proofs.«01_k».proof.Proof.Gen.RDwProjAttnIdeal
public import proofs.«01_k».proof.Proof.Gen.RDwProjAttnIdeal.Run
public import proofs.«01_k».proof.Proof.Gen.RDwProjAttnIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
@[expose] public section
set_option maxRecDepth 16384
noncomputable section
namespace Step.DwProjAttn
open Cert.KDwProjAttnIdeal Cert.KDwProjAttnIdeal.Gen Idealize.ShloMosaic Idealize.ShloMosaic.TcCoe Idealize.SL.Sem

variable (m : (ℓ : Loc nD τ sig) → Buf (Elt Ideal) ℓ) (c : Dev nD)

theorem pay1 (a : Vec Ideal S1024x256 .f32) (b : Vec Ideal S1024x256 .bf16) (j : S256x256.Idx) :
    k0_pay1 a b j = ∑ k : Fin 1024, a (ix2 k (j 0)) * b (ix2 k (j 1)) := by
  pointwise [k0_pay1]

theorem pay2 (a : Vec Ideal S1024x256 .f32) (b : Vec Ideal S1024x256 .bf16) (j : S1x256x256.Idx) :
    k0_pay2 a b j = ∑ k : Fin 1024, a (ix2 k (j 1)) * b (ix2 k (j 2)) := by
  unfold k0_pay2
  pointwise [k0_pay1]

theorem pay3 (a : Vec Ideal S1024x256 .f32) (b : Vec Ideal S1024x256 .bf16) (o : Vec Ideal S1x256x256 .f32) (j : S1x256x256.Idx) :
    k0_pay3 a b o j = o j + ∑ k : Fin 1024, a (ix2 k (j 1)) * b (ix2 k (j 2)) := by
  unfold k0_pay3
  pointwise [k0_pay1]

/-- The sum over all tokens, a group of columns a piece. -/
def prod (X : S8192x256.Idx → EReal) (Y : S8192x1024.Idx → EReal) : S4x256x256.Idx → EReal :=
  fun i => ∑ k : Fin 8192, X (ix2 k (i 1)) * Y (ix2 k ⟨(i 0).val * 256 + (i 2).val, by
    have h0 : (i 0).val < 4 := (i 0).isLt
    have h2 : (i 2).val < 256 := (i 2).isLt
    omega⟩)

theorem arr : (dats m 0 c).arrAt 2 cfg0.N = prod (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [pay2, zero_add])
    (fun t h j => by rw [outsAt0_B m c t h (by omega)]; frame_out; rw [pay3]) t ((flush0_2 t).mp hf) _]
  rw [zero_add]
  unfold prod
  refine Fin.sum_mul_add_congr fun s k hl => ?_
  have e0 : ∀ t, win0_0.index t = ![t.val % 8, 0] := by decide +kernel
  have e1 : ∀ t, win0_1.index t = ![t.val % 8, t.val / 8] := by decide +kernel
  have e2 : ∀ t, win0_2.index t = ![t.val / 8, 0, 0] := by decide +kernel
  blk_point [iblk, e0, e1, e2]

theorem value (x : (⟨S8192x256, .f32⟩ : BufTy).Contents (Elt Ideal)) (y : (⟨S8192x1024, .bf16⟩ : BufTy).Contents (Elt Ideal)) :
    Cert.RDwProjAttnIdeal.Read.val_main_v28 (F := Ideal) x y = prod x y := by
  funext i
  have h14 : ∀ j, Cert.RDwProjAttnIdeal.Read.val_main_v13 (F := Ideal) x y j = ∑ k : Fin 8192, x (ix2 k (j 0)) * y (ix2 k (j 1)) := fun j => by
    rw [Cert.RDwProjAttnIdeal.Read.val_main_v13_apply, Cert.RDwProjAttnIdeal.Read.val_main_v12_apply]
    refine Finset.sum_congr rfl fun k _ => ?_
    rw [Cert.RDwProjAttnIdeal.Read.val_main_v11_apply, mul_comm]
    exact congrArg₂ (· * ·) (congrArg x (ext2 rfl rfl)) (congrArg y (ext2 rfl rfl))
  rw [Cert.RDwProjAttnIdeal.Read.val_main_v28_apply, Cert.RDwProjAttnIdeal.Read.val_main_v25_apply, Cert.RDwProjAttnIdeal.Read.val_main_v22_apply]
  pointwise [Cert.RDwProjAttnIdeal.Read.val_main_v19, Cert.RDwProjAttnIdeal.Read.val_main_v21, Cert.RDwProjAttnIdeal.Read.val_main_v24, Cert.RDwProjAttnIdeal.Read.val_main_v27, Cert.RDwProjAttnIdeal.Read.val_main_v14, Cert.RDwProjAttnIdeal.Read.val_main_v15, Cert.RDwProjAttnIdeal.Read.val_main_v16, Cert.RDwProjAttnIdeal.Read.val_main_v17, Cert.RDwProjAttnIdeal.Read.val_main_v18, Cert.RDwProjAttnIdeal.Read.val_main_v20, Cert.RDwProjAttnIdeal.Read.val_main_v23, Cert.RDwProjAttnIdeal.Read.val_main_v26]
  rw [show Cert.RDwProjAttnIdeal.Read.val_main_cst_0 (F := Ideal) (Shape.Idx.first Cert.RDwProjAttnIdeal.Gen.h_S_) = 0 from Ideal.ofBits_zero_f32,
    show Cert.RDwProjAttnIdeal.Read.val_main_cst_1 (F := Ideal) (Shape.Idx.first Cert.RDwProjAttnIdeal.Gen.h_S_) = 0 from Ideal.ofBits_zero_f32,
    show Cert.RDwProjAttnIdeal.Read.val_main_cst_2 (F := Ideal) (Shape.Idx.first Cert.RDwProjAttnIdeal.Gen.h_S_) = 0 from Ideal.ofBits_zero_f32,
    show Cert.RDwProjAttnIdeal.Read.val_main_cst_3 (F := Ideal) (Shape.Idx.first Cert.RDwProjAttnIdeal.Gen.h_S_) = 0 from Ideal.ofBits_zero_f32]
  have hi : (i 0).val < 4 := (i 0).isLt
  split_ifs with h3 h2 h1 h0 h0 h1 h0 h0 h2 h1 h0 h0 h1 h0 h0
  all_goals first
    | omega
    | (simp only [zero_add, add_zero]
       rw [h14]
       exact Finset.sum_congr rfl fun k _ => congrArg₂ (· * ·) rfl (congrArg y (ext2 rfl (by
         show _ + (i 2).val = (i 0).val * 256 + (i 2).val
         omega))))
    | (simp only [zero_add, add_zero]
       rw [h14]
       exact Finset.sum_congr rfl fun k _ => congrArg₂ (· * ·) rfl (congrArg y (ext2 rfl (by
         show (i 2).val = (i 0).val * 256 + (i 2).val
         omega))))

theorem quiet : Cert.quiescent_RDwProjAttnIdeal (hRDwProjAttnIdeal := Cert.RDwProjAttnIdeal.Gen.facts) := fun m g _ =>
  (θ_run _ _ _).mono (fun r h => ⟨fun c => (h c).2, Idealize.ShloMosaic.sem_eq_zero_of_no_sems (by decide) r.2⟩) (Cert.RDwProjAttnIdeal.Value.run m g)

theorem algebraic : Cert.algebraic_KDwProjAttnIdeal_RDwProjAttnIdeal (hKDwProjAttnIdeal := Cert.KDwProjAttnIdeal.Gen.facts)
    (hRDwProjAttnIdeal := Cert.RDwProjAttnIdeal.Gen.facts) := fun m g m' g' _ hag =>
  ⟨fun c => (dats m 0 c).arrAt 2 cfg0.N, Cert.KDwProjAttnIdeal.Value.run_blocks m g,
    (θ_run _ _ _).mono (fun _ h c => ⟨((h c).1.trans (Cert.RDwProjAttnIdeal.Read.val_main_v28_eq _ _ )).trans (by
      obtain ⟨a0, a1⟩ := hag c
      show Cert.RDwProjAttnIdeal.Read.val_main_v28 (F := Ideal) (m' ((c : Thread Cert.RDwProjAttnIdeal.nD Cert.RDwProjAttnIdeal.τ).loc Cert.RDwProjAttnIdeal.main_arg0)) (m' ((c : Thread Cert.RDwProjAttnIdeal.nD Cert.RDwProjAttnIdeal.τ).loc Cert.RDwProjAttnIdeal.main_arg1)) = _
      rw [a0, a1, value]
      exact ((arr m c).trans (by rw [V_main_arg0, V_main_arg1])).symm), (h c).2⟩) (Cert.RDwProjAttnIdeal.Value.run m' g')⟩

end Step.DwProjAttn
end
end
-- ==== Proof.Step.GatenormRef.lean ====
module
public import proofs.«01_k».proof.Defs
public import proofs.«01_k».proof.Proof.Gen.RGatenormIdeal
public import proofs.«01_k».proof.Proof.Gen.RGatenormIdeal.Run
public import proofs.«01_k».proof.Proof.Gen.RGatenormIdeal.Read
public import Idealize.ShloMosaic.Adequacy
public import Idealize.ShloMosaic.Init
public import Idealize.ShloMosaic.Lib.ValueIdxCore

public import proofs.«01_k».proof.Proof.Step.Base
public import proofs.«01_k».proof.Proof.Step.NormMath
@[expose] public section
set_option maxRecDepth 16384
noncomputable section
namespace Step.Gatenorm
open Idealize.ShloMosaic

/-- The length of a group, as the programs write it. -/
def span : EReal := Ideal.ofBits .f32 0x44000000#32
def one : EReal := Ideal.ofBits .f32 0x3F800000#32

theorem one_eq : one = 1 := Ideal.ofBits_one_f32

/-- A row with the skip term, gated. -/
def gated (y x u s : Fin 2048 → EReal) (l : Fin 2048) : EReal := (y l + s l * x l) * (u l * Ideal.div one (one + Ideal.exp (-u l)))

/-- A group of 512 columns of a row. -/
def part (z : Fin 2048 → EReal) (g : Fin 4) (k : Fin 512) : EReal := z ⟨g.val * 512 + k.val, by omega⟩

/-- A group over its root mean square. -/
def scaled (z : Fin 2048 → EReal) (g : Fin 4) (k : Fin 512) : EReal :=
  part z g k * Ideal.rsqrt (Ideal.div (∑ l, part z g l * part z g l) span + tiny)

/-- The gated norm of a row. -/
def normed (z w : Fin 2048 → EReal) (l : Fin 2048) : EReal :=
  scaled z ⟨l.val / 512, by omega⟩ ⟨l.val % 512, Nat.mod_lt _ (by decide)⟩ * w l

theorem normed_of (z w : Fin 2048 → EReal) (l : Fin 2048) (g : Fin 4) (k : Fin 512) (h : l.val = g.val * 512 + k.val) : normed z w l = scaled z g k * w l := by
  have hg : (⟨l.val / 512, by omega⟩ : Fin 4) = g := Fin.ext (by show l.val / 512 = g.val; omega)
  have hk : (⟨l.val % 512, Nat.mod_lt _ (by decide)⟩ : Fin 512) = k := Fin.ext (by show l.val % 512 = k.val; omega)
  unfold normed
  rw [hg, hk]

section Whole
variable (y : Cert.RGatenormIdeal.S8192x2048.Idx → EReal) (x : Cert.RGatenormIdeal.S8192x3072.Idx → EReal) (u : Cert.RGatenormIdeal.S8192x9728.Idx → EReal) (s w : Fin 2048 → EReal)

/-- The gated rows of all the tokens. -/
def gate (r : Fin 8192) : Fin 2048 → EReal :=
  gated (fun l => y (ix2 r l)) (fun l => x (ix2 r ⟨l.val, by omega⟩)) (fun l => u (ix2 r ⟨l.val, by omega⟩)) s

/-- The gated norm of all the tokens. -/
def out : Cert.RGatenormIdeal.S8192x2048.Idx → EReal := fun i => normed (gate y x u s (i 0)) w (i 1)

/-- Its projection. -/
def proj (p : Cert.RGatenormIdeal.S2048x1024.Idx → EReal) : Cert.RGatenormIdeal.S8192x1024.Idx → EReal := fun i => ∑ k : Fin 2048, normed (gate y x u s (i 0)) w k * p (ix2 k (i 1))

end Whole

section Ref

open Cert.RGatenormIdeal Cert.RGatenormIdeal.Read Idealize.ShloMosaic

variable (x0 : (⟨S8192x2048, .f32⟩ : BufTy).Contents (Elt Ideal)) (x1 : (⟨S8192x3072, .f32⟩ : BufTy).Contents (Elt Ideal)) (x2 : (⟨S8192x9728, .f32⟩ : BufTy).Contents (Elt Ideal))
  (x3 : (⟨S32, .f32⟩ : BufTy).Contents (Elt Ideal)) (x4 : (⟨S2048, .f32⟩ : BufTy).Contents (Elt Ideal)) (x5 : (⟨S2048x1024, .bf16⟩ : BufTy).Contents (Elt Ideal))

/-- The skip weight of a column: that of its head. -/
def skip : Fin 2048 → EReal := fun l => x3 (ix1 ⟨l.val / 64, by omega⟩)

theorem heads (i : S8192x2048.Idx) : idx_main_v2 (idx_main_v9 i) = i := by
  have h0 : (i 0).val < 8192 := (i 0).isLt
  have h1 : (i 1).val < 2048 := (i 1).isLt
  exact ext2 (p := 8192) (q := 2048)
    (by show ((((i 0).val * 2048 + (i 1).val) / 2048 * 32 + ((i 0).val * 2048 + (i 1).val) / 64 % 32) * 64 + ((i 0).val * 2048 + (i 1).val) % 64) / 2048 = (i 0).val; omega)
    (by show ((((i 0).val * 2048 + (i 1).val) / 2048 * 32 + ((i 0).val * 2048 + (i 1).val) / 64 % 32) * 64 + ((i 0).val * 2048 + (i 1).val) % 64) % 2048 = (i 1).val; omega)

theorem v6 (i : S8192x2048.Idx) : val_main_v6 (F := Ideal) x3 (idx_main_v9 i) = skip x3 (i 1) := by
  have h0 : (i 0).val < 8192 := (i 0).isLt
  have h1 : (i 1).val < 2048 := (i 1).isLt
  rw [val_main_v6_apply, val_main_v5_apply, val_main_v3_apply]
  exact congrArg x3 (funext fun a => match a with
    | ⟨0, _⟩ => Fin.ext (by show ((i 0).val * 2048 + (i 1).val) / 64 % 32 = (i 1).val / 64; omega))

theorem v11 (i : S8192x2048.Idx) : val_main_v11 (F := Ideal) x0 x1 x2 x3 i = gate x0 x1 x2 (skip x3) (i 0) (i 1) := by
  have e4 : idx_main_v4 (idx_main_v9 i) = i := heads i
  rw [val_main_v11_apply, val_main_v9_apply, val_main_v8_apply, val_main_v2_apply, val_main_v7_apply, v6, val_main_v4_apply, heads, e4, val_main_v0_apply, val_main_v10_apply,
    val_main_call0_v5_apply, val_main_call0_v4_apply, val_main_call0_v3_apply, val_main_call0_v2_apply, val_main_call0_v1_apply, val_main_call0_v0_apply, val_main_v1_apply,
    val_main_call0_cst_apply, val_main_call0_cst_0_apply, Ideal.hostNegf_def, Ideal.negf_def]
  have e0 : x0 i = x0 (ix2 (i 0) (i 1)) := congrArg x0 (ext2 (p := 8192) (q := 2048) rfl rfl)
  have e1 : x1 (idx_main_v0 i) = x1 (ix2 (i 0) ⟨(i 1).val, lt_trans (i 1).isLt (by decide)⟩) := congrArg x1 (ext2 (p := 8192) (q := 3072) rfl rfl)
  have e2 : x2 (idx_main_v1 i) = x2 (ix2 (i 0) ⟨(i 1).val, lt_trans (i 1).isLt (by decide)⟩) := congrArg x2 (ext2 (p := 8192) (q := 9728) rfl rfl)
  rw [e0, e1, e2]
  rfl

theorem v12 (i : S8192x4x512.Idx) : val_main_v12 (F := Ideal) x0 x1 x2 x3 i = part (gate x0 x1 x2 (skip x3) (i 0)) (i 1) (i 2) := by
  have h0 : (i 0).val < 8192 := (i 0).isLt
  have h1 : (i 1).val < 4 := (i 1).isLt
  have h2 : (i 2).val < 512 := (i 2).isLt
  rw [val_main_v12_apply, v11]
  have e0 : (idx_main_v12 i) 0 = i 0 := Fin.ext (by show (((i 0).val * 4 + (i 1).val) * 512 + (i 2).val) / 2048 = (i 0).val; omega)
  have e1 : (idx_main_v12 i) 1 = (⟨(i 1).val * 512 + (i 2).val, by omega⟩ : Fin 2048) := Fin.ext (by
    show (((i 0).val * 4 + (i 1).val) * 512 + (i 2).val) % 2048 = (i 1).val * 512 + (i 2).val; omega)
  exact congrArg₂ (gate x0 x1 x2 (skip x3)) e0 e1

theorem v22 (i : S8192x4x512.Idx) : val_main_v22 (F := Ideal) x0 x1 x2 x3 i = scaled (gate x0 x1 x2 (skip x3) (i 0)) (i 1) (i 2) := by
  rw [val_main_v22_apply, v12, val_main_v21_apply, val_main_v20_apply, val_main_v19_apply, val_main_v18_apply, val_main_v17_apply, val_main_v16_apply, val_main_v15_apply,
    val_main_v14_apply, val_main_cst_apply, val_main_cst_0_apply, val_main_cst_1_apply]
  have h : ∀ k, val_main_v13 (F := Ideal) x0 x1 x2 x3 (idx_main_v14 (idx_main_v15 (idx_main_v21 i)) k)
      = part (gate x0 x1 x2 (skip x3) (i 0)) (i 1) k * part (gate x0 x1 x2 (skip x3) (i 0)) (i 1) k := fun k => by
    rw [val_main_v13_apply, v12]
    rfl
  exact congrArg (fun e : EReal => part (gate x0 x1 x2 (skip x3) (i 0)) (i 1) (i 2) * Ideal.rsqrt (Ideal.div e span + tiny)) (hostSum h)

theorem v26 (i : S8192x2048.Idx) : val_main_v26 (F := Ideal) x0 x1 x2 x3 x4 i = normed (gate x0 x1 x2 (skip x3) (i 0)) (fun l => x4 (ix1 l)) (i 1) := by
  have h0 : (i 0).val < 8192 := (i 0).isLt
  have h1 : (i 1).val < 2048 := (i 1).isLt
  rw [val_main_v26_apply, val_main_v23_apply, v22, val_main_v25_apply, val_main_v24_apply]
  have e0 : (idx_main_v23 i) 0 = i 0 := Fin.ext (by show ((i 0).val * 2048 + (i 1).val) / 2048 = (i 0).val; omega)
  have e1 : (idx_main_v23 i) 1 = (⟨(i 1).val / 512, by omega⟩ : Fin 4) := Fin.ext (by show ((i 0).val * 2048 + (i 1).val) / 512 % 4 = (i 1).val / 512; omega)
  have e2 : (idx_main_v23 i) 2 = (⟨(i 1).val % 512, Nat.mod_lt _ (by decide)⟩ : Fin 512) := Fin.ext (by show ((i 0).val * 2048 + (i 1).val) % 512 = (i 1).val % 512; omega)
  exact congrArg₂ (· * ·) (congr (congr (congrArg (fun r => scaled (gate x0 x1 x2 (skip x3) r)) e0) e1) e2)
    (congrArg x4 (funext fun a => match a with | ⟨0, _⟩ => rfl))

theorem value27 : val_main_v27 (F := Ideal) x0 x1 x2 x3 x4 = out x0 x1 x2 (skip x3) (fun l => x4 (ix1 l)) := by
  funext i
  rw [val_main_v27_apply, v26]
  rfl

theorem value29 : val_main_v29 (F := Ideal) x0 x1 x2 x3 x4 x5 = proj x0 x1 x2 (skip x3) (fun l => x4 (ix1 l)) x5 := by
  funext i
  rw [val_main_v29_apply]
  refine Fin.sum_fin_congr fun k => ?_
  rw [v26, val_main_v28_apply]
  exact congrArg₂ (· * ·) rfl (congrArg x5 (ext2 (p := 2048) (q := 1024) rfl rfl))

end Ref

end Step.Gatenorm
end
end
-- ==== Proof.Step.Gatenorm.lean ====
module
public import proofs.«01_k».proof.Defs
public import proofs.«01_k».proof.Proof.Gen.KGatenorm
public import proofs.«01_k».proof.Proof.Gen.KGatenorm.Skeleton
public import proofs.«01_k».proof.Proof.Gen.KGatenorm.Launch
public import proofs.«01_k».proof.Proof.Gen.KGatenorm.Points
public import proofs.«01_k».proof.Proof.Gen.KGatenorm.Frame
public import proofs.«01_k».proof.Proof.Gen.KGatenormIdeal
public import proofs.«01_k».proof.Proof.Gen.KGatenormIdeal.Skeleton
public import proofs.«01_k».proof.Proof.Gen.KGatenormIdeal.Launch
public import proofs.«01_k».proof.Proof.Gen.KGatenormIdeal.Points
public import proofs.«01_k».proof.Proof.Gen.KGatenormIdeal.Frame
public import proofs.«01_k».proof.Proof.Gen.KGatenormIdeal.Value
public import proofs.«01_k».proof.Proof.Gen.RGatenormIdeal
public import proofs.«01_k».proof.Proof.Gen.RGatenormIdeal.Run
public import proofs.«01_k».proof.Proof.Gen.RGatenormIdeal.Read
public import Idealize.ShloMosaic.Adequacy
public import Idealize.ShloMosaic.Init
public import Idealize.ShloMosaic.Lib.ValueIdxCore
public import Idealize.ShloMosaic.Lib.KernelVsHost
public import proofs.«01_k».proof.Proof.Step.Base
public import proofs.«01_k».proof.Proof.Step.GatenormRef
@[expose] public section
set_option maxRecDepth 16384
noncomputable section
namespace Step.Gatenorm
open Cert.KGatenormIdeal Cert.KGatenormIdeal.Gen Idealize.ShloMosaic Idealize.ShloMosaic.TcCoe Idealize.SL.Sem

theorem pay3 (y x u : Vec Ideal S256x2048 .f32) (s : Vec Ideal S1x2048 .f32) (j : S256x2048.Idx) :
    k0_pay3 (F := Ideal) y x u s j = gated (fun l => y (ix2 (j 0) l)) (fun l => x (ix2 (j 0) l)) (fun l => u (ix2 (j 0) l)) (fun l => s (ix2 0 l)) (j 1) := by
  have e : j = ix2 (j 0) (j 1) := ext2 rfl rfl
  unfold k0_pay3
  pointwise []
  refine congrArg₂ (· * ·) (congrArg₂ (· + ·) (congrArg y e) (congrArg₂ (· * ·) rfl (congrArg x e))) (congrArg₂ (· * ·) (congrArg u e) ?_)
  rw [zero_sub, ← one_eq]
  exact congrArg (fun i => Ideal.div one (one + Ideal.exp (-u i))) e

theorem scaled_of (z : S256x2048.Idx → EReal) (r : Fin 256) (g : Fin 4) (k : Fin 512) (f : Fin 512 → Fin 2048) (h : ∀ k, (f k).val = g.val * 512 + k.val) :
    z (ix2 r (f k)) * Ideal.rsqrt (Ideal.div (∑ l, z (ix2 r (f l)) * z (ix2 r (f l))) span + tiny) = scaled (fun l => z (ix2 r l)) g k := by
  have e : f = fun k => ⟨g.val * 512 + k.val, by omega⟩ := funext fun k => Fin.ext (h k)
  subst e
  rfl

section Block
variable (y x u : Vec Ideal S256x2048 .f32) (s : Vec Ideal S1x2048 .f32)

/-- The gated rows of a block. -/
def block (r : Fin 256) (l : Fin 2048) : EReal := k0_pay3 (F := Ideal) y x u s (ix2 r l)

theorem pay4 (j : S256x512.Idx) : k0_pay4 (F := Ideal) y x u s j = scaled (block y x u s (j 0)) 0 (j 1) := by
  unfold k0_pay4 block
  generalize k0_pay3 (F := Ideal) y x u s = z
  pointwise []
  exact scaled_of z (j 0) 0 (j 1) (fun k => ⟨k.val, by omega⟩) fun k => by show k.val = 0 * 512 + k.val; omega

theorem pay5 (j : S256x512.Idx) : k0_pay5 (F := Ideal) y x u s j = scaled (block y x u s (j 0)) 1 (j 1) := by
  unfold k0_pay5 block
  generalize k0_pay3 (F := Ideal) y x u s = z
  pointwise []
  exact scaled_of z (j 0) 1 (j 1) (fun k => ⟨512 + k.val, by omega⟩) fun k => by show 512 + k.val = 1 * 512 + k.val; omega

theorem pay6 (j : S256x512.Idx) : k0_pay6 (F := Ideal) y x u s j = part (block y x u s (j 0)) 2 (j 1) := by
  unfold k0_pay6 block
  generalize k0_pay3 (F := Ideal) y x u s = z
  pointwise []
  exact congrArg z (ext2 rfl (by show 1024 + (j 1).val = 2 * 512 + (j 1).val; omega))

theorem pay7 (j : S256x512.Idx) : k0_pay7 (F := Ideal) y x u s j = part (block y x u s (j 0)) 2 (j 1) * part (block y x u s (j 0)) 2 (j 1) := by
  have h := pay6 y x u s
  unfold k0_pay7
  generalize k0_pay6 (F := Ideal) y x u s = z at *
  pointwise []
  simp only [h]

theorem pay1 (w : Vec Ideal S1x2048 .f32) (j : S256x2048.Idx) :
    k0_pay1 (F := Ideal) (k0_pay3 y x u s) (k0_pay4 y x u s) (k0_pay5 y x u s) (k0_pay6 y x u s) (k0_pay7 y x u s) w j
      = normed (block y x u s (j 0)) (fun l => w (ix2 0 l)) (j 1) := by
  have h4 := pay4 y x u s
  have h5 := pay5 y x u s
  have h6 := pay6 y x u s
  have h7 := pay7 y x u s
  unfold k0_pay1
  generalize k0_pay4 (F := Ideal) y x u s = z4 at *
  generalize k0_pay5 (F := Ideal) y x u s = z5 at *
  generalize k0_pay6 (F := Ideal) y x u s = z6 at *
  generalize k0_pay7 (F := Ideal) y x u s = z7 at *
  unfold block at *
  generalize k0_pay3 (F := Ideal) y x u s = z at *
  pointwise []
  simp only [h4, h5, h6, h7]
  have hj : (j 1).val < 2048 := (j 1).isLt
  have hi : (j 1).val < 512 ∨ (512 ≤ (j 1).val ∧ (j 1).val < 1024) ∨ (1024 ≤ (j 1).val ∧ (j 1).val < 1536) ∨ 1536 ≤ (j 1).val := by omega
  rcases hi with hi | hi | hi | hi
  · rw [dif_pos hi]
    exact (normed_of (fun l => z (ix2 (j 0) l)) (fun l => w (ix2 0 l)) (j 1) 0 ⟨(j 1).val, hi⟩ (by show (j 1).val = 0 * 512 + (j 1).val; omega)).symm
  · rw [dif_neg (by omega), dif_pos (by omega)]
    exact (normed_of (fun l => z (ix2 (j 0) l)) (fun l => w (ix2 0 l)) (j 1) 1 ⟨(j 1).val - 512, by omega⟩ (by show (j 1).val = 1 * 512 + ((j 1).val - 512); omega)).symm
  · rw [dif_neg (by omega), dif_neg (by omega), dif_pos (by omega)]
    exact (normed_of (fun l => z (ix2 (j 0) l)) (fun l => w (ix2 0 l)) (j 1) 2 ⟨(j 1).val - 512 - 512, by omega⟩ (by show (j 1).val = 2 * 512 + ((j 1).val - 512 - 512); omega)).symm
  · rw [dif_neg (by omega), dif_neg (by omega), dif_neg (by omega)]
    refine Eq.trans ?_ (normed_of (fun l => z (ix2 (j 0) l)) (fun l => w (ix2 0 l)) (j 1) 3 ⟨(j 1).val - 512 - 512 - 512, by omega⟩ (by show (j 1).val = 3 * 512 + ((j 1).val - 512 - 512 - 512); omega)).symm
    exact congrArg (· * w (ix2 0 (j 1))) (scaled_of z (j 0) 3 ⟨(j 1).val - 512 - 512 - 512, by omega⟩ (fun k => ⟨1536 + k.val, by omega⟩) fun k => by
      show 1536 + k.val = 3 * 512 + k.val; omega)

theorem pay2 (w : Vec Ideal S1x2048 .f32) (p : Vec Ideal S2048x1024 .bf16) (j : S256x1024.Idx) :
    k0_pay2 (F := Ideal) (k0_pay3 y x u s) (k0_pay4 y x u s) (k0_pay5 y x u s) (k0_pay6 y x u s) (k0_pay7 y x u s) w p j
      = ∑ k : Fin 2048, normed (block y x u s (j 0)) (fun l => w (ix2 0 l)) k * p (ix2 k (j 1)) := by
  have h := pay1 y x u s w
  unfold k0_pay2
  generalize k0_pay1 (F := Ideal) (k0_pay3 y x u s) (k0_pay4 y x u s) (k0_pay5 y x u s) (k0_pay6 y x u s) (k0_pay7 y x u s) w = z at *
  pointwise []
  simp only [h]
  rfl
end Block

variable (m : (ℓ : Loc nD τ sig) → Buf (Elt Ideal) ℓ) (c : Dev nD)

theorem V_v2 (l : Fin 2048) : V m c main_v2 (ix2 0 l) = m ((c : Thread nD τ).loc main_arg3) (ix1 ⟨l.val / 64, by omega⟩) := by
  have h : V m c main_v2 = shapeCast S1x2048 (shapeCast S2048 (broadcastInDim S32x64 ![0] bcast_S32_S32x64_0 (m ((c : Thread nD τ).loc main_arg3))) Gen.shapeCasts_S32x64_S2048) Gen.shapeCasts_S2048_S1x2048 := by
    show StableHlo.after hostOps0 _ _ = _
    simp only [hostOps0]
    after_results_simp
    rfl
  rw [h]
  pointwise []

theorem V_v3 (l : Fin 2048) : V m c main_v3 (ix2 0 l) = m ((c : Thread nD τ).loc main_arg4) (ix1 l) := by
  have h : V m c main_v3 = shapeCast S1x2048 (m ((c : Thread nD τ).loc main_arg4)) Gen.shapeCasts_S2048_S1x2048 := by
    show StableHlo.after hostOps0 _ _ = _
    simp only [hostOps0]
    after_results_simp
    rfl
  rw [h]
  pointwise []

/-- What a point reads is its rows of the arrays. -/
theorem block_gate (t : Fin cfg0.N) (r : Fin 256) (h : t.val * 256 + r.val < 8192) :
    block (iblk m c 0 t) (X0_1 m c t) (X0_2 m c t) (iblk m c 3 t) r
      = gate (V m c main_arg0) (V m c main_arg1) (V m c main_arg2) (fun l => V m c main_v2 (ix2 0 l)) ⟨t.val * 256 + r.val, h⟩ := by
  have e0 : ∀ t, win0_0.index t = ![t.val, 0] := by decide +kernel
  have e1 : ∀ t, win0_1.index t = ![t.val, 0] := by decide +kernel
  have e2 : ∀ t, win0_2.index t = ![t.val, 0] := by decide +kernel
  have e3 : ∀ t, win0_3.index t = ![0, 0] := by decide +kernel
  have h0 : (fun l => iblk m c 0 t (ix2 r l)) = fun l => V m c main_arg0 (ix2 ⟨t.val * 256 + r.val, h⟩ l) := funext fun l => by blk_point [iblk, e0]
  have h1 : (fun l => X0_1 m c t (ix2 r l)) = fun l : Fin 2048 => V m c main_arg1 (ix2 ⟨t.val * 256 + r.val, h⟩ ⟨l.val, by omega⟩) := funext fun l => by
    unfold X0_1 Pipeline.Window.fill
    rw [dif_pos (moved0_1 t _)]
    blk_point [iblk, e1]
  have h2 : (fun l => X0_2 m c t (ix2 r l)) = fun l : Fin 2048 => V m c main_arg2 (ix2 ⟨t.val * 256 + r.val, h⟩ ⟨l.val, by omega⟩) := funext fun l => by
    unfold X0_2 Pipeline.Window.fill
    rw [dif_pos (moved0_2 t _)]
    blk_point [iblk, e2]
  have h3 : (fun l => iblk m c 3 t (ix2 0 l)) = fun l => V m c main_v2 (ix2 0 l) := funext fun l => by blk_point [iblk, e3]
  funext l
  unfold block
  rw [pay3]
  exact congrFun (congr (congr (congr (congrArg gated h0) h1) h2) h3) l

theorem block_w (t : Fin cfg0.N) : (fun l => iblk m c 4 t (ix2 0 l)) = fun l => V m c main_v3 (ix2 0 l) := funext fun l => by
  have e4 : ∀ t, win0_4.index t = ![0, 0] := by decide +kernel
  blk_point [iblk, e4]

theorem lt32 (t : Fin cfg0.N) : t.val < 32 := lt_of_lt_of_eq t.isLt N_0

theorem arr6 : (dats m 0 c).arrAt 6 cfg0.N
    = out (V m c main_arg0) (V m c main_arg1) (V m c main_arg2) (fun l => V m c main_v2 (ix2 0 l)) (fun l => V m c main_v3 (ix2 0 l)) := by
  refine (dats m 0 c).arrAt_eq_of_covers 6 _ (by decide +kernel) fun t hf y => ?_
  have ht := lt32 t
  blk_simp
  have e6 : ∀ t, win0_6.index t = ![t.val, 0] := by decide +kernel
  have hy : (y 0).val < 256 := (y 0).isLt
  have hr : t.val * 256 + (y 0).val < 8192 := by omega
  have e : ∀ f : S8192x2048.Idx → EReal, f (((View.whole main_v4_0).slice (win0_6.rect t)).emb y) = f (ix2 ⟨t.val * 256 + (y 0).val, hr⟩ (y 1)) := fun f => by
    blk_point [e6]
  refine Eq.trans ?_ (e _).symm
  rw [after0_6]
  unfold outsAt0
  frame_out
  rw [pay1]
  exact congrFun (congrArg₂ normed (block_gate m c t _ hr) (block_w m c t)) (y 1)

theorem arr7 : (dats m 0 c).arrAt 7 cfg0.N
    = proj (V m c main_arg0) (V m c main_arg1) (V m c main_arg2) (fun l => V m c main_v2 (ix2 0 l)) (fun l => V m c main_v3 (ix2 0 l)) (V m c main_arg5) := by
  refine (dats m 0 c).arrAt_eq_of_covers 7 _ (by decide +kernel) fun t hf y => ?_
  have ht := lt32 t
  blk_simp
  have e7 : ∀ t, win0_7.index t = ![t.val, 0] := by decide +kernel
  have e5 : ∀ t, win0_5.index t = ![0, 0] := by decide +kernel
  have hy : (y 0).val < 256 := (y 0).isLt
  have hr : t.val * 256 + (y 0).val < 8192 := by omega
  have e : ∀ f : S8192x1024.Idx → EReal, f (((View.whole main_v4_1).slice (win0_7.rect t)).emb y) = f (ix2 ⟨t.val * 256 + (y 0).val, hr⟩ (y 1)) := fun f => by
    blk_point [e7]
  refine Eq.trans ?_ (e _).symm
  rw [after0_7]
  unfold outsAt0
  frame_out
  rw [pay2]
  refine Fin.sum_fin_congr fun k => congrArg₂ (· * ·) (congrFun (congrArg₂ normed (block_gate m c t _ hr) (block_w m c t)) k) ?_
  blk_point [iblk, e5]

theorem skips : (fun l => V m c main_v2 (ix2 0 l)) = skip (m ((c : Thread nD τ).loc main_arg3)) := funext fun l => V_v2 m c l

theorem scale : (fun l => V m c main_v3 (ix2 0 l)) = fun l => m ((c : Thread nD τ).loc main_arg4) (ix1 l) := funext fun l => V_v3 m c l

theorem quiet : Cert.quiescent_RGatenormIdeal (hRGatenormIdeal := Cert.RGatenormIdeal.Gen.facts) := fun m g _ =>
  (θ_run _ _ _).mono (fun r h => ⟨fun c => (h c).2.2, Idealize.ShloMosaic.sem_eq_zero_of_no_sems (by decide) r.2⟩) (Cert.RGatenormIdeal.Value.run m g)

theorem algebraic : Cert.algebraic_KGatenormIdeal_RGatenormIdeal (hKGatenormIdeal := Cert.KGatenormIdeal.Gen.facts)
    (hRGatenormIdeal := Cert.RGatenormIdeal.Gen.facts) := fun m g m' g' _ hag =>
  ⟨fun c => (dats m 0 c).arrAt 6 cfg0.N, fun c => (dats m 0 c).arrAt 7 cfg0.N, Cert.KGatenormIdeal.Value.run_blocks m g,
    (θ_run _ _ _).mono (fun _ h c => ⟨((h c).1.trans (Cert.RGatenormIdeal.Read.val_main_v27_eq _ _ _ _ _)).trans (by
      obtain ⟨a0, a1, a2, a3, a4, a5⟩ := hag c
      show Cert.RGatenormIdeal.Read.val_main_v27 (F := Ideal) (m' ((c : Thread Cert.RGatenormIdeal.nD Cert.RGatenormIdeal.τ).loc Cert.RGatenormIdeal.main_arg0)) (m' ((c : Thread Cert.RGatenormIdeal.nD Cert.RGatenormIdeal.τ).loc Cert.RGatenormIdeal.main_arg1)) (m' ((c : Thread Cert.RGatenormIdeal.nD Cert.RGatenormIdeal.τ).loc Cert.RGatenormIdeal.main_arg2)) (m' ((c : Thread Cert.RGatenormIdeal.nD Cert.RGatenormIdeal.τ).loc Cert.RGatenormIdeal.main_arg3)) (m' ((c : Thread Cert.RGatenormIdeal.nD Cert.RGatenormIdeal.τ).loc Cert.RGatenormIdeal.main_arg4)) = _
      rw [a0, a1, a2, a3, a4, value27]
      exact ((arr6 m c).trans (by rw [V_main_arg0, V_main_arg1, V_main_arg2, skips, scale])).symm),
      ((h c).2.1.trans (Cert.RGatenormIdeal.Read.val_main_v29_eq _ _ _ _ _ _)).trans (by
      obtain ⟨a0, a1, a2, a3, a4, a5⟩ := hag c
      show Cert.RGatenormIdeal.Read.val_main_v29 (F := Ideal) (m' ((c : Thread Cert.RGatenormIdeal.nD Cert.RGatenormIdeal.τ).loc Cert.RGatenormIdeal.main_arg0)) (m' ((c : Thread Cert.RGatenormIdeal.nD Cert.RGatenormIdeal.τ).loc Cert.RGatenormIdeal.main_arg1)) (m' ((c : Thread Cert.RGatenormIdeal.nD Cert.RGatenormIdeal.τ).loc Cert.RGatenormIdeal.main_arg2)) (m' ((c : Thread Cert.RGatenormIdeal.nD Cert.RGatenormIdeal.τ).loc Cert.RGatenormIdeal.main_arg3)) (m' ((c : Thread Cert.RGatenormIdeal.nD Cert.RGatenormIdeal.τ).loc Cert.RGatenormIdeal.main_arg4)) (m' ((c : Thread Cert.RGatenormIdeal.nD Cert.RGatenormIdeal.τ).loc Cert.RGatenormIdeal.main_arg5)) = _
      rw [a0, a1, a2, a3, a4, a5, value29]
      exact ((arr7 m c).trans (by rw [V_main_arg0, V_main_arg1, V_main_arg2, V_main_arg5, skips, scale])).symm), (h c).2.2⟩) (Cert.RGatenormIdeal.Value.run m' g')⟩

end Step.Gatenorm
end
end
-- ==== Proof.Step.MixOutRef.lean ====
module
public import proofs.«01_k».proof.Defs
public import proofs.«01_k».proof.Proof.Gen.RMixOutIdeal
public import proofs.«01_k».proof.Proof.Gen.RMixOutIdeal.Run
public import proofs.«01_k».proof.Proof.Gen.RMixOutIdeal.Read
public import Idealize.ShloMosaic.Adequacy
public import Idealize.ShloMosaic.Init
public import Idealize.ShloMosaic.Lib.ValueIdxCore

public import proofs.«01_k».proof.Proof.Step.Base
public import proofs.«01_k».proof.Proof.Step.NormMath
public import proofs.«01_k».proof.Proof.Attn.Ref
@[expose] public section
set_option maxRecDepth 16384
noncomputable section
namespace Step.MixOut
open Idealize.ShloMosaic

/-- The logistic function. -/
def logistic (x : EReal) : EReal := Ideal.div (Ideal.ofBits .f32 0x3F800000#32) (Ideal.ofBits .f32 0x3F800000#32 + Ideal.exp (-x))

section Three
variable (l0 l1 l2 o0 o1 o2 : EReal)

/-- The exponential of one of three logarithms, under the largest of them. -/
def ex (x : EReal) : EReal := Ideal.exp (x - max (max l0 l1) l2)
/-- The three exponentials together. -/
def tot : EReal := ex l0 l1 l2 l0 + ex l0 l1 l2 l1 + ex l0 l1 l2 l2
/-- Three numbers weighted by the exponentials of three logarithms. -/
def avg : EReal :=
  ex l0 l1 l2 l0 * Ideal.div 1 (tot l0 l1 l2) * o0 + ex l0 l1 l2 l1 * Ideal.div 1 (tot l0 l1 l2) * o1 + ex l0 l1 l2 l2 * Ideal.div 1 (tot l0 l1 l2) * o2

theorem fold_three (b : EReal) (hb : b = ⊥) (f : Fin 3 → EReal) : (Finset.univ : Finset (Fin 3)).fold max b f = max (max (f 0) (f 1)) (f 2) := by
  subst hb
  have h : ∀ k, f k ≤ (Finset.univ : Finset (Fin 3)).fold max ⊥ f := fun k => (Finset.le_fold_max _).2 (Or.inr ⟨k, Finset.mem_univ _, le_rfl⟩)
  refine le_antisymm ((Finset.fold_max_le _).2 ⟨bot_le, fun k _ => ?_⟩) (max_le (max_le (h 0) (h 1)) (h 2))
  match k with
  | ⟨0, _⟩ => exact le_trans (le_max_left _ _) (le_max_left _ _)
  | ⟨1, _⟩ => exact le_trans (le_max_right _ _) (le_max_left _ _)
  | ⟨2, _⟩ => exact le_max_right _ _

theorem max_isR {x y : EReal} (hx : IsR x) (hy : IsR y) : IsR (max x y) := by
  rcases max_choice x y with h | h <;> rw [h] <;> assumption

theorem ex_pos {l0 l1 l2 x : EReal} (h0 : IsR l0) (h1 : IsR l1) (h2 : IsR l2) (hx : IsR x) : ∃ r : ℝ, 0 < r ∧ ex l0 l1 l2 x = (r : EReal) := by
  obtain ⟨a, ha⟩ := max_isR (max_isR h0 h1) h2
  obtain ⟨b, hb⟩ := hx
  refine ⟨Real.exp (b - a), Real.exp_pos _, ?_⟩
  unfold ex
  rw [ha, hb, ← EReal.coe_sub, Ideal.exp_coe]

theorem tot_ne {l0 l1 l2 : EReal} (h0 : IsR l0) (h1 : IsR l1) (h2 : IsR l2) : tot l0 l1 l2 ≠ 0 := by
  obtain ⟨a, ha, ea⟩ := ex_pos h0 h1 h2 h0
  obtain ⟨b, hb, eb⟩ := ex_pos h0 h1 h2 h1
  obtain ⟨d, hd, ed⟩ := ex_pos h0 h1 h2 h2
  unfold tot
  rw [ea, eb, ed, ← EReal.coe_add, ← EReal.coe_add]
  have : a + b + d ≠ 0 := by positivity
  exact_mod_cast this

theorem quotient {x t : EReal} (h : t ≠ 0) : Ideal.div x t = x * Ideal.div 1 t := by
  unfold Ideal.div
  rw [if_neg h, if_neg h, one_mul]

end Three

/-- The four pieces of a matrix, side by side. -/
def cols (W : Fin 4 → Fin 256 → Fin 256 → EReal) (k : Fin 256) (l : Fin 1024) : EReal := W ⟨l.val / 256, by omega⟩ k ⟨l.val % 256, Nat.mod_lt _ (by decide)⟩

theorem cols_of (W : Fin 4 → Fin 256 → Fin 256 → EReal) (k : Fin 256) (l : Fin 1024) (g : Fin 4) (e : Fin 256) (h : l.val = g.val * 256 + e.val) : cols W k l = W g k e := by
  have hg : (⟨l.val / 256, by omega⟩ : Fin 4) = g := Fin.ext (by show l.val / 256 = g.val; omega)
  have he : (⟨l.val % 256, Nat.mod_lt _ (by decide)⟩ : Fin 256) = e := Fin.ext (by show l.val % 256 = e.val; omega)
  unfold cols
  rw [hg, he]

/-- The gated sum of the two mixers' rows. -/
def mixed (p0 p1 y : Fin 1024 → EReal) (a : Fin 256 → EReal) (W : Fin 4 → Fin 256 → Fin 256 → EReal) (l : Fin 1024) : EReal :=
  logistic (p0 l) * y l + logistic (p1 l) * ∑ k, a k * cols W k l

/-- A projected row on the residual. -/
def resid (x z : Fin 1024 → EReal) (O : Fin 1024 → Fin 1024 → EReal) (l : Fin 1024) : EReal := weight * x l + ∑ k, z k * O k l

section Whole
variable (a : Cert.RMixOutIdeal.S8192x256.Idx → EReal) (y : Cert.RMixOutIdeal.S8192x1024.Idx → EReal) (u : Cert.RMixOutIdeal.S8192x9728.Idx → EReal)
  (b : Fin 2048 → EReal) (W : Cert.RMixOutIdeal.S4x256x256.Idx → EReal) (x : Cert.RMixOutIdeal.S8192x1024.Idx → EReal)
  (O : Cert.RMixOutIdeal.S1024x1024.Idx → EReal) (g d : Fin 1024 → EReal)

/-- The mixed row of a token. -/
def mixRow (r : Fin 8192) : Fin 1024 → EReal :=
  mixed (fun l => u (ix2 r ⟨2048 + l.val, by omega⟩) + b ⟨l.val, by omega⟩) (fun l => u (ix2 r ⟨3072 + l.val, by omega⟩) + b ⟨1024 + l.val, by omega⟩)
    (fun l => y (ix2 r l)) (fun k => a (ix2 r k)) (fun g k e => W (ix3 g k e))
/-- The row of a token before the norm. -/
def preRow (r : Fin 8192) : Fin 1024 → EReal := resid (fun l => x (ix2 r l)) (mixRow a y u b W r) (fun k l => O (ix2 k l))

/-- The mixed rows of all the tokens. -/
def mixAll : Cert.RMixOutIdeal.S8192x1024.Idx → EReal := fun i => mixRow a y u b W (i 0) (i 1)
/-- The rows of all the tokens before the norm. -/
def preAll : Cert.RMixOutIdeal.S8192x1024.Idx → EReal := fun i => preRow a y u b W x O (i 0) (i 1)
/-- The normed rows of all the tokens. -/
def normAll : Cert.RMixOutIdeal.S8192x1024.Idx → EReal := fun i => norm (preRow a y u b W x O (i 0)) g d (i 1)

end Whole

section Ref

open Cert.RMixOutIdeal Cert.RMixOutIdeal.Read Idealize.ShloMosaic

variable (x0 : (⟨S8192x1024, .f32⟩ : BufTy).Contents (Elt Ideal)) (x1 x2 x3 : (⟨S8192x4x64, .f32⟩ : BufTy).Contents (Elt Ideal)) (x4 x5 x6 : (⟨S8192x4, .f32⟩ : BufTy).Contents (Elt Ideal))
  (x7 : (⟨S4x256x256, .bf16⟩ : BufTy).Contents (Elt Ideal)) (x8 : (⟨S8192x9728, .f32⟩ : BufTy).Contents (Elt Ideal)) (x9 : (⟨S2048, .f32⟩ : BufTy).Contents (Elt Ideal))
  (x10 : (⟨S8192x1024, .f32⟩ : BufTy).Contents (Elt Ideal)) (x11 : (⟨S1024x1024, .bf16⟩ : BufTy).Contents (Elt Ideal)) (x12 x13 : (⟨S1024, .f32⟩ : BufTy).Contents (Elt Ideal))

/-- The three attentions of a column, weighted by their heads' logarithms. -/
def att : S8192x256.Idx → EReal := fun i =>
  avg (x4 (ix2 (i 0) ⟨(i 1).val / 64, Nat.div_lt_of_lt_mul (i 1).isLt⟩)) (x5 (ix2 (i 0) ⟨(i 1).val / 64, Nat.div_lt_of_lt_mul (i 1).isLt⟩)) (x6 (ix2 (i 0) ⟨(i 1).val / 64, Nat.div_lt_of_lt_mul (i 1).isLt⟩))
    (x1 (ix3 (i 0) ⟨(i 1).val / 64, Nat.div_lt_of_lt_mul (i 1).isLt⟩ ⟨(i 1).val % 64, Nat.mod_lt _ (by decide)⟩))
    (x2 (ix3 (i 0) ⟨(i 1).val / 64, Nat.div_lt_of_lt_mul (i 1).isLt⟩ ⟨(i 1).val % 64, Nat.mod_lt _ (by decide)⟩))
    (x3 (ix3 (i 0) ⟨(i 1).val / 64, Nat.div_lt_of_lt_mul (i 1).isLt⟩ ⟨(i 1).val % 64, Nat.mod_lt _ (by decide)⟩))

theorem v3 (g : Fin 3) (i : Fin 8192) (h : Fin 4) : val_main_v3 (F := Ideal) x4 x5 x6 (ix3 g i h) = (![x4, x5, x6] : Fin 3 → S8192x4.Idx → EReal) g (ix2 i h) := by
  unfold val_main_v3
  have hb : ∀ (g : Fin 3) (b : Fin S1x8192x4.rank), b.cast (show S1x8192x4.rank = S3x8192x4.rank from rfl) ≠ 0 →
      (ix3 (0 : Fin 1) i h b).val = (ix3 g i h (b.cast (show S1x8192x4.rank = S3x8192x4.rank from rfl))).val := fun g b hb => by
    match b with
    | ⟨0, _⟩ => exact absurd rfl hb
    | ⟨1, _⟩ => rfl
    | ⟨2, _⟩ => rfl
  match g with
  | ⟨0, _⟩ =>
    refine Eq.trans (concatenate_apply_piece (t := S3x8192x4) 0 _ _ _ 0 (by simp) S1x8192x4 (val_main_v0 (F := Ideal) x4) rfl rfl 0 rfl
      (ix3 0 i h) (hb _) ?_) ?_
    · rfl
    · rw [val_main_v0_apply]; exact congrArg x4 (eq_ix2 _)
  | ⟨1, _⟩ =>
    refine Eq.trans (concatenate_apply_piece (t := S3x8192x4) 0 _ _ _ 1 (by simp) S1x8192x4 (val_main_v1 (F := Ideal) x5) rfl rfl 1 rfl
      (ix3 0 i h) (hb _) ?_) ?_
    · rfl
    · rw [val_main_v1_apply]; exact congrArg x5 (eq_ix2 _)
  | ⟨2, _⟩ =>
    refine Eq.trans (concatenate_apply_piece (t := S3x8192x4) 0 _ _ _ 2 (by simp) S1x8192x4 (val_main_v2 (F := Ideal) x6) rfl rfl 2 rfl
      (ix3 0 i h) (hb _) ?_) ?_
    · rfl
    · rw [val_main_v2_apply]; exact congrArg x6 (eq_ix2 _)

theorem v19 (g : Fin 3) (i : Fin 8192) (h : Fin 4) (e : Fin 64) :
    val_main_v19 (F := Ideal) x1 x2 x3 (ix4 g i h e) = (![x1, x2, x3] : Fin 3 → S8192x4x64.Idx → EReal) g (ix3 i h e) := by
  unfold val_main_v19
  have hb : ∀ (g : Fin 3) (b : Fin S1x8192x4x64.rank), b.cast (show S1x8192x4x64.rank = S3x8192x4x64.rank from rfl) ≠ 0 →
      (ix4 (0 : Fin 1) i h e b).val = (ix4 g i h e (b.cast (show S1x8192x4x64.rank = S3x8192x4x64.rank from rfl))).val := fun g b hb => by
    match b with
    | ⟨0, _⟩ => exact absurd rfl hb
    | ⟨1, _⟩ => rfl
    | ⟨2, _⟩ => rfl
    | ⟨3, _⟩ => rfl
  match g with
  | ⟨0, _⟩ =>
    refine Eq.trans (concatenate_apply_piece (t := S3x8192x4x64) 0 _ _ _ 0 (by simp) S1x8192x4x64 (val_main_v16 (F := Ideal) x1) rfl rfl 0 rfl
      (ix4 0 i h e) (hb _) ?_) ?_
    · rfl
    · rw [val_main_v16_apply]; exact congrArg x1 (eq_ix3 _)
  | ⟨1, _⟩ =>
    refine Eq.trans (concatenate_apply_piece (t := S3x8192x4x64) 0 _ _ _ 1 (by simp) S1x8192x4x64 (val_main_v17 (F := Ideal) x2) rfl rfl 1 rfl
      (ix4 0 i h e) (hb _) ?_) ?_
    · rfl
    · rw [val_main_v17_apply]; exact congrArg x2 (eq_ix3 _)
  | ⟨2, _⟩ =>
    refine Eq.trans (concatenate_apply_piece (t := S3x8192x4x64) 0 _ _ _ 2 (by simp) S1x8192x4x64 (val_main_v18 (F := Ideal) x3) rfl rfl 2 rfl
      (ix4 0 i h e) (hb _) ?_) ?_
    · rfl
    · rw [val_main_v18_apply]; exact congrArg x3 (eq_ix3 _)

theorem v6 (i : Fin 8192) (h : Fin 4) : val_main_v6 (F := Ideal) x4 x5 x6 (ix2 i h) = max (max (x4 (ix2 i h)) (x5 (ix2 i h))) (x6 (ix2 i h)) := by
  rw [val_main_v6_apply, show val_main_v5 (F := Ideal) (ix2 i h) = (⊥ : EReal) from (val_main_v5_apply _).trans Attn.bot_word]
  show max ⊥ (val_main_v4 (F := Ideal) x4 x5 x6 (ix2 i h)) = _
  rw [bot_sup_eq]
  unfold val_main_v4
  rw [Host.reduce_eq_fold_single FloatOps.maximumf _ _ Gen.reducesTo_S3x8192x4_S8192x4_d0 (by decide : S3x8192x4.Reduces [0] S8192x4) Gen.h_S_]
  have key : ∀ g : Fin 3, (val_main_v3 (F := Ideal) x4 x5 x6 ∘ Shape.Reduces.lift (by decide : S3x8192x4.Reduces [0] S8192x4) (ix2 i h)) g
      = (![x4, x5, x6] : Fin 3 → S8192x4.Idx → EReal) g (ix2 i h) := fun g =>
    (congrArg (val_main_v3 (F := Ideal) x4 x5 x6) (eq_ix3 _)).trans (v3 x4 x5 x6 g i h)
  refine (fold_three _ Attn.bot_word _).trans ?_
  exact congrArg₂ max (congrArg₂ max (key (0 : Fin 3)) (key (1 : Fin 3))) (key (2 : Fin 3))

theorem v10 (g : Fin 3) (i : Fin 8192) (h : Fin 4) : val_main_v10 (F := Ideal) x4 x5 x6 (ix3 g i h)
    = ex (x4 (ix2 i h)) (x5 (ix2 i h)) (x6 (ix2 i h)) ((![x4, x5, x6] : Fin 3 → S8192x4.Idx → EReal) g (ix2 i h)) := by
  rw [val_main_v10_apply, val_main_v9_apply, v3, val_main_v8_apply, val_main_v7_apply, show idx_main_v7 (idx_main_v8 (ix3 g i h)) = ix2 i h from eq_ix2 _, v6]
  rfl

theorem v11 (i : Fin 8192) (h : Fin 4) : val_main_v11 (F := Ideal) x4 x5 x6 (ix2 i h) = tot (x4 (ix2 i h)) (x5 (ix2 i h)) (x6 (ix2 i h)) := by
  rw [val_main_v11_apply, val_main_cst_1_apply]
  refine (hostSum (g := fun g => ex (x4 (ix2 i h)) (x5 (ix2 i h)) (x6 (ix2 i h)) ((![x4, x5, x6] : Fin 3 → S8192x4.Idx → EReal) g (ix2 i h)))
    fun g => (congrArg _ (eq_ix3 _)).trans (v10 x4 x5 x6 g i h)).trans ?_
  rw [Fin.sum_univ_three]
  rfl

theorem v21 (g : Fin 3) (i : Fin 8192) (h : Fin 4) (e : Fin 64) : val_main_v21 (F := Ideal) x1 x2 x3 x4 x5 x6 (ix4 g i h e)
    = Ideal.div (ex (x4 (ix2 i h)) (x5 (ix2 i h)) (x6 (ix2 i h)) ((![x4, x5, x6] : Fin 3 → S8192x4.Idx → EReal) g (ix2 i h))) (tot (x4 (ix2 i h)) (x5 (ix2 i h)) (x6 (ix2 i h)))
      * (![x1, x2, x3] : Fin 3 → S8192x4x64.Idx → EReal) g (ix3 i h e) := by
  rw [val_main_v21_apply, v19, val_main_v20_apply, val_main_v15_apply, show idx_main_v15 (idx_main_v20 (ix4 g i h e)) = ix3 g i h from eq_ix3 _, val_main_v14_apply, v10,
    val_main_v13_apply, val_main_v12_apply, show idx_main_v12 (idx_main_v13 (ix3 g i h)) = ix2 i h from eq_ix2 _, v11]
  rfl

section Fine
variable (f4 : ∀ i, IsR (x4 i)) (f5 : ∀ i, IsR (x5 i)) (f6 : ∀ i, IsR (x6 i))
include f4 f5 f6

theorem v22 (i : Fin 8192) (h : Fin 4) (e : Fin 64) : val_main_v22 (F := Ideal) x1 x2 x3 x4 x5 x6 (ix3 i h e)
    = avg (x4 (ix2 i h)) (x5 (ix2 i h)) (x6 (ix2 i h)) (x1 (ix3 i h e)) (x2 (ix3 i h e)) (x3 (ix3 i h e)) := by
  rw [val_main_v22_apply, val_main_cst_2_apply]
  refine (hostSum fun g => (congrArg _ (eq_ix4 _)).trans (v21 x1 x2 x3 x4 x5 x6 g i h e)).trans ?_
  rw [Fin.sum_univ_three]
  have q : ∀ x, Ideal.div x (tot (x4 (ix2 i h)) (x5 (ix2 i h)) (x6 (ix2 i h))) = x * Ideal.div 1 (tot (x4 (ix2 i h)) (x5 (ix2 i h)) (x6 (ix2 i h))) := fun x =>
    quotient (tot_ne (f4 (ix2 i h)) (f5 (ix2 i h)) (f6 (ix2 i h)))
  exact congrArg₂ (· + ·) (congrArg₂ (· + ·) (congrArg (· * x1 (ix3 i h e)) (q _)) (congrArg (· * x2 (ix3 i h e)) (q _))) (congrArg (· * x3 (ix3 i h e)) (q _))

theorem value23 : val_main_v23 (F := Ideal) x1 x2 x3 x4 x5 x6 = att x1 x2 x3 x4 x5 x6 := by
  funext i
  have h0 : (i 0).val < 8192 := (i 0).isLt
  have h1 : (i 1).val < 256 := (i 1).isLt
  rw [val_main_v23_apply]
  have e : idx_main_v23 i = ix3 (i 0) ⟨(i 1).val / 64, Nat.div_lt_of_lt_mul (i 1).isLt⟩ ⟨(i 1).val % 64, Nat.mod_lt _ (by decide)⟩ := funext fun a => match a with
    | ⟨0, _⟩ => Fin.ext (by show ((i 0).val * 256 + (i 1).val) / 256 = (i 0).val; omega)
    | ⟨1, _⟩ => Fin.ext (by show ((i 0).val * 256 + (i 1).val) / 64 % 4 = (i 1).val / 64; omega)
    | ⟨2, _⟩ => Fin.ext (by show ((i 0).val * 256 + (i 1).val) % 64 = (i 1).val % 64; omega)
  rw [e]
  exact v22 x1 x2 x3 x4 x5 x6 f4 f5 f6 (i 0) _ _

end Fine

theorem v33 (i : S8192x2048.Idx) : val_main_v33 (F := Ideal) x8 x9 i
    = logistic (x8 (ix2 (i 0) ⟨2048 + (i 1).val, by have h : (i 1).val < 2048 := (i 1).isLt; omega⟩) + x9 (ix1 (i 1))) := by
  rw [val_main_v33_apply, val_main_v32_apply, val_main_v31_apply, val_main_v30_apply, val_main_v29_apply, val_main_v28_apply, val_main_v27_apply, val_main_v24_apply,
    val_main_v26_apply, val_main_v25_apply, val_main_cst_3_apply, val_main_cst_4_apply, Ideal.hostNegf_def, Ideal.negf_def]
  exact congrArg logistic (congrArg₂ (· + ·) (congrArg x8 (ext2 (p := 8192) (q := 9728) rfl rfl)) (congrArg x9 (funext fun a => match a with | ⟨0, _⟩ => rfl)))

theorem v36 (i : S8192x1024.Idx) : val_main_v36 (F := Ideal) x8 x9 i
    = logistic (x8 (ix2 (i 0) ⟨2048 + (i 1).val, by have h : (i 1).val < 1024 := (i 1).isLt; omega⟩) + x9 (ix1 ⟨(i 1).val, by have h : (i 1).val < 1024 := (i 1).isLt; omega⟩)) := by
  have h0 : (i 0).val < 8192 := (i 0).isLt
  have h1 : (i 1).val < 1024 := (i 1).isLt
  rw [val_main_v36_apply, val_main_v35_apply, val_main_v34_apply]
  have e : idx_main_v34 (idx_main_v35 (idx_main_v36 i)) = ix2 (i 0) ⟨(i 1).val, by omega⟩ := ext2 (p := 8192) (q := 2048)
    (by show (((((i 0).val * 1024 + (i 1).val) / 1024) * 2 + 0) * 1024 + ((i 0).val * 1024 + (i 1).val) % 1024) / 2048 = (i 0).val; omega)
    (by show (((((i 0).val * 1024 + (i 1).val) / 1024) * 2 + 0) * 1024 + ((i 0).val * 1024 + (i 1).val) % 1024) % 2048 = (i 1).val; omega)
  rw [e]
  exact v33 x8 x9 _

theorem v39 (i : S8192x1024.Idx) : val_main_v39 (F := Ideal) x8 x9 i
    = logistic (x8 (ix2 (i 0) ⟨3072 + (i 1).val, by have h : (i 1).val < 1024 := (i 1).isLt; omega⟩) + x9 (ix1 ⟨1024 + (i 1).val, by have h : (i 1).val < 1024 := (i 1).isLt; omega⟩)) := by
  have h0 : (i 0).val < 8192 := (i 0).isLt
  have h1 : (i 1).val < 1024 := (i 1).isLt
  rw [val_main_v39_apply, val_main_v38_apply, val_main_v34_apply]
  have e : idx_main_v34 (idx_main_v38 (idx_main_v39 i)) = ix2 (i 0) ⟨1024 + (i 1).val, by omega⟩ := ext2 (p := 8192) (q := 2048)
    (by show (((((i 0).val * 1024 + (i 1).val) / 1024) * 2 + (1 + 0)) * 1024 + ((i 0).val * 1024 + (i 1).val) % 1024) / 2048 = (i 0).val; omega)
    (by show (((((i 0).val * 1024 + (i 1).val) / 1024) * 2 + (1 + 0)) * 1024 + ((i 0).val * 1024 + (i 1).val) % 1024) % 2048 = 1024 + (i 1).val; omega)
  rw [e]
  refine (v33 x8 x9 _).trans ?_
  exact congrArg (fun j => logistic (x8 j + x9 (ix1 ⟨1024 + (i 1).val, by omega⟩))) (ext2 (p := 8192) (q := 9728) rfl
    (by show 2048 + (1024 + (i 1).val) = 3072 + (i 1).val; omega))

theorem v49 (k : Fin 256) (l : Fin 1024) : val_main_v49 (F := Ideal) x7 (ix2 k l) = cols (fun g k e => x7 (ix3 g k e)) k l := by
  unfold val_main_v49
  have hb : ∀ (e : Fin 256) (b : Fin S256x256.rank), b.cast (show S256x256.rank = S256x1024.rank from rfl) ≠ 1 →
      (ix2 k e b).val = (ix2 k l (b.cast (show S256x256.rank = S256x1024.rank from rfl))).val := fun e b hb => by
    match b with
    | ⟨0, _⟩ => rfl
    | ⟨1, _⟩ => exact absurd rfl hb
  have hk : k.val < 256 := k.isLt
  have hi : l.val < 256 ∨ (256 ≤ l.val ∧ l.val < 512) ∨ (512 ≤ l.val ∧ l.val < 768) ∨ 768 ≤ l.val := by omega
  rcases hi with hi | hi | hi | hi
  · refine Eq.trans (concatenate_apply_piece (t := S256x1024) 1 _ _ _ 0 (by simp) S256x256 (val_main_v42 (F := Ideal) x7) rfl rfl 0 rfl
      (ix2 k ⟨l.val - 0, by omega⟩) (hb _) ?_) ?_
    · show 0 + (l.val - 0) = l.val
      omega
    · rw [val_main_v42_apply, val_main_v41_apply, val_main_v40_apply, cols_of _ _ l 0 ⟨l.val - 0, by omega⟩ (by show l.val = 0 * 256 + (l.val - 0); omega)]
      exact congrArg x7 (funext fun a => match a with
        | ⟨0, _⟩ => rfl
        | ⟨1, _⟩ => Fin.ext (by show (k.val * 256 + (l.val - 0)) / 256 % 256 = k.val; omega)
        | ⟨2, _⟩ => Fin.ext (by show (k.val * 256 + (l.val - 0)) % 256 = l.val - 0; omega))
  · refine Eq.trans (concatenate_apply_piece (t := S256x1024) 1 _ _ _ 1 (by simp) S256x256 (val_main_v44 (F := Ideal) x7) rfl rfl 256 rfl
      (ix2 k ⟨l.val - 256, by omega⟩) (hb _) ?_) ?_
    · show 256 + (l.val - 256) = l.val
      omega
    · rw [val_main_v44_apply, val_main_v43_apply, val_main_v40_apply, cols_of _ _ l 1 ⟨l.val - 256, by omega⟩ (by show l.val = 1 * 256 + (l.val - 256); omega)]
      exact congrArg x7 (funext fun a => match a with
        | ⟨0, _⟩ => rfl
        | ⟨1, _⟩ => Fin.ext (by show (k.val * 256 + (l.val - 256)) / 256 % 256 = k.val; omega)
        | ⟨2, _⟩ => Fin.ext (by show (k.val * 256 + (l.val - 256)) % 256 = l.val - 256; omega))
  · refine Eq.trans (concatenate_apply_piece (t := S256x1024) 1 _ _ _ 2 (by simp) S256x256 (val_main_v46 (F := Ideal) x7) rfl rfl 512 rfl
      (ix2 k ⟨l.val - 512, by omega⟩) (hb _) ?_) ?_
    · show 512 + (l.val - 512) = l.val
      omega
    · rw [val_main_v46_apply, val_main_v45_apply, val_main_v40_apply, cols_of _ _ l 2 ⟨l.val - 512, by omega⟩ (by show l.val = 2 * 256 + (l.val - 512); omega)]
      exact congrArg x7 (funext fun a => match a with
        | ⟨0, _⟩ => rfl
        | ⟨1, _⟩ => Fin.ext (by show (k.val * 256 + (l.val - 512)) / 256 % 256 = k.val; omega)
        | ⟨2, _⟩ => Fin.ext (by show (k.val * 256 + (l.val - 512)) % 256 = l.val - 512; omega))
  · refine Eq.trans (concatenate_apply_piece (t := S256x1024) 1 _ _ _ 3 (by simp) S256x256 (val_main_v48 (F := Ideal) x7) rfl rfl 768 rfl
      (ix2 k ⟨l.val - 768, by omega⟩) (hb _) ?_) ?_
    · show 768 + (l.val - 768) = l.val
      omega
    · rw [val_main_v48_apply, val_main_v47_apply, val_main_v40_apply, cols_of _ _ l 3 ⟨l.val - 768, by omega⟩ (by show l.val = 3 * 256 + (l.val - 768); omega)]
      exact congrArg x7 (funext fun a => match a with
        | ⟨0, _⟩ => rfl
        | ⟨1, _⟩ => Fin.ext (by show (k.val * 256 + (l.val - 768)) / 256 % 256 = k.val; omega)
        | ⟨2, _⟩ => Fin.ext (by show (k.val * 256 + (l.val - 768)) % 256 = l.val - 768; omega))

section Fine
variable (f4 : ∀ i, IsR (x4 i)) (f5 : ∀ i, IsR (x5 i)) (f6 : ∀ i, IsR (x6 i))
include f4 f5 f6

theorem v52 (i : S8192x1024.Idx) : val_main_v52 (F := Ideal) x0 x1 x2 x3 x4 x5 x6 x7 x8 x9 i = mixRow (att x1 x2 x3 x4 x5 x6) x0 x8 (fun l => x9 (ix1 l)) x7 (i 0) (i 1) := by
  rw [val_main_v52_apply, val_main_v37_apply, val_main_v51_apply, v36, v39, val_main_v50_apply]
  refine congrArg₂ (· + ·) (congrArg₂ (· * ·) rfl (congrArg x0 (ext2 (p := 8192) (q := 1024) rfl rfl))) (congrArg₂ (· * ·) rfl (Fin.sum_fin_congr fun k => congrArg₂ (· * ·) ?_ ?_))
  · rw [value23 x1 x2 x3 x4 x5 x6 f4 f5 f6]
    exact congrArg (att x1 x2 x3 x4 x5 x6) (ext2 (p := 8192) (q := 256) rfl rfl)
  · exact Eq.trans (congrArg (val_main_v49 (F := Ideal) x7) (show ridx_main_v50 i k = ix2 k (i 1) from ext2 (p := 256) (q := 1024) rfl rfl)) (v49 x7 k (i 1))

theorem value58 : val_main_v58 (F := Ideal) x0 x1 x2 x3 x4 x5 x6 x7 x8 x9 = mixAll (att x1 x2 x3 x4 x5 x6) x0 x8 (fun l => x9 (ix1 l)) x7 := by
  funext i
  rw [val_main_v58_apply, v52 x0 x1 x2 x3 x4 x5 x6 x7 x8 x9 f4 f5 f6]
  rfl

theorem v57 (i : S8192x1024.Idx) : val_main_v57 (F := Ideal) x0 x1 x2 x3 x4 x5 x6 x7 x8 x9 x10 x11 i = preRow (att x1 x2 x3 x4 x5 x6) x0 x8 (fun l => x9 (ix1 l)) x7 x10 x11 (i 0) (i 1) := by
  rw [val_main_v57_apply, val_main_v54_apply, val_main_v53_apply, val_main_cst_5_apply, val_main_v56_apply]
  refine congrArg₂ (· + ·) (congrArg₂ (· * ·) rfl (congrArg x10 (ext2 (p := 8192) (q := 1024) rfl rfl))) (Fin.sum_fin_congr fun k => congrArg₂ (· * ·) ?_ ?_)
  · rw [v52 x0 x1 x2 x3 x4 x5 x6 x7 x8 x9 f4 f5 f6]
    rfl
  · rw [val_main_v55_apply]
    exact congrArg x11 (ext2 (p := 1024) (q := 1024) rfl rfl)

theorem value57 : val_main_v57 (F := Ideal) x0 x1 x2 x3 x4 x5 x6 x7 x8 x9 x10 x11 = preAll (att x1 x2 x3 x4 x5 x6) x0 x8 (fun l => x9 (ix1 l)) x7 x10 x11 := funext fun i => v57 x0 x1 x2 x3 x4 x5 x6 x7 x8 x9 x10 x11 f4 f5 f6 i

theorem v62 (i : S8192x1.Idx) : val_main_v62 (F := Ideal) x0 x1 x2 x3 x4 x5 x6 x7 x8 x9 x10 x11 i = mean (preRow (att x1 x2 x3 x4 x5 x6) x0 x8 (fun l => x9 (ix1 l)) x7 x10 x11 (i 0)) := by
  rw [val_main_v62_apply, val_main_v60_apply, val_main_v59_apply, val_main_v61_apply, val_main_cst_6_apply, val_main_cst_7_apply]
  exact congrArg (fun e : EReal => Ideal.div e count) (hostSum fun k => (v57 x0 x1 x2 x3 x4 x5 x6 x7 x8 x9 x10 x11 f4 f5 f6 _))

theorem v64 (i : S8192x1024.Idx) : val_main_v64 (F := Ideal) x0 x1 x2 x3 x4 x5 x6 x7 x8 x9 x10 x11 i = cen (preRow (att x1 x2 x3 x4 x5 x6) x0 x8 (fun l => x9 (ix1 l)) x7 x10 x11 (i 0)) (i 1) := by
  rw [val_main_v64_apply, v57 x0 x1 x2 x3 x4 x5 x6 x7 x8 x9 x10 x11 f4 f5 f6, val_main_v63_apply, v62 x0 x1 x2 x3 x4 x5 x6 x7 x8 x9 x10 x11 f4 f5 f6]
  rfl

theorem v71 (i : S8192x1024.Idx) : val_main_v71 (F := Ideal) x0 x1 x2 x3 x4 x5 x6 x7 x8 x9 x10 x11 i = cen (preRow (att x1 x2 x3 x4 x5 x6) x0 x8 (fun l => x9 (ix1 l)) x7 x10 x11 (i 0)) (i 1) := by
  rw [val_main_v71_apply, v57 x0 x1 x2 x3 x4 x5 x6 x7 x8 x9 x10 x11 f4 f5 f6, val_main_v70_apply, v62 x0 x1 x2 x3 x4 x5 x6 x7 x8 x9 x10 x11 f4 f5 f6]
  rfl

theorem v74 (i : S8192x1.Idx) : val_main_v74 (F := Ideal) x0 x1 x2 x3 x4 x5 x6 x7 x8 x9 x10 x11 i = rstd (preRow (att x1 x2 x3 x4 x5 x6) x0 x8 (fun l => x9 (ix1 l)) x7 x10 x11 (i 0)) := by
  rw [val_main_v74_apply, val_main_v73_apply, val_main_v69_apply, val_main_v67_apply, val_main_v66_apply, val_main_v68_apply, val_main_v72_apply,
    val_main_cst_8_apply, val_main_cst_9_apply, val_main_cst_10_apply]
  have h : ∀ k, val_main_v65 (F := Ideal) x0 x1 x2 x3 x4 x5 x6 x7 x8 x9 x10 x11 (idx_main_v66 (idx_main_v67 i) k) = cen (preRow (att x1 x2 x3 x4 x5 x6) x0 x8 (fun l => x9 (ix1 l)) x7 x10 x11 (i 0)) k * cen (preRow (att x1 x2 x3 x4 x5 x6) x0 x8 (fun l => x9 (ix1 l)) x7 x10 x11 (i 0)) k := fun k => by
    rw [val_main_v65_apply, v64 x0 x1 x2 x3 x4 x5 x6 x7 x8 x9 x10 x11 f4 f5 f6]
    rfl
  exact congrArg (fun e : EReal => Ideal.rsqrt (Ideal.div e count + tiny)) (hostSum h)

theorem value83 : val_main_v83 (F := Ideal) x0 x1 x2 x3 x4 x5 x6 x7 x8 x9 x10 x11 x12 x13 = normAll (att x1 x2 x3 x4 x5 x6) x0 x8 (fun l => x9 (ix1 l)) x7 x10 x11 (fun l => x12 (ix1 l)) (fun l => x13 (ix1 l)) := by
  funext i
  rw [val_main_v83_apply, val_main_v82_apply, val_main_v79_apply, val_main_v76_apply, v71 x0 x1 x2 x3 x4 x5 x6 x7 x8 x9 x10 x11 f4 f5 f6, val_main_v75_apply, v74 x0 x1 x2 x3 x4 x5 x6 x7 x8 x9 x10 x11 f4 f5 f6,
    val_main_v78_apply, val_main_v77_apply, val_main_v81_apply, val_main_v80_apply]
  exact congrArg₂ (· + ·) (congrArg₂ (· * ·) rfl (congrArg x12 (funext fun a => match a with | ⟨0, _⟩ => rfl))) (congrArg x13 (funext fun a => match a with | ⟨0, _⟩ => rfl))

end Fine

end Ref

end Step.MixOut
end
end
-- ==== Proof.Step.MixOut.lean ====
module
public import proofs.«01_k».proof.Defs
public import proofs.«01_k».proof.Proof.Gen.KMixOut
public import proofs.«01_k».proof.Proof.Gen.KMixOut.Skeleton
public import proofs.«01_k».proof.Proof.Gen.KMixOut.Launch
public import proofs.«01_k».proof.Proof.Gen.KMixOut.Points
public import proofs.«01_k».proof.Proof.Gen.KMixOut.Frame
public import proofs.«01_k».proof.Proof.Gen.KMixOutIdeal
public import proofs.«01_k».proof.Proof.Gen.KMixOutIdeal.Skeleton
public import proofs.«01_k».proof.Proof.Gen.KMixOutIdeal.Launch
public import proofs.«01_k».proof.Proof.Gen.KMixOutIdeal.Points
public import proofs.«01_k».proof.Proof.Gen.KMixOutIdeal.Frame
public import proofs.«01_k».proof.Proof.Gen.KMixOutIdeal.Value
public import proofs.«01_k».proof.Proof.Gen.RMixOutIdeal
public import proofs.«01_k».proof.Proof.Gen.RMixOutIdeal.Run
public import proofs.«01_k».proof.Proof.Gen.RMixOutIdeal.Read
public import Idealize.ShloMosaic.Adequacy
public import Idealize.ShloMosaic.Init
public import Idealize.ShloMosaic.Lib.ValueIdxCore
public import Idealize.ShloMosaic.Lib.KernelVsHost
public import proofs.«01_k».proof.Proof.Attn.Finite
public import proofs.«01_k».proof.Proof.Step.Base
public import proofs.«01_k».proof.Proof.Step.MixOutRef
@[expose] public section
set_option maxRecDepth 16384
noncomputable section
namespace Step.MixOut
open Cert.KMixOutIdeal Cert.KMixOutIdeal.Gen Idealize.ShloMosaic Idealize.ShloMosaic.TcCoe Idealize.SL.Sem

theorem pay1 (l0 l1 l2 o0 o1 o2 : Vec Ideal S512x256 .f32) (j : S512x256.Idx) :
    k0_pay1 (F := Ideal) l0 l1 l2 o0 o1 o2 j = avg (l0 j) (l1 j) (l2 j) (o0 j) (o1 j) (o2 j) := by
  unfold k0_pay1
  pointwise []
  rfl

theorem pay3 (u : Vec Ideal S512x1024 .f32) (b : Vec Ideal S1x1024 .f32) (j : S512x1024.Idx) :
    k0_pay3 (F := Ideal) u b j = logistic (u (ix2 (j 0) (j 1)) + b (ix2 0 (j 1))) := by
  have e : j = ix2 (j 0) (j 1) := ext2 rfl rfl
  unfold k0_pay3
  pointwise []
  rw [zero_sub, ← Ideal.ofBits_one_f32]
  rfl

theorem pay4 (u : Vec Ideal S512x1024 .f32) (b : Vec Ideal S1x1024 .f32) (y : Vec Ideal S512x1024 .f32) (j : S512x1024.Idx) :
    k0_pay4 (F := Ideal) (k0_pay2 u b) (Scalar.ofBits .f32 0x00000000#32) y j = logistic (u (ix2 (j 0) (j 1)) + b (ix2 0 (j 1))) * y (ix2 (j 0) (j 1)) := by
  have e : j = ix2 (j 0) (j 1) := ext2 rfl rfl
  unfold k0_pay4 k0_pay2
  pointwise []
  rw [zero_sub, ← Ideal.ofBits_one_f32]
  rfl

section Block
variable (u0 u1 y : Vec Ideal S512x1024 .f32) (b0 b1 : Vec Ideal S1x1024 .f32) (a : FVec Ideal S512x256 .f32) (w0 w1 w2 w3 : Vec Ideal S1x256x256 .bf16)
  (W : Fin 4 → Fin 256 → Fin 256 → EReal) (x : Vec Ideal S512x1024 .f32) (o : Vec Ideal S1024x1024 .bf16) (g d : Vec Ideal S1x1024 .f32)

/-- The mixed row of a block. -/
def bmix (r : Fin 512) : Fin 1024 → EReal :=
  mixed (fun l => u0 (ix2 r l) + b0 (ix2 0 l)) (fun l => u1 (ix2 r l) + b1 (ix2 0 l)) (fun l => y (ix2 r l)) (fun k => a (ix2 r k)) W
/-- The row of a block before the norm. -/
def bpre (r : Fin 512) : Fin 1024 → EReal := resid (fun l => x (ix2 r l)) (bmix u0 u1 y b0 b1 a W r) (fun k l => o (ix2 k l))

theorem pay5 (j : S512x256.Idx) : k0_pay5 (F := Ideal) a j = a j := by
  unfold k0_pay5
  pointwise []

theorem pay6 (j : S512x256.Idx) : k0_pay6 (F := Ideal) a w0 j = ∑ k : Fin 256, a (ix2 (j 0) k) * w0 (ix3 0 k (j 1)) := by
  have h := pay5 a
  unfold k0_pay6
  generalize k0_pay5 (F := Ideal) a = z at *
  pointwise []
  simp only [h]

theorem pay7 (j : S512x256.Idx) : k0_pay7 (F := Ideal) a w0 j = ∑ k : Fin 256, a (ix2 (j 0) k) * w0 (ix3 0 k (j 1)) := by
  have h := pay5 a
  unfold k0_pay7
  generalize k0_pay5 (F := Ideal) a = z at *
  pointwise []
  simp only [h]

theorem pay8 (j : S512x256.Idx) : k0_pay8 (F := Ideal) a w0 j = ∑ k : Fin 256, a (ix2 (j 0) k) * w0 (ix3 0 k (j 1)) := by
  have h := pay5 a
  unfold k0_pay8
  generalize k0_pay5 (F := Ideal) a = z at *
  pointwise []
  simp only [h]

theorem pay9 (j : S256x256.Idx) : k0_pay9 (F := Ideal) w0 j = w0 (ix3 0 (j 0) (j 1)) := by
  unfold k0_pay9
  pointwise []

variable (h0 : ∀ k e, w0 (ix3 0 k e) = W 0 k e) (h1 : ∀ k e, w1 (ix3 0 k e) = W 1 k e) (h2 : ∀ k e, w2 (ix3 0 k e) = W 2 k e) (h3 : ∀ k e, w3 (ix3 0 k e) = W 3 k e)
include h0 h1 h2 h3

theorem pay10 (j : S512x1024.Idx) :
    k0_pay10 (F := Ideal) (k0_pay3 u1 b1) (k0_pay4 (k0_pay2 u0 b0) (Scalar.ofBits .f32 0x00000000#32) y) (k0_pay5 a) (k0_pay6 a w0) (k0_pay7 a w1) (k0_pay8 a w2) (k0_pay9 w3)
      (constant S512x256 .f32 0x00000000#32) j = bmix u0 u1 y b0 b1 a W (j 0) (j 1) := by
  have e3 := pay3 u1 b1
  have e4 := pay4 u0 b0 y
  have e5 := pay5 a
  have e6 := pay6 a w0
  have e7 := pay7 a w1
  have e8 := pay8 a w2
  have e9 := pay9 w3
  unfold k0_pay10
  generalize k0_pay4 (F := Ideal) (k0_pay2 u0 b0) (Scalar.ofBits .f32 0x00000000#32) y = z4 at *
  generalize k0_pay3 (F := Ideal) u1 b1 = z3 at *
  generalize k0_pay5 (F := Ideal) a = z5 at *
  generalize k0_pay6 (F := Ideal) a w0 = z6 at *
  generalize k0_pay7 (F := Ideal) a w1 = z7 at *
  generalize k0_pay8 (F := Ideal) a w2 = z8 at *
  generalize k0_pay9 (F := Ideal) w3 = z9 at *
  pointwise []
  have hj : (j 1).val < 1024 := (j 1).isLt
  refine congrArg₂ (· + ·) (e4 j) (congrArg₂ (· * ·) (e3 j) ?_)
  have hi : (j 1).val < 256 ∨ (256 ≤ (j 1).val ∧ (j 1).val < 512) ∨ (512 ≤ (j 1).val ∧ (j 1).val < 768) ∨ 768 ≤ (j 1).val := by omega
  rcases hi with hi | hi | hi | hi
  · rw [dif_pos hi]
    refine (e6 _).trans (Fin.sum_fin_congr fun k => congrArg₂ (· * ·) rfl ((h0 _ _).trans (cols_of W k (j 1) 0 ⟨(j 1).val, hi⟩ (by show (j 1).val = 0 * 256 + (j 1).val; omega)).symm))
  · rw [dif_neg (by omega), dif_pos (by omega)]
    refine (e7 _).trans (Fin.sum_fin_congr fun k => congrArg₂ (· * ·) rfl ((h1 _ _).trans (cols_of W k (j 1) 1 ⟨(j 1).val - 256, by omega⟩ (by show (j 1).val = 1 * 256 + ((j 1).val - 256); omega)).symm))
  · rw [dif_neg (by omega), dif_neg (by omega), dif_pos (by omega)]
    refine (e8 _).trans (Fin.sum_fin_congr fun k => congrArg₂ (· * ·) rfl ((h2 _ _).trans (cols_of W k (j 1) 2 ⟨(j 1).val - 256 - 256, by omega⟩ (by show (j 1).val = 2 * 256 + ((j 1).val - 256 - 256); omega)).symm))
  · rw [dif_neg (by omega), dif_neg (by omega), dif_neg (by omega)]
    refine Fin.sum_fin_congr fun k => congrArg₂ (· * ·) (e5 _) ((e9 _).trans ((h3 _ _).trans (cols_of W k (j 1) 3 ⟨(j 1).val - 256 - 256 - 256, by omega⟩ (by show (j 1).val = 3 * 256 + ((j 1).val - 256 - 256 - 256); omega)).symm))

theorem pay11 (j : S512x1024.Idx) :
    k0_pay11 (F := Ideal) (k0_pay3 u1 b1) (k0_pay4 (k0_pay2 u0 b0) (Scalar.ofBits .f32 0x00000000#32) y) (k0_pay5 a) (k0_pay6 a w0) (k0_pay7 a w1) (k0_pay8 a w2) (k0_pay9 w3)
      (constant S512x256 .f32 0x00000000#32) x o j = bpre u0 u1 y b0 b1 a W x o (j 0) (j 1) := by
  have e : j = ix2 (j 0) (j 1) := ext2 rfl rfl
  have h := pay10 u0 u1 y b0 b1 a w0 w1 w2 w3 W h0 h1 h2 h3
  unfold k0_pay11
  generalize k0_pay10 (F := Ideal) (k0_pay3 u1 b1) (k0_pay4 (k0_pay2 u0 b0) (Scalar.ofBits .f32 0x00000000#32) y) (k0_pay5 a) (k0_pay6 a w0) (k0_pay7 a w1) (k0_pay8 a w2) (k0_pay9 w3)
      (constant S512x256 .f32 0x00000000#32) = z at *
  pointwise []
  exact congrArg₂ (· + ·) (congrArg (weight * ·) (congrArg x e)) (Fin.sum_fin_congr fun k => congrArg₂ (· * ·) (h _) rfl)

theorem pay12 (j : S512x1024.Idx) :
    k0_pay12 (F := Ideal) (k0_pay3 u1 b1) (k0_pay4 (k0_pay2 u0 b0) (Scalar.ofBits .f32 0x00000000#32) y) (k0_pay5 a) (k0_pay6 a w0) (k0_pay7 a w1) (k0_pay8 a w2) (k0_pay9 w3)
      (constant S512x256 .f32 0x00000000#32) x o g d j = norm (bpre u0 u1 y b0 b1 a W x o (j 0)) (fun l => g (ix2 0 l)) (fun l => d (ix2 0 l)) (j 1) := by
  have h := pay11 u0 u1 y b0 b1 a w0 w1 w2 w3 W x o h0 h1 h2 h3
  unfold k0_pay12
  generalize k0_pay11 (F := Ideal) (k0_pay3 u1 b1) (k0_pay4 (k0_pay2 u0 b0) (Scalar.ofBits .f32 0x00000000#32) y) (k0_pay5 a) (k0_pay6 a w0) (k0_pay7 a w1) (k0_pay8 a w2) (k0_pay9 w3)
      (constant S512x256 .f32 0x00000000#32) x o = z at *
  pointwise []
  simp only [h]
  rfl

end Block

variable (m : (ℓ : Loc nD τ sig) → Buf (Elt Ideal) ℓ) (c : Dev nD)

theorem V_v0 (i : S8192x256.Idx) : V m c main_v0 i = m ((c : Thread nD τ).loc main_arg1) (ix3 (i 0) ⟨(i 1).val / 64, Nat.div_lt_of_lt_mul (i 1).isLt⟩ ⟨(i 1).val % 64, Nat.mod_lt _ (by decide)⟩) := by
  have h : V m c main_v0 = shapeCast S8192x256 (m ((c : Thread nD τ).loc main_arg1)) Gen.shapeCasts_S8192x4x64_S8192x256 := by
    show StableHlo.after hostOps0 _ _ = _
    simp only [hostOps0]
    after_results_simp
    rfl
  rw [h]
  pointwise []

theorem V_v1 (i : S8192x256.Idx) : V m c main_v1 i = m ((c : Thread nD τ).loc main_arg2) (ix3 (i 0) ⟨(i 1).val / 64, Nat.div_lt_of_lt_mul (i 1).isLt⟩ ⟨(i 1).val % 64, Nat.mod_lt _ (by decide)⟩) := by
  have h : V m c main_v1 = shapeCast S8192x256 (m ((c : Thread nD τ).loc main_arg2)) Gen.shapeCasts_S8192x4x64_S8192x256 := by
    show StableHlo.after hostOps0 _ _ = _
    simp only [hostOps0]
    after_results_simp
    rfl
  rw [h]
  pointwise []

theorem V_v2 (i : S8192x256.Idx) : V m c main_v2 i = m ((c : Thread nD τ).loc main_arg3) (ix3 (i 0) ⟨(i 1).val / 64, Nat.div_lt_of_lt_mul (i 1).isLt⟩ ⟨(i 1).val % 64, Nat.mod_lt _ (by decide)⟩) := by
  have h : V m c main_v2 = shapeCast S8192x256 (m ((c : Thread nD τ).loc main_arg3)) Gen.shapeCasts_S8192x4x64_S8192x256 := by
    show StableHlo.after hostOps0 _ _ = _
    simp only [hostOps0]
    after_results_simp
    rfl
  rw [h]
  pointwise []

theorem V_v5 (i : S8192x256.Idx) : V m c main_v5 i = m ((c : Thread nD τ).loc main_arg4) (ix2 (i 0) ⟨(i 1).val / 64, Nat.div_lt_of_lt_mul (i 1).isLt⟩) := by
  have h : V m c main_v5 = shapeCast S8192x256 (broadcastInDim S8192x4x64 ![0, 1, 2] bcast_S8192x4x1_S8192x4x64_0_1_2 (broadcastInDim S8192x4x1 ![0, 1] bcast_S8192x4_S8192x4x1_0_1 (m ((c : Thread nD τ).loc main_arg4)))) Gen.shapeCasts_S8192x4x64_S8192x256 := by
    show StableHlo.after hostOps0 _ _ = _
    simp only [hostOps0]
    after_results_simp
    rfl
  rw [h]
  pointwise []

theorem V_v8 (i : S8192x256.Idx) : V m c main_v8 i = m ((c : Thread nD τ).loc main_arg5) (ix2 (i 0) ⟨(i 1).val / 64, Nat.div_lt_of_lt_mul (i 1).isLt⟩) := by
  have h : V m c main_v8 = shapeCast S8192x256 (broadcastInDim S8192x4x64 ![0, 1, 2] bcast_S8192x4x1_S8192x4x64_0_1_2 (broadcastInDim S8192x4x1 ![0, 1] bcast_S8192x4_S8192x4x1_0_1 (m ((c : Thread nD τ).loc main_arg5)))) Gen.shapeCasts_S8192x4x64_S8192x256 := by
    show StableHlo.after hostOps0 _ _ = _
    simp only [hostOps0]
    after_results_simp
    rfl
  rw [h]
  pointwise []

theorem V_v11 (i : S8192x256.Idx) : V m c main_v11 i = m ((c : Thread nD τ).loc main_arg6) (ix2 (i 0) ⟨(i 1).val / 64, Nat.div_lt_of_lt_mul (i 1).isLt⟩) := by
  have h : V m c main_v11 = shapeCast S8192x256 (broadcastInDim S8192x4x64 ![0, 1, 2] bcast_S8192x4x1_S8192x4x64_0_1_2 (broadcastInDim S8192x4x1 ![0, 1] bcast_S8192x4_S8192x4x1_0_1 (m ((c : Thread nD τ).loc main_arg6)))) Gen.shapeCasts_S8192x4x64_S8192x256 := by
    show StableHlo.after hostOps0 _ _ = _
    simp only [hostOps0]
    after_results_simp
    rfl
  rw [h]
  pointwise []

theorem V_v12 (l : Fin 2048) : V m c main_v12 (ix2 0 l) = m ((c : Thread nD τ).loc main_arg9) (ix1 l) := by
  have h : V m c main_v12 = shapeCast S1x2048 (m ((c : Thread nD τ).loc main_arg9)) Gen.shapeCasts_S2048_S1x2048 := by
    show StableHlo.after hostOps0 _ _ = _
    simp only [hostOps0]
    after_results_simp
    rfl
  rw [h]
  pointwise []

theorem V_v13 (l : Fin 1024) : V m c main_v13 (ix2 0 l) = m ((c : Thread nD τ).loc main_arg12) (ix1 l) := by
  have h : V m c main_v13 = shapeCast S1x1024 (m ((c : Thread nD τ).loc main_arg12)) Gen.shapeCasts_S1024_S1x1024 := by
    show StableHlo.after hostOps0 _ _ = _
    simp only [hostOps0]
    after_results_simp
    rfl
  rw [h]
  pointwise []

theorem V_v14 (l : Fin 1024) : V m c main_v14 (ix2 0 l) = m ((c : Thread nD τ).loc main_arg13) (ix1 l) := by
  have h : V m c main_v14 = shapeCast S1x1024 (m ((c : Thread nD τ).loc main_arg13)) Gen.shapeCasts_S1024_S1x1024 := by
    show StableHlo.after hostOps0 _ _ = _
    simp only [hostOps0]
    after_results_simp
    rfl
  rw [h]
  pointwise []

/-- The weighted attentions, from the flattened arrays. -/
def attV : S8192x256.Idx → EReal := fun i =>
  avg (V m c main_v5 i) (V m c main_v8 i) (V m c main_v11 i) (V m c main_v0 i) (V m c main_v1 i) (V m c main_v2 i)

theorem block_att (t : Fin cfg0.N) (r : Fin 512) (h : t.val * 512 + r.val < 8192) (k : Fin 256) : (k0_pay1 (F := Ideal) (iblk m c 4 t) (iblk m c 5 t) (iblk m c 6 t) (iblk m c 1 t) (iblk m c 2 t) (iblk m c 3 t)) (ix2 r k) = attV m c (ix2 ⟨t.val * 512 + r.val, h⟩ k) := by
  have e1 : ∀ t, win0_1.index t = ![t.val, 0] := by decide +kernel
  have e2 : ∀ t, win0_2.index t = ![t.val, 0] := by decide +kernel
  have e3 : ∀ t, win0_3.index t = ![t.val, 0] := by decide +kernel
  have e4 : ∀ t, win0_4.index t = ![t.val, 0] := by decide +kernel
  have e5 : ∀ t, win0_5.index t = ![t.val, 0] := by decide +kernel
  have e6 : ∀ t, win0_6.index t = ![t.val, 0] := by decide +kernel
  have h4 : iblk m c 4 t (ix2 r k) = V m c main_v5 (ix2 ⟨t.val * 512 + r.val, h⟩ k) := by blk_point [iblk, e4]
  have h5 : iblk m c 5 t (ix2 r k) = V m c main_v8 (ix2 ⟨t.val * 512 + r.val, h⟩ k) := by blk_point [iblk, e5]
  have h6 : iblk m c 6 t (ix2 r k) = V m c main_v11 (ix2 ⟨t.val * 512 + r.val, h⟩ k) := by blk_point [iblk, e6]
  have h1 : iblk m c 1 t (ix2 r k) = V m c main_v0 (ix2 ⟨t.val * 512 + r.val, h⟩ k) := by blk_point [iblk, e1]
  have h2 : iblk m c 2 t (ix2 r k) = V m c main_v1 (ix2 ⟨t.val * 512 + r.val, h⟩ k) := by blk_point [iblk, e2]
  have h3 : iblk m c 3 t (ix2 r k) = V m c main_v2 (ix2 ⟨t.val * 512 + r.val, h⟩ k) := by blk_point [iblk, e3]
  rw [pay1]
  exact congr (congr (congr (congr (congr (congrArg avg h4) h5) h6) h1) h2) h3

theorem block_mix (t : Fin cfg0.N) (r : Fin 512) (h : t.val * 512 + r.val < 8192) :
    bmix (X0_8 m c t) (X0_9 m c t) (iblk m c 0 t) (iblk m c 10 t) (iblk m c 11 t) (k0_pay1 (F := Ideal) (iblk m c 4 t) (iblk m c 5 t) (iblk m c 6 t) (iblk m c 1 t) (iblk m c 2 t) (iblk m c 3 t)) (fun g k e => iblk m c 7 t (ix3 g k e)) r = mixRow (attV m c) (V m c main_arg0) (V m c main_arg8) (fun l => V m c main_v12 (ix2 0 l)) (V m c main_arg7) ⟨t.val * 512 + r.val, h⟩ := by
  have e0 : ∀ t, win0_0.index t = ![t.val, 0] := by decide +kernel
  have e7 : ∀ t, win0_7.index t = ![0, 0, 0] := by decide +kernel
  have e8 : ∀ t, win0_8.index t = ![t.val, 2] := by decide +kernel
  have e9 : ∀ t, win0_9.index t = ![t.val, 3] := by decide +kernel
  have e10 : ∀ t, win0_10.index t = ![0, 0] := by decide +kernel
  have e11 : ∀ t, win0_11.index t = ![0, 1] := by decide +kernel
  have h8 : ∀ l : Fin 1024, X0_8 m c t (ix2 r l) = V m c main_arg8 (ix2 ⟨t.val * 512 + r.val, h⟩ ⟨2048 + l.val, by omega⟩) := fun l => by
    unfold X0_8 Pipeline.Window.fill
    rw [dif_pos (moved0_8 t _)]
    blk_point [iblk, e8]
  have h9 : ∀ l : Fin 1024, X0_9 m c t (ix2 r l) = V m c main_arg8 (ix2 ⟨t.val * 512 + r.val, h⟩ ⟨3072 + l.val, by omega⟩) := fun l => by
    unfold X0_9 Pipeline.Window.fill
    rw [dif_pos (moved0_9 t _)]
    blk_point [iblk, e9]
  have h10 : ∀ l : Fin 1024, iblk m c 10 t (ix2 0 l) = V m c main_v12 (ix2 0 ⟨l.val, by omega⟩) := fun l => by blk_point [iblk, e10]
  have h11 : ∀ l : Fin 1024, iblk m c 11 t (ix2 0 l) = V m c main_v12 (ix2 0 ⟨1024 + l.val, by omega⟩) := fun l => by blk_point [iblk, e11]
  have h0 : ∀ l : Fin 1024, iblk m c 0 t (ix2 r l) = V m c main_arg0 (ix2 ⟨t.val * 512 + r.val, h⟩ l) := fun l => by blk_point [iblk, e0]
  have h7 : ∀ (g : Fin 4) (k e : Fin 256), iblk m c 7 t (ix3 g k e) = V m c main_arg7 (ix3 g k e) := fun g k e => by blk_point [iblk, e7]
  exact congr (congr (congr (congr (congrArg mixed (funext fun l => congrArg₂ (fun p q : EReal => p + q) (h8 l) (h10 l))) (funext fun l => congrArg₂ (fun p q : EReal => p + q) (h9 l) (h11 l))) (funext h0))
    (funext fun k => block_att m c t r h k)) (funext fun g => funext fun k => funext fun e => h7 g k e)

theorem block_pre (t : Fin cfg0.N) (r : Fin 512) (h : t.val * 512 + r.val < 8192) :
    bpre (X0_8 m c t) (X0_9 m c t) (iblk m c 0 t) (iblk m c 10 t) (iblk m c 11 t) (k0_pay1 (F := Ideal) (iblk m c 4 t) (iblk m c 5 t) (iblk m c 6 t) (iblk m c 1 t) (iblk m c 2 t) (iblk m c 3 t)) (fun g k e => iblk m c 7 t (ix3 g k e)) (iblk m c 12 t) (iblk m c 13 t) r = preRow (attV m c) (V m c main_arg0) (V m c main_arg8) (fun l => V m c main_v12 (ix2 0 l)) (V m c main_arg7) (V m c main_arg10) (V m c main_arg11) ⟨t.val * 512 + r.val, h⟩ := by
  have e12 : ∀ t, win0_12.index t = ![t.val, 0] := by decide +kernel
  have e13 : ∀ t, win0_13.index t = ![0, 0] := by decide +kernel
  have h12 : ∀ l : Fin 1024, iblk m c 12 t (ix2 r l) = V m c main_arg10 (ix2 ⟨t.val * 512 + r.val, h⟩ l) := fun l => by blk_point [iblk, e12]
  have h13 : ∀ k l : Fin 1024, iblk m c 13 t (ix2 k l) = V m c main_arg11 (ix2 k l) := fun k l => by blk_point [iblk, e13]
  exact congr (congr (congrArg resid (funext h12)) (block_mix m c t r h)) (funext fun k => funext fun l => h13 k l)

theorem lt16 (t : Fin cfg0.N) : t.val < 16 := lt_of_lt_of_eq t.isLt N_0

theorem arr16 : (dats m 0 c).arrAt 16 cfg0.N = attV m c := by
  refine (dats m 0 c).arrAt_eq_of_covers 16 _ (by decide +kernel) fun t hf y => ?_
  have ht := lt16 t
  blk_simp
  have e16 : ∀ t, win0_16.index t = ![t.val, 0] := by decide +kernel
  have hy : (y 0).val < 512 := (y 0).isLt
  have hr : t.val * 512 + (y 0).val < 8192 := by omega
  have e : ∀ f : S8192x256.Idx → EReal, f (((View.whole main_v15_0).slice (win0_16.rect t)).emb y) = f (ix2 ⟨t.val * 512 + (y 0).val, hr⟩ (y 1)) := fun f => by
    blk_point [e16]
  refine Eq.trans ?_ (e _).symm
  rw [after0_16]
  unfold outsAt0
  frame_out
  exact (congrArg _ (ext2 (p := 512) (q := 256) rfl rfl)).trans (block_att m c t (y 0) hr (y 1))

theorem arr17 : (dats m 0 c).arrAt 17 cfg0.N = mixAll (attV m c) (V m c main_arg0) (V m c main_arg8) (fun l => V m c main_v12 (ix2 0 l)) (V m c main_arg7) := by
  refine (dats m 0 c).arrAt_eq_of_covers 17 _ (by decide +kernel) fun t hf y => ?_
  have ht := lt16 t
  blk_simp
  have e17 : ∀ t, win0_17.index t = ![t.val, 0] := by decide +kernel
  have hy : (y 0).val < 512 := (y 0).isLt
  have hr : t.val * 512 + (y 0).val < 8192 := by omega
  have e : ∀ f : S8192x1024.Idx → EReal, f (((View.whole main_v15_1).slice (win0_17.rect t)).emb y) = f (ix2 ⟨t.val * 512 + (y 0).val, hr⟩ (y 1)) := fun f => by
    blk_point [e17]
  refine Eq.trans ?_ (e _).symm
  rw [after0_17]
  unfold outsAt0
  frame_out
  refine (pay10 _ _ _ _ _ _ _ _ _ _ (fun g k e => iblk m c 7 t (ix3 g k e)) (fun k e => by pointwise []) (fun k e => by pointwise []) (fun k e => by pointwise []) (fun k e => by pointwise []) y).trans ?_
  exact congrFun (block_mix m c t _ hr) (y 1)

theorem arr18 : (dats m 0 c).arrAt 18 cfg0.N = preAll (attV m c) (V m c main_arg0) (V m c main_arg8) (fun l => V m c main_v12 (ix2 0 l)) (V m c main_arg7) (V m c main_arg10) (V m c main_arg11) := by
  refine (dats m 0 c).arrAt_eq_of_covers 18 _ (by decide +kernel) fun t hf y => ?_
  have ht := lt16 t
  blk_simp
  have e18 : ∀ t, win0_18.index t = ![t.val, 0] := by decide +kernel
  have hy : (y 0).val < 512 := (y 0).isLt
  have hr : t.val * 512 + (y 0).val < 8192 := by omega
  have e : ∀ f : S8192x1024.Idx → EReal, f (((View.whole main_v15_2).slice (win0_18.rect t)).emb y) = f (ix2 ⟨t.val * 512 + (y 0).val, hr⟩ (y 1)) := fun f => by
    blk_point [e18]
  refine Eq.trans ?_ (e _).symm
  rw [after0_18]
  unfold outsAt0
  frame_out
  refine (pay11 _ _ _ _ _ _ _ _ _ _ (fun g k e => iblk m c 7 t (ix3 g k e)) _ _ (fun k e => by pointwise []) (fun k e => by pointwise []) (fun k e => by pointwise []) (fun k e => by pointwise []) y).trans ?_
  exact congrFun (block_pre m c t _ hr) (y 1)

theorem arr19 : (dats m 0 c).arrAt 19 cfg0.N = normAll (attV m c) (V m c main_arg0) (V m c main_arg8) (fun l => V m c main_v12 (ix2 0 l)) (V m c main_arg7) (V m c main_arg10) (V m c main_arg11) (fun l => V m c main_v13 (ix2 0 l)) (fun l => V m c main_v14 (ix2 0 l)) := by
  refine (dats m 0 c).arrAt_eq_of_covers 19 _ (by decide +kernel) fun t hf y => ?_
  have ht := lt16 t
  blk_simp
  have e19 : ∀ t, win0_19.index t = ![t.val, 0] := by decide +kernel
  have hy : (y 0).val < 512 := (y 0).isLt
  have hr : t.val * 512 + (y 0).val < 8192 := by omega
  have e : ∀ f : S8192x1024.Idx → EReal, f (((View.whole main_v15_3).slice (win0_19.rect t)).emb y) = f (ix2 ⟨t.val * 512 + (y 0).val, hr⟩ (y 1)) := fun f => by
    blk_point [e19]
  refine Eq.trans ?_ (e _).symm
  rw [after0_19]
  unfold outsAt0
  frame_out
  have e14 : ∀ t, win0_14.index t = ![0, 0] := by decide +kernel
  have e15 : ∀ t, win0_15.index t = ![0, 0] := by decide +kernel
  have h14 : ∀ l : Fin 1024, iblk m c 14 t (ix2 0 l) = V m c main_v13 (ix2 0 l) := fun l => by blk_point [iblk, e14]
  have h15 : ∀ l : Fin 1024, iblk m c 15 t (ix2 0 l) = V m c main_v14 (ix2 0 l) := fun l => by blk_point [iblk, e15]
  refine (pay12 _ _ _ _ _ _ _ _ _ _ (fun g k e => iblk m c 7 t (ix3 g k e)) _ _ _ _ (fun k e => by pointwise []) (fun k e => by pointwise []) (fun k e => by pointwise []) (fun k e => by pointwise []) y).trans ?_
  exact congrFun (congr (congr (congrArg norm (block_pre m c t _ hr)) (funext h14)) (funext h15)) (y 1)

theorem att_eq : attV m c = att (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := funext fun i => by
  unfold attV
  rw [V_v0, V_v1, V_v2, V_v5, V_v8, V_v11]
  rfl

theorem gates : (fun l => V m c main_v12 (ix2 0 l)) = fun l => m ((c : Thread nD τ).loc main_arg9) (ix1 l) := funext fun l => V_v12 m c l
theorem scale : (fun l => V m c main_v13 (ix2 0 l)) = fun l => m ((c : Thread nD τ).loc main_arg12) (ix1 l) := funext fun l => V_v13 m c l
theorem shift : (fun l => V m c main_v14 (ix2 0 l)) = fun l => m ((c : Thread nD τ).loc main_arg13) (ix1 l) := funext fun l => V_v14 m c l

theorem facts_pre : Cert.Pre_finite_mix_out.Facts where
  bcast_S_S8192x4 := by decide

theorem real (hf : Cert.Pre_KMixOutIdeal_finite_mix_out (hPre_finite_mix_out := facts_pre) m) :
    (∀ i : S8192x4.Idx, IsR ((m ((c : Thread nD τ).loc main_arg4)) i)) ∧ (∀ i : S8192x4.Idx, IsR ((m ((c : Thread nD τ).loc main_arg5)) i)) ∧ ∀ i : S8192x4.Idx, IsR ((m ((c : Thread nD τ).loc main_arg6)) i) := by
  obtain ⟨p0, p1, p2⟩ := hf c
  exact ⟨fun i => IsR.of (Attn.fine_of _ _ _ p0 i), fun i => IsR.of (Attn.fine_of _ _ _ p1 i), fun i => IsR.of (Attn.fine_of _ _ _ p2 i)⟩

theorem quiet : Cert.quiescent_RMixOutIdeal (hRMixOutIdeal := Cert.RMixOutIdeal.Gen.facts) := fun m g _ =>
  (θ_run _ _ _).mono (fun r h => ⟨fun c => (h c).2.2.2.2, Idealize.ShloMosaic.sem_eq_zero_of_no_sems (by decide) r.2⟩) (Cert.RMixOutIdeal.Value.run m g)

theorem quiet_pre : Cert.quiescent_RMixOutIdeal_pre_finite_mix_out (hRMixOutIdeal := Cert.RMixOutIdeal.Gen.facts) (hPre_finite_mix_out := facts_pre) := fun m g _ =>
  (θ_run _ _ _).mono (fun r h => ⟨fun c => (h c).2.2.2.2, Idealize.ShloMosaic.sem_eq_zero_of_no_sems (by decide) r.2⟩) (Cert.RMixOutIdeal.Value.run m g)

theorem res16 (hf : Cert.Pre_KMixOutIdeal_finite_mix_out (hPre_finite_mix_out := facts_pre) m) :
    Cert.RMixOutIdeal.Read.val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 16 cfg0.N := by
  obtain ⟨f4, f5, f6⟩ := real m c hf
  refine (value23 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) f4 f5 f6).trans ?_
  rw [arr16 m c, att_eq]

theorem res17 (hf : Cert.Pre_KMixOutIdeal_finite_mix_out (hPre_finite_mix_out := facts_pre) m) :
    Cert.RMixOutIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = (dats m 0 c).arrAt 17 cfg0.N := by
  obtain ⟨f4, f5, f6⟩ := real m c hf
  refine (value58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) f4 f5 f6).trans ?_
  rw [arr17 m c, att_eq, V_main_arg0, V_main_arg8, V_main_arg7, gates]

theorem res18 (hf : Cert.Pre_KMixOutIdeal_finite_mix_out (hPre_finite_mix_out := facts_pre) m) :
    Cert.RMixOutIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = (dats m 0 c).arrAt 18 cfg0.N := by
  obtain ⟨f4, f5, f6⟩ := real m c hf
  refine (value57 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) f4 f5 f6).trans ?_
  rw [arr18 m c, att_eq, V_main_arg0, V_main_arg8, V_main_arg7, V_main_arg10, V_main_arg11, gates]

theorem res19 (hf : Cert.Pre_KMixOutIdeal_finite_mix_out (hPre_finite_mix_out := facts_pre) m) :
    Cert.RMixOutIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = (dats m 0 c).arrAt 19 cfg0.N := by
  obtain ⟨f4, f5, f6⟩ := real m c hf
  refine (value83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) f4 f5 f6).trans ?_
  rw [arr19 m c, att_eq, V_main_arg0, V_main_arg8, V_main_arg7, V_main_arg10, V_main_arg11, gates, scale, shift]

set_option maxHeartbeats 1000000 in
theorem algebraic : Cert.algebraic_KMixOutIdeal_RMixOutIdeal_pre_finite_mix_out (hKMixOutIdeal := Cert.KMixOutIdeal.Gen.facts)
    (hRMixOutIdeal := Cert.RMixOutIdeal.Gen.facts) (hPre_finite_mix_out := facts_pre) := fun m g m' g' hf hag =>
  ⟨fun c => (dats m 0 c).arrAt 16 cfg0.N, fun c => (dats m 0 c).arrAt 17 cfg0.N, fun c => (dats m 0 c).arrAt 18 cfg0.N, fun c => (dats m 0 c).arrAt 19 cfg0.N,
    Cert.KMixOutIdeal.Value.run_blocks m g,
    (θ_run _ _ _).mono (fun _ h c => ⟨
      ((h c).1.trans (Cert.RMixOutIdeal.Read.val_main_v23_eq _ _)).trans (by
      obtain ⟨a0, a1, a2, a3, a4, a5, a6, a7, a8, a9, a10, a11, a12, a13⟩ := hag c
      show Cert.RMixOutIdeal.Read.val_main_v23 (F := Ideal) (m' ((c : Thread Cert.RMixOutIdeal.nD Cert.RMixOutIdeal.τ).loc Cert.RMixOutIdeal.main_arg1)) (m' ((c : Thread Cert.RMixOutIdeal.nD Cert.RMixOutIdeal.τ).loc Cert.RMixOutIdeal.main_arg2)) (m' ((c : Thread Cert.RMixOutIdeal.nD Cert.RMixOutIdeal.τ).loc Cert.RMixOutIdeal.main_arg3)) (m' ((c : Thread Cert.RMixOutIdeal.nD Cert.RMixOutIdeal.τ).loc Cert.RMixOutIdeal.main_arg4)) (m' ((c : Thread Cert.RMixOutIdeal.nD Cert.RMixOutIdeal.τ).loc Cert.RMixOutIdeal.main_arg5)) (m' ((c : Thread Cert.RMixOutIdeal.nD Cert.RMixOutIdeal.τ).loc Cert.RMixOutIdeal.main_arg6)) = _
      rw [a1, a2, a3, a4, a5, a6]
      exact res16 m c hf),
      ((h c).2.1.trans (Cert.RMixOutIdeal.Read.val_main_v58_eq _ _)).trans (by
      obtain ⟨a0, a1, a2, a3, a4, a5, a6, a7, a8, a9, a10, a11, a12, a13⟩ := hag c
      show Cert.RMixOutIdeal.Read.val_main_v58 (F := Ideal) (m' ((c : Thread Cert.RMixOutIdeal.nD Cert.RMixOutIdeal.τ).loc Cert.RMixOutIdeal.main_arg0)) (m' ((c : Thread Cert.RMixOutIdeal.nD Cert.RMixOutIdeal.τ).loc Cert.RMixOutIdeal.main_arg1)) (m' ((c : Thread Cert.RMixOutIdeal.nD Cert.RMixOutIdeal.τ).loc Cert.RMixOutIdeal.main_arg2)) (m' ((c : Thread Cert.RMixOutIdeal.nD Cert.RMixOutIdeal.τ).loc Cert.RMixOutIdeal.main_arg3)) (m' ((c : Thread Cert.RMixOutIdeal.nD Cert.RMixOutIdeal.τ).loc Cert.RMixOutIdeal.main_arg4)) (m' ((c : Thread Cert.RMixOutIdeal.nD Cert.RMixOutIdeal.τ).loc Cert.RMixOutIdeal.main_arg5)) (m' ((c : Thread Cert.RMixOutIdeal.nD Cert.RMixOutIdeal.τ).loc Cert.RMixOutIdeal.main_arg6)) (m' ((c : Thread Cert.RMixOutIdeal.nD Cert.RMixOutIdeal.τ).loc Cert.RMixOutIdeal.main_arg7)) (m' ((c : Thread Cert.RMixOutIdeal.nD Cert.RMixOutIdeal.τ).loc Cert.RMixOutIdeal.main_arg8)) (m' ((c : Thread Cert.RMixOutIdeal.nD Cert.RMixOutIdeal.τ).loc Cert.RMixOutIdeal.main_arg9)) = _
      rw [a0, a1, a2, a3, a4, a5, a6, a7, a8, a9]
      exact res17 m c hf),
      ((h c).2.2.1.trans (Cert.RMixOutIdeal.Read.val_main_v57_eq _ _)).trans (by
      obtain ⟨a0, a1, a2, a3, a4, a5, a6, a7, a8, a9, a10, a11, a12, a13⟩ := hag c
      show Cert.RMixOutIdeal.Read.val_main_v57 (F := Ideal) (m' ((c : Thread Cert.RMixOutIdeal.nD Cert.RMixOutIdeal.τ).loc Cert.RMixOutIdeal.main_arg0)) (m' ((c : Thread Cert.RMixOutIdeal.nD Cert.RMixOutIdeal.τ).loc Cert.RMixOutIdeal.main_arg1)) (m' ((c : Thread Cert.RMixOutIdeal.nD Cert.RMixOutIdeal.τ).loc Cert.RMixOutIdeal.main_arg2)) (m' ((c : Thread Cert.RMixOutIdeal.nD Cert.RMixOutIdeal.τ).loc Cert.RMixOutIdeal.main_arg3)) (m' ((c : Thread Cert.RMixOutIdeal.nD Cert.RMixOutIdeal.τ).loc Cert.RMixOutIdeal.main_arg4)) (m' ((c : Thread Cert.RMixOutIdeal.nD Cert.RMixOutIdeal.τ).loc Cert.RMixOutIdeal.main_arg5)) (m' ((c : Thread Cert.RMixOutIdeal.nD Cert.RMixOutIdeal.τ).loc Cert.RMixOutIdeal.main_arg6)) (m' ((c : Thread Cert.RMixOutIdeal.nD Cert.RMixOutIdeal.τ).loc Cert.RMixOutIdeal.main_arg7)) (m' ((c : Thread Cert.RMixOutIdeal.nD Cert.RMixOutIdeal.τ).loc Cert.RMixOutIdeal.main_arg8)) (m' ((c : Thread Cert.RMixOutIdeal.nD Cert.RMixOutIdeal.τ).loc Cert.RMixOutIdeal.main_arg9)) (m' ((c : Thread Cert.RMixOutIdeal.nD Cert.RMixOutIdeal.τ).loc Cert.RMixOutIdeal.main_arg10)) (m' ((c : Thread Cert.RMixOutIdeal.nD Cert.RMixOutIdeal.τ).loc Cert.RMixOutIdeal.main_arg11)) = _
      rw [a0, a1, a2, a3, a4, a5, a6, a7, a8, a9, a10, a11]
      exact res18 m c hf),
      ((h c).2.2.2.1.trans (Cert.RMixOutIdeal.Read.val_main_v83_eq _ _)).trans (by
      obtain ⟨a0, a1, a2, a3, a4, a5, a6, a7, a8, a9, a10, a11, a12, a13⟩ := hag c
      show Cert.RMixOutIdeal.Read.val_main_v83 (F := Ideal) (m' ((c : Thread Cert.RMixOutIdeal.nD Cert.RMixOutIdeal.τ).loc Cert.RMixOutIdeal.main_arg0)) (m' ((c : Thread Cert.RMixOutIdeal.nD Cert.RMixOutIdeal.τ).loc Cert.RMixOutIdeal.main_arg1)) (m' ((c : Thread Cert.RMixOutIdeal.nD Cert.RMixOutIdeal.τ).loc Cert.RMixOutIdeal.main_arg2)) (m' ((c : Thread Cert.RMixOutIdeal.nD Cert.RMixOutIdeal.τ).loc Cert.RMixOutIdeal.main_arg3)) (m' ((c : Thread Cert.RMixOutIdeal.nD Cert.RMixOutIdeal.τ).loc Cert.RMixOutIdeal.main_arg4)) (m' ((c : Thread Cert.RMixOutIdeal.nD Cert.RMixOutIdeal.τ).loc Cert.RMixOutIdeal.main_arg5)) (m' ((c : Thread Cert.RMixOutIdeal.nD Cert.RMixOutIdeal.τ).loc Cert.RMixOutIdeal.main_arg6)) (m' ((c : Thread Cert.RMixOutIdeal.nD Cert.RMixOutIdeal.τ).loc Cert.RMixOutIdeal.main_arg7)) (m' ((c : Thread Cert.RMixOutIdeal.nD Cert.RMixOutIdeal.τ).loc Cert.RMixOutIdeal.main_arg8)) (m' ((c : Thread Cert.RMixOutIdeal.nD Cert.RMixOutIdeal.τ).loc Cert.RMixOutIdeal.main_arg9)) (m' ((c : Thread Cert.RMixOutIdeal.nD Cert.RMixOutIdeal.τ).loc Cert.RMixOutIdeal.main_arg10)) (m' ((c : Thread Cert.RMixOutIdeal.nD Cert.RMixOutIdeal.τ).loc Cert.RMixOutIdeal.main_arg11)) (m' ((c : Thread Cert.RMixOutIdeal.nD Cert.RMixOutIdeal.τ).loc Cert.RMixOutIdeal.main_arg12)) (m' ((c : Thread Cert.RMixOutIdeal.nD Cert.RMixOutIdeal.τ).loc Cert.RMixOutIdeal.main_arg13)) = _
      rw [a0, a1, a2, a3, a4, a5, a6, a7, a8, a9, a10, a11, a12, a13]
      exact res19 m c hf),
      (h c).2.2.2.2⟩) (Cert.RMixOutIdeal.Value.run m' g')⟩

end Step.MixOut
end
end
-- ==== Proof.lean ====
/- The proof of the claims: the frames are the generated ones, and the value claim joins the kernel's array after its run
   (Attn/Weights.lean) to the reference's result (Attn/RefOut.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Attn.Weights
public import proofs.«01_k».proof.Proof.Attn.RefOut
public import proofs.«01_k».proof.Proof.Attn.Finite
public import proofs.«01_k».proof.Proof.Step.DwIn
public import proofs.«01_k».proof.Proof.Step.DX
public import proofs.«01_k».proof.Proof.Step.DwDown
public import proofs.«01_k».proof.Proof.Step.DwUp
public import proofs.«01_k».proof.Proof.Step.DUp
public import proofs.«01_k».proof.Proof.Step.DH1
public import proofs.«01_k».proof.Proof.Step.Loss
public import proofs.«01_k».proof.Proof.Step.InProj
public import proofs.«01_k».proof.Proof.Step.MlpUp
public import proofs.«01_k».proof.Proof.Step.DwOut
public import proofs.«01_k».proof.Proof.Step.DwProjSsd
public import proofs.«01_k».proof.Proof.Step.DwProjAttn
public import proofs.«01_k».proof.Proof.Step.Gatenorm
public import proofs.«01_k».proof.Proof.Step.MixOut

@[expose] public section

set_option maxRecDepth 16384

noncomputable section

namespace Cert.Proof

open Idealize.ShloMosaic Idealize.ShloMosaic.TcCoe Idealize.SL.Sem ValueIdx

/-- The reference declares no semaphore and changes no argument. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2, Idealize.ShloMosaic.sem_eq_zero_of_no_sems (by decide) r.2⟩) (Cert.ReferenceIdeal.Value.run m g)

section Value

variable (m : (ℓ : Loc Cert.KernelIdeal.nD Cert.KernelIdeal.τ Cert.KernelIdeal.sig) → Buf (Elt Ideal) ℓ) (c : Dev Cert.KernelIdeal.nD)

/-- The array after the run is the reference's result. -/
theorem value (hf : Pre_KernelIdeal_finite (hPre_finite := Attn.facts_finite) m) (x1 : Attn.Wide) (h1 : x1 = m ((c.tc : Thread Cert.KernelIdeal.nD Cert.KernelIdeal.τ).loc Cert.KernelIdeal.main_arg1)) :
    Cert.ReferenceIdeal.Read.val_main_v166 (F := Ideal) (Attn.A0 m c) x1 (Attn.A2 m c) (Attn.A3 m c) (Attn.A4 m c) (Attn.A5 m c) (Attn.A6 m c)
      = (Cert.KernelIdeal.Gen.dats m 0 c).arrAt 10 Cert.KernelIdeal.cfg0.N := by
  obtain ⟨p0, p2, p3, p4, p5, p6⟩ := hf c
  have f0 : Attn.Fine (Attn.A0 m c) := Attn.fine_of _ _ _ p0
  have f2 : Attn.Fine (Attn.A2 m c) := Attn.fine_of _ _ _ p2
  have f3 : Attn.Fine (Attn.A3 m c) := Attn.fine_of _ _ _ p3
  have f4 : Attn.Fine (Attn.A4 m c) := Attn.fine_of _ _ _ p4
  have f5 : Attn.Fine (Attn.A5 m c) := Attn.fine_of _ _ _ p5
  have f6 : Attn.Fine (Attn.A6 m c) := Attn.fine_of _ _ _ p6
  funext y
  obtain ⟨i, j, rfl⟩ : ∃ (i : Fin 8192) (j : Fin 9728), y = ValueIdx.ix2 i j := ⟨y 0, y 1, ValueIdx.eq_ix2 y⟩
  by_cases hl : j.val < 8704
  · rw [Attn.result_left _ _ _ _ _ _ _ i j hl, Attn.arr_out m c _ (Or.inl hl), Attn.V_v89, h1]
  by_cases hr : 8960 ≤ j.val
  · rw [Attn.result_right _ _ _ _ _ _ _ i j hr, Attn.arr_out m c _ (Or.inr hr), Attn.V_v89, h1]
  obtain ⟨h, e, hj⟩ : ∃ (h : Fin 4) (e : Fin 64), j = ⟨8704 + (64 * h.val + e.val), by omega⟩ :=
    ⟨⟨(j.val - 8704) / 64, by omega⟩, ⟨(j.val - 8704) % 64, by omega⟩, Fin.ext (by show j.val = 8704 + (64 * ((j.val - 8704) / 64) + (j.val - 8704) % 64); omega)⟩
  rw [hj, Attn.result_mid, Attn.v161_eq _ _ _ _ _ _ f0 f2 f3 f4 f5 f6, Attn.kernel_value m c f0 f2 f3 f4 f5 f6]

end Value

theorem algebraic : algebraic_KernelIdeal_ReferenceIdeal_pre_finite (hKernelIdeal := Cert.KernelIdeal.Gen.facts) (hReferenceIdeal := Cert.ReferenceIdeal.Gen.facts)
    (hPre_finite := Attn.facts_finite) := fun m g m' g' hf hag =>
  ⟨fun c => (Cert.KernelIdeal.Gen.dats m 0 c).arrAt 10 Cert.KernelIdeal.cfg0.N, Cert.KernelIdeal.Value.run_blocks m g,
    (θ_run _ _ _).mono (fun _ h c => ⟨((h c).1.trans (Cert.ReferenceIdeal.Read.val_main_v166_eq (StableHlo.launchContents m' c))).trans (by
      obtain ⟨a0, a1, a2, a3, a4, a5, a6⟩ := hag c
      show Cert.ReferenceIdeal.Read.val_main_v166 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a2, a3, a4, a5, a6]
      exact value m c hf _ a1), (h c).2⟩) (Cert.ReferenceIdeal.Value.run m' g')⟩

theorem claim : Cert.Claim := ⟨Cert.Kernel.Gen.facts,
  Cert.KernelIdeal.Gen.facts,
  Cert.ReferenceIdeal.Gen.facts,
  Cert.KDwIn.Gen.facts,
  Cert.KDwInIdeal.Gen.facts,
  Cert.RDwInIdeal.Gen.facts,
  Cert.KDX.Gen.facts,
  Cert.KDXIdeal.Gen.facts,
  Cert.RDXIdeal.Gen.facts,
  Cert.KDwDown.Gen.facts,
  Cert.KDwDownIdeal.Gen.facts,
  Cert.RDwDownIdeal.Gen.facts,
  Cert.KDwUp.Gen.facts,
  Cert.KDwUpIdeal.Gen.facts,
  Cert.RDwUpIdeal.Gen.facts,
  Cert.KDUp.Gen.facts,
  Cert.KDUpIdeal.Gen.facts,
  Cert.RDUpIdeal.Gen.facts,
  Cert.KDH1.Gen.facts,
  Cert.KDH1Ideal.Gen.facts,
  Cert.RDH1Ideal.Gen.facts,
  Cert.KLoss.Gen.facts,
  Cert.KLossIdeal.Gen.facts,
  Cert.RLossIdeal.Gen.facts,
  Cert.KInProj.Gen.facts,
  Cert.KInProjIdeal.Gen.facts,
  Cert.RInProjIdeal.Gen.facts,
  Cert.KMlpUp.Gen.facts,
  Cert.KMlpUpIdeal.Gen.facts,
  Cert.RMlpUpIdeal.Gen.facts,
  Cert.KDwOut.Gen.facts,
  Cert.KDwOutIdeal.Gen.facts,
  Cert.RDwOutIdeal.Gen.facts,
  Cert.KDwProjSsd.Gen.facts,
  Cert.KDwProjSsdIdeal.Gen.facts,
  Cert.RDwProjSsdIdeal.Gen.facts,
  Cert.KDwProjAttn.Gen.facts,
  Cert.KDwProjAttnIdeal.Gen.facts,
  Cert.RDwProjAttnIdeal.Gen.facts,
  Cert.KGatenorm.Gen.facts,
  Cert.KGatenormIdeal.Gen.facts,
  Cert.RGatenormIdeal.Gen.facts,
  Cert.KMixOut.Gen.facts,
  Cert.KMixOutIdeal.Gen.facts,
  Cert.RMixOutIdeal.Gen.facts,
  Attn.facts_finite,
  Step.DH1.facts_pre,
  Step.Loss.facts_pre,
  Step.MixOut.facts_pre,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.KDwIn.Gen.frame m ρ,
  fun m ρ _ => Cert.KDwInIdeal.Gen.frame m ρ,
  Step.DwIn.quiet,
  fun m ρ _ => Cert.KDX.Gen.frame m ρ,
  fun m ρ _ => Cert.KDXIdeal.Gen.frame m ρ,
  Step.DX.quiet,
  fun m ρ _ => Cert.KDwDown.Gen.frame m ρ,
  fun m ρ _ => Cert.KDwDownIdeal.Gen.frame m ρ,
  Step.DwDown.quiet,
  fun m ρ _ => Cert.KDwUp.Gen.frame m ρ,
  fun m ρ _ => Cert.KDwUpIdeal.Gen.frame m ρ,
  Step.DwUp.quiet,
  fun m ρ _ => Cert.KDUp.Gen.frame m ρ,
  fun m ρ _ => Cert.KDUpIdeal.Gen.frame m ρ,
  Step.DUp.quiet,
  fun m ρ _ => Cert.KDH1.Gen.frame m ρ,
  fun m ρ _ => Cert.KDH1Ideal.Gen.frame m ρ,
  fun m ρ _ => Cert.KDH1Ideal.Gen.frame m ρ,
  Step.DH1.quiet,
  Step.DH1.quiet_pre,
  fun m ρ _ => Cert.KLoss.Gen.frame m ρ,
  fun m ρ _ => Cert.KLossIdeal.Gen.frame m ρ,
  fun m ρ _ => Cert.KLossIdeal.Gen.frame m ρ,
  Step.Loss.quiet,
  Step.Loss.quiet_pre,
  fun m ρ _ => Cert.KInProj.Gen.frame m ρ,
  fun m ρ _ => Cert.KInProjIdeal.Gen.frame m ρ,
  Step.InProj.quiet,
  fun m ρ _ => Cert.KMlpUp.Gen.frame m ρ,
  fun m ρ _ => Cert.KMlpUpIdeal.Gen.frame m ρ,
  Step.MlpUp.quiet,
  fun m ρ _ => Cert.KDwOut.Gen.frame m ρ,
  fun m ρ _ => Cert.KDwOutIdeal.Gen.frame m ρ,
  Step.DwOut.quiet,
  fun m ρ _ => Cert.KDwProjSsd.Gen.frame m ρ,
  fun m ρ _ => Cert.KDwProjSsdIdeal.Gen.frame m ρ,
  Step.DwProjSsd.quiet,
  fun m ρ _ => Cert.KDwProjAttn.Gen.frame m ρ,
  fun m ρ _ => Cert.KDwProjAttnIdeal.Gen.frame m ρ,
  Step.DwProjAttn.quiet,
  fun m ρ _ => Cert.KGatenorm.Gen.frame m ρ,
  fun m ρ _ => Cert.KGatenormIdeal.Gen.frame m ρ,
  Step.Gatenorm.quiet,
  fun m ρ _ => Cert.KMixOut.Gen.frame m ρ,
  fun m ρ _ => Cert.KMixOutIdeal.Gen.frame m ρ,
  fun m ρ _ => Cert.KMixOutIdeal.Gen.frame m ρ,
  Step.MixOut.quiet,
  Step.MixOut.quiet_pre,
  IdealRules.named_const.statement Cert.KernelIdeal.κ "mask" .f32 0xF149F2CA#32 ⊥ rfl,
  algebraic,
  trivial,
  Step.DwIn.algebraic,
  trivial,
  Step.DX.algebraic,
  trivial,
  Step.DwDown.algebraic,
  trivial,
  Step.DwUp.algebraic,
  trivial,
  Step.DUp.algebraic,
  trivial,
  Step.DH1.algebraic,
  trivial,
  Step.Loss.algebraic,
  trivial,
  Step.InProj.algebraic,
  trivial,
  Step.MlpUp.algebraic,
  trivial,
  Step.DwOut.algebraic,
  trivial,
  Step.DwProjSsd.algebraic,
  trivial,
  Step.DwProjAttn.algebraic,
  trivial,
  Step.Gatenorm.algebraic,
  trivial,
  Step.MixOut.algebraic⟩

end Cert.Proof

end
